-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_fox_norm [hPre_finite_fox_norm : Cert.Pre_finite_fox_norm.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_fox_norm.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_finite_fox_norm.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.1 = (fun _ => 1#1)
    ∧ (Cert.Pre_finite_fox_norm.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_fox_norm [hPre_finite_fox_norm : Cert.Pre_finite_fox_norm.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_fox_norm.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_finite_fox_norm.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.1 = (fun _ => 1#1)
    ∧ (Cert.Pre_finite_fox_norm.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_gates [hPre_finite_gates : Cert.Pre_finite_gates.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_gates.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).1 = (fun _ => 1#1)
    ∧ (Cert.Pre_finite_gates.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.1 = (fun _ => 1#1)
    ∧ (Cert.Pre_finite_gates.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.1 = (fun _ => 1#1)
    ∧ (Cert.Pre_finite_gates.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.1 = (fun _ => 1#1)
    ∧ (Cert.Pre_finite_gates.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.1 = (fun _ => 1#1)
    ∧ (Cert.Pre_finite_gates.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.1 = (fun _ => 1#1)
    ∧ (Cert.Pre_finite_gates.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.2.1 = (fun _ => 1#1)
    ∧ (Cert.Pre_finite_gates.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.2.2.1 = (fun _ => 1#1)
    ∧ (Cert.Pre_finite_gates.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_gates [hPre_finite_gates : Cert.Pre_finite_gates.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_gates.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).1 = (fun _ => 1#1)
    ∧ (Cert.Pre_finite_gates.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.1 = (fun _ => 1#1)
    ∧ (Cert.Pre_finite_gates.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.1 = (fun _ => 1#1)
    ∧ (Cert.Pre_finite_gates.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.1 = (fun _ => 1#1)
    ∧ (Cert.Pre_finite_gates.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.1 = (fun _ => 1#1)
    ∧ (Cert.Pre_finite_gates.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.2.1 = (fun _ => 1#1)
    ∧ (Cert.Pre_finite_gates.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.2.2.1 = (fun _ => 1#1)
    ∧ (Cert.Pre_finite_gates.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.2.2.2.1 = (fun _ => 1#1)
    ∧ (Cert.Pre_finite_gates.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_gdn_pre [hPre_finite_gdn_pre : Cert.Pre_finite_gdn_pre.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_gdn_pre.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).1 = (fun _ => 1#1)
    ∧ (Cert.Pre_finite_gdn_pre.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.1 = (fun _ => 1#1)
    ∧ (Cert.Pre_finite_gdn_pre.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_gdn_pre [hPre_finite_gdn_pre : Cert.Pre_finite_gdn_pre.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_gdn_pre.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).1 = (fun _ => 1#1)
    ∧ (Cert.Pre_finite_gdn_pre.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.1 = (fun _ => 1#1)
    ∧ (Cert.Pre_finite_gdn_pre.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_mid [hPre_finite_mid : Cert.Pre_finite_mid.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_mid.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).1 = (fun _ => 1#1)
    ∧ (Cert.Pre_finite_mid.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.1 = (fun _ => 1#1)
    ∧ (Cert.Pre_finite_mid.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.1 = (fun _ => 1#1)
    ∧ (Cert.Pre_finite_mid.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.1 = (fun _ => 1#1)
    ∧ (Cert.Pre_finite_mid.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.1 = (fun _ => 1#1)
    ∧ (Cert.Pre_finite_mid.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.2.1 = (fun _ => 1#1)
    ∧ (Cert.Pre_finite_mid.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_mid [hPre_finite_mid : Cert.Pre_finite_mid.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_mid.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).1 = (fun _ => 1#1)
    ∧ (Cert.Pre_finite_mid.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.1 = (fun _ => 1#1)
    ∧ (Cert.Pre_finite_mid.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.1 = (fun _ => 1#1)
    ∧ (Cert.Pre_finite_mid.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.1 = (fun _ => 1#1)
    ∧ (Cert.Pre_finite_mid.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.1 = (fun _ => 1#1)
    ∧ (Cert.Pre_finite_mid.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.2.1 = (fun _ => 1#1)
    ∧ (Cert.Pre_finite_mid.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_loss [hPre_finite_loss : Cert.Pre_finite_loss.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_loss.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).1 = (fun _ => 1#1)
    ∧ (Cert.Pre_finite_loss.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.1 = (fun _ => 1#1)
    ∧ (Cert.Pre_finite_loss.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.1 = (fun _ => 1#1)
    ∧ (Cert.Pre_finite_loss.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.2.1 = (fun _ => 1#1)
    ∧ (Cert.Pre_finite_loss.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_loss [hPre_finite_loss : Cert.Pre_finite_loss.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_loss.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).1 = (fun _ => 1#1)
    ∧ (Cert.Pre_finite_loss.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.1 = (fun _ => 1#1)
    ∧ (Cert.Pre_finite_loss.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.1 = (fun _ => 1#1)
    ∧ (Cert.Pre_finite_loss.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.2.1 = (fun _ => 1#1)
    ∧ (Cert.Pre_finite_loss.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite_fox [hPre_finite_fox : Cert.Pre_finite_fox.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite_fox.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))).1 = (fun _ => 1#1)
    ∧ (Cert.Pre_finite_fox.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))).2.1 = (fun _ => 1#1)
    ∧ (Cert.Pre_finite_fox.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))).2.2 = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite_fox [hPre_finite_fox : Cert.Pre_finite_fox.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite_fox.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4))).1 = (fun _ => 1#1)
    ∧ (Cert.Pre_finite_fox.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4))).2.1 = (fun _ => 1#1)
    ∧ (Cert.Pre_finite_fox.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4))).2.2 = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite_fox_norm [hKernel2Ideal : Cert.Kernel2Ideal.Facts] [hPre_finite_fox_norm : Cert.Pre_finite_fox_norm.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_fox_norm m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite_fox_norm [hReference2Ideal : Cert.Reference2Ideal.Facts] [hPre_finite_fox_norm : Cert.Pre_finite_fox_norm.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_fox_norm m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Kernel3Ideal_pre_finite_gates [hKernel3Ideal : Cert.Kernel3Ideal.Facts] [hPre_finite_gates : Cert.Pre_finite_gates.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_gates m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Reference3Ideal_pre_finite_gates [hReference3Ideal : Cert.Reference3Ideal.Facts] [hPre_finite_gates : Cert.Pre_finite_gates.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_gates m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite_gdn_pre [hKernel4Ideal : Cert.Kernel4Ideal.Facts] [hPre_finite_gdn_pre : Cert.Pre_finite_gdn_pre.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_gdn_pre m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite_gdn_pre [hReference4Ideal : Cert.Reference4Ideal.Facts] [hPre_finite_gdn_pre : Cert.Pre_finite_gdn_pre.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_gdn_pre m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite_mid [hKernel5Ideal : Cert.Kernel5Ideal.Facts] [hPre_finite_mid : Cert.Pre_finite_mid.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_mid m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite_mid [hReference5Ideal : Cert.Reference5Ideal.Facts] [hPre_finite_mid : Cert.Pre_finite_mid.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_mid m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite_loss [hKernel7Ideal : Cert.Kernel7Ideal.Facts] [hPre_finite_loss : Cert.Pre_finite_loss.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_loss m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_finite_loss [hReference7Ideal : Cert.Reference7Ideal.Facts] [hPre_finite_loss : Cert.Pre_finite_loss.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_loss m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Kernel13Ideal_pre_finite_fox [hKernel13Ideal : Cert.Kernel13Ideal.Facts] [hPre_finite_fox : Cert.Pre_finite_fox.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite_fox m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Reference13Ideal_pre_finite_fox [hReference13Ideal : Cert.Reference13Ideal.Facts] [hPre_finite_fox : Cert.Pre_finite_fox.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite_fox m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite_fox_norm [hKernel2Ideal : Cert.Kernel2Ideal.Facts] [hReference2Ideal : Cert.Reference2Ideal.Facts] [hPre_finite_fox_norm : Cert.Pre_finite_fox_norm.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_fox_norm m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)) (v2 : (c : Dev Cert.Kernel2Ideal.nD) → Buf (Elt Ideal) ((c.tc : Thread Cert.Kernel2Ideal.nD Cert.Kernel2Ideal.τ).loc Cert.Kernel2Ideal.main_v2_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_v2_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_v46) = v1 c
          ∧ r.2.mem ((c.tc : Thread Cert.Reference2Ideal.nD Cert.Reference2Ideal.τ).loc Cert.Reference2Ideal.main_v48) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_finite_gates [hKernel3Ideal : Cert.Kernel3Ideal.Facts] [hReference3Ideal : Cert.Reference3Ideal.Facts] [hPre_finite_gates : Cert.Pre_finite_gates.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_gates m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v11_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v11_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v52) = v0 c
          ∧ r.2.mem ((c.tc : Thread Cert.Reference3Ideal.nD Cert.Reference3Ideal.τ).loc Cert.Reference3Ideal.main_v53) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal_pre_finite_gdn_pre [hKernel4Ideal : Cert.Kernel4Ideal.Facts] [hReference4Ideal : Cert.Reference4Ideal.Facts] [hPre_finite_gdn_pre : Cert.Pre_finite_gdn_pre.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_gdn_pre m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v157) = v0 c
          ∧ r.2.mem ((c.tc : Thread Cert.Reference4Ideal.nD Cert.Reference4Ideal.τ).loc Cert.Reference4Ideal.main_v149) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_finite_mid [hKernel5Ideal : Cert.Kernel5Ideal.Facts] [hReference5Ideal : Cert.Reference5Ideal.Facts] [hPre_finite_mid : Cert.Pre_finite_mid.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_mid m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v20_0)) (v1 : (c : Dev Cert.Kernel5Ideal.nD) → Buf (Elt Ideal) ((c.tc : Thread Cert.Kernel5Ideal.nD Cert.Kernel5Ideal.τ).loc Cert.Kernel5Ideal.main_v20_1)) (v2 : (c : Dev Cert.Kernel5Ideal.nD) → Buf (Elt Ideal) ((c.tc : Thread Cert.Kernel5Ideal.nD Cert.Kernel5Ideal.τ).loc Cert.Kernel5Ideal.main_v20_2)) (v3 : (c : Dev Cert.Kernel5Ideal.nD) → Buf (Elt Ideal) ((c.tc : Thread Cert.Kernel5Ideal.nD Cert.Kernel5Ideal.τ).loc Cert.Kernel5Ideal.main_v20_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v20_0) = v0 c
          ∧ r.2.mem ((c.tc : Thread Cert.Kernel5Ideal.nD Cert.Kernel5Ideal.τ).loc Cert.Kernel5Ideal.main_v20_1) = v1 c
          ∧ r.2.mem ((c.tc : Thread Cert.Kernel5Ideal.nD Cert.Kernel5Ideal.τ).loc Cert.Kernel5Ideal.main_v20_2) = v2 c
          ∧ r.2.mem ((c.tc : Thread Cert.Kernel5Ideal.nD Cert.Kernel5Ideal.τ).loc Cert.Kernel5Ideal.main_v20_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v57) = v0 c
          ∧ r.2.mem ((c.tc : Thread Cert.Reference5Ideal.nD Cert.Reference5Ideal.τ).loc Cert.Reference5Ideal.main_v79) = v1 c
          ∧ r.2.mem ((c.tc : Thread Cert.Reference5Ideal.nD Cert.Reference5Ideal.τ).loc Cert.Reference5Ideal.main_v80) = v2 c
          ∧ r.2.mem ((c.tc : Thread Cert.Reference5Ideal.nD Cert.Reference5Ideal.τ).loc Cert.Reference5Ideal.main_v81) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_finite_loss [hKernel7Ideal : Cert.Kernel7Ideal.Facts] [hReference7Ideal : Cert.Reference7Ideal.Facts] [hPre_finite_loss : Cert.Pre_finite_loss.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_loss m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)) (v2 : (c : Dev Cert.Kernel7Ideal.nD) → Buf (Elt Ideal) ((c.tc : Thread Cert.Kernel7Ideal.nD Cert.Kernel7Ideal.τ).loc Cert.Kernel7Ideal.main_v3_2)) (v3 : (c : Dev Cert.Kernel7Ideal.nD) → Buf (Elt Ideal) ((c.tc : Thread Cert.Kernel7Ideal.nD Cert.Kernel7Ideal.τ).loc Cert.Kernel7Ideal.main_v3_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_v3_2) = v2 c
          ∧ r.2.mem ((c.tc : Thread Cert.Kernel7Ideal.nD Cert.Kernel7Ideal.τ).loc Cert.Kernel7Ideal.main_v3_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v32) = v0 c
          ∧ r.2.mem ((c.tc : Thread Cert.Reference7Ideal.nD Cert.Reference7Ideal.τ).loc Cert.Reference7Ideal.main_v54) = v1 c
          ∧ r.2.mem ((c.tc : Thread Cert.Reference7Ideal.nD Cert.Reference7Ideal.τ).loc Cert.Reference7Ideal.main_v55) = v2 c
          ∧ r.2.mem ((c.tc : Thread Cert.Reference7Ideal.nD Cert.Reference7Ideal.τ).loc Cert.Reference7Ideal.main_v56) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)) (v2 : (c : Dev Cert.Kernel8Ideal.nD) → Buf (Elt Ideal) ((c.tc : Thread Cert.Kernel8Ideal.nD Cert.Kernel8Ideal.τ).loc Cert.Kernel8Ideal.main_v4_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_v4_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_v14) = v1 c
          ∧ r.2.mem ((c.tc : Thread Cert.Reference8Ideal.nD Cert.Reference8Ideal.τ).loc Cert.Reference8Ideal.main_v28) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_v4) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v13) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v8)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v8) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v21) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v69) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal_on_written_pre_finite_fox [hKernel13Ideal : Cert.Kernel13Ideal.Facts] [hReference13Ideal : Cert.Reference13Ideal.Facts] [hPre_finite_fox : Cert.Pre_finite_fox.Facts] [hOn_written : Cert.On_written.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite_fox m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v12_0)) (v1 : (c : Dev Cert.Kernel13Ideal.nD) → Buf (Elt Ideal) ((c.tc : Thread Cert.Kernel13Ideal.nD Cert.Kernel13Ideal.τ).loc Cert.Kernel13Ideal.main_v12_1)) (v2 : (c : Dev Cert.Kernel13Ideal.nD) → Buf (Elt Ideal) ((c.tc : Thread Cert.Kernel13Ideal.nD Cert.Kernel13Ideal.τ).loc Cert.Kernel13Ideal.main_v12_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          (∀ i : (⟨2, ![2048, 1024]⟩ : Shape).Idx, (Cert.On_written.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))).1 i = 1#1 → r.2.mem ((c.tc : Thread Cert.Kernel13Ideal.nD Cert.Kernel13Ideal.τ).loc Cert.Kernel13Ideal.main_v12_0) i = v0 c i)
          ∧ (∀ i : (⟨2, ![2048, 512]⟩ : Shape).Idx, (Cert.On_written.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))).2.1 i = 1#1 → r.2.mem ((c.tc : Thread Cert.Kernel13Ideal.nD Cert.Kernel13Ideal.τ).loc Cert.Kernel13Ideal.main_v12_1) i = v1 c i)
          ∧ (∀ i : (⟨3, ![4, 2048, 2]⟩ : Shape).Idx, (Cert.On_written.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))).2.2 i = 1#1 → r.2.mem ((c.tc : Thread Cert.Kernel13Ideal.nD Cert.Kernel13Ideal.τ).loc Cert.Kernel13Ideal.main_v12_2) i = v2 c i)
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          (∀ i : (⟨2, ![2048, 1024]⟩ : Shape).Idx, (Cert.On_written.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))).1 i = 1#1 → r.2.mem ((c.tc : Thread Cert.Reference13Ideal.nD Cert.Reference13Ideal.τ).loc Cert.Reference13Ideal.main_v58) i = v0 c i)
          ∧ (∀ i : (⟨2, ![2048, 512]⟩ : Shape).Idx, (Cert.On_written.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))).2.1 i = 1#1 → r.2.mem ((c.tc : Thread Cert.Reference13Ideal.nD Cert.Reference13Ideal.τ).loc Cert.Reference13Ideal.main_v56) i = v1 c i)
          ∧ (∀ i : (⟨3, ![4, 2048, 2]⟩ : Shape).Idx, (Cert.On_written.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))).2.2 i = 1#1 → r.2.mem ((c.tc : Thread Cert.Reference13Ideal.nD Cert.Reference13Ideal.τ).loc Cert.Reference13Ideal.main_v60) i = v2 c i)
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v6) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite : Cert.Pre_finite.Facts) (hPre_finite_fox_norm : Cert.Pre_finite_fox_norm.Facts) (hPre_finite_gates : Cert.Pre_finite_gates.Facts) (hPre_finite_gdn_pre : Cert.Pre_finite_gdn_pre.Facts) (hPre_finite_mid : Cert.Pre_finite_mid.Facts) (hPre_finite_loss : Cert.Pre_finite_loss.Facts) (hPre_finite_fox : Cert.Pre_finite_fox.Facts) (hOn_written : Cert.On_written.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_fox_norm (hKernel2Ideal := hKernel2Ideal) (hPre_finite_fox_norm := hPre_finite_fox_norm)
    ∧ quiescent_Reference2Ideal (hReference2Ideal := hReference2Ideal)
    ∧ quiescent_Reference2Ideal_pre_finite_fox_norm (hReference2Ideal := hReference2Ideal) (hPre_finite_fox_norm := hPre_finite_fox_norm)
    ∧ quiescent_Kernel3 (hKernel3 := hKernel3)
    ∧ quiescent_Kernel3Ideal (hKernel3Ideal := hKernel3Ideal)
    ∧ quiescent_Kernel3Ideal_pre_finite_gates (hKernel3Ideal := hKernel3Ideal) (hPre_finite_gates := hPre_finite_gates)
    ∧ quiescent_Reference3Ideal (hReference3Ideal := hReference3Ideal)
    ∧ quiescent_Reference3Ideal_pre_finite_gates (hReference3Ideal := hReference3Ideal) (hPre_finite_gates := hPre_finite_gates)
    ∧ quiescent_Kernel4 (hKernel4 := hKernel4)
    ∧ quiescent_Kernel4Ideal (hKernel4Ideal := hKernel4Ideal)
    ∧ quiescent_Kernel4Ideal_pre_finite_gdn_pre (hKernel4Ideal := hKernel4Ideal) (hPre_finite_gdn_pre := hPre_finite_gdn_pre)
    ∧ quiescent_Reference4Ideal (hReference4Ideal := hReference4Ideal)
    ∧ quiescent_Reference4Ideal_pre_finite_gdn_pre (hReference4Ideal := hReference4Ideal) (hPre_finite_gdn_pre := hPre_finite_gdn_pre)
    ∧ quiescent_Kernel5 (hKernel5 := hKernel5)
    ∧ quiescent_Kernel5Ideal (hKernel5Ideal := hKernel5Ideal)
    ∧ quiescent_Kernel5Ideal_pre_finite_mid (hKernel5Ideal := hKernel5Ideal) (hPre_finite_mid := hPre_finite_mid)
    ∧ quiescent_Reference5Ideal (hReference5Ideal := hReference5Ideal)
    ∧ quiescent_Reference5Ideal_pre_finite_mid (hReference5Ideal := hReference5Ideal) (hPre_finite_mid := hPre_finite_mid)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_loss (hKernel7Ideal := hKernel7Ideal) (hPre_finite_loss := hPre_finite_loss)
    ∧ quiescent_Reference7Ideal (hReference7Ideal := hReference7Ideal)
    ∧ quiescent_Reference7Ideal_pre_finite_loss (hReference7Ideal := hReference7Ideal) (hPre_finite_loss := hPre_finite_loss)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_finite_fox (hKernel13Ideal := hKernel13Ideal) (hPre_finite_fox := hPre_finite_fox)
    ∧ quiescent_Reference13Ideal (hReference13Ideal := hReference13Ideal)
    ∧ quiescent_Reference13Ideal_pre_finite_fox (hReference13Ideal := hReference13Ideal) (hPre_finite_fox := hPre_finite_fox)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_fox_norm (hKernel2Ideal := hKernel2Ideal) (hReference2Ideal := hReference2Ideal) (hPre_finite_fox_norm := hPre_finite_fox_norm)
    ∧ preserves_Kernel3_Kernel3Ideal
    ∧ algebraic_Kernel3Ideal_Reference3Ideal_pre_finite_gates (hKernel3Ideal := hKernel3Ideal) (hReference3Ideal := hReference3Ideal) (hPre_finite_gates := hPre_finite_gates)
    ∧ preserves_Kernel4_Kernel4Ideal
    ∧ algebraic_Kernel4Ideal_Reference4Ideal_pre_finite_gdn_pre (hKernel4Ideal := hKernel4Ideal) (hReference4Ideal := hReference4Ideal) (hPre_finite_gdn_pre := hPre_finite_gdn_pre)
    ∧ preserves_Kernel5_Kernel5Ideal
    ∧ algebraic_Kernel5Ideal_Reference5Ideal_pre_finite_mid (hKernel5Ideal := hKernel5Ideal) (hReference5Ideal := hReference5Ideal) (hPre_finite_mid := hPre_finite_mid)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_loss (hKernel7Ideal := hKernel7Ideal) (hReference7Ideal := hReference7Ideal) (hPre_finite_loss := hPre_finite_loss)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_on_written_pre_finite_fox (hKernel13Ideal := hKernel13Ideal) (hReference13Ideal := hReference13Ideal) (hPre_finite_fox := hPre_finite_fox) (hOn_written := hOn_written)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== On_written.lean ====
abbrev S2048x512 : Shape := ⟨2, ![2048, 512]⟩
abbrev S2048x8 : Shape := ⟨2, ![2048, 8]⟩
abbrev S64 : Shape := ⟨1, ![64]⟩
abbrev S1024 : Shape := ⟨1, ![1024]⟩
abbrev S_ : Shape := ⟨0, ![]⟩
abbrev S2048x1024 : Shape := ⟨2, ![2048, 1024]⟩
abbrev S4x2048x2 : Shape := ⟨3, ![4, 2048, 2]⟩

class Facts : Prop where
  bcast_S_S1024 : S_.BroadcastsInDim S1024 (![] : Fin 0 → Fin S1024.rank)
  bcast_S1024_S2048x1024_1 : S1024.BroadcastsInDim S2048x1024 (![1] : Fin 1 → Fin S2048x1024.rank)
  bcast_S_S2048x512 : S_.BroadcastsInDim S2048x512 (![] : Fin 0 → Fin S2048x512.rank)
  bcast_S_S4x2048x2 : S_.BroadcastsInDim S4x2048x2 (![] : Fin 0 → Fin S4x2048x2.rank)

variable [Facts]

def fn {F : FTy → Type} [FloatOps F] (main_arg0 : FVec F S2048x512 .f32) (main_arg1 : FVec F S2048x512 .f32) (main_arg2 : FVec F S2048x512 .f32) (main_arg3 : FVec F S2048x8 .f32) (main_arg4 : FVec F S64 .f32) : IVec S2048x1024 1 × IVec S2048x512 1 × IVec S4x2048x2 1 :=
  let main_v0 : IVec S1024 32 := iotaInDim S1024 32 0
  let main_c : IVec S_ 32 := constantI S_ 32 512#32
  let main_v1 : IVec S1024 32 := broadcastInDim S1024 ![] bcast_S_S1024 main_c
  let main_v2 : IVec S1024 1 := cmpi .slt main_v0 main_v1
  let main_v3 : IVec S2048x1024 1 := broadcastInDim S2048x1024 ![1] bcast_S1024_S2048x1024_1 main_v2
  let main_c_0 : IVec S_ 1 := constantI S_ 1 1#1
  let main_v4 : IVec S2048x512 1 := broadcastInDim S2048x512 ![] bcast_S_S2048x512 main_c_0
  let main_c_1 : IVec S_ 1 := constantI S_ 1 1#1
  let main_v5 : IVec S4x2048x2 1 := broadcastInDim S4x2048x2 ![] bcast_S_S4x2048x2 main_c_1
  (main_v3, main_v4, main_v5)
-- ==== Pre_finite.lean ====
abbrev S2048x1024 : Shape := ⟨2, ![2048, 1024]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  bcast_S_S1024 : S_.BroadcastsInDim S1024 (![] : Fin 0 → Fin S1024.rank)

variable [Facts]

def fn {F : FTy → Type} [FloatOps F] (main_arg0 : FVec F S2048x1024 .f32) (main_arg1 : FVec F S2048x1024 .f32) (main_arg2 : FVec F S1024 .f32) (main_arg3 : FVec F S2048x1024 .f32) : IVec S2048x1024 1 × IVec S2048x1024 1 × IVec S1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  (main_v2, main_v5, main_v8)
-- ==== Pre_finite_fox.lean ====
abbrev S2048x512 : Shape := ⟨2, ![2048, 512]⟩
abbrev S2048x8 : Shape := ⟨2, ![2048, 8]⟩
abbrev S64 : Shape := ⟨1, ![64]⟩
abbrev S_ : Shape := ⟨0, ![]⟩

class Facts : Prop where
  bcast_S_S2048x512 : S_.BroadcastsInDim S2048x512 (![] : Fin 0 → Fin S2048x512.rank)
  bcast_S_S2048x8 : S_.BroadcastsInDim S2048x8 (![] : Fin 0 → Fin S2048x8.rank)

variable [Facts]

def fn {F : FTy → Type} [FloatOps F] (main_arg0 : FVec F S2048x512 .f32) (main_arg1 : FVec F S2048x512 .f32) (main_arg2 : FVec F S2048x512 .f32) (main_arg3 : FVec F S2048x8 .f32) (main_arg4 : FVec F S64 .f32) : IVec S2048x512 1 × IVec S2048x512 1 × IVec S2048x8 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_v3 : FVec F S2048x512 .f32 := Host.absf main_arg1
  let main_cst_0 : FVec F S_ .f32 := constant S_ .f32 0x7F800000#32
  let main_v4 : FVec F S2048x512 .f32 := broadcastInDim S2048x512 ![] bcast_S_S2048x512 main_cst_0
  let main_v5 : IVec S2048x512 1 := cmpf .olt main_v3 main_v4
  let main_v6 : FVec F S2048x8 .f32 := Host.absf main_arg3
  let main_cst_1 : FVec F S_ .f32 := constant S_ .f32 0x7F800000#32
  let main_v7 : FVec F S2048x8 .f32 := broadcastInDim S2048x8 ![] bcast_S_S2048x8 main_cst_1
  let main_v8 : IVec S2048x8 1 := cmpf .olt main_v6 main_v7
  (main_v2, main_v5, main_v8)
-- ==== Pre_finite_fox_norm.lean ====
abbrev S2048x512 : Shape := ⟨2, ![2048, 512]⟩
abbrev S2048x1024 : Shape := ⟨2, ![2048, 1024]⟩
abbrev S64 : Shape := ⟨1, ![64]⟩
abbrev S_ : Shape := ⟨0, ![]⟩

class Facts : Prop where
  bcast_S_S2048x512 : S_.BroadcastsInDim S2048x512 (![] : Fin 0 → Fin S2048x512.rank)
  bcast_S_S2048x1024 : S_.BroadcastsInDim S2048x1024 (![] : Fin 0 → Fin S2048x1024.rank)
  bcast_S_S64 : S_.BroadcastsInDim S64 (![] : Fin 0 → Fin S64.rank)

variable [Facts]

def fn {F : FTy → Type} [FloatOps F] (main_arg0 : FVec F S2048x512 .f32) (main_arg1 : FVec F S2048x1024 .f32) (main_arg2 : FVec F S64 .f32) : IVec S2048x512 1 × IVec S2048x1024 1 × IVec S64 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S64 .f32 := Host.absf main_arg2
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  (main_v2, main_v5, main_v8)
-- ==== Pre_finite_gates.lean ====
abbrev S2048x8 : Shape := ⟨2, ![2048, 8]⟩
abbrev S2048x4 : Shape := ⟨2, ![2048, 4]⟩
abbrev S8 : Shape := ⟨1, ![8]⟩
abbrev S4 : Shape := ⟨1, ![4]⟩
abbrev S2048x3840 : Shape := ⟨2, ![2048, 3840]⟩
abbrev S_ : Shape := ⟨0, ![]⟩

class Facts : Prop where
  bcast_S_S2048x8 : S_.BroadcastsInDim S2048x8 (![] : Fin 0 → Fin S2048x8.rank)
  bcast_S_S2048x4 : S_.BroadcastsInDim S2048x4 (![] : Fin 0 → Fin S2048x4.rank)
  bcast_S_S8 : S_.BroadcastsInDim S8 (![] : Fin 0 → Fin S8.rank)
  bcast_S_S4 : S_.BroadcastsInDim S4 (![] : Fin 0 → Fin S4.rank)

variable [Facts]

def fn_part1 {F : FTy → Type} [FloatOps F] (main_arg6 : FVec F S2048x8 .f32) (main_arg7 : FVec F S2048x4 .f32) (main_arg8 : FVec F S2048x4 .f32) (main_v2 : IVec S2048x8 1) (main_v5 : IVec S2048x4 1) (main_v8 : IVec S2048x4 1) (main_v11 : IVec S8 1) (main_v14 : IVec S4 1) (main_v17 : IVec S4 1) : IVec S2048x8 1 × IVec S2048x4 1 × IVec S2048x4 1 × IVec S8 1 × IVec S4 1 × IVec S4 1 × IVec S2048x8 1 × IVec S2048x4 1 × IVec S2048x4 1 :=
  let main_v18 : FVec F S2048x8 .f32 := Host.absf main_arg6
  let main_cst_5 : FVec F S_ .f32 := constant S_ .f32 0x7F800000#32
  let main_v19 : FVec F S2048x8 .f32 := broadcastInDim S2048x8 ![] bcast_S_S2048x8 main_cst_5
  let main_v20 : IVec S2048x8 1 := cmpf .olt main_v18 main_v19
  let main_v21 : FVec F S2048x4 .f32 := Host.absf main_arg7
  let main_cst_6 : FVec F S_ .f32 := constant S_ .f32 0x7F800000#32
  let main_v22 : FVec F S2048x4 .f32 := broadcastInDim S2048x4 ![] bcast_S_S2048x4 main_cst_6
  let main_v23 : IVec S2048x4 1 := cmpf .olt main_v21 main_v22
  let main_v24 : FVec F S2048x4 .f32 := Host.absf main_arg8
  let main_cst_7 : FVec F S_ .f32 := constant S_ .f32 0x7F800000#32
  let main_v25 : FVec F S2048x4 .f32 := broadcastInDim S2048x4 ![] bcast_S_S2048x4 main_cst_7
  let main_v26 : IVec S2048x4 1 := cmpf .olt main_v24 main_v25
  (main_v2, main_v5, main_v8, main_v11, main_v14, main_v17, main_v20, main_v23, main_v26)

def fn {F : FTy → Type} [FloatOps F] (main_arg0 : FVec F S2048x8 .f32) (main_arg1 : FVec F S2048x4 .f32) (main_arg2 : FVec F S2048x4 .f32) (main_arg3 : FVec F S8 .f32) (main_arg4 : FVec F S4 .f32) (main_arg5 : FVec F S4 .f32) (main_arg6 : FVec F S2048x8 .f32) (main_arg7 : FVec F S2048x4 .f32) (main_arg8 : FVec F S2048x4 .f32) (main_arg9 : FVec F S2048x3840 .bf16) : IVec S2048x8 1 × IVec S2048x4 1 × IVec S2048x4 1 × IVec S8 1 × IVec S4 1 × IVec S4 1 × IVec S2048x8 1 × IVec S2048x4 1 × IVec S2048x4 1 :=
  let main_v0 : FVec F S2048x8 .f32 := Host.absf main_arg0
  let main_cst : FVec F S_ .f32 := constant S_ .f32 0x7F800000#32
  let main_v1 : FVec F S2048x8 .f32 := broadcastInDim S2048x8 ![] bcast_S_S2048x8 main_cst
  let main_v2 : IVec S2048x8 1 := cmpf .olt main_v0 main_v1
  let main_v3 : FVec F S2048x4 .f32 := Host.absf main_arg1
  let main_cst_0 : FVec F S_ .f32 := constant S_ .f32 0x7F800000#32
  let main_v4 : FVec F S2048x4 .f32 := broadcastInDim S2048x4 ![] bcast_S_S2048x4 main_cst_0
  let main_v5 : IVec S2048x4 1 := cmpf .olt main_v3 main_v4
  let main_v6 : FVec F S2048x4 .f32 := Host.absf main_arg2
  let main_cst_1 : FVec F S_ .f32 := constant S_ .f32 0x7F800000#32
  let main_v7 : FVec F S2048x4 .f32 := broadcastInDim S2048x4 ![] bcast_S_S2048x4 main_cst_1
  let main_v8 : IVec S2048x4 1 := cmpf .olt main_v6 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_v12 : FVec F S4 .f32 := Host.absf main_arg4
  let main_cst_3 : FVec F S_ .f32 := constant S_ .f32 0x7F800000#32
  let main_v13 : FVec F S4 .f32 := broadcastInDim S4 ![] bcast_S_S4 main_cst_3
  let main_v14 : IVec S4 1 := cmpf .olt main_v12 main_v13
  let main_v15 : FVec F S4 .f32 := Host.absf main_arg5
  let main_cst_4 : FVec F S_ .f32 := constant S_ .f32 0x7F800000#32
  let main_v16 : FVec F S4 .f32 := broadcastInDim S4 ![] bcast_S_S4 main_cst_4
  let main_v17 : IVec S4 1 := cmpf .olt main_v15 main_v16
  fn_part1 (F := F) main_arg6 main_arg7 main_arg8 main_v2 main_v5 main_v8 main_v11 main_v14 main_v17
-- ==== Pre_finite_gdn_pre.lean ====
abbrev S2048x1536 : Shape := ⟨2, ![2048, 1536]⟩
abbrev S4x1536 : Shape := ⟨2, ![4, 1536]⟩
abbrev S3x2048x512 : Shape := ⟨3, ![3, 2048, 512]⟩
abbrev S2048x3840 : Shape := ⟨2, ![2048, 3840]⟩
abbrev S_ : Shape := ⟨0, ![]⟩

class Facts : Prop where
  bcast_S_S2048x1536 : S_.BroadcastsInDim S2048x1536 (![] : Fin 0 → Fin S2048x1536.rank)
  bcast_S_S4x1536 : S_.BroadcastsInDim S4x1536 (![] : Fin 0 → Fin S4x1536.rank)
  bcast_S_S3x2048x512 : S_.BroadcastsInDim S3x2048x512 (![] : Fin 0 → Fin S3x2048x512.rank)

variable [Facts]

def fn {F : FTy → Type} [FloatOps F] (main_arg0 : FVec F S2048x1536 .f32) (main_arg1 : FVec F S4x1536 .f32) (main_arg2 : FVec F S3x2048x512 .f32) (main_arg3 : FVec F S2048x3840 .bf16) : IVec S2048x1536 1 × IVec S4x1536 1 × IVec S3x2048x512 1 :=
  let main_v0 : FVec F S2048x1536 .f32 := Host.absf main_arg0
  let main_cst : FVec F S_ .f32 := constant S_ .f32 0x7F800000#32
  let main_v1 : FVec F S2048x1536 .f32 := broadcastInDim S2048x1536 ![] bcast_S_S2048x1536 main_cst
  let main_v2 : IVec S2048x1536 1 := cmpf .olt main_v0 main_v1
  let main_v3 : FVec F S4x1536 .f32 := Host.absf main_arg1
  let main_cst_0 : FVec F S_ .f32 := constant S_ .f32 0x7F800000#32
  let main_v4 : FVec F S4x1536 .f32 := broadcastInDim S4x1536 ![] bcast_S_S4x1536 main_cst_0
  let main_v5 : IVec S4x1536 1 := cmpf .olt main_v3 main_v4
  let main_v6 : FVec F S3x2048x512 .f32 := Host.absf main_arg2
  let main_cst_1 : FVec F S_ .f32 := constant S_ .f32 0x7F800000#32
  let main_v7 : FVec F S3x2048x512 .f32 := broadcastInDim S3x2048x512 ![] bcast_S_S3x2048x512 main_cst_1
  let main_v8 : IVec S3x2048x512 1 := cmpf .olt main_v6 main_v7
  (main_v2, main_v5, main_v8)
-- ==== Pre_finite_loss.lean ====
abbrev S2048x4096 : Shape := ⟨2, ![2048, 4096]⟩
abbrev S4096x1024 : Shape := ⟨2, ![4096, 1024]⟩
abbrev S1024 : Shape := ⟨1, ![1024]⟩
abbrev S2048x1024 : Shape := ⟨2, ![2048, 1024]⟩
abbrev S_ : Shape := ⟨0, ![]⟩

class Facts : Prop where
  bcast_S_S2048x4096 : S_.BroadcastsInDim S2048x4096 (![] : Fin 0 → Fin S2048x4096.rank)
  bcast_S_S4096x1024 : S_.BroadcastsInDim S4096x1024 (![] : Fin 0 → Fin S4096x1024.rank)
  bcast_S_S1024 : S_.BroadcastsInDim S1024 (![] : Fin 0 → Fin S1024.rank)
  bcast_S_S2048x1024 : S_.BroadcastsInDim S2048x1024 (![] : Fin 0 → Fin S2048x1024.rank)

variable [Facts]

def fn {F : FTy → Type} [FloatOps F] (main_arg0 : FVec F S2048x4096 .f32) (main_arg1 : FVec F S4096x1024 .f32) (main_arg2 : FVec F S1024 .f32) (main_arg3 : FVec F S2048x1024 .f32) (main_arg4 : FVec F S2048x1024 .f32) : IVec S2048x4096 1 × IVec S4096x1024 1 × IVec S1024 1 × IVec S2048x1024 1 × IVec S2048x1024 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S2048x1024 .f32 := Host.absf main_arg3
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_v12 : FVec F S2048x1024 .f32 := Host.absf main_arg4
  let main_cst_3 : FVec F S_ .f32 := constant S_ .f32 0x7F800000#32
  let main_v13 : FVec F S2048x1024 .f32 := broadcastInDim S2048x1024 ![] bcast_S_S2048x1024 main_cst_3
  let main_v14 : IVec S2048x1024 1 := cmpf .olt main_v12 main_v13
  (main_v2, main_v5, main_v8, main_v11, main_v14)
-- ==== Pre_finite_mid.lean ====
abbrev S2048x1024 : Shape := ⟨2, ![2048, 1024]⟩
abbrev S1024 : Shape := ⟨1, ![1024]⟩
abbrev S1024x4096 : Shape := ⟨2, ![1024, 4096]⟩
abbrev S2048x4096 : Shape := ⟨2, ![2048, 4096]⟩
abbrev S_ : Shape := ⟨0, ![]⟩

class Facts : Prop where
  bcast_S_S2048x1024 : S_.BroadcastsInDim S2048x1024 (![] : Fin 0 → Fin S2048x1024.rank)
  bcast_S_S1024 : S_.BroadcastsInDim S1024 (![] : Fin 0 → Fin S1024.rank)
  bcast_S_S1024x4096 : S_.BroadcastsInDim S1024x4096 (![] : Fin 0 → Fin S1024x4096.rank)
  bcast_S_S2048x4096 : S_.BroadcastsInDim S2048x4096 (![] : Fin 0 → Fin S2048x4096.rank)

variable [Facts]

def fn_part1 {F : FTy → Type} [FloatOps F] (main_arg6 : FVec F S2048x4096 .f32) (main_v2 : IVec S2048x1024 1) (main_v5 : IVec S2048x1024 1) (main_v8 : IVec S1024 1) (main_v11 : IVec S1024 1) (main_v14 : IVec S1024x4096 1) (main_v17 : IVec S2048x1024 1) : IVec S2048x1024 1 × IVec S2048x1024 1 × IVec S1024 1 × IVec S1024 1 × IVec S1024x4096 1 × IVec S2048x1024 1 × IVec S2048x4096 1 :=
  let main_v18 : FVec F S2048x4096 .f32 := Host.absf main_arg6
  let main_cst_5 : FVec F S_ .f32 := constant S_ .f32 0x7F800000#32
  let main_v19 : FVec F S2048x4096 .f32 := broadcastInDim S2048x4096 ![] bcast_S_S2048x4096 main_cst_5
  let main_v20 : IVec S2048x4096 1 := cmpf .olt main_v18 main_v19
  (main_v2, main_v5, main_v8, main_v11, main_v14, main_v17, main_v20)

def fn {F : FTy → Type} [FloatOps F] (main_arg0 : FVec F S2048x1024 .f32) (main_arg1 : FVec F S2048x1024 .f32) (main_arg2 : FVec F S1024 .f32) (main_arg3 : FVec F S1024 .f32) (main_arg4 : FVec F S1024x4096 .f32) (main_arg5 : FVec F S2048x1024 .f32) (main_arg6 : FVec F S2048x4096 .f32) : IVec S2048x1024 1 × IVec S2048x1024 1 × IVec S1024 1 × IVec S1024 1 × IVec S1024x4096 1 × IVec S2048x1024 1 × IVec S2048x4096 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024x4096 .f32 := Host.absf main_arg4
  let main_cst_3 : FVec F S_ .f32 := constant S_ .f32 0x7F800000#32
  let main_v13 : FVec F S1024x4096 .f32 := broadcastInDim S1024x4096 ![] bcast_S_S1024x4096 main_cst_3
  let main_v14 : IVec S1024x4096 1 := cmpf .olt main_v12 main_v13
  let main_v15 : FVec F S2048x1024 .f32 := Host.absf main_arg5
  let main_cst_4 : FVec F S_ .f32 := constant S_ .f32 0x7F800000#32
  let main_v16 : FVec F S2048x1024 .f32 := broadcastInDim S2048x1024 ![] bcast_S_S2048x1024 main_cst_4
  let main_v17 : IVec S2048x1024 1 := cmpf .olt main_v15 main_v16
  fn_part1 (F := F) main_arg6 main_v2 main_v5 main_v8 main_v11 main_v14 main_v17
-- ==== Kernel.lean ====
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel2.lean ====
abbrev S2048x512 : Shape := ⟨2, ![2048, 512]⟩
abbrev S2048x1024 : Shape := ⟨2, ![2048, 1024]⟩
abbrev S64 : Shape := ⟨1, ![64]⟩
abbrev S1x64 : Shape := ⟨2, ![1, 64]⟩
abbrev S1x128 : Shape := ⟨2, ![1, 128]⟩
abbrev S4x2048x2 : Shape := ⟨3, ![4, 2048, 2]⟩
abbrev S512x128 : Shape := ⟨2, ![512, 128]⟩
abbrev S1x512x2 : Shape := ⟨3, ![1, 512, 2]⟩
abbrev S512 : Shape := ⟨1, ![512]⟩
abbrev S512x1 : Shape := ⟨2, ![512, 1]⟩
abbrev S512x2 : Shape := ⟨2, ![512, 2]⟩
abbrev S128 : Shape := ⟨1, ![128]⟩

abbrev nBuf : Space → Nat
  | .hbm => 8
  | .vmem => 10
  | .smem => 0
  | _ => 0

abbrev bufTy : (tb : Table) → Fin (tcTables nBuf tb) → BufTy
  | .hbm, ⟨0, _⟩ => ⟨S2048x512, .f32⟩
  | .hbm, ⟨1, _⟩ => ⟨S2048x1024, .f32⟩
  | .hbm, ⟨2, _⟩ => ⟨S64, .f32⟩
  | .hbm, ⟨3, _⟩ => ⟨S1x64, .f32⟩
  | .hbm, ⟨4, _⟩ => ⟨S1x128, .f32⟩
  | .hbm, ⟨5, _⟩ => ⟨S2048x512, .bf16⟩
  | .hbm, ⟨6, _⟩ => ⟨S4x2048x2, .f32⟩
  | .hbm, ⟨7, _⟩ => ⟨S1x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S1x128, .f32⟩
  | .local _ .vmem, ⟨5, _⟩ => ⟨S512x128, .bf16⟩
  | .local _ .vmem, ⟨6, _⟩ => ⟨S512x128, .bf16⟩
  | .local _ .vmem, ⟨7, _⟩ => ⟨S1x512x2, .f32⟩
  | .local _ .vmem, ⟨8, _⟩ => ⟨S1x512x2, .f32⟩
  | .local _ .vmem, ⟨9, _⟩ => ⟨S1x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== Reference2Ideal.lean ====
abbrev S2048x512 : Shape := ⟨2, ![2048, 512]⟩
abbrev S2048x1024 : Shape := ⟨2, ![2048, 1024]⟩
abbrev S64 : Shape := ⟨1, ![64]⟩
abbrev S2048x8x64 : Shape := ⟨3, ![2048, 8, 64]⟩
abbrev S_ : Shape := ⟨0, ![]⟩
abbrev S2048x8 : Shape := ⟨2, ![2048, 8]⟩
abbrev S2048x8x1 : Shape := ⟨3, ![2048, 8, 1]⟩
abbrev S1x1x64 : Shape := ⟨3, ![1, 1, 64]⟩
abbrev S2048x4x2 : Shape := ⟨3, ![2048, 4, 2]⟩
abbrev S4x2048x2 : Shape := ⟨3, ![4, 2048, 2]⟩
abbrev S128 : Shape := ⟨1, ![128]⟩
abbrev S1x128 : Shape := ⟨2, ![1, 128]⟩

abbrev nBuf : Space → Nat
  | .hbm => 62
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x1024, .f32⟩
  | .hbm, ⟨2, _⟩ => ⟨S64, .f32⟩
  | .hbm, ⟨3, _⟩ => ⟨S2048x8x64, .f32⟩
  | .hbm, ⟨4, _⟩ => ⟨S2048x8x64, .f32⟩
  | .hbm, ⟨5, _⟩ => ⟨S_, .f32⟩
  | .hbm, ⟨6, _⟩ => ⟨S2048x8, .f32⟩
  | .hbm, ⟨7, _⟩ => ⟨S2048x8x1, .f32⟩
  | .hbm, ⟨8, _⟩ => ⟨S_, .f32⟩
  | .hbm, ⟨9, _⟩ => ⟨S2048x8x1, .f32⟩
  | .hbm, ⟨10, _⟩ => ⟨S2048x8x1, .f32⟩
  | .hbm, ⟨11, _⟩ => ⟨S_, .f32⟩
  | .hbm, ⟨12, _⟩ => ⟨S2048x8x1, .f32⟩
  | .hbm, ⟨13, _⟩ => ⟨S2048x8x1, .f32⟩
  | .hbm, ⟨14, _⟩ => ⟨S2048x8x1, .f32⟩
  | .hbm, ⟨15, _⟩ => ⟨S2048x8x1, .f32⟩
  | .hbm, ⟨16, _⟩ => ⟨S_, .f32⟩
  | .hbm, ⟨17, _⟩ => ⟨S2048x8x1, .f32⟩
  | .hbm, ⟨18, _⟩ => ⟨S2048x8x1, .f32⟩
  | .hbm, ⟨19, _⟩ => ⟨S2048x8x64, .f32⟩
  | .hbm, ⟨20, _⟩ => ⟨S2048x8x64, .f32⟩
  | .hbm, ⟨21, _⟩ => ⟨S1x1x64, .f32⟩
  | .hbm, ⟨22, _⟩ => ⟨S2048x8x64, .f32⟩
  | .hbm, ⟨23, _⟩ => ⟨S2048x8x64, .f32⟩
  | .hbm, ⟨24, _⟩ => ⟨S2048x512, .f32⟩
  | .hbm, ⟨25, _⟩ => ⟨S2048x512, .f32⟩
  | .hbm, ⟨26, _⟩ => ⟨S2048x8x64, .f32⟩
  | .hbm, ⟨27, _⟩ => ⟨S2048x8x64, .f32⟩
  | .hbm, ⟨28, _⟩ => ⟨S_, .f32⟩
  | .hbm, ⟨29, _⟩ => ⟨S64, .f32⟩
  | .hbm, ⟨30, _⟩ => ⟨S1x1x64, .f32⟩
  | .hbm, ⟨31, _⟩ => ⟨S2048x8x64, .f32⟩
  | .hbm, ⟨32, _⟩ => ⟨S2048x8x64, .f32⟩
  | .hbm, ⟨33, _⟩ => ⟨S_, .f32⟩
  | .hbm, ⟨34, _⟩ => ⟨S64, .f32⟩
  | .hbm, ⟨35, _⟩ => ⟨S2048x8x64, .f32⟩
  | .hbm, ⟨36, _⟩ => ⟨S_, .f32⟩
  | .hbm, ⟨37, _⟩ => ⟨S2048x8, .f32⟩
  | .hbm, ⟨38, _⟩ => ⟨S2048x8x1, .f32⟩
  | .hbm, ⟨39, _⟩ => ⟨S2048x8x64, .f32⟩
  | .hbm, ⟨40, _⟩ => ⟨S2048x8x64, .f32⟩
  | .hbm, ⟨41, _⟩ => ⟨S2048x8x1, .f32⟩
  | .hbm, ⟨42, _⟩ => ⟨S_, .f32⟩
  | .hbm, ⟨43, _⟩ => ⟨S2048x8x1, .f32⟩
  | .hbm, ⟨44, _⟩ => ⟨S2048x8x1, .f32⟩
  | .hbm, ⟨45, _⟩ => ⟨S_, .f32⟩
  | .hbm, ⟨46, _⟩ => ⟨S2048x8, .f32⟩
  | .hbm, ⟨47, _⟩ => ⟨S2048x8x64, .f32⟩
  | .hbm, ⟨48, _⟩ => ⟨S2048x8x64, .f32⟩
  | .hbm, ⟨49, _⟩ => ⟨S2048x8x64, .f32⟩
  | .hbm, ⟨50, _⟩ => ⟨S2048x8x64, .f32⟩
  | .hbm, ⟨51, _⟩ => ⟨S2048x8x64, .f32⟩
  | .hbm, ⟨52, _⟩ => ⟨S2048x512, .f32⟩
  | .hbm, ⟨53, _⟩ => ⟨S2048x512, .f32⟩
  | .hbm, ⟨54, _⟩ => ⟨S2048x8x64, .f32⟩
  | .hbm, ⟨55, _⟩ => ⟨S_, .f32⟩
  | .hbm, ⟨56, _⟩ => ⟨S2048x8, .f32⟩
  | .hbm, ⟨57, _⟩ => ⟨S2048x512, .bf16⟩
  | .hbm, ⟨58, _⟩ => ⟨S2048x4x2, .f32⟩
  | .hbm, ⟨59, _⟩ => ⟨S4x2048x2, .f32⟩
  | .hbm, ⟨60, _⟩ => ⟨S128, .f32⟩
  | .hbm, ⟨61, _⟩ => ⟨S1x128, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_v33 : Ref sig .tc := ⟨.hbm, 44, rfl⟩
abbrev main_cst_7 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_8 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩

abbrev nD : Nat := 1
abbrev τ : Topo := Topo.v7x

variable {F : FTy → Type} [FloatOps F]
-- ==== Kernel3.lean ====
abbrev S2048x8 : Shape := ⟨2, ![2048, 8]⟩
abbrev S2048x4 : Shape := ⟨2, ![2048, 4]⟩
abbrev S8 : Shape := ⟨1, ![8]⟩
abbrev S4 : Shape := ⟨1, ![4]⟩
abbrev S2048x3840 : Shape := ⟨2, ![2048, 3840]⟩
abbrev S2048x16 : Shape := ⟨2, ![2048, 16]⟩
abbrev S_ : Shape := ⟨0, ![]⟩
abbrev S112 : Shape := ⟨1, ![112]⟩
abbrev S128 : Shape := ⟨1, ![128]⟩
abbrev S1x128 : Shape := ⟨2, ![1, 128]⟩
abbrev S2048x128 : Shape := ⟨2, ![2048, 128]⟩
abbrev S8x128 : Shape := ⟨2, ![8, 128]⟩
abbrev S512x128 : Shape := ⟨2, ![512, 128]⟩
abbrev S512x256 : Shape := ⟨2, ![512, 256]⟩
abbrev S512x512 : Shape := ⟨2, ![512, 512]⟩

abbrev nBuf : Space → Nat
  | .hbm => 33
  | .vmem => 12
  | .smem => 0
  | _ => 0

abbrev bufTy : (tb : Table) → Fin (tcTables nBuf tb) → BufTy
  | .hbm, ⟨0, _⟩ => ⟨S2048x8, .f32⟩
  | .hbm, ⟨1, _⟩ => ⟨S2048x4, .f32⟩
  | .hbm, ⟨2, _⟩ => ⟨S2048x4, .f32⟩
  | .hbm, ⟨3, _⟩ => ⟨S8, .f32⟩
  | .hbm, ⟨4, _⟩ => ⟨S4, .f32⟩
  | .hbm, ⟨5, _⟩ => ⟨S4, .f32⟩
  | .hbm, ⟨6, _⟩ => ⟨S2048x8, .f32⟩
  | .hbm, ⟨7, _⟩ => ⟨S2048x4, .f32⟩
  | .hbm, ⟨8, _⟩ => ⟨S2048x4, .f32⟩
  | .hbm, ⟨9, _⟩ => ⟨S2048x3840, .bf16⟩
  | .hbm, ⟨10, _⟩ => ⟨S2048x16, .f32⟩
  | .hbm, ⟨11, _⟩ => ⟨S_, .i32⟩
  | .hbm, ⟨12, _⟩ => ⟨S_, .f32⟩
  | .hbm, ⟨13, _⟩ => ⟨S2048x3840, .f32⟩
  | .hbm, ⟨14, _⟩ => ⟨S_, .f32⟩
  | .hbm, ⟨15, _⟩ => ⟨S4, .f32⟩
  | .hbm, ⟨16, _⟩ => ⟨S_, .f32⟩
  | .hbm, ⟨17, _⟩ => ⟨S112, .f32⟩
  | .hbm, ⟨18, _⟩ => ⟨S128, .f32⟩
  | .hbm, ⟨19, _⟩ => ⟨S1x128, .f32⟩
  | .hbm, ⟨20, _⟩ => ⟨S_, .i32⟩
  | .hbm, ⟨21, _⟩ => ⟨S_, .f32⟩
  | .hbm, ⟨22, _⟩ => ⟨S128, .f32⟩
  | .hbm, ⟨23, _⟩ => ⟨S1x128, .f32⟩
  | .hbm, ⟨24, _⟩ => ⟨S2048x8, .f32⟩
  | .hbm, ⟨25, _⟩ => ⟨S_, .i32⟩
  | .hbm, ⟨26, _⟩ => ⟨S_, .f32⟩
  | .hbm, ⟨27, _⟩ => ⟨S2048x128, .f32⟩
  | .hbm, ⟨28, _⟩ => ⟨S_, .i32⟩
  | .hbm, ⟨29, _⟩ => ⟨S_, .f32⟩
  | .hbm, ⟨30, _⟩ => ⟨S2048x128, .f32⟩
  | .hbm, ⟨31, _⟩ => ⟨S2048x3840, .bf16⟩
  | .hbm, ⟨32, _⟩ => ⟨S8x128, .f32⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S1x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x256, .bf16⟩
  | .local _ .vmem, ⟨9, _⟩ => ⟨S512x256, .bf16⟩
  | .local _ .vmem, ⟨10, _⟩ => ⟨S8x128, .f32⟩
  | .local _ .vmem, ⟨11, _⟩ => ⟨S1x128, .f32⟩
  | _, _ => ⟨S2048x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c_1 : Ref sig .tc := ⟨.hbm, 20, rfl⟩
abbrev main_call1_v0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_call2_v0 : Ref sig .tc := ⟨.hbm, 26, rfl⟩
abbrev main_v9 : Ref sig .tc := ⟨.hbm, 27, rfl⟩
abbrev main_c_3 : Ref sig .tc := ⟨.hbm, 28, rfl⟩
abbrev main_call3_v0 : Ref sig .tc := ⟨.hbm, 29, rfl⟩
abbrev main_v10 : Ref sig .tc := ⟨.hbm, 30, rfl⟩
abbrev main_v11_0 : Ref sig .tc := ⟨.hbm, 31, rfl⟩
abbrev main_v11_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c3_i32 : BitVec 32 := 3#32
  let v0 : BitVec 32 := Scalar.subi c3_i32 arg0
  let c28_i32 : BitVec 32 := 28#32
  let c0_i32 : BitVec 32 := 0#32
  ![v0.toNat, c28_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c3_i32 : BitVec 32 := 3#32
  let v0 : BitVec 32 := Scalar.subi c3_i32 arg0
  let c14_i32 : BitVec 32 := 14#32
  let c0_i32 : BitVec 32 := 0#32
  ![v0.toNat, c14_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference3Ideal.lean ====
abbrev S2048x8 : Shape := ⟨2, ![2048, 8]⟩
abbrev S2048x4 : Shape := ⟨2, ![2048, 4]⟩
abbrev S8 : Shape := ⟨1, ![8]⟩
abbrev S4 : Shape := ⟨1, ![4]⟩
abbrev S2048x3840 : Shape := ⟨2, ![2048, 3840]⟩
abbrev S1x8 : Shape := ⟨2, ![1, 8]⟩
abbrev S_ : Shape := ⟨0, ![]⟩
abbrev S1x4 : Shape := ⟨2, ![1, 4]⟩
abbrev S2048x16 : Shape := ⟨2, ![2048, 16]⟩
abbrev S2048x256 : Shape := ⟨2, ![2048, 256]⟩
abbrev S128 : Shape := ⟨1, ![128]⟩
abbrev S1x128 : Shape := ⟨2, ![1, 128]⟩
abbrev S3x128 : Shape := ⟨2, ![3, 128]⟩
abbrev S2048x3584 : Shape := ⟨2, ![2048, 3584]⟩
abbrev S8x128 : Shape := ⟨2, ![8, 128]⟩

abbrev nBuf : Space → Nat
  | .hbm => 181
  | .vmem => 0
  | .smem => 0
  | _ => 0

abbrev hbmTy0_0 (i : Nat) : BufTy := match i % 128 with
  | 0 => ⟨S2048x8, .f32⟩
  | 1 => ⟨S2048x4, .f32⟩
  | 2 => ⟨S2048x4, .f32⟩
  | 3 => ⟨S8, .f32⟩
  | 4 => ⟨S4, .f32⟩
  | 5 => ⟨S4, .f32⟩
  | 6 => ⟨S2048x8, .f32⟩
  | 7 => ⟨S2048x4, .f32⟩
  | 8 => ⟨S2048x4, .f32⟩
  | 9 => ⟨S2048x3840, .bf16⟩
  | 10 => ⟨S1x8, .f32⟩
  | 11 => ⟨S2048x8, .f32⟩
  | 12 => ⟨S2048x8, .f32⟩
  | 13 => ⟨S2048x8, .f32⟩
  | 14 => ⟨S_, .f32⟩
  | 15 => ⟨S2048x8, .f32⟩
  | 16 => ⟨S2048x8, .f32⟩
  | 17 => ⟨S2048x8, .f32⟩
  | 18 => ⟨S2048x8, .f32⟩
  | 19 => ⟨S2048x8, .i1⟩
  | 20 => ⟨S2048x8, .f32⟩
  | 21 => ⟨S2048x8, .f32⟩
  | 22 => ⟨S2048x8, .f32⟩
  | 23 => ⟨S2048x8, .f32⟩
  | 24 => ⟨S2048x8, .f32⟩
  | 25 => ⟨S2048x8, .f32⟩
  | 26 => ⟨S2048x8, .f32⟩
  | 27 => ⟨S2048x8, .f32⟩
  | 28 => ⟨S_, .f32⟩
  | 29 => ⟨S2048x8, .f32⟩
  | 30 => ⟨S2048x8, .i1⟩
  | 31 => ⟨S_, .f32⟩
  | 32 => ⟨S2048x8, .f32⟩
  | 33 => ⟨S2048x8, .f32⟩
  | 34 => ⟨S_, .f32⟩
  | 35 => ⟨S2048x8, .f32⟩
  | 36 => ⟨S2048x8, .i1⟩
  | 37 => ⟨S_, .f32⟩
  | 38 => ⟨S2048x8, .f32⟩
  | 39 => ⟨S2048x8, .f32⟩
  | 40 => ⟨S2048x8, .f32⟩
  | 41 => ⟨S2048x8, .f32⟩
  | 42 => ⟨S_, .f32⟩
  | 43 => ⟨S_, .f32⟩
  | 44 => ⟨S_, .i1⟩
  | 45 => ⟨S_, .f32⟩
  | 46 => ⟨S_, .f32⟩
  | 47 => ⟨S_, .f32⟩
  | 48 => ⟨S_, .f32⟩
  | 49 => ⟨S2048x8, .f32⟩
  | 50 => ⟨S2048x8, .i1⟩
  | 51 => ⟨S_, .f32⟩
  | 52 => ⟨S2048x8, .f32⟩
  | 53 => ⟨S2048x8, .f32⟩
  | 54 => ⟨S2048x8, .f32⟩
  | 55 => ⟨S2048x8, .f32⟩
  | 56 => ⟨S2048x8, .f32⟩
  | 57 => ⟨S_, .f32⟩
  | 58 => ⟨S2048x8, .f32⟩
  | 59 => ⟨S2048x8, .f32⟩
  | 60 => ⟨S2048x8, .f32⟩
  | 61 => ⟨S2048x4, .f32⟩
  | 62 => ⟨S2048x4, .f32⟩
  | 63 => ⟨S_, .f32⟩
  | 64 => ⟨S2048x4, .f32⟩
  | 65 => ⟨S2048x4, .f32⟩
  | 66 => ⟨S_, .f32⟩
  | 67 => ⟨S2048x4, .f32⟩
  | 68 => ⟨S2048x4, .f32⟩
  | 69 => ⟨S_, .f32⟩
  | 70 => ⟨S2048x4, .f32⟩
  | 71 => ⟨S2048x4, .f32⟩
  | 72 => ⟨S2048x4, .f32⟩
  | 73 => ⟨S4, .f32⟩
  | 74 => ⟨S4, .f32⟩
  | 75 => ⟨S1x4, .f32⟩
  | 76 => ⟨S2048x4, .f32⟩
  | 77 => ⟨S2048x4, .f32⟩
  | 78 => ⟨S_, .f32⟩
  | 79 => ⟨S2048x4, .f32⟩
  | 80 => ⟨S2048x4, .f32⟩
  | 81 => ⟨S2048x4, .f32⟩
  | 82 => ⟨S2048x4, .f32⟩
  | 83 => ⟨S2048x4, .i1⟩
  | 84 => ⟨S2048x4, .f32⟩
  | 85 => ⟨S2048x4, .f32⟩
  | 86 => ⟨S2048x4, .f32⟩
  | 87 => ⟨S2048x4, .f32⟩
  | 88 => ⟨S2048x4, .f32⟩
  | 89 => ⟨S2048x4, .f32⟩
  | 90 => ⟨S2048x4, .f32⟩
  | 91 => ⟨S2048x4, .f32⟩
  | 92 => ⟨S_, .f32⟩
  | 93 => ⟨S2048x4, .f32⟩
  | 94 => ⟨S2048x4, .i1⟩
  | 95 => ⟨S_, .f32⟩
  | 96 => ⟨S2048x4, .f32⟩
  | 97 => ⟨S2048x4, .f32⟩
  | 98 => ⟨S_, .f32⟩
  | 99 => ⟨S2048x4, .f32⟩
  | 100 => ⟨S2048x4, .i1⟩
  | 101 => ⟨S_, .f32⟩
  | 102 => ⟨S2048x4, .f32⟩
  | 103 => ⟨S2048x4, .f32⟩
  | 104 => ⟨S2048x4, .f32⟩
  | 105 => ⟨S2048x4, .f32⟩
  | 106 => ⟨S_, .f32⟩
  | 107 => ⟨S_, .f32⟩
  | 108 => ⟨S_, .i1⟩
  | 109 => ⟨S_, .f32⟩
  | 110 => ⟨S_, .f32⟩
  | 111 => ⟨S_, .f32⟩
  | 112 => ⟨S_, .f32⟩
  | 113 => ⟨S2048x4, .f32⟩
  | 114 => ⟨S2048x4, .i1⟩
  | 115 => ⟨S_, .f32⟩
  | 116 => ⟨S2048x4, .f32⟩
  | 117 => ⟨S2048x4, .f32⟩
  | 118 => ⟨S2048x4, .f32⟩
  | 119 => ⟨S2048x4, .f32⟩
  | 120 => ⟨S2048x4, .f32⟩
  | 121 => ⟨S_, .f32⟩
  | 122 => ⟨S2048x4, .f32⟩
  | 123 => ⟨S2048x4, .f32⟩
  | 124 => ⟨S1x4, .f32⟩
  | 125 => ⟨S2048x4, .f32⟩
  | 126 => ⟨S2048x4, .f32⟩
  | 127 => ⟨S_, .f32⟩
  | _ => ⟨S2048x8, .f32⟩

abbrev hbmTy0_1 (i : Nat) : BufTy := match i % 128 with
  | 0 => ⟨S_, .f32⟩
  | 1 => ⟨S2048x8, .f32⟩
  | 2 => ⟨S_, .f32⟩
  | 3 => ⟨S_, .f32⟩
  | 4 => ⟨S2048x8, .f32⟩
  | 5 => ⟨S2048x4, .f32⟩
  | 6 => ⟨S2048x4, .f32⟩
  | 7 => ⟨S2048x4, .f32⟩
  | 8 => ⟨S_, .f32⟩
  | 9 => ⟨S4, .f32⟩
  | 10 => ⟨S1x4, .f32⟩
  | 11 => ⟨S_, .f32⟩
  | 12 => ⟨S4, .f32⟩
  | 13 => ⟨S2048x4, .f32⟩
  | 14 => ⟨S_, .f32⟩
  | 15 => ⟨S4, .f32⟩
  | 16 => ⟨S1x4, .f32⟩
  | 17 => ⟨S_, .f32⟩
  | 18 => ⟨S4, .f32⟩
  | 19 => ⟨S4, .f32⟩
  | 20 => ⟨S4, .f32⟩
  | 21 => ⟨S2048x4, .f32⟩
  | 22 => ⟨S2048x8, .f32⟩
  | 23 => ⟨S2048x8, .f32⟩
  | 24 => ⟨S2048x8, .f32⟩
  | 25 => ⟨S_, .f32⟩
  | 26 => ⟨S8, .f32⟩
  | 27 => ⟨S1x8, .f32⟩
  | 28 => ⟨S_, .f32⟩
  | 29 => ⟨S8, .f32⟩
  | 30 => ⟨S2048x16, .f32⟩
  | 31 => ⟨S_, .i32⟩
  | 32 => ⟨S_, .f32⟩
  | 33 => ⟨S2048x256, .f32⟩
  | 34 => ⟨S_, .i32⟩
  | 35 => ⟨S_, .f32⟩
  | 36 => ⟨S128, .f32⟩
  | 37 => ⟨S_, .i32⟩
  | 38 => ⟨S_, .f32⟩
  | 39 => ⟨S128, .f32⟩
  | 40 => ⟨S_, .i32⟩
  | 41 => ⟨S_, .f32⟩
  | 42 => ⟨S128, .f32⟩
  | 43 => ⟨S1x128, .f32⟩
  | 44 => ⟨S1x128, .f32⟩
  | 45 => ⟨S1x128, .f32⟩
  | 46 => ⟨S3x128, .f32⟩
  | 47 => ⟨S2048x3584, .bf16⟩
  | 48 => ⟨S2048x256, .bf16⟩
  | 49 => ⟨S2048x3840, .bf16⟩
  | 50 => ⟨S_, .i32⟩
  | 51 => ⟨S_, .f32⟩
  | 52 => ⟨S8x128, .f32⟩
  | _ => ⟨S2048x8, .f32⟩

abbrev hbmTy (i : Nat) : BufTy := match i / 128 with
  | 0 => hbmTy0_0 i
  | 1 => hbmTy0_1 i
  | _ => ⟨S2048x8, .f32⟩

abbrev bufTy : (tb : Table) → Fin (tcTables nBuf tb) → BufTy
  | .hbm, ⟨i, _⟩ => hbmTy i
  | _, _ => ⟨S2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_call0_v0 : Ref sig .tc := ⟨.hbm, 13, rfl⟩
abbrev main_call0_call0_cst : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_v1_0 : Ref sig .tc := ⟨.hbm, 27, rfl⟩
abbrev main_call0_call0_cst_0 : Ref sig .tc := ⟨.hbm, 28, rfl⟩
abbrev main_call0_call0_v13 : Ref sig .tc := ⟨.hbm, 29, rfl⟩
abbrev main_call0_call0_v14 : Ref sig .tc := ⟨.hbm, 30, rfl⟩
abbrev main_call0_call0_cst_1 : Ref sig .tc := ⟨.hbm, 31, rfl⟩
abbrev main_call0_call0_v15 : Ref sig .tc := ⟨.hbm, 32, rfl⟩
abbrev main_call0_call0_v16 : Ref sig .tc := ⟨.hbm, 33, rfl⟩
abbrev main_call0_call0_cst_2 : Ref sig .tc := ⟨.hbm, 34, rfl⟩
abbrev main_call0_call0_v17 : Ref sig .tc := ⟨.hbm, 35, rfl⟩
abbrev main_call0_call0_v18 : Ref sig .tc := ⟨.hbm, 36, rfl⟩
abbrev main_call0_call0_cst_3 : Ref sig .tc := ⟨.hbm, 37, rfl⟩
abbrev main_call0_call0_v19 : Ref sig .tc := ⟨.hbm, 38, rfl⟩
abbrev main_call0_call0_v20 : Ref sig .tc := ⟨.hbm, 39, rfl⟩
abbrev main_call0_call0_v21 : Ref sig .tc := ⟨.hbm, 40, rfl⟩
abbrev main_v3_1 : Ref sig .tc := ⟨.hbm, 41, rfl⟩
abbrev main_call0_call0_cst_4 : Ref sig .tc := ⟨.hbm, 42, rfl⟩
abbrev main_call0_call0_cst_5 : Ref sig .tc := ⟨.hbm, 43, rfl⟩
abbrev main_call0_call0_v23 : Ref sig .tc := ⟨.hbm, 44, rfl⟩
abbrev main_call0_call0_cst_6 : Ref sig .tc := ⟨.hbm, 45, rfl⟩
abbrev main_call0_call0_cst_7 : Ref sig .tc := ⟨.hbm, 46, rfl⟩
abbrev main_call0_call0_v24 : Ref sig .tc := ⟨.hbm, 47, rfl⟩
abbrev main_call0_call0_cst_8 : Ref sig .tc := ⟨.hbm, 48, rfl⟩
abbrev main_call0_call0_v25 : Ref sig .tc := ⟨.hbm, 49, rfl⟩
abbrev main_call0_call0_v26 : Ref sig .tc := ⟨.hbm, 50, rfl⟩
abbrev main_call0_call0_cst_9 : Ref sig .tc := ⟨.hbm, 51, rfl⟩
abbrev main_call0_call0_v27 : Ref sig .tc := ⟨.hbm, 52, rfl⟩
abbrev main_call0_call0_v28 : Ref sig .tc := ⟨.hbm, 53, rfl⟩
abbrev main_call0_call0_v29 : Ref sig .tc := ⟨.hbm, 54, rfl⟩
abbrev main_call0_call0_v30 : Ref sig .tc := ⟨.hbm, 55, rfl⟩
abbrev main_call0_call0_v31 : Ref sig .tc := ⟨.hbm, 56, rfl⟩
abbrev main_call0_call0_cst_10 : Ref sig .tc := ⟨.hbm, 57, rfl⟩
abbrev main_call0_call0_v32 : Ref sig .tc := ⟨.hbm, 58, rfl⟩
abbrev main_v3_2 : Ref sig .tc := ⟨.hbm, 59, rfl⟩
abbrev main_v3_0 : Ref sig .tc := ⟨.hbm, 60, rfl⟩
abbrev main_v4 : Ref sig .tc := ⟨.hbm, 61, rfl⟩
abbrev main_v5 : Ref sig .tc := ⟨.hbm, 62, rfl⟩
abbrev main_cst : Ref sig .tc := ⟨.hbm, 63, rfl⟩
abbrev main_v6 : Ref sig .tc := ⟨.hbm, 64, rfl⟩
abbrev main_v7 : Ref sig .tc := ⟨.hbm, 65, rfl⟩
abbrev main_cst_0 : Ref sig .tc := ⟨.hbm, 66, rfl⟩
abbrev main_v8 : Ref sig .tc := ⟨.hbm, 67, rfl⟩
abbrev main_v9 : Ref sig .tc := ⟨.hbm, 68, rfl⟩
abbrev main_cst_1 : Ref sig .tc := ⟨.hbm, 69, rfl⟩
abbrev main_v10 : Ref sig .tc := ⟨.hbm, 70, rfl⟩
abbrev main_v11 : Ref sig .tc := ⟨.hbm, 71, rfl⟩
abbrev main_v12 : Ref sig .tc := ⟨.hbm, 72, rfl⟩
abbrev main_v13 : Ref sig .tc := ⟨.hbm, 73, rfl⟩
abbrev main_v14 : Ref sig .tc := ⟨.hbm, 74, rfl⟩
abbrev main_v15 : Ref sig .tc := ⟨.hbm, 75, rfl⟩
abbrev main_v16 : Ref sig .tc := ⟨.hbm, 76, rfl⟩
abbrev main_v17 : Ref sig .tc := ⟨.hbm, 77, rfl⟩
abbrev main_call1_cst : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_v7 : Ref sig .tc := ⟨.hbm, 86, rfl⟩
abbrev main_call1_v8 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_v18_0 : Ref sig .tc := ⟨.hbm, 91, rfl⟩
abbrev main_call1_cst_0 : Ref sig .tc := ⟨.hbm, 92, rfl⟩
abbrev main_call1_v13 : Ref sig .tc := ⟨.hbm, 93, rfl⟩
abbrev main_call1_v14 : Ref sig .tc := ⟨.hbm, 94, rfl⟩
abbrev main_call1_cst_1 : Ref sig .tc := ⟨.hbm, 95, rfl⟩
abbrev main_call1_v15 : Ref sig .tc := ⟨.hbm, 96, rfl⟩
abbrev main_call1_v16 : Ref sig .tc := ⟨.hbm, 97, rfl⟩
abbrev main_call1_cst_2 : Ref sig .tc := ⟨.hbm, 98, rfl⟩
abbrev main_call1_v17 : Ref sig .tc := ⟨.hbm, 99, rfl⟩
abbrev main_call1_v18 : Ref sig .tc := ⟨.hbm, 100, rfl⟩
abbrev main_call1_cst_3 : Ref sig .tc := ⟨.hbm, 101, rfl⟩
abbrev main_call1_v19 : Ref sig .tc := ⟨.hbm, 102, rfl⟩
abbrev main_call1_v20 : Ref sig .tc := ⟨.hbm, 103, rfl⟩
abbrev main_call1_v21 : Ref sig .tc := ⟨.hbm, 104, rfl⟩
abbrev main_v18_1 : Ref sig .tc := ⟨.hbm, 105, rfl⟩
abbrev main_call1_cst_4 : Ref sig .tc := ⟨.hbm, 106, rfl⟩
abbrev main_call1_cst_5 : Ref sig .tc := ⟨.hbm, 107, rfl⟩
abbrev main_call1_v23 : Ref sig .tc := ⟨.hbm, 108, rfl⟩
abbrev main_call1_cst_6 : Ref sig .tc := ⟨.hbm, 109, rfl⟩
abbrev main_call1_cst_7 : Ref sig .tc := ⟨.hbm, 110, rfl⟩
abbrev main_call1_v24 : Ref sig .tc := ⟨.hbm, 111, rfl⟩
abbrev main_call1_cst_8 : Ref sig .tc := ⟨.hbm, 112, rfl⟩
abbrev main_call1_v25 : Ref sig .tc := ⟨.hbm, 113, rfl⟩
abbrev main_call1_v26 : Ref sig .tc := ⟨.hbm, 114, rfl⟩
abbrev main_call1_cst_9 : Ref sig .tc := ⟨.hbm, 115, rfl⟩
abbrev main_call1_v27 : Ref sig .tc := ⟨.hbm, 116, rfl⟩
abbrev main_call1_v28 : Ref sig .tc := ⟨.hbm, 117, rfl⟩
abbrev main_call1_v29 : Ref sig .tc := ⟨.hbm, 118, rfl⟩
abbrev main_call1_v30 : Ref sig .tc := ⟨.hbm, 119, rfl⟩
abbrev main_call1_v31 : Ref sig .tc := ⟨.hbm, 120, rfl⟩
abbrev main_call1_cst_10 : Ref sig .tc := ⟨.hbm, 121, rfl⟩
abbrev main_call1_v32 : Ref sig .tc := ⟨.hbm, 122, rfl⟩
abbrev main_v18_2 : Ref sig .tc := ⟨.hbm, 123, rfl⟩
abbrev main_v19 : Ref sig .tc := ⟨.hbm, 124, rfl⟩
abbrev main_v20 : Ref sig .tc := ⟨.hbm, 125, rfl⟩
abbrev main_v21 : Ref sig .tc := ⟨.hbm, 126, rfl⟩
abbrev main_call2_call0_cst : Ref sig .tc := ⟨.hbm, 127, rfl⟩
abbrev main_call2_call0_v0 : Ref sig .tc := ⟨.hbm, 128, rfl⟩
abbrev main_v22 : Ref sig .tc := ⟨.hbm, 129, rfl⟩
abbrev main_call3_call0_cst : Ref sig .tc := ⟨.hbm, 130, rfl⟩
abbrev main_call3_call0_v0 : Ref sig .tc := ⟨.hbm, 131, rfl⟩
abbrev main_v23 : Ref sig .tc := ⟨.hbm, 132, rfl⟩
abbrev main_v24 : Ref sig .tc := ⟨.hbm, 133, rfl⟩
abbrev main_v25 : Ref sig .tc := ⟨.hbm, 134, rfl⟩
abbrev main_v26 : Ref sig .tc := ⟨.hbm, 135, rfl⟩
abbrev main_cst_2 : Ref sig .tc := ⟨.hbm, 136, rfl⟩
abbrev main_v27 : Ref sig .tc := ⟨.hbm, 137, rfl⟩
abbrev main_v28 : Ref sig .tc := ⟨.hbm, 138, rfl⟩
abbrev main_cst_3 : Ref sig .tc := ⟨.hbm, 139, rfl⟩
abbrev main_v29 : Ref sig .tc := ⟨.hbm, 140, rfl⟩
abbrev main_v30 : Ref sig .tc := ⟨.hbm, 141, rfl⟩
abbrev main_cst_4 : Ref sig .tc := ⟨.hbm, 142, rfl⟩
abbrev main_v31 : Ref sig .tc := ⟨.hbm, 143, rfl⟩
abbrev main_v32 : Ref sig .tc := ⟨.hbm, 144, rfl⟩
abbrev main_cst_5 : Ref sig .tc := ⟨.hbm, 145, rfl⟩
abbrev main_v33 : Ref sig .tc := ⟨.hbm, 146, rfl⟩
abbrev main_v34 : Ref sig .tc := ⟨.hbm, 147, rfl⟩
abbrev main_v35 : Ref sig .tc := ⟨.hbm, 148, rfl⟩
abbrev main_v36 : Ref sig .tc := ⟨.hbm, 149, rfl⟩
abbrev main_call5_v0 : Ref sig .tc := ⟨.hbm, 150, rfl⟩
abbrev main_call5_v1 : Ref sig .tc := ⟨.hbm, 151, rfl⟩
abbrev main_v37 : Ref sig .tc := ⟨.hbm, 152, rfl⟩
abbrev main_cst_6 : Ref sig .tc := ⟨.hbm, 153, rfl⟩
abbrev main_v38 : Ref sig .tc := ⟨.hbm, 154, rfl⟩
abbrev main_v39 : Ref sig .tc := ⟨.hbm, 155, rfl⟩
abbrev main_cst_7 : Ref sig .tc := ⟨.hbm, 156, rfl⟩
abbrev main_v40 : Ref sig .tc := ⟨.hbm, 157, rfl⟩
abbrev main_v41 : Ref sig .tc := ⟨.hbm, 158, rfl⟩
abbrev main_c : Ref sig .tc := ⟨.hbm, 159, rfl⟩
abbrev main_call6_v0 : Ref sig .tc := ⟨.hbm, 160, rfl⟩
abbrev main_v42 : Ref sig .tc := ⟨.hbm, 161, rfl⟩
abbrev main_c_8 : Ref sig .tc := ⟨.hbm, 162, rfl⟩
abbrev main_call7_v0 : Ref sig .tc := ⟨.hbm, 163, rfl⟩
abbrev main_v43 : Ref sig .tc := ⟨.hbm, 164, rfl⟩
abbrev main_c_9 : Ref sig .tc := ⟨.hbm, 165, rfl⟩
abbrev main_call8_v0 : Ref sig .tc := ⟨.hbm, 166, rfl⟩
abbrev main_v44 : Ref sig .tc := ⟨.hbm, 167, rfl⟩
abbrev main_c_10 : Ref sig .tc := ⟨.hbm, 168, rfl⟩
abbrev main_call9_v0 : Ref sig .tc := ⟨.hbm, 169, rfl⟩
abbrev main_v45 : Ref sig .tc := ⟨.hbm, 170, rfl⟩
abbrev main_v46 : Ref sig .tc := ⟨.hbm, 171, rfl⟩
abbrev main_v47 : Ref sig .tc := ⟨.hbm, 172, rfl⟩
abbrev main_v48 : Ref sig .tc := ⟨.hbm, 173, rfl⟩
abbrev main_v49 : Ref sig .tc := ⟨.hbm, 174, rfl⟩
abbrev main_v50 : Ref sig .tc := ⟨.hbm, 175, rfl⟩
abbrev main_v51 : Ref sig .tc := ⟨.hbm, 176, rfl⟩
abbrev main_v52 : Ref sig .tc := ⟨.hbm, 177, rfl⟩
abbrev main_c_11 : Ref sig .tc := ⟨.hbm, 178, rfl⟩
abbrev main_call10_v0 : Ref sig .tc := ⟨.hbm, 179, rfl⟩
abbrev main_v53 : Ref sig .tc := ⟨.hbm, 180, rfl⟩

abbrev nD : Nat := 1
abbrev τ : Topo := Topo.v7x

variable {F : FTy → Type} [FloatOps F]
-- ==== Kernel4.lean ====
abbrev S2048x1536 : Shape := ⟨2, ![2048, 1536]⟩
abbrev S4x1536 : Shape := ⟨2, ![4, 1536]⟩
abbrev S3x2048x512 : Shape := ⟨3, ![3, 2048, 512]⟩
abbrev S2048x3840 : Shape := ⟨2, ![2048, 3840]⟩
abbrev S_ : Shape := ⟨0, ![]⟩
abbrev S2048x128 : Shape := ⟨2, ![2048, 128]⟩
abbrev S4x128 : Shape := ⟨2, ![4, 128]⟩
abbrev S1x2048x128 : Shape := ⟨3, ![1, 2048, 128]⟩
abbrev S1x128 : Shape := ⟨2, ![1, 128]⟩
abbrev S2048 : Shape := ⟨1, ![2048]⟩
abbrev S2048x1 : Shape := ⟨2, ![2048, 1]⟩
abbrev S128 : Shape := ⟨1, ![128]⟩

abbrev nBuf : Space → Nat
  | .hbm => 9
  | .vmem => 10
  | .smem => 0
  | _ => 0

abbrev bufTy : (tb : Table) → Fin (tcTables nBuf tb) → BufTy
  | .hbm, ⟨0, _⟩ => ⟨S2048x1536, .f32⟩
  | .hbm, ⟨1, _⟩ => ⟨S4x1536, .f32⟩
  | .hbm, ⟨2, _⟩ => ⟨S3x2048x512, .f32⟩
  | .hbm, ⟨3, _⟩ => ⟨S2048x3840, .bf16⟩
  | .hbm, ⟨4, _⟩ => ⟨S_, .i32⟩
  | .hbm, ⟨5, _⟩ => ⟨S_, .f32⟩
  | .hbm, ⟨6, _⟩ => ⟨S2048x3840, .f32⟩
  | .hbm, ⟨7, _⟩ => ⟨S2048x3840, .bf16⟩
  | .hbm, ⟨8, _⟩ => ⟨S4x1536, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S1x2048x128, .f32⟩
  | .local _ .vmem, ⟨5, _⟩ => ⟨S1x2048x128, .f32⟩
  | .local _ .vmem, ⟨6, _⟩ => ⟨S2048x128, .bf16⟩
  | .local _ .vmem, ⟨7, _⟩ => ⟨S2048x128, .bf16⟩
  | .local _ .vmem, ⟨8, _⟩ => ⟨S4x128, .f32⟩
  | .local _ .vmem, ⟨9, _⟩ => ⟨S4x128, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_4 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S2048x1536 : Shape := ⟨2, ![2048, 1536]⟩
abbrev S4x1536 : Shape := ⟨2, ![4, 1536]⟩
abbrev S3x2048x512 : Shape := ⟨3, ![3, 2048, 512]⟩
abbrev S2048x3840 : Shape := ⟨2, ![2048, 3840]⟩
abbrev S_ : Shape := ⟨0, ![]⟩
abbrev S3x1536 : Shape := ⟨2, ![3, 1536]⟩
abbrev S2051x1536 : Shape := ⟨2, ![2051, 1536]⟩
abbrev S1x1536 : Shape := ⟨2, ![1, 1536]⟩
abbrev S1536 : Shape := ⟨1, ![1536]⟩
abbrev S2048x512 : Shape := ⟨2, ![2048, 512]⟩
abbrev S2048x4x128 : Shape := ⟨3, ![2048, 4, 128]⟩
abbrev S2048x4 : Shape := ⟨2, ![2048, 4]⟩
abbrev S2048x4x1 : Shape := ⟨3, ![2048, 4, 1]⟩
abbrev S1x2048x512 : Shape := ⟨3, ![1, 2048, 512]⟩
abbrev S2048x768 : Shape := ⟨2, ![2048, 768]⟩

abbrev nBuf : Space → Nat
  | .hbm => 208
  | .vmem => 0
  | .smem => 0
  | _ => 0

abbrev hbmTy0_0 (i : Nat) : BufTy := match i % 128 with
  | 0 => ⟨S2048x1536, .f32⟩
  | 1 => ⟨S4x1536, .f32⟩
  | 2 => ⟨S3x2048x512, .f32⟩
  | 3 => ⟨S2048x3840, .bf16⟩
  | 4 => ⟨S_, .f32⟩
  | 5 => ⟨S3x1536, .f32⟩
  | 6 => ⟨S2051x1536, .f32⟩
  | 7 => ⟨S_, .f32⟩
  | 8 => ⟨S3x1536, .f32⟩
  | 9 => ⟨S2048x1536, .f32⟩
  | 10 => ⟨S1x1536, .f32⟩
  | 11 => ⟨S1536, .f32⟩
  | 12 => ⟨S1x1536, .f32⟩
  | 13 => ⟨S2048x1536, .f32⟩
  | 14 => ⟨S2048x1536, .f32⟩
  | 15 => ⟨S_, .f32⟩
  | 16 => ⟨S2048x1536, .f32⟩
  | 17 => ⟨S2048x1536, .f32⟩
  | 18 => ⟨S2048x1536, .f32⟩
  | 19 => ⟨S1x1536, .f32⟩
  | 20 => ⟨S1536, .f32⟩
  | 21 => ⟨S1x1536, .f32⟩
  | 22 => ⟨S2048x1536, .f32⟩
  | 23 => ⟨S2048x1536, .f32⟩
  | 24 => ⟨S2048x1536, .f32⟩
  | 25 => ⟨S2048x1536, .f32⟩
  | 26 => ⟨S1x1536, .f32⟩
  | 27 => ⟨S1536, .f32⟩
  | 28 => ⟨S1x1536, .f32⟩
  | 29 => ⟨S2048x1536, .f32⟩
  | 30 => ⟨S2048x1536, .f32⟩
  | 31 => ⟨S2048x1536, .f32⟩
  | 32 => ⟨S2048x1536, .f32⟩
  | 33 => ⟨S1x1536, .f32⟩
  | 34 => ⟨S1536, .f32⟩
  | 35 => ⟨S1x1536, .f32⟩
  | 36 => ⟨S2048x1536, .f32⟩
  | 37 => ⟨S2048x1536, .f32⟩
  | 38 => ⟨S2048x1536, .f32⟩
  | 39 => ⟨S2048x1536, .f32⟩
  | 40 => ⟨S2048x1536, .f32⟩
  | 41 => ⟨S_, .f32⟩
  | 42 => ⟨S2048x1536, .f32⟩
  | 43 => ⟨S2048x1536, .f32⟩
  | 44 => ⟨S_, .f32⟩
  | 45 => ⟨S2048x1536, .f32⟩
  | 46 => ⟨S2048x1536, .f32⟩
  | 47 => ⟨S_, .f32⟩
  | 48 => ⟨S2048x1536, .f32⟩
  | 49 => ⟨S2048x1536, .f32⟩
  | 50 => ⟨S2048x1536, .f32⟩
  | 51 => ⟨S2048x1536, .f32⟩
  | 52 => ⟨S2048x512, .f32⟩
  | 53 => ⟨S2048x512, .f32⟩
  | 54 => ⟨S2048x512, .f32⟩
  | 55 => ⟨S2048x4x128, .f32⟩
  | 56 => ⟨S2048x4x128, .f32⟩
  | 57 => ⟨S2048x4x128, .f32⟩
  | 58 => ⟨S2048x4x128, .f32⟩
  | 59 => ⟨S_, .f32⟩
  | 60 => ⟨S2048x4, .f32⟩
  | 61 => ⟨S2048x4x1, .f32⟩
  | 62 => ⟨S_, .f32⟩
  | 63 => ⟨S2048x4x1, .f32⟩
  | 64 => ⟨S2048x4x1, .f32⟩
  | 65 => ⟨S2048x4x1, .f32⟩
  | 66 => ⟨S2048x4x1, .f32⟩
  | 67 => ⟨S_, .f32⟩
  | 68 => ⟨S2048x4x1, .f32⟩
  | 69 => ⟨S2048x4x1, .f32⟩
  | 70 => ⟨S2048x4x128, .f32⟩
  | 71 => ⟨S2048x4x128, .f32⟩
  | 72 => ⟨S_, .f32⟩
  | 73 => ⟨S2048x4x128, .f32⟩
  | 74 => ⟨S2048x4x128, .f32⟩
  | 75 => ⟨S2048x4x128, .f32⟩
  | 76 => ⟨S_, .f32⟩
  | 77 => ⟨S2048x4, .f32⟩
  | 78 => ⟨S2048x4x1, .f32⟩
  | 79 => ⟨S_, .f32⟩
  | 80 => ⟨S2048x4x1, .f32⟩
  | 81 => ⟨S2048x4x1, .f32⟩
  | 82 => ⟨S2048x4x1, .f32⟩
  | 83 => ⟨S2048x4x1, .f32⟩
  | 84 => ⟨S_, .f32⟩
  | 85 => ⟨S2048x4x1, .f32⟩
  | 86 => ⟨S2048x4x1, .f32⟩
  | 87 => ⟨S2048x4x128, .f32⟩
  | 88 => ⟨S2048x4x128, .f32⟩
  | 89 => ⟨S2048x512, .f32⟩
  | 90 => ⟨S2048x512, .f32⟩
  | 91 => ⟨S2048x512, .f32⟩
  | 92 => ⟨S1x2048x512, .f32⟩
  | 93 => ⟨S1x2048x512, .f32⟩
  | 94 => ⟨S1x2048x512, .f32⟩
  | 95 => ⟨S3x2048x512, .f32⟩
  | 96 => ⟨S1x2048x512, .f32⟩
  | 97 => ⟨S2048x512, .f32⟩
  | 98 => ⟨S1x2048x512, .f32⟩
  | 99 => ⟨S2048x512, .f32⟩
  | 100 => ⟨S1x2048x512, .f32⟩
  | 101 => ⟨S2048x512, .f32⟩
  | 102 => ⟨S2048x4x128, .f32⟩
  | 103 => ⟨S2048x4x128, .f32⟩
  | 104 => ⟨S2048x4x128, .f32⟩
  | 105 => ⟨S2048x4x128, .f32⟩
  | 106 => ⟨S_, .f32⟩
  | 107 => ⟨S2048x4, .f32⟩
  | 108 => ⟨S2048x4x1, .f32⟩
  | 109 => ⟨S2048x4x128, .f32⟩
  | 110 => ⟨S2048x4x128, .f32⟩
  | 111 => ⟨S2048x4x1, .f32⟩
  | 112 => ⟨S_, .f32⟩
  | 113 => ⟨S2048x4, .f32⟩
  | 114 => ⟨S2048x4x128, .f32⟩
  | 115 => ⟨S2048x4x128, .f32⟩
  | 116 => ⟨S2048x4x128, .f32⟩
  | 117 => ⟨S2048x4x128, .f32⟩
  | 118 => ⟨S2048x4x128, .f32⟩
  | 119 => ⟨S_, .f32⟩
  | 120 => ⟨S2048x4x128, .f32⟩
  | 121 => ⟨S2048x4x128, .f32⟩
  | 122 => ⟨S2048x4x128, .f32⟩
  | 123 => ⟨S_, .f32⟩
  | 124 => ⟨S2048x4, .f32⟩
  | 125 => ⟨S2048x4x1, .f32⟩
  | 126 => ⟨S2048x4x128, .f32⟩
  | 127 => ⟨S2048x4x128, .f32⟩
  | _ => ⟨S2048x1536, .f32⟩

abbrev hbmTy0_1 (i : Nat) : BufTy := match i % 128 with
  | 0 => ⟨S2048x4x1, .f32⟩
  | 1 => ⟨S_, .f32⟩
  | 2 => ⟨S2048x4, .f32⟩
  | 3 => ⟨S2048x4x128, .f32⟩
  | 4 => ⟨S2048x4x128, .f32⟩
  | 5 => ⟨S2048x4x128, .f32⟩
  | 6 => ⟨S2048x4x128, .f32⟩
  | 7 => ⟨S2048x4x128, .f32⟩
  | 8 => ⟨S2048x512, .f32⟩
  | 9 => ⟨S2048x512, .f32⟩
  | 10 => ⟨S2048x512, .f32⟩
  | 11 => ⟨S2048x1536, .f32⟩
  | 12 => ⟨S2048x1536, .f32⟩
  | 13 => ⟨S2048x1536, .f32⟩
  | 14 => ⟨S2048x1536, .f32⟩
  | 15 => ⟨S2048x1536, .f32⟩
  | 16 => ⟨S2048x1536, .f32⟩
  | 17 => ⟨S_, .f32⟩
  | 18 => ⟨S1536, .f32⟩
  | 19 => ⟨S1x1536, .f32⟩
  | 20 => ⟨S2048x1536, .f32⟩
  | 21 => ⟨S2048x1536, .f32⟩
  | 22 => ⟨S_, .f32⟩
  | 23 => ⟨S1536, .f32⟩
  | 24 => ⟨S1x1536, .f32⟩
  | 25 => ⟨S_, .f32⟩
  | 26 => ⟨S4x1536, .f32⟩
  | 27 => ⟨S_, .f32⟩
  | 28 => ⟨S2051x1536, .f32⟩
  | 29 => ⟨S2048x1536, .f32⟩
  | 30 => ⟨S_, .f32⟩
  | 31 => ⟨S1536, .f32⟩
  | 32 => ⟨S1x1536, .f32⟩
  | 33 => ⟨S2048x1536, .f32⟩
  | 34 => ⟨S2048x1536, .f32⟩
  | 35 => ⟨S_, .f32⟩
  | 36 => ⟨S1536, .f32⟩
  | 37 => ⟨S1x1536, .f32⟩
  | 38 => ⟨S_, .f32⟩
  | 39 => ⟨S4x1536, .f32⟩
  | 40 => ⟨S4x1536, .f32⟩
  | 41 => ⟨S_, .f32⟩
  | 42 => ⟨S2051x1536, .f32⟩
  | 43 => ⟨S2051x1536, .f32⟩
  | 44 => ⟨S2048x1536, .f32⟩
  | 45 => ⟨S_, .f32⟩
  | 46 => ⟨S1536, .f32⟩
  | 47 => ⟨S1x1536, .f32⟩
  | 48 => ⟨S2048x1536, .f32⟩
  | 49 => ⟨S2048x1536, .f32⟩
  | 50 => ⟨S_, .f32⟩
  | 51 => ⟨S1536, .f32⟩
  | 52 => ⟨S1x1536, .f32⟩
  | 53 => ⟨S_, .f32⟩
  | 54 => ⟨S4x1536, .f32⟩
  | 55 => ⟨S4x1536, .f32⟩
  | 56 => ⟨S_, .f32⟩
  | 57 => ⟨S2051x1536, .f32⟩
  | 58 => ⟨S2051x1536, .f32⟩
  | 59 => ⟨S2048x1536, .f32⟩
  | 60 => ⟨S_, .f32⟩
  | 61 => ⟨S1536, .f32⟩
  | 62 => ⟨S1x1536, .f32⟩
  | 63 => ⟨S2048x1536, .f32⟩
  | 64 => ⟨S2048x1536, .f32⟩
  | 65 => ⟨S_, .f32⟩
  | 66 => ⟨S1536, .f32⟩
  | 67 => ⟨S1x1536, .f32⟩
  | 68 => ⟨S_, .f32⟩
  | 69 => ⟨S4x1536, .f32⟩
  | 70 => ⟨S4x1536, .f32⟩
  | 71 => ⟨S_, .f32⟩
  | 72 => ⟨S2051x1536, .f32⟩
  | 73 => ⟨S2051x1536, .f32⟩
  | 74 => ⟨S3x1536, .f32⟩
  | 75 => ⟨S2048x1536, .f32⟩
  | 76 => ⟨S2048x1536, .bf16⟩
  | 77 => ⟨S2048x1536, .bf16⟩
  | 78 => ⟨S2048x768, .bf16⟩
  | 79 => ⟨S2048x3840, .bf16⟩
  | _ => ⟨S2048x1536, .f32⟩

abbrev hbmTy (i : Nat) : BufTy := match i / 128 with
  | 0 => hbmTy0_0 i
  | 1 => hbmTy0_1 i
  | _ => ⟨S2048x1536, .f32⟩

abbrev bufTy : (tb : Table) → Fin (tcTables nBuf tb) → BufTy
  | .hbm, ⟨i, _⟩ => hbmTy i
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_v32_2 : Ref sig .tc := ⟨.hbm, 46, rfl⟩
abbrev main_call0_cst_1 : Ref sig .tc := ⟨.hbm, 47, rfl⟩
abbrev main_call0_v6 : Ref sig .tc := ⟨.hbm, 48, rfl⟩
abbrev main_call0_v7 : Ref sig .tc := ⟨.hbm, 49, rfl⟩
abbrev main_v32_1 : Ref sig .tc := ⟨.hbm, 50, rfl⟩
abbrev main_v32_0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_2 : Ref sig .tc := ⟨.hbm, 59, rfl⟩
abbrev main_v40 : Ref sig .tc := ⟨.hbm, 60, rfl⟩
abbrev main_v41 : Ref sig .tc := ⟨.hbm, 61, rfl⟩
abbrev main_cst_3 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_4 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_5 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_6 : Ref sig .tc := ⟨.hbm, 76, rfl⟩
abbrev main_v53 : Ref sig .tc := ⟨.hbm, 77, rfl⟩
abbrev main_v54 : Ref sig .tc := ⟨.hbm, 78, rfl⟩
abbrev main_cst_7 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_8 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_9 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_10 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_11 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_12 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_cst_13 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_call1_v0 : Ref sig .tc := ⟨.hbm, 140, rfl⟩
abbrev main_call1_v1 : Ref sig .tc := ⟨.hbm, 141, rfl⟩
abbrev main_call1_v2 : Ref sig .tc := ⟨.hbm, 142, rfl⟩
abbrev main_v109 : Ref sig .tc := ⟨.hbm, 143, rfl⟩
abbrev main_v110 : Ref sig .tc := ⟨.hbm, 144, rfl⟩
abbrev main_cst_14 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_cst_15 : Ref sig .tc := ⟨.hbm, 150, rfl⟩
abbrev main_v115 : Ref sig .tc := ⟨.hbm, 151, rfl⟩
abbrev main_v116 : Ref sig .tc := ⟨.hbm, 152, rfl⟩
abbrev main_cst_16 : Ref sig .tc := ⟨.hbm, 153, rfl⟩
abbrev main_v117 : Ref sig .tc := ⟨.hbm, 154, rfl⟩
abbrev main_cst_17 : Ref sig .tc := ⟨.hbm, 155, rfl⟩
abbrev main_v118 : Ref sig .tc := ⟨.hbm, 156, rfl⟩
abbrev main_v119 : Ref sig .tc := ⟨.hbm, 157, rfl⟩
abbrev main_cst_18 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_cst_19 : Ref sig .tc := ⟨.hbm, 163, rfl⟩
abbrev main_v124 : Ref sig .tc := ⟨.hbm, 164, rfl⟩
abbrev main_v125 : Ref sig .tc := ⟨.hbm, 165, rfl⟩
abbrev main_cst_20 : Ref sig .tc := ⟨.hbm, 166, rfl⟩
abbrev main_v126 : Ref sig .tc := ⟨.hbm, 167, rfl⟩
abbrev main_v127 : Ref sig .tc := ⟨.hbm, 168, rfl⟩
abbrev main_cst_21 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_cst_22 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_cst_23 : Ref sig .tc := ⟨.hbm, 178, rfl⟩
abbrev main_v135 : Ref sig .tc := ⟨.hbm, 179, rfl⟩
abbrev main_v136 : Ref sig .tc := ⟨.hbm, 180, rfl⟩
abbrev main_cst_24 : Ref sig .tc := ⟨.hbm, 181, rfl⟩
abbrev main_v137 : Ref sig .tc := ⟨.hbm, 182, rfl⟩
abbrev main_v138 : Ref sig .tc := ⟨.hbm, 183, rfl⟩
abbrev main_cst_25 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_cst_26 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_cst_27 : Ref sig .tc := ⟨.hbm, 193, rfl⟩
abbrev main_v146 : Ref sig .tc := ⟨.hbm, 194, rfl⟩
abbrev main_v147 : Ref sig .tc := ⟨.hbm, 195, rfl⟩
abbrev main_cst_28 : Ref sig .tc := ⟨.hbm, 196, rfl⟩
abbrev main_v148 : Ref sig .tc := ⟨.hbm, 197, rfl⟩
abbrev main_v149 : Ref sig .tc := ⟨.hbm, 198, rfl⟩
abbrev main_cst_29 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩

abbrev nD : Nat := 1
abbrev τ : Topo := Topo.v7x

variable {F : FTy → Type} [FloatOps F]
-- ==== Kernel5.lean ====
abbrev S2048x1024 : Shape := ⟨2, ![2048, 1024]⟩
abbrev S1024 : Shape := ⟨1, ![1024]⟩
abbrev S1024x4096 : Shape := ⟨2, ![1024, 4096]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1024x4x1024 : Shape := ⟨3, ![1024, 4, 1024]⟩
abbrev S4x1024x1024 : Shape := ⟨3, ![4, 1024, 1024]⟩
abbrev S512x4096 : Shape := ⟨2, ![512, 4096]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 34
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S1024, .f32⟩
  | .hbm, ⟨4, _⟩ => ⟨S1024x4096, .f32⟩
  | .hbm, ⟨5, _⟩ => ⟨S2048x1024, .f32⟩
  | .hbm, ⟨6, _⟩ => ⟨S2048x4096, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S1024x4x1024, .f32⟩
  | .hbm, ⟨25, _⟩ => ⟨S4x1024x1024, .f32⟩
  | .hbm, ⟨26, _⟩ => ⟨S4x1024x1024, .bf16⟩
  | .hbm, ⟨27, _⟩ => ⟨S2048x4096, .bf16⟩
  | .hbm, ⟨28, _⟩ => ⟨S1x1024, .f32⟩
  | .hbm, ⟨29, _⟩ => ⟨S1x1024, .f32⟩
  | .hbm, ⟨30, _⟩ => ⟨S2048x1024, .f32⟩
  | .hbm, ⟨31, _⟩ => ⟨S2048x1024, .bf16⟩
  | .hbm, ⟨32, _⟩ => ⟨S1x1024, .f32⟩
  | .hbm, ⟨33, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev main_v20_2 : Ref sig .tc := ⟨.hbm, 32, rfl⟩
abbrev main_v20_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨3, ![4, 1, 1], ![false, false, false]⟩

def k0_cond1 (i : grid0.Coords) : BitVec 1 :=
  let arg0 : BitVec 32 := BitVec.ofNat 32 (i 0).val
  let c0_i32 : BitVec 32 := 0#32
  let v93 : BitVec 1 := Scalar.cmpi .eq arg0 c0_i32
  let v94 : BitVec 32 := Scalar.extui v93
  let c0_i32_42 : BitVec 32 := 0#32
  let v95 : BitVec 1 := Scalar.cmpi .ne v94 c0_i32_42
  v95

def k0_cond2 (i : grid0.Coords) : BitVec 1 :=
  let arg0 : BitVec 32 := BitVec.ofNat 32 (i 0).val
  let c0_i32_43 : BitVec 32 := 0#32
  let v96 : BitVec 1 := Scalar.cmpi .sgt arg0 c0_i32_43
  let v97 : BitVec 32 := Scalar.extui v96
  let c0_i32_44 : BitVec 32 := 0#32
  let v98 : BitVec 1 := Scalar.cmpi .ne v97 c0_i32_44
  v98

def k0_cond3 (i : grid0.Coords) : BitVec 1 :=
  let arg0 : BitVec 32 := BitVec.ofNat 32 (i 0).val
  let c0_i32_45 : BitVec 32 := 0#32
  let v99 : BitVec 1 := Scalar.cmpi .eq arg0 c0_i32_45
  let v100 : BitVec 32 := Scalar.extui v99
  let c0_i32_46 : BitVec 32 := 0#32
  let v101 : BitVec 1 := Scalar.cmpi .ne v100 c0_i32_46
  v101

def k0_cond4 (i : grid0.Coords) : BitVec 1 :=
  let arg0 : BitVec 32 := BitVec.ofNat 32 (i 0).val
  let c0_i32_47 : BitVec 32 := 0#32
  let v102 : BitVec 1 := Scalar.cmpi .sgt arg0 c0_i32_47
  let v103 : BitVec 32 := Scalar.extui v102
  let c0_i32_48 : BitVec 32 := 0#32
  let v104 : BitVec 1 := Scalar.cmpi .ne v103 c0_i32_48
  v104

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]
-- ==== Reference5Ideal.lean ====
abbrev S2048x1024 : Shape := ⟨2, ![2048, 1024]⟩
abbrev S1024 : Shape := ⟨1, ![1024]⟩
abbrev S1024x4096 : Shape := ⟨2, ![1024, 4096]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S4096x1024 : Shape := ⟨2, ![4096, 1024]⟩

abbrev nBuf : Space → Nat
  | .hbm => 107
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S1024, .f32⟩
  | .hbm, ⟨4, _⟩ => ⟨S1024x4096, .f32⟩
  | .hbm, ⟨5, _⟩ => ⟨S2048x1024, .f32⟩
  | .hbm, ⟨6, _⟩ => ⟨S2048x4096, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048, .f32⟩
  | .hbm, ⟨31, _⟩ => ⟨S2048x1, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S_, .f32⟩
  | .hbm, ⟨36, _⟩ => ⟨S2048x1, .f32⟩
  | .hbm, ⟨37, _⟩ => ⟨S2048x1, .f32⟩
  | .hbm, ⟨38, _⟩ => ⟨S2048x1, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S2048x1024, .f32⟩
  | .hbm, ⟨44, _⟩ => ⟨S2048x1024, .f32⟩
  | .hbm, ⟨45, _⟩ => ⟨S1x1024, .f32⟩
  | .hbm, ⟨46, _⟩ => ⟨S2048x1024, .f32⟩
  | .hbm, ⟨47, _⟩ => ⟨S2048x1024, .f32⟩
  | .hbm, ⟨48, _⟩ => ⟨S2048x4096, .f32⟩
  | .hbm, ⟨49, _⟩ => ⟨S4096x1024, .f32⟩
  | .hbm, ⟨50, _⟩ => ⟨S1024x4096, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S2048x1024, .f32⟩
  | .hbm, ⟨57, _⟩ => ⟨S2048x1024, .f32⟩
  | .hbm, ⟨58, _⟩ => ⟨S_, .f32⟩
  | .hbm, ⟨59, _⟩ => ⟨S1024, .f32⟩
  | .hbm, ⟨60, _⟩ => ⟨S2048x1024, .f32⟩
  | .hbm, ⟨61, _⟩ => ⟨S_, .f32⟩
  | .hbm, ⟨62, _⟩ => ⟨S2048, .f32⟩
  | .hbm, ⟨63, _⟩ => ⟨S2048x1, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1, .f32⟩
  | .hbm, ⟨68, _⟩ => ⟨S_, .f32⟩
  | .hbm, ⟨69, _⟩ => ⟨S2048x1, .f32⟩
  | .hbm, ⟨70, _⟩ => ⟨S2048x1, .f32⟩
  | .hbm, ⟨71, _⟩ => ⟨S_, .f32⟩
  | .hbm, ⟨72, _⟩ => ⟨S2048, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S2048x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S2048x1024, .f32⟩
  | .hbm, ⟨84, _⟩ => ⟨S2048x1024, .f32⟩
  | .hbm, ⟨85, _⟩ => ⟨S_, .f32⟩
  | .hbm, ⟨86, _⟩ => ⟨S1024, .f32⟩
  | .hbm, ⟨87, _⟩ => ⟨S2048x1024, .f32⟩
  | .hbm, ⟨88, _⟩ => ⟨S_, .f32⟩
  | .hbm, ⟨89, _⟩ => ⟨S2048, .f32⟩
  | .hbm, ⟨90, _⟩ => ⟨S2048x1, .f32⟩
  | .hbm, ⟨91, _⟩ => ⟨S2048x1024, .f32⟩
  | .hbm, ⟨92, _⟩ => ⟨S2048x1024, .f32⟩
  | .hbm, ⟨93, _⟩ => ⟨S2048x1, .f32⟩
  | .hbm, ⟨94, _⟩ => ⟨S_, .f32⟩
  | .hbm, ⟨95, _⟩ => ⟨S2048x1, .f32⟩
  | .hbm, ⟨96, _⟩ => ⟨S2048x1, .f32⟩
  | .hbm, ⟨97, _⟩ => ⟨S_, .f32⟩
  | .hbm, ⟨98, _⟩ => ⟨S2048, .f32⟩
  | .hbm, ⟨99, _⟩ => ⟨S2048x1024, .f32⟩
  | .hbm, ⟨100, _⟩ => ⟨S2048x1024, .f32⟩
  | .hbm, ⟨101, _⟩ => ⟨S2048x1024, .f32⟩
  | .hbm, ⟨102, _⟩ => ⟨S2048x1024, .f32⟩
  | .hbm, ⟨103, _⟩ => ⟨S2048x1024, .f32⟩
  | .hbm, ⟨104, _⟩ => ⟨S2048x1024, .bf16⟩
  | .hbm, ⟨105, _⟩ => ⟨S1x1024, .f32⟩
  | .hbm, ⟨106, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_12 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_13 : Ref sig .tc := ⟨.hbm, 85, rfl⟩
abbrev main_v64 : Ref sig .tc := ⟨.hbm, 86, rfl⟩
abbrev main_v65 : Ref sig .tc := ⟨.hbm, 87, rfl⟩
abbrev main_cst_14 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_15 : Ref sig .tc := ⟨.hbm, 94, rfl⟩
abbrev main_v71 : Ref sig .tc := ⟨.hbm, 95, rfl⟩
abbrev main_v72 : Ref sig .tc := ⟨.hbm, 96, rfl⟩
abbrev main_cst_16 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩

abbrev nD : Nat := 1
abbrev τ : Topo := Topo.v7x

variable {F : FTy → Type} [FloatOps F]
-- ==== Kernel6.lean ====
abbrev S2048x4096 : Shape := ⟨2, ![2048, 4096]⟩
abbrev S4096x1024 : Shape := ⟨2, ![4096, 1024]⟩
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 8
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S2048x1024, .bf16⟩
  | .hbm, ⟨7, _⟩ => ⟨S4096x1024, .bf16⟩
  | .hbm, ⟨8, _⟩ => ⟨S2048x4096, .bf16⟩
  | .hbm, ⟨9, _⟩ => ⟨S2048x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S2048x4096 : Shape := ⟨2, ![2048, 4096]⟩
abbrev S4096x1024 : Shape := ⟨2, ![4096, 1024]⟩
abbrev S2048x1024 : Shape := ⟨2, ![2048, 1024]⟩
abbrev S_ : Shape := ⟨0, ![]⟩
abbrev S1024x4096 : Shape := ⟨2, ![1024, 4096]⟩

abbrev nBuf : Space → Nat
  | .hbm => 24
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .i1⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S_, .f32⟩
  | .hbm, ⟨13, _⟩ => ⟨S2048x4096, .f32⟩
  | .hbm, ⟨14, _⟩ => ⟨S2048x4096, .f32⟩
  | .hbm, ⟨15, _⟩ => ⟨S2048x1024, .f32⟩
  | .hbm, ⟨16, _⟩ => ⟨S1024x4096, .f32⟩
  | .hbm, ⟨17, _⟩ => ⟨S4096x1024, .f32⟩
  | .hbm, ⟨18, _⟩ => ⟨S2048x4096, .f32⟩
  | .hbm, ⟨19, _⟩ => ⟨S2048x4096, .f32⟩
  | .hbm, ⟨20, _⟩ => ⟨S_, .f32⟩
  | .hbm, ⟨21, _⟩ => ⟨S2048x4096, .f32⟩
  | .hbm, ⟨22, _⟩ => ⟨S2048x4096, .f32⟩
  | .hbm, ⟨23, _⟩ => ⟨S2048x4096, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel7.lean ====
abbrev S2048x4096 : Shape := ⟨2, ![2048, 4096]⟩
abbrev S4096x1024 : Shape := ⟨2, ![4096, 1024]⟩
abbrev S1024 : Shape := ⟨1, ![1024]⟩
abbrev S2048x1024 : Shape := ⟨2, ![2048, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 12
  | .vmem => 14
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S1024, .f32⟩
  | .hbm, ⟨3, _⟩ => ⟨S2048x1024, .f32⟩
  | .hbm, ⟨4, _⟩ => ⟨S2048x1024, .f32⟩
  | .hbm, ⟨5, _⟩ => ⟨S2048x4096, .bf16⟩
  | .hbm, ⟨6, _⟩ => ⟨S4096x1024, .bf16⟩
  | .hbm, ⟨7, _⟩ => ⟨S1x1024, .f32⟩
  | .hbm, ⟨8, _⟩ => ⟨S2048x1024, .f32⟩
  | .hbm, ⟨9, _⟩ => ⟨S2048x1024, .bf16⟩
  | .hbm, ⟨10, _⟩ => ⟨S1x1024, .f32⟩
  | .hbm, ⟨11, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨3, ![4, 1, 1], ![false, false, false]⟩

def k0_cond1 (i : grid0.Coords) : BitVec 1 :=
  let arg0 : BitVec 32 := BitVec.ofNat 32 (i 0).val
  let c0_i32 : BitVec 32 := 0#32
  let v68 : BitVec 1 := Scalar.cmpi .eq arg0 c0_i32
  let v69 : BitVec 32 := Scalar.extui v68
  let c0_i32_27 : BitVec 32 := 0#32
  let v70 : BitVec 1 := Scalar.cmpi .ne v69 c0_i32_27
  v70

def k0_cond2 (i : grid0.Coords) : BitVec 1 :=
  let arg0 : BitVec 32 := BitVec.ofNat 32 (i 0).val
  let c0_i32_28 : BitVec 32 := 0#32
  let v71 : BitVec 1 := Scalar.cmpi .sgt arg0 c0_i32_28
  let v72 : BitVec 32 := Scalar.extui v71
  let c0_i32_29 : BitVec 32 := 0#32
  let v73 : BitVec 1 := Scalar.cmpi .ne v72 c0_i32_29
  v73

def k0_cond3 (i : grid0.Coords) : BitVec 1 :=
  let arg0 : BitVec 32 := BitVec.ofNat 32 (i 0).val
  let c0_i32_30 : BitVec 32 := 0#32
  let v74 : BitVec 1 := Scalar.cmpi .eq arg0 c0_i32_30
  let v75 : BitVec 32 := Scalar.extui v74
  let c0_i32_31 : BitVec 32 := 0#32
  let v76 : BitVec 1 := Scalar.cmpi .ne v75 c0_i32_31
  v76

def k0_cond4 (i : grid0.Coords) : BitVec 1 :=
  let arg0 : BitVec 32 := BitVec.ofNat 32 (i 0).val
  let c0_i32_32 : BitVec 32 := 0#32
  let v77 : BitVec 1 := Scalar.cmpi .sgt arg0 c0_i32_32
  let v78 : BitVec 32 := Scalar.extui v77
  let c0_i32_33 : BitVec 32 := 0#32
  let v79 : BitVec 1 := Scalar.cmpi .ne v78 c0_i32_33
  v79

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== Reference7Ideal.lean ====
abbrev S2048x4096 : Shape := ⟨2, ![2048, 4096]⟩
abbrev S4096x1024 : Shape := ⟨2, ![4096, 1024]⟩
abbrev S1024 : Shape := ⟨1, ![1024]⟩
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 79
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S2048, .f32⟩
  | .hbm, ⟨45, _⟩ => ⟨S_, .f32⟩
  | .hbm, ⟨46, _⟩ => ⟨S2048, .f32⟩
  | .hbm, ⟨47, _⟩ => ⟨S2048, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S2048x1024, .f32⟩
  | .hbm, ⟨56, _⟩ => ⟨S2048x1024, .f32⟩
  | .hbm, ⟨57, _⟩ => ⟨S_, .f32⟩
  | .hbm, ⟨58, _⟩ => ⟨S1024, .f32⟩
  | .hbm, ⟨59, _⟩ => ⟨S2048x1024, .f32⟩
  | .hbm, ⟨60, _⟩ => ⟨S_, .f32⟩
  | .hbm, ⟨61, _⟩ => ⟨S2048, .f32⟩
  | .hbm, ⟨62, _⟩ => ⟨S2048x1, .f32⟩
  | .hbm, ⟨63, _⟩ => ⟨S2048x1024, .f32⟩
  | .hbm, ⟨64, _⟩ => ⟨S2048x1024, .f32⟩
  | .hbm, ⟨65, _⟩ => ⟨S2048x1, .f32⟩
  | .hbm, ⟨66, _⟩ => ⟨S_, .f32⟩
  | .hbm, ⟨67, _⟩ => ⟨S2048x1, .f32⟩
  | .hbm, ⟨68, _⟩ => ⟨S2048x1, .f32⟩
  | .hbm, ⟨69, _⟩ => ⟨S_, .f32⟩
  | .hbm, ⟨70, _⟩ => ⟨S2048, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .bf16⟩
  | .hbm, ⟨77, _⟩ => ⟨S1x1024, .f32⟩
  | .hbm, ⟨78, _⟩ => ⟨S1x1024, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== Kernel8.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S1024, .f32⟩
  | .hbm, ⟨4, _⟩ => ⟨S1024, .f32⟩
  | .hbm, ⟨5, _⟩ => ⟨S2048x1024, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S2048x1024, .f32⟩
  | .hbm, ⟨10, _⟩ => ⟨S2048x1024, .f32⟩
  | .hbm, ⟨11, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference8Ideal.lean ====
abbrev S2048x1024 : Shape := ⟨2, ![2048, 1024]⟩
abbrev S1024x1024 : Shape := ⟨2, ![1024, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S1024, .f32⟩
  | .hbm, ⟨4, _⟩ => ⟨S1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S2048x1024, .f32⟩
  | .hbm, ⟨35, _⟩ => ⟨S2048x1024, .f32⟩
  | .hbm, ⟨36, _⟩ => ⟨S1x1024, .f32⟩
  | .hbm, ⟨37, _⟩ => ⟨S2048x1024, .f32⟩
  | .hbm, ⟨38, _⟩ => ⟨S2048x1024, .f32⟩
  | .hbm, ⟨39, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel9.lean ====
abbrev S2048x1024 : Shape := ⟨2, ![2048, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S2048x4096 : Shape := ⟨2, ![2048, 4096]⟩
abbrev S1024x1024 : Shape := ⟨2, ![1024, 1024]⟩
abbrev S1x1024x1024 : Shape := ⟨3, ![1, 1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S1024x4x1024, .f32⟩
  | .hbm, ⟨3, _⟩ => ⟨S4x1024x1024, .f32⟩
  | .hbm, ⟨4, _⟩ => ⟨S4x1024x1024, .bf16⟩
  | .hbm, ⟨5, _⟩ => ⟨S2048x1024, .bf16⟩
  | .hbm, ⟨6, _⟩ => ⟨S2048x4096, .bf16⟩
  | .hbm, ⟨7, _⟩ => ⟨S2048x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S2048x1024 : Shape := ⟨2, ![2048, 1024]⟩
abbrev S1024x4096 : Shape := ⟨2, ![1024, 4096]⟩
abbrev S2048x4096 : Shape := ⟨2, ![2048, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x4096, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S2048x4096, .bf16⟩
  | .hbm, ⟨7, _⟩ => ⟨S2048x4096, .f32⟩
  | .hbm, ⟨8, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel10.lean ====
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1x1024, .f32⟩
  | .hbm, ⟨3, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S1x1024, .f32⟩
  | .hbm, ⟨16, _⟩ => ⟨S2048x1024, .f32⟩
  | .hbm, ⟨17, _⟩ => ⟨S2048x1024, .f32⟩
  | .hbm, ⟨18, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel11.lean ====
abbrev S2048x8 : Shape := ⟨2, ![2048, 8]⟩
abbrev S2048x4 : Shape := ⟨2, ![2048, 4]⟩
abbrev S8 : Shape := ⟨1, ![8]⟩
abbrev S4 : Shape := ⟨1, ![4]⟩
abbrev S2048x16 : Shape := ⟨2, ![2048, 16]⟩
abbrev S_ : Shape := ⟨0, ![]⟩
abbrev S2048x3840 : Shape := ⟨2, ![2048, 3840]⟩
abbrev S112 : Shape := ⟨1, ![112]⟩
abbrev S128 : Shape := ⟨1, ![128]⟩
abbrev S1x128 : Shape := ⟨2, ![1, 128]⟩
abbrev S2048x128 : Shape := ⟨2, ![2048, 128]⟩
abbrev S512x128 : Shape := ⟨2, ![512, 128]⟩
abbrev S512x512 : Shape := ⟨2, ![512, 512]⟩

abbrev nBuf : Space → Nat
  | .hbm => 21
  | .vmem => 7
  | .smem => 0
  | _ => 0

abbrev bufTy : (tb : Table) → Fin (tcTables nBuf tb) → BufTy
  | .hbm, ⟨0, _⟩ => ⟨S2048x8, .f32⟩
  | .hbm, ⟨1, _⟩ => ⟨S2048x4, .f32⟩
  | .hbm, ⟨2, _⟩ => ⟨S2048x4, .f32⟩
  | .hbm, ⟨3, _⟩ => ⟨S8, .f32⟩
  | .hbm, ⟨4, _⟩ => ⟨S4, .f32⟩
  | .hbm, ⟨5, _⟩ => ⟨S4, .f32⟩
  | .hbm, ⟨6, _⟩ => ⟨S2048x16, .f32⟩
  | .hbm, ⟨7, _⟩ => ⟨S_, .i32⟩
  | .hbm, ⟨8, _⟩ => ⟨S_, .f32⟩
  | .hbm, ⟨9, _⟩ => ⟨S2048x3840, .f32⟩
  | .hbm, ⟨10, _⟩ => ⟨S_, .f32⟩
  | .hbm, ⟨11, _⟩ => ⟨S4, .f32⟩
  | .hbm, ⟨12, _⟩ => ⟨S_, .f32⟩
  | .hbm, ⟨13, _⟩ => ⟨S112, .f32⟩
  | .hbm, ⟨14, _⟩ => ⟨S128, .f32⟩
  | .hbm, ⟨15, _⟩ => ⟨S1x128, .f32⟩
  | .hbm, ⟨16, _⟩ => ⟨S_, .i32⟩
  | .hbm, ⟨17, _⟩ => ⟨S_, .f32⟩
  | .hbm, ⟨18, _⟩ => ⟨S128, .f32⟩
  | .hbm, ⟨19, _⟩ => ⟨S1x128, .f32⟩
  | .hbm, ⟨20, _⟩ => ⟨S2048x128, .f32⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S1x128, .f32⟩
  | .local _ .vmem, ⟨4, _⟩ => ⟨S512x128, .f32⟩
  | .local _ .vmem, ⟨5, _⟩ => ⟨S512x128, .f32⟩
  | .local _ .vmem, ⟨6, _⟩ => ⟨S1x128, .f32⟩
  | _, _ => ⟨S2048x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_call1_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c28_i32 : BitVec 32 := 28#32
  let c0_i32 : BitVec 32 := 0#32
  ![arg0.toNat, c28_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference11Ideal.lean ====
abbrev S2048x8 : Shape := ⟨2, ![2048, 8]⟩
abbrev S2048x4 : Shape := ⟨2, ![2048, 4]⟩
abbrev S8 : Shape := ⟨1, ![8]⟩
abbrev S4 : Shape := ⟨1, ![4]⟩
abbrev S1x8 : Shape := ⟨2, ![1, 8]⟩
abbrev S_ : Shape := ⟨0, ![]⟩
abbrev S1x4 : Shape := ⟨2, ![1, 4]⟩
abbrev S2048x16 : Shape := ⟨2, ![2048, 16]⟩
abbrev S2048x128 : Shape := ⟨2, ![2048, 128]⟩

abbrev nBuf : Space → Nat
  | .hbm => 62
  | .vmem => 0
  | .smem => 0
  | _ => 0

abbrev bufTy : (tb : Table) → Fin (tcTables nBuf tb) → BufTy
  | .hbm, ⟨0, _⟩ => ⟨S2048x8, .f32⟩
  | .hbm, ⟨1, _⟩ => ⟨S2048x4, .f32⟩
  | .hbm, ⟨2, _⟩ => ⟨S2048x4, .f32⟩
  | .hbm, ⟨3, _⟩ => ⟨S8, .f32⟩
  | .hbm, ⟨4, _⟩ => ⟨S4, .f32⟩
  | .hbm, ⟨5, _⟩ => ⟨S4, .f32⟩
  | .hbm, ⟨6, _⟩ => ⟨S1x8, .f32⟩
  | .hbm, ⟨7, _⟩ => ⟨S2048x8, .f32⟩
  | .hbm, ⟨8, _⟩ => ⟨S2048x8, .f32⟩
  | .hbm, ⟨9, _⟩ => ⟨S2048x8, .f32⟩
  | .hbm, ⟨10, _⟩ => ⟨S_, .f32⟩
  | .hbm, ⟨11, _⟩ => ⟨S2048x8, .f32⟩
  | .hbm, ⟨12, _⟩ => ⟨S2048x8, .f32⟩
  | .hbm, ⟨13, _⟩ => ⟨S2048x8, .f32⟩
  | .hbm, ⟨14, _⟩ => ⟨S2048x8, .f32⟩
  | .hbm, ⟨15, _⟩ => ⟨S2048x8, .i1⟩
  | .hbm, ⟨16, _⟩ => ⟨S2048x8, .f32⟩
  | .hbm, ⟨17, _⟩ => ⟨S2048x8, .f32⟩
  | .hbm, ⟨18, _⟩ => ⟨S2048x8, .f32⟩
  | .hbm, ⟨19, _⟩ => ⟨S2048x8, .f32⟩
  | .hbm, ⟨20, _⟩ => ⟨S2048x8, .f32⟩
  | .hbm, ⟨21, _⟩ => ⟨S2048x8, .f32⟩
  | .hbm, ⟨22, _⟩ => ⟨S2048x8, .f32⟩
  | .hbm, ⟨23, _⟩ => ⟨S2048x8, .f32⟩
  | .hbm, ⟨24, _⟩ => ⟨S2048x8, .f32⟩
  | .hbm, ⟨25, _⟩ => ⟨S2048x4, .f32⟩
  | .hbm, ⟨26, _⟩ => ⟨S2048x4, .f32⟩
  | .hbm, ⟨27, _⟩ => ⟨S_, .f32⟩
  | .hbm, ⟨28, _⟩ => ⟨S2048x4, .f32⟩
  | .hbm, ⟨29, _⟩ => ⟨S2048x4, .f32⟩
  | .hbm, ⟨30, _⟩ => ⟨S_, .f32⟩
  | .hbm, ⟨31, _⟩ => ⟨S2048x4, .f32⟩
  | .hbm, ⟨32, _⟩ => ⟨S2048x4, .f32⟩
  | .hbm, ⟨33, _⟩ => ⟨S4, .f32⟩
  | .hbm, ⟨34, _⟩ => ⟨S4, .f32⟩
  | .hbm, ⟨35, _⟩ => ⟨S1x4, .f32⟩
  | .hbm, ⟨36, _⟩ => ⟨S2048x4, .f32⟩
  | .hbm, ⟨37, _⟩ => ⟨S2048x4, .f32⟩
  | .hbm, ⟨38, _⟩ => ⟨S_, .f32⟩
  | .hbm, ⟨39, _⟩ => ⟨S2048x4, .f32⟩
  | .hbm, ⟨40, _⟩ => ⟨S2048x4, .f32⟩
  | .hbm, ⟨41, _⟩ => ⟨S2048x4, .f32⟩
  | .hbm, ⟨42, _⟩ => ⟨S2048x4, .f32⟩
  | .hbm, ⟨43, _⟩ => ⟨S2048x4, .i1⟩
  | .hbm, ⟨44, _⟩ => ⟨S2048x4, .f32⟩
  | .hbm, ⟨45, _⟩ => ⟨S2048x4, .f32⟩
  | .hbm, ⟨46, _⟩ => ⟨S2048x4, .f32⟩
  | .hbm, ⟨47, _⟩ => ⟨S2048x4, .f32⟩
  | .hbm, ⟨48, _⟩ => ⟨S2048x4, .f32⟩
  | .hbm, ⟨49, _⟩ => ⟨S2048x4, .f32⟩
  | .hbm, ⟨50, _⟩ => ⟨S2048x4, .f32⟩
  | .hbm, ⟨51, _⟩ => ⟨S2048x4, .f32⟩
  | .hbm, ⟨52, _⟩ => ⟨S1x4, .f32⟩
  | .hbm, ⟨53, _⟩ => ⟨S2048x4, .f32⟩
  | .hbm, ⟨54, _⟩ => ⟨S2048x4, .f32⟩
  | .hbm, ⟨55, _⟩ => ⟨S_, .f32⟩
  | .hbm, ⟨56, _⟩ => ⟨S_, .f32⟩
  | .hbm, ⟨57, _⟩ => ⟨S2048x8, .f32⟩
  | .hbm, ⟨58, _⟩ => ⟨S2048x16, .f32⟩
  | .hbm, ⟨59, _⟩ => ⟨S_, .i32⟩
  | .hbm, ⟨60, _⟩ => ⟨S_, .f32⟩
  | .hbm, ⟨61, _⟩ => ⟨S2048x128, .f32⟩
  | _, _ => ⟨S2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_call0_cst : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_v8 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_v11 : Ref sig .tc := ⟨.hbm, 22, rfl⟩
abbrev main_call0_v1 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_cst : Ref sig .tc := ⟨.hbm, 27, rfl⟩
abbrev main_v6 : Ref sig .tc := ⟨.hbm, 28, rfl⟩
abbrev main_v7 : Ref sig .tc := ⟨.hbm, 29, rfl⟩
abbrev main_cst_0 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_call1_cst : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_call2_call0_cst : Ref sig .tc := ⟨.hbm, 55, rfl⟩
abbrev main_call2_call0_v0 : Ref sig .tc := ⟨.hbm, 56, rfl⟩
abbrev main_v19 : Ref sig .tc := ⟨.hbm, 57, rfl⟩
abbrev main_v20 : Ref sig .tc := ⟨.hbm, 58, rfl⟩
abbrev main_c : Ref sig .tc := ⟨.hbm, 59, rfl⟩
abbrev main_call3_v0 : Ref sig .tc := ⟨.hbm, 60, rfl⟩
abbrev main_v21 : Ref sig .tc := ⟨.hbm, 61, rfl⟩

abbrev nD : Nat := 1
abbrev τ : Topo := Topo.v7x

variable {F : FTy → Type} [FloatOps F]
-- ==== Kernel12.lean ====
abbrev S2048x1536 : Shape := ⟨2, ![2048, 1536]⟩
abbrev S4x1536 : Shape := ⟨2, ![4, 1536]⟩
abbrev S_ : Shape := ⟨0, ![]⟩
abbrev S2048x3840 : Shape := ⟨2, ![2048, 3840]⟩
abbrev S2048x128 : Shape := ⟨2, ![2048, 128]⟩
abbrev S4x128 : Shape := ⟨2, ![4, 128]⟩
abbrev S1x128 : Shape := ⟨2, ![1, 128]⟩
abbrev S2048 : Shape := ⟨1, ![2048]⟩
abbrev S2048x1 : Shape := ⟨2, ![2048, 1]⟩

abbrev nBuf : Space → Nat
  | .hbm => 6
  | .vmem => 6
  | .smem => 0
  | _ => 0

abbrev bufTy : (tb : Table) → Fin (tcTables nBuf tb) → BufTy
  | .hbm, ⟨0, _⟩ => ⟨S2048x1536, .f32⟩
  | .hbm, ⟨1, _⟩ => ⟨S4x1536, .f32⟩
  | .hbm, ⟨2, _⟩ => ⟨S_, .i32⟩
  | .hbm, ⟨3, _⟩ => ⟨S_, .f32⟩
  | .hbm, ⟨4, _⟩ => ⟨S2048x3840, .f32⟩
  | .hbm, ⟨5, _⟩ => ⟨S2048x1536, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference12Ideal.lean ====
abbrev S2048x1536 : Shape := ⟨2, ![2048, 1536]⟩
abbrev S4x1536 : Shape := ⟨2, ![4, 1536]⟩
abbrev S_ : Shape := ⟨0, ![]⟩
abbrev S3x1536 : Shape := ⟨2, ![3, 1536]⟩
abbrev S2051x1536 : Shape := ⟨2, ![2051, 1536]⟩
abbrev S1x1536 : Shape := ⟨2, ![1, 1536]⟩
abbrev S1536 : Shape := ⟨1, ![1536]⟩
abbrev S2048x512 : Shape := ⟨2, ![2048, 512]⟩
abbrev S2048x4x128 : Shape := ⟨3, ![2048, 4, 128]⟩
abbrev S2048x4 : Shape := ⟨2, ![2048, 4]⟩
abbrev S2048x4x1 : Shape := ⟨3, ![2048, 4, 1]⟩
abbrev S1x2048x512 : Shape := ⟨3, ![1, 2048, 512]⟩
abbrev S3x2048x512 : Shape := ⟨3, ![3, 2048, 512]⟩

abbrev nBuf : Space → Nat
  | .hbm => 87
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S4x1536, .f32⟩
  | .hbm, ⟨2, _⟩ => ⟨S_, .f32⟩
  | .hbm, ⟨3, _⟩ => ⟨S3x1536, .f32⟩
  | .hbm, ⟨4, _⟩ => ⟨S2051x1536, .f32⟩
  | .hbm, ⟨5, _⟩ => ⟨S2048x1536, .f32⟩
  | .hbm, ⟨6, _⟩ => ⟨S1x1536, .f32⟩
  | .hbm, ⟨7, _⟩ => ⟨S1536, .f32⟩
  | .hbm, ⟨8, _⟩ => ⟨S1x1536, .f32⟩
  | .hbm, ⟨9, _⟩ => ⟨S2048x1536, .f32⟩
  | .hbm, ⟨10, _⟩ => ⟨S2048x1536, .f32⟩
  | .hbm, ⟨11, _⟩ => ⟨S_, .f32⟩
  | .hbm, ⟨12, _⟩ => ⟨S2048x1536, .f32⟩
  | .hbm, ⟨13, _⟩ => ⟨S2048x1536, .f32⟩
  | .hbm, ⟨14, _⟩ => ⟨S2048x1536, .f32⟩
  | .hbm, ⟨15, _⟩ => ⟨S1x1536, .f32⟩
  | .hbm, ⟨16, _⟩ => ⟨S1536, .f32⟩
  | .hbm, ⟨17, _⟩ => ⟨S1x1536, .f32⟩
  | .hbm, ⟨18, _⟩ => ⟨S2048x1536, .f32⟩
  | .hbm, ⟨19, _⟩ => ⟨S2048x1536, .f32⟩
  | .hbm, ⟨20, _⟩ => ⟨S2048x1536, .f32⟩
  | .hbm, ⟨21, _⟩ => ⟨S2048x1536, .f32⟩
  | .hbm, ⟨22, _⟩ => ⟨S1x1536, .f32⟩
  | .hbm, ⟨23, _⟩ => ⟨S1536, .f32⟩
  | .hbm, ⟨24, _⟩ => ⟨S1x1536, .f32⟩
  | .hbm, ⟨25, _⟩ => ⟨S2048x1536, .f32⟩
  | .hbm, ⟨26, _⟩ => ⟨S2048x1536, .f32⟩
  | .hbm, ⟨27, _⟩ => ⟨S2048x1536, .f32⟩
  | .hbm, ⟨28, _⟩ => ⟨S2048x1536, .f32⟩
  | .hbm, ⟨29, _⟩ => ⟨S1x1536, .f32⟩
  | .hbm, ⟨30, _⟩ => ⟨S1536, .f32⟩
  | .hbm, ⟨31, _⟩ => ⟨S1x1536, .f32⟩
  | .hbm, ⟨32, _⟩ => ⟨S2048x1536, .f32⟩
  | .hbm, ⟨33, _⟩ => ⟨S2048x1536, .f32⟩
  | .hbm, ⟨34, _⟩ => ⟨S2048x1536, .f32⟩
  | .hbm, ⟨35, _⟩ => ⟨S2048x1536, .f32⟩
  | .hbm, ⟨36, _⟩ => ⟨S2048x1536, .f32⟩
  | .hbm, ⟨37, _⟩ => ⟨S_, .f32⟩
  | .hbm, ⟨38, _⟩ => ⟨S2048x1536, .f32⟩
  | .hbm, ⟨39, _⟩ => ⟨S2048x1536, .f32⟩
  | .hbm, ⟨40, _⟩ => ⟨S_, .f32⟩
  | .hbm, ⟨41, _⟩ => ⟨S2048x1536, .f32⟩
  | .hbm, ⟨42, _⟩ => ⟨S2048x1536, .f32⟩
  | .hbm, ⟨43, _⟩ => ⟨S2048x1536, .f32⟩
  | .hbm, ⟨44, _⟩ => ⟨S2048x512, .f32⟩
  | .hbm, ⟨45, _⟩ => ⟨S2048x512, .f32⟩
  | .hbm, ⟨46, _⟩ => ⟨S2048x512, .f32⟩
  | .hbm, ⟨47, _⟩ => ⟨S2048x4x128, .f32⟩
  | .hbm, ⟨48, _⟩ => ⟨S2048x4x128, .f32⟩
  | .hbm, ⟨49, _⟩ => ⟨S2048x4x128, .f32⟩
  | .hbm, ⟨50, _⟩ => ⟨S2048x4x128, .f32⟩
  | .hbm, ⟨51, _⟩ => ⟨S_, .f32⟩
  | .hbm, ⟨52, _⟩ => ⟨S2048x4, .f32⟩
  | .hbm, ⟨53, _⟩ => ⟨S2048x4x1, .f32⟩
  | .hbm, ⟨54, _⟩ => ⟨S_, .f32⟩
  | .hbm, ⟨55, _⟩ => ⟨S2048x4x1, .f32⟩
  | .hbm, ⟨56, _⟩ => ⟨S2048x4x1, .f32⟩
  | .hbm, ⟨57, _⟩ => ⟨S2048x4x1, .f32⟩
  | .hbm, ⟨58, _⟩ => ⟨S2048x4x128, .f32⟩
  | .hbm, ⟨59, _⟩ => ⟨S2048x4x128, .f32⟩
  | .hbm, ⟨60, _⟩ => ⟨S_, .f32⟩
  | .hbm, ⟨61, _⟩ => ⟨S2048x4x128, .f32⟩
  | .hbm, ⟨62, _⟩ => ⟨S2048x4x128, .f32⟩
  | .hbm, ⟨63, _⟩ => ⟨S2048x4x128, .f32⟩
  | .hbm, ⟨64, _⟩ => ⟨S_, .f32⟩
  | .hbm, ⟨65, _⟩ => ⟨S2048x4, .f32⟩
  | .hbm, ⟨66, _⟩ => ⟨S2048x4x1, .f32⟩
  | .hbm, ⟨67, _⟩ => ⟨S_, .f32⟩
  | .hbm, ⟨68, _⟩ => ⟨S2048x4x1, .f32⟩
  | .hbm, ⟨69, _⟩ => ⟨S2048x4x1, .f32⟩
  | .hbm, ⟨70, _⟩ => ⟨S2048x4x1, .f32⟩
  | .hbm, ⟨71, _⟩ => ⟨S2048x4x128, .f32⟩
  | .hbm, ⟨72, _⟩ => ⟨S2048x4x128, .f32⟩
  | .hbm, ⟨73, _⟩ => ⟨S2048x512, .f32⟩
  | .hbm, ⟨74, _⟩ => ⟨S2048x512, .f32⟩
  | .hbm, ⟨75, _⟩ => ⟨S2048x512, .f32⟩
  | .hbm, ⟨76, _⟩ => ⟨S1x2048x512, .f32⟩
  | .hbm, ⟨77, _⟩ => ⟨S1x2048x512, .f32⟩
  | .hbm, ⟨78, _⟩ => ⟨S1x2048x512, .f32⟩
  | .hbm, ⟨79, _⟩ => ⟨S3x2048x512, .f32⟩
  | .hbm, ⟨80, _⟩ => ⟨S1x2048x512, .f32⟩
  | .hbm, ⟨81, _⟩ => ⟨S2048x512, .f32⟩
  | .hbm, ⟨82, _⟩ => ⟨S1x2048x512, .f32⟩
  | .hbm, ⟨83, _⟩ => ⟨S2048x512, .f32⟩
  | .hbm, ⟨84, _⟩ => ⟨S1x2048x512, .f32⟩
  | .hbm, ⟨85, _⟩ => ⟨S2048x512, .f32⟩
  | .hbm, ⟨86, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_1 : Ref sig .tc := ⟨.hbm, 51, rfl⟩
abbrev main_v39 : Ref sig .tc := ⟨.hbm, 52, rfl⟩
abbrev main_v40 : Ref sig .tc := ⟨.hbm, 53, rfl⟩
abbrev main_cst_2 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_3 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_4 : Ref sig .tc := ⟨.hbm, 64, rfl⟩
abbrev main_v49 : Ref sig .tc := ⟨.hbm, 65, rfl⟩
abbrev main_v50 : Ref sig .tc := ⟨.hbm, 66, rfl⟩
abbrev main_cst_5 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩

abbrev nD : Nat := 1
abbrev τ : Topo := Topo.v7x

variable {F : FTy → Type} [FloatOps F]
-- ==== Kernel13.lean ====
abbrev S2048x512 : Shape := ⟨2, ![2048, 512]⟩
abbrev S2048x8 : Shape := ⟨2, ![2048, 8]⟩
abbrev S64 : Shape := ⟨1, ![64]⟩
abbrev S2048x4x128 : Shape := ⟨3, ![2048, 4, 128]⟩
abbrev S2048x4x1x128 : Shape := ⟨4, ![2048, 4, 1, 128]⟩
abbrev S2048x4x3x128 : Shape := ⟨4, ![2048, 4, 3, 128]⟩
abbrev S2048x1536 : Shape := ⟨2, ![2048, 1536]⟩
abbrev S_ : Shape := ⟨0, ![]⟩
abbrev S2048x3840 : Shape := ⟨2, ![2048, 3840]⟩
abbrev S2048x128 : Shape := ⟨2, ![2048, 128]⟩
abbrev S128 : Shape := ⟨1, ![128]⟩
abbrev S1x128 : Shape := ⟨2, ![1, 128]⟩
abbrev S2048x1024 : Shape := ⟨2, ![2048, 1024]⟩
abbrev S4x2048x2 : Shape := ⟨3, ![4, 2048, 2]⟩
abbrev S512x128 : Shape := ⟨2, ![512, 128]⟩
abbrev S512x256 : Shape := ⟨2, ![512, 256]⟩
abbrev S2x512x2 : Shape := ⟨3, ![2, 512, 2]⟩
abbrev S4x2048x128 : Shape := ⟨3, ![4, 2048, 128]⟩
abbrev S2x2048x128 : Shape := ⟨3, ![2, 2048, 128]⟩
abbrev S2048 : Shape := ⟨1, ![2048]⟩
abbrev S2048x1 : Shape := ⟨2, ![2048, 1]⟩
abbrev S1x2048x128 : Shape := ⟨3, ![1, 2048, 128]⟩
abbrev S512 : Shape := ⟨1, ![512]⟩
abbrev S512x1 : Shape := ⟨2, ![512, 1]⟩
abbrev S1x512x128 : Shape := ⟨3, ![1, 512, 128]⟩
abbrev S512x512 : Shape := ⟨2, ![512, 512]⟩
abbrev S512x2 : Shape := ⟨2, ![512, 2]⟩
abbrev S1x512x2 : Shape := ⟨3, ![1, 512, 2]⟩

abbrev nBuf : Space → Nat
  | .hbm => 24
  | .vmem => 22
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x8, .f32⟩
  | .hbm, ⟨4, _⟩ => ⟨S64, .f32⟩
  | .hbm, ⟨5, _⟩ => ⟨S2048x4x128, .f32⟩
  | .hbm, ⟨6, _⟩ => ⟨S2048x4x128, .f32⟩
  | .hbm, ⟨7, _⟩ => ⟨S2048x4x128, .f32⟩
  | .hbm, ⟨8, _⟩ => ⟨S2048x4x1x128, .f32⟩
  | .hbm, ⟨9, _⟩ => ⟨S2048x4x1x128, .f32⟩
  | .hbm, ⟨10, _⟩ => ⟨S2048x4x1x128, .f32⟩
  | .hbm, ⟨11, _⟩ => ⟨S2048x4x3x128, .f32⟩
  | .hbm, ⟨12, _⟩ => ⟨S2048x1536, .f32⟩
  | .hbm, ⟨13, _⟩ => ⟨S_, .i32⟩
  | .hbm, ⟨14, _⟩ => ⟨S_, .f32⟩
  | .hbm, ⟨15, _⟩ => ⟨S2048x3840, .f32⟩
  | .hbm, ⟨16, _⟩ => ⟨S_, .i32⟩
  | .hbm, ⟨17, _⟩ => ⟨S_, .f32⟩
  | .hbm, ⟨18, _⟩ => ⟨S2048x128, .f32⟩
  | .hbm, ⟨19, _⟩ => ⟨S128, .f32⟩
  | .hbm, ⟨20, _⟩ => ⟨S1x128, .f32⟩
  | .hbm, ⟨21, _⟩ => ⟨S2048x1024, .bf16⟩
  | .hbm, ⟨22, _⟩ => ⟨S2048x512, .f32⟩
  | .hbm, ⟨23, _⟩ => ⟨S4x2048x2, .f32⟩
  | .local _ .vmem, ⟨0, _⟩ => ⟨S512x128, .f32⟩
  | .local _ .vmem, ⟨1, _⟩ => ⟨S512x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S512x128, .f32⟩
  | .local _ .vmem, ⟨7, _⟩ => ⟨S512x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S1x128, .f32⟩
  | .local _ .vmem, ⟨14, _⟩ => ⟨S512x256, .bf16⟩
  | .local _ .vmem, ⟨15, _⟩ => ⟨S512x256, .bf16⟩
  | .local _ .vmem, ⟨16, _⟩ => ⟨S512x256, .f32⟩
  | .local _ .vmem, ⟨17, _⟩ => ⟨S512x256, .f32⟩
  | .local _ .vmem, ⟨18, _⟩ => ⟨S2x512x2, .f32⟩
  | .local _ .vmem, ⟨19, _⟩ => ⟨S2x512x2, .f32⟩
  | .local _ .vmem, ⟨20, _⟩ => ⟨S4x2048x128, .bf16⟩
  | .local _ .vmem, ⟨21, _⟩ => ⟨S2x2048x128, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_c_0 : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![2, 4], ![false, false]⟩

def k0_mult1 (i : grid0.Coords) : BitVec 32 :=
  let arg1 : BitVec 32 := BitVec.ofNat 32 (i 1).val
  let c512_i32 : BitVec 32 := 512#32
  let v15 : BitVec 32 := Scalar.muli arg1 c512_i32
  v15
def k0_off1 (i : grid0.Coords) : Fin 2 → Nat :=
  let arg1 : BitVec 32 := BitVec.ofNat 32 (i 1).val
  let c512_i32 : BitVec 32 := 512#32
  let v15 : BitVec 32 := Scalar.muli arg1 c512_i32
  let v16 : BitVec 32 := v15
  let v17 : Index := Scalar.indexCast v16
  let c0 : Index := 0#32
  ![v17.toNat, 0]
@[reducible] def k0_t1_loop (i : grid0.Coords) : Scf.Loop 32 :=
  let c0_i32_97 : BitVec 32 := 0#32
  let arg1 : BitVec 32 := BitVec.ofNat 32 (i 1).val
  let v335 : BitVec 32 := Scalar.subi arg1 c0_i32_97
  let c1_i32_98 : BitVec 32 := 1#32
  let v337 : BitVec 32 := Scalar.divsi v335 c1_i32_98
  let v338 : BitVec 32 := Scalar.muli v337 c1_i32_98
  let v339 : BitVec 32 := Scalar.addi c0_i32_97 v338
  let c1_i32_99 : BitVec 32 := 1#32
  ⟨c0_i32_97, v339, c1_i32_99⟩
def k0_mult2 (i : grid0.Coords) (k0_t1 : Fin (k0_t1_loop i).trips) : BitVec 32 :=
  let c0_i32_97 : BitVec 32 := 0#32
  let c1_i32_99 : BitVec 32 := 1#32
  let arg15 : BitVec 32 := Scf.iv c0_i32_97 c1_i32_99 k0_t1
  let c512_i32_170 : BitVec 32 := 512#32
  let v580 : BitVec 32 := Scalar.muli arg15 c512_i32_170
  v580
def k0_off2 (i : grid0.Coords) (k0_t1 : Fin (k0_t1_loop i).trips) : Fin 3 → Nat :=
  let c0_171 : Index := 0#32
  let c0_i32_97 : BitVec 32 := 0#32
  let c1_i32_99 : BitVec 32 := 1#32
  let arg15 : BitVec 32 := Scf.iv c0_i32_97 c1_i32_99 k0_t1
  let c512_i32_170 : BitVec 32 := 512#32
  let v580 : BitVec 32 := Scalar.muli arg15 c512_i32_170
  let v581 : BitVec 32 := v580
  let v582 : Index := Scalar.indexCast v581
  let c0_172 : Index := 0#32
  ![0, v582.toNat, 0]
def k0_off3 (i : grid0.Coords) (k0_t1 : Fin (k0_t1_loop i).trips) : Fin 3 → Nat :=
  let c1_174 : Index := 1#32
  let c0_i32_97 : BitVec 32 := 0#32
  let c1_i32_99 : BitVec 32 := 1#32
  let arg15 : BitVec 32 := Scf.iv c0_i32_97 c1_i32_99 k0_t1
  let c512_i32_170 : BitVec 32 := 512#32
  let v580 : BitVec 32 := Scalar.muli arg15 c512_i32_170
  let v581 : BitVec 32 := v580
  let v586 : Index := Scalar.indexCast v581
  let c0_175 : Index := 0#32
  ![1, v586.toNat, 0]
def k0_off4 (i : grid0.Coords) (k0_t1 : Fin (k0_t1_loop i).trips) : Fin 3 → Nat :=
  let c2_177 : Index := 2#32
  let c0_i32_97 : BitVec 32 := 0#32
  let c1_i32_99 : BitVec 32 := 1#32
  let arg15 : BitVec 32 := Scf.iv c0_i32_97 c1_i32_99 k0_t1
  let c512_i32_170 : BitVec 32 := 512#32
  let v580 : BitVec 32 := Scalar.muli arg15 c512_i32_170
  let v581 : BitVec 32 := v580
  let v590 : Index := Scalar.indexCast v581
  let c0_178 : Index := 0#32
  ![2, v590.toNat, 0]
def k0_off5 (i : grid0.Coords) (k0_t1 : Fin (k0_t1_loop i).trips) : Fin 3 → Nat :=
  let c3_180 : Index := 3#32
  let c0_i32_97 : BitVec 32 := 0#32
  let c1_i32_99 : BitVec 32 := 1#32
  let arg15 : BitVec 32 := Scf.iv c0_i32_97 c1_i32_99 k0_t1
  let c512_i32_170 : BitVec 32 := 512#32
  let v580 : BitVec 32 := Scalar.muli arg15 c512_i32_170
  let v581 : BitVec 32 := v580
  let v594 : Index := Scalar.indexCast v581
  let c0_181 : Index := 0#32
  ![3, v594.toNat, 0]
def k0_off6 (i : grid0.Coords) (k0_t1 : Fin (k0_t1_loop i).trips) : Fin 3 → Nat :=
  let c0_191 : Index := 0#32
  let c0_i32_97 : BitVec 32 := 0#32
  let c1_i32_99 : BitVec 32 := 1#32
  let arg15 : BitVec 32 := Scf.iv c0_i32_97 c1_i32_99 k0_t1
  let c512_i32_170 : BitVec 32 := 512#32
  let v580 : BitVec 32 := Scalar.muli arg15 c512_i32_170
  let v581 : BitVec 32 := v580
  let v646 : Index := Scalar.indexCast v581
  let c0_192 : Index := 0#32
  ![0, v646.toNat, 0]
def k0_off7 (i : grid0.Coords) (k0_t1 : Fin (k0_t1_loop i).trips) : Fin 3 → Nat :=
  let c1_197 : Index := 1#32
  let c0_i32_97 : BitVec 32 := 0#32
  let c1_i32_99 : BitVec 32 := 1#32
  let arg15 : BitVec 32 := Scf.iv c0_i32_97 c1_i32_99 k0_t1
  let c512_i32_170 : BitVec 32 := 512#32
  let v580 : BitVec 32 := Scalar.muli arg15 c512_i32_170
  let v581 : BitVec 32 := v580
  let v656 : Index := Scalar.indexCast v581
  let c0_198 : Index := 0#32
  ![1, v656.toNat, 0]
@[reducible] def k0_t2_loop (i : grid0.Coords) : Scf.Loop 32 :=
  let c0_i32_97 : BitVec 32 := 0#32
  let arg1 : BitVec 32 := BitVec.ofNat 32 (i 1).val
  let v335 : BitVec 32 := Scalar.subi arg1 c0_i32_97
  let c1_i32_98 : BitVec 32 := 1#32
  let v337 : BitVec 32 := Scalar.divsi v335 c1_i32_98
  let v338 : BitVec 32 := Scalar.muli v337 c1_i32_98
  let v339 : BitVec 32 := Scalar.addi c0_i32_97 v338
  let v336 : BitVec 32 := Scalar.addi c0_i32_97 v335
  let c1_i32_100 : BitVec 32 := 1#32
  ⟨v339, v336, c1_i32_100⟩
def k0_mult3 (i : grid0.Coords) (k0_t2 : Fin (k0_t2_loop i).trips) : BitVec 32 :=
  let c0_i32_97 : BitVec 32 := 0#32
  let arg1 : BitVec 32 := BitVec.ofNat 32 (i 1).val
  let v335 : BitVec 32 := Scalar.subi arg1 c0_i32_97
  let c1_i32_98 : BitVec 32 := 1#32
  let v337 : BitVec 32 := Scalar.divsi v335 c1_i32_98
  let v338 : BitVec 32 := Scalar.muli v337 c1_i32_98
  let v339 : BitVec 32 := Scalar.addi c0_i32_97 v338
  let c1_i32_100 : BitVec 32 := 1#32
  let arg15 : BitVec 32 := Scf.iv v339 c1_i32_100 k0_t2
  let c512_i32_170 : BitVec 32 := 512#32
  let v580 : BitVec 32 := Scalar.muli arg15 c512_i32_170
  v580
def k0_off8 (i : grid0.Coords) (k0_t2 : Fin (k0_t2_loop i).trips) : Fin 3 → Nat :=
  let c0_171 : Index := 0#32
  let c0_i32_97 : BitVec 32 := 0#32
  let arg1 : BitVec 32 := BitVec.ofNat 32 (i 1).val
  let v335 : BitVec 32 := Scalar.subi arg1 c0_i32_97
  let c1_i32_98 : BitVec 32 := 1#32
  let v337 : BitVec 32 := Scalar.divsi v335 c1_i32_98
  let v338 : BitVec 32 := Scalar.muli v337 c1_i32_98
  let v339 : BitVec 32 := Scalar.addi c0_i32_97 v338
  let c1_i32_100 : BitVec 32 := 1#32
  let arg15 : BitVec 32 := Scf.iv v339 c1_i32_100 k0_t2
  let c512_i32_170 : BitVec 32 := 512#32
  let v580 : BitVec 32 := Scalar.muli arg15 c512_i32_170
  let v581 : BitVec 32 := v580
  let v582 : Index := Scalar.indexCast v581
  let c0_172 : Index := 0#32
  ![0, v582.toNat, 0]
def k0_off9 (i : grid0.Coords) (k0_t2 : Fin (k0_t2_loop i).trips) : Fin 3 → Nat :=
  let c1_174 : Index := 1#32
  let c0_i32_97 : BitVec 32 := 0#32
  let arg1 : BitVec 32 := BitVec.ofNat 32 (i 1).val
  let v335 : BitVec 32 := Scalar.subi arg1 c0_i32_97
  let c1_i32_98 : BitVec 32 := 1#32
  let v337 : BitVec 32 := Scalar.divsi v335 c1_i32_98
  let v338 : BitVec 32 := Scalar.muli v337 c1_i32_98
  let v339 : BitVec 32 := Scalar.addi c0_i32_97 v338
  let c1_i32_100 : BitVec 32 := 1#32
  let arg15 : BitVec 32 := Scf.iv v339 c1_i32_100 k0_t2
  let c512_i32_170 : BitVec 32 := 512#32
  let v580 : BitVec 32 := Scalar.muli arg15 c512_i32_170
  let v581 : BitVec 32 := v580
  let v586 : Index := Scalar.indexCast v581
  let c0_175 : Index := 0#32
  ![1, v586.toNat, 0]
def k0_off10 (i : grid0.Coords) (k0_t2 : Fin (k0_t2_loop i).trips) : Fin 3 → Nat :=
  let c2_177 : Index := 2#32
  let c0_i32_97 : BitVec 32 := 0#32
  let arg1 : BitVec 32 := BitVec.ofNat 32 (i 1).val
  let v335 : BitVec 32 := Scalar.subi arg1 c0_i32_97
  let c1_i32_98 : BitVec 32 := 1#32
  let v337 : BitVec 32 := Scalar.divsi v335 c1_i32_98
  let v338 : BitVec 32 := Scalar.muli v337 c1_i32_98
  let v339 : BitVec 32 := Scalar.addi c0_i32_97 v338
  let c1_i32_100 : BitVec 32 := 1#32
  let arg15 : BitVec 32 := Scf.iv v339 c1_i32_100 k0_t2
  let c512_i32_170 : BitVec 32 := 512#32
  let v580 : BitVec 32 := Scalar.muli arg15 c512_i32_170
  let v581 : BitVec 32 := v580
  let v590 : Index := Scalar.indexCast v581
  let c0_178 : Index := 0#32
  ![2, v590.toNat, 0]
def k0_off11 (i : grid0.Coords) (k0_t2 : Fin (k0_t2_loop i).trips) : Fin 3 → Nat :=
  let c3_180 : Index := 3#32
  let c0_i32_97 : BitVec 32 := 0#32
  let arg1 : BitVec 32 := BitVec.ofNat 32 (i 1).val
  let v335 : BitVec 32 := Scalar.subi arg1 c0_i32_97
  let c1_i32_98 : BitVec 32 := 1#32
  let v337 : BitVec 32 := Scalar.divsi v335 c1_i32_98
  let v338 : BitVec 32 := Scalar.muli v337 c1_i32_98
  let v339 : BitVec 32 := Scalar.addi c0_i32_97 v338
  let c1_i32_100 : BitVec 32 := 1#32
  let arg15 : BitVec 32 := Scf.iv v339 c1_i32_100 k0_t2
  let c512_i32_170 : BitVec 32 := 512#32
  let v580 : BitVec 32 := Scalar.muli arg15 c512_i32_170
  let v581 : BitVec 32 := v580
  let v594 : Index := Scalar.indexCast v581
  let c0_181 : Index := 0#32
  ![3, v594.toNat, 0]
def k0_off12 (i : grid0.Coords) (k0_t2 : Fin (k0_t2_loop i).trips) : Fin 3 → Nat :=
  let c0_191 : Index := 0#32
  let c0_i32_97 : BitVec 32 := 0#32
  let arg1 : BitVec 32 := BitVec.ofNat 32 (i 1).val
  let v335 : BitVec 32 := Scalar.subi arg1 c0_i32_97
  let c1_i32_98 : BitVec 32 := 1#32
  let v337 : BitVec 32 := Scalar.divsi v335 c1_i32_98
  let v338 : BitVec 32 := Scalar.muli v337 c1_i32_98
  let v339 : BitVec 32 := Scalar.addi c0_i32_97 v338
  let c1_i32_100 : BitVec 32 := 1#32
  let arg15 : BitVec 32 := Scf.iv v339 c1_i32_100 k0_t2
  let c512_i32_170 : BitVec 32 := 512#32
  let v580 : BitVec 32 := Scalar.muli arg15 c512_i32_170
  let v581 : BitVec 32 := v580
  let v646 : Index := Scalar.indexCast v581
  let c0_192 : Index := 0#32
  ![0, v646.toNat, 0]
def k0_off13 (i : grid0.Coords) (k0_t2 : Fin (k0_t2_loop i).trips) : Fin 3 → Nat :=
  let c1_197 : Index := 1#32
  let c0_i32_97 : BitVec 32 := 0#32
  let arg1 : BitVec 32 := BitVec.ofNat 32 (i 1).val
  let v335 : BitVec 32 := Scalar.subi arg1 c0_i32_97
  let c1_i32_98 : BitVec 32 := 1#32
  let v337 : BitVec 32 := Scalar.divsi v335 c1_i32_98
  let v338 : BitVec 32 := Scalar.muli v337 c1_i32_98
  let v339 : BitVec 32 := Scalar.addi c0_i32_97 v338
  let c1_i32_100 : BitVec 32 := 1#32
  let arg15 : BitVec 32 := Scf.iv v339 c1_i32_100 k0_t2
  let c512_i32_170 : BitVec 32 := 512#32
  let v580 : BitVec 32 := Scalar.muli arg15 c512_i32_170
  let v581 : BitVec 32 := v580
  let v656 : Index := Scalar.indexCast v581
  let c0_198 : Index := 0#32
  ![1, v656.toNat, 0]
def k0_mult4 (i : grid0.Coords) : BitVec 32 :=
  let arg1 : BitVec 32 := BitVec.ofNat 32 (i 1).val
  let c512_i32_101 : BitVec 32 := 512#32
  let v342 : BitVec 32 := Scalar.muli arg1 c512_i32_101
  v342
def k0_off14 (i : grid0.Coords) : Fin 3 → Nat :=
  let c0_102 : Index := 0#32
  let arg1 : BitVec 32 := BitVec.ofNat 32 (i 1).val
  let c512_i32_101 : BitVec 32 := 512#32
  let v342 : BitVec 32 := Scalar.muli arg1 c512_i32_101
  let v343 : BitVec 32 := v342
  let v344 : Index := Scalar.indexCast v343
  let c0_103 : Index := 0#32
  ![0, v344.toNat, 0]
def k0_off15 (i : grid0.Coords) : Fin 3 → Nat :=
  let c1 : Index := 1#32
  let arg1 : BitVec 32 := BitVec.ofNat 32 (i 1).val
  let c512_i32_101 : BitVec 32 := 512#32
  let v342 : BitVec 32 := Scalar.muli arg1 c512_i32_101
  let v343 : BitVec 32 := v342
  let v348 : Index := Scalar.indexCast v343
  let c0_105 : Index := 0#32
  ![1, v348.toNat, 0]
def k0_off16 (i : grid0.Coords) : Fin 3 → Nat :=
  let c2 : Index := 2#32
  let arg1 : BitVec 32 := BitVec.ofNat 32 (i 1).val
  let c512_i32_101 : BitVec 32 := 512#32
  let v342 : BitVec 32 := Scalar.muli arg1 c512_i32_101
  let v343 : BitVec 32 := v342
  let v352 : Index := Scalar.indexCast v343
  let c0_107 : Index := 0#32
  ![2, v352.toNat, 0]
def k0_off17 (i : grid0.Coords) : Fin 3 → Nat :=
  let c3 : Index := 3#32
  let arg1 : BitVec 32 := BitVec.ofNat 32 (i 1).val
  let c512_i32_101 : BitVec 32 := 512#32
  let v342 : BitVec 32 := Scalar.muli arg1 c512_i32_101
  let v343 : BitVec 32 := v342
  let v356 : Index := Scalar.indexCast v343
  let c0_109 : Index := 0#32
  ![3, v356.toNat, 0]
def k0_off18 (i : grid0.Coords) : Fin 3 → Nat :=
  let c0_123 : Index := 0#32
  let arg1 : BitVec 32 := BitVec.ofNat 32 (i 1).val
  let c512_i32_101 : BitVec 32 := 512#32
  let v342 : BitVec 32 := Scalar.muli arg1 c512_i32_101
  let v343 : BitVec 32 := v342
  let v428 : Index := Scalar.indexCast v343
  let c0_124 : Index := 0#32
  ![0, v428.toNat, 0]
def k0_off19 (i : grid0.Coords) : Fin 3 → Nat :=
  let c1_129 : Index := 1#32
  let arg1 : BitVec 32 := BitVec.ofNat 32 (i 1).val
  let c512_i32_101 : BitVec 32 := 512#32
  let v342 : BitVec 32 := Scalar.muli arg1 c512_i32_101
  let v343 : BitVec 32 := v342
  let v438 : Index := Scalar.indexCast v343
  let c0_130 : Index := 0#32
  ![1, v438.toNat, 0]
def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi v0 c0_i32
  let c3_i32 : BitVec 32 := 3#32
  let v2 : BitVec 32 := Scalar.muli c3_i32 v1
  let c0_i32_0 : BitVec 32 := 0#32
  ![arg1.toNat, v2.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi v0 c0_i32
  let c3_i32 : BitVec 32 := 3#32
  let v2 : BitVec 32 := Scalar.muli c3_i32 v1
  let c1_i32 : BitVec 32 := 1#32
  let v3 : BitVec 32 := Scalar.addi v2 c1_i32
  let c0_i32_0 : BitVec 32 := 0#32
  let c0_i32_1 : BitVec 32 := 0#32
  ![c0_i32_0.toNat, v3.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi v0 c0_i32
  let c3_i32 : BitVec 32 := 3#32
  let v2 : BitVec 32 := Scalar.muli c3_i32 v1
  let c2_i32_0 : BitVec 32 := 2#32
  let v3 : BitVec 32 := Scalar.addi v2 c2_i32_0
  let c0_i32_1 : BitVec 32 := 0#32
  let c0_i32_2 : BitVec 32 := 0#32
  ![c0_i32_1.toNat, v3.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c3_i32 : BitVec 32 := 3#32
  let v2 : BitVec 32 := Scalar.muli c3_i32 v1
  let c0_i32 : BitVec 32 := 0#32
  ![arg1.toNat, v2.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c3_i32 : BitVec 32 := 3#32
  let v2 : BitVec 32 := Scalar.muli c3_i32 v1
  let c1_i32_0 : BitVec 32 := 1#32
  let v3 : BitVec 32 := Scalar.addi v2 c1_i32_0
  let c0_i32 : BitVec 32 := 0#32
  let c0_i32_1 : BitVec 32 := 0#32
  ![c0_i32.toNat, v3.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c3_i32 : BitVec 32 := 3#32
  let v2 : BitVec 32 := Scalar.muli c3_i32 v1
  let c2_i32_0 : BitVec 32 := 2#32
  let v3 : BitVec 32 := Scalar.addi v2 c2_i32_0
  let c0_i32 : BitVec 32 := 0#32
  let c0_i32_1 : BitVec 32 := 0#32
  ![c0_i32.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x512x2 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference13Ideal.lean ====
abbrev S2048x512 : Shape := ⟨2, ![2048, 512]⟩
abbrev S2048x8 : Shape := ⟨2, ![2048, 8]⟩
abbrev S64 : Shape := ⟨1, ![64]⟩
abbrev S2048x8x64 : Shape := ⟨3, ![2048, 8, 64]⟩
abbrev S8x2048 : Shape := ⟨2, ![8, 2048]⟩
abbrev S8x2048x2048 : Shape := ⟨3, ![8, 2048, 2048]⟩
abbrev S_ : Shape := ⟨0, ![]⟩
abbrev S8x2048x1 : Shape := ⟨3, ![8, 2048, 1]⟩
abbrev S8x1x2048 : Shape := ⟨3, ![8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x64x2048 : Shape := ⟨3, ![8, 64, 2048]⟩
abbrev S2048x8x1 : Shape := ⟨3, ![2048, 8, 1]⟩
abbrev S1x1x64 : Shape := ⟨3, ![1, 1, 64]⟩
abbrev S2048x1024 : Shape := ⟨2, ![2048, 1024]⟩
abbrev S4x2x2048 : Shape := ⟨3, ![4, 2, 2048]⟩
abbrev S4x2048x2 : Shape := ⟨3, ![4, 2048, 2]⟩

abbrev nBuf : Space → Nat
  | .hbm => 81
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x8, .f32⟩
  | .hbm, ⟨4, _⟩ => ⟨S64, .f32⟩
  | .hbm, ⟨5, _⟩ => ⟨S2048x8x64, .f32⟩
  | .hbm, ⟨6, _⟩ => ⟨S2048x8x64, .f32⟩
  | .hbm, ⟨7, _⟩ => ⟨S2048x8x64, .f32⟩
  | .hbm, ⟨8, _⟩ => ⟨S8x2048, .f32⟩
  | .hbm, ⟨9, _⟩ => ⟨S8x2048x2048, .f32⟩
  | .hbm, ⟨10, _⟩ => ⟨S_, .f32⟩
  | .hbm, ⟨11, _⟩ => ⟨S8x2048x2048, .f32⟩
  | .hbm, ⟨12, _⟩ => ⟨S8x2048x2048, .f32⟩
  | .hbm, ⟨13, _⟩ => ⟨S8x2048x1, .f32⟩
  | .hbm, ⟨14, _⟩ => ⟨S8x2048x2048, .f32⟩
  | .hbm, ⟨15, _⟩ => ⟨S8x2048x2048, .f32⟩
  | .hbm, ⟨16, _⟩ => ⟨S8x1x2048, .f32⟩
  | .hbm, ⟨17, _⟩ => ⟨S8x2048x2048, .f32⟩
  | .hbm, ⟨18, _⟩ => ⟨S8x2048x2048, .f32⟩
  | .hbm, ⟨19, _⟩ => ⟨S2048, .i32⟩
  | .hbm, ⟨20, _⟩ => ⟨S1x2048, .i32⟩
  | .hbm, ⟨21, _⟩ => ⟨S2048, .i32⟩
  | .hbm, ⟨22, _⟩ => ⟨S2048x1, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S_, .f32⟩
  | .hbm, ⟨27, _⟩ => ⟨S_, .f32⟩
  | .hbm, ⟨28, _⟩ => ⟨S8x2048x2048, .i1⟩
  | .hbm, ⟨29, _⟩ => ⟨S8x2048x2048, .f32⟩
  | .hbm, ⟨30, _⟩ => ⟨S8x2048x2048, .f32⟩
  | .hbm, ⟨31, _⟩ => ⟨S_, .f32⟩
  | .hbm, ⟨32, _⟩ => ⟨S8x2048, .f32⟩
  | .hbm, ⟨33, _⟩ => ⟨S_, .f32⟩
  | .hbm, ⟨34, _⟩ => ⟨S8x2048, .f32⟩
  | .hbm, ⟨35, _⟩ => ⟨S8x2048, .f32⟩
  | .hbm, ⟨36, _⟩ => ⟨S8x2048x1, .f32⟩
  | .hbm, ⟨37, _⟩ => ⟨S8x2048x2048, .f32⟩
  | .hbm, ⟨38, _⟩ => ⟨S8x2048x2048, .f32⟩
  | .hbm, ⟨39, _⟩ => ⟨S8x2048x2048, .f32⟩
  | .hbm, ⟨40, _⟩ => ⟨S_, .f32⟩
  | .hbm, ⟨41, _⟩ => ⟨S8x2048, .f32⟩
  | .hbm, ⟨42, _⟩ => ⟨S8x2048x1, .f32⟩
  | .hbm, ⟨43, _⟩ => ⟨S8x2048x2048, .f32⟩
  | .hbm, ⟨44, _⟩ => ⟨S8x2048x2048, .f32⟩
  | .hbm, ⟨45, _⟩ => ⟨S_, .f32⟩
  | .hbm, ⟨46, _⟩ => ⟨S8x2048, .f32⟩
  | .hbm, ⟨47, _⟩ => ⟨S8x2048x1, .f32⟩
  | .hbm, ⟨48, _⟩ => ⟨S8x2048x2048, .f32⟩
  | .hbm, ⟨49, _⟩ => ⟨S8x2048x2048, .f32⟩
  | .hbm, ⟨50, _⟩ => ⟨S8x2048x2048, .f32⟩
  | .hbm, ⟨51, _⟩ => ⟨S_, .f32⟩
  | .hbm, ⟨52, _⟩ => ⟨S8x2048, .f32⟩
  | .hbm, ⟨53, _⟩ => ⟨S8x2048, .f32⟩
  | .hbm, ⟨54, _⟩ => ⟨S8x2048, .f32⟩
  | .hbm, ⟨55, _⟩ => ⟨S8x64x2048, .f32⟩
  | .hbm, ⟨56, _⟩ => ⟨S2048x8x64, .f32⟩
  | .hbm, ⟨57, _⟩ => ⟨S2048x8x64, .f32⟩
  | .hbm, ⟨58, _⟩ => ⟨S_, .f32⟩
  | .hbm, ⟨59, _⟩ => ⟨S2048x8, .f32⟩
  | .hbm, ⟨60, _⟩ => ⟨S2048x8x1, .f32⟩
  | .hbm, ⟨61, _⟩ => ⟨S_, .f32⟩
  | .hbm, ⟨62, _⟩ => ⟨S2048x8x1, .f32⟩
  | .hbm, ⟨63, _⟩ => ⟨S2048x8x1, .f32⟩
  | .hbm, ⟨64, _⟩ => ⟨S_, .f32⟩
  | .hbm, ⟨65, _⟩ => ⟨S2048x8x1, .f32⟩
  | .hbm, ⟨66, _⟩ => ⟨S2048x8x1, .f32⟩
  | .hbm, ⟨67, _⟩ => ⟨S2048x8x1, .f32⟩
  | .hbm, ⟨68, _⟩ => ⟨S2048x8x64, .f32⟩
  | .hbm, ⟨69, _⟩ => ⟨S2048x8x64, .f32⟩
  | .hbm, ⟨70, _⟩ => ⟨S1x1x64, .f32⟩
  | .hbm, ⟨71, _⟩ => ⟨S2048x8x64, .f32⟩
  | .hbm, ⟨72, _⟩ => ⟨S2048x8x64, .f32⟩
  | .hbm, ⟨73, _⟩ => ⟨S2048x512, .f32⟩
  | .hbm, ⟨74, _⟩ => ⟨S2048x512, .f32⟩
  | .hbm, ⟨75, _⟩ => ⟨S_, .i32⟩
  | .hbm, ⟨76, _⟩ => ⟨S_, .f32⟩
  | .hbm, ⟨77, _⟩ => ⟨S2048x1024, .f32⟩
  | .hbm, ⟨78, _⟩ => ⟨S2048x1024, .bf16⟩
  | .hbm, ⟨79, _⟩ => ⟨S4x2x2048, .f32⟩
  | .hbm, ⟨80, _⟩ => ⟨S4x2048x2, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_c : Ref sig .tc := ⟨.hbm, 75, rfl⟩
abbrev main_call1_v0 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩

abbrev nD : Nat := 1
abbrev τ : Topo := Topo.v7x

variable {F : FTy → Type} [FloatOps F]
-- ==== Kernel14.lean ====
abbrev S2048x4096 : Shape := ⟨2, ![2048, 4096]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x4096, .f32⟩
  | .hbm, ⟨1, _⟩ => ⟨S2048x1024, .f32⟩
  | .hbm, ⟨2, _⟩ => ⟨S2048x4096, .bf16⟩
  | .hbm, ⟨3, _⟩ => ⟨S2048x1024, .bf16⟩
  | .hbm, ⟨4, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2048x4096 : Shape := ⟨2, ![2048, 4096]⟩
abbrev S2048x1024 : Shape := ⟨2, ![2048, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 8
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x1024, .f32⟩
  | .hbm, ⟨2, _⟩ => ⟨S_, .f32⟩
  | .hbm, ⟨3, _⟩ => ⟨S4096x1024, .f32⟩
  | .hbm, ⟨4, _⟩ => ⟨S2048x1024, .f32⟩
  | .hbm, ⟨5, _⟩ => ⟨S1024x4096, .f32⟩
  | .hbm, ⟨6, _⟩ => ⟨S4096x1024, .f32⟩
  | .hbm, ⟨7, _⟩ => ⟨S4096x1024, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S2048x1024 : Shape := ⟨2, ![2048, 1024]⟩
abbrev S2048x4096 : Shape := ⟨2, ![2048, 4096]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S2048x1024, .bf16⟩
  | .hbm, ⟨3, _⟩ => ⟨S2048x4096, .bf16⟩
  | .hbm, ⟨4, _⟩ => ⟨S4x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1x1024x1024, .bf16⟩
  | .local _ .vmem, ⟨4, _⟩ => ⟨S1x1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S_, .f32⟩
  | .hbm, ⟨3, _⟩ => ⟨S1024x4096, .f32⟩
  | .hbm, ⟨4, _⟩ => ⟨S2048x4096, .f32⟩
  | .hbm, ⟨5, _⟩ => ⟨S4096x1024, .f32⟩
  | .hbm, ⟨6, _⟩ => ⟨S1024x4096, .f32⟩
  | .hbm, ⟨7, _⟩ => ⟨S1024x4x1024, .f32⟩
  | .hbm, ⟨8, _⟩ => ⟨S4x1024x1024, .f32⟩
  | .hbm, ⟨9, _⟩ => ⟨S4x1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S2048x1024 : Shape := ⟨2, ![2048, 1024]⟩
abbrev S1024x1024 : Shape := ⟨2, ![1024, 1024]⟩
abbrev S2048x256 : Shape := ⟨2, ![2048, 256]⟩
abbrev S256x1024 : Shape := ⟨2, ![256, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S2048x1024, .bf16⟩
  | .hbm, ⟨4, _⟩ => ⟨S1024x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S256x1024, .bf16⟩
  | .local _ .vmem, ⟨4, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel17.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .bf16⟩
  | .hbm, ⟨3, _⟩ => ⟨S1024x1024, .bf16⟩
  | .hbm, ⟨4, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel18.lean ====
abbrev S2048x1024 : Shape := ⟨2, ![2048, 1024]⟩
abbrev S3840x1024 : Shape := ⟨2, ![3840, 1024]⟩
abbrev S2048x3840 : Shape := ⟨2, ![2048, 3840]⟩
abbrev S768x1024 : Shape := ⟨2, ![768, 1024]⟩
abbrev S2048x768 : Shape := ⟨2, ![2048, 768]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S3840x1024, .f32⟩
  | .hbm, ⟨2, _⟩ => ⟨S2048x1024, .bf16⟩
  | .hbm, ⟨3, _⟩ => ⟨S3840x1024, .bf16⟩
  | .hbm, ⟨4, _⟩ => ⟨S2048x3840, .f32⟩
  | .local _ .vmem, ⟨0, _⟩ => ⟨S2048x1024, .bf16⟩
  | .local _ .vmem, ⟨1, _⟩ => ⟨S768x1024, .bf16⟩
  | .local _ .vmem, ⟨2, _⟩ => ⟨S768x1024, .bf16⟩
  | .local _ .vmem, ⟨3, _⟩ => ⟨S2048x768, .f32⟩
  | .local _ .vmem, ⟨4, _⟩ => ⟨S2048x768, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S2048x1024 : Shape := ⟨2, ![2048, 1024]⟩
abbrev S3840x1024 : Shape := ⟨2, ![3840, 1024]⟩
abbrev S1024x3840 : Shape := ⟨2, ![1024, 3840]⟩
abbrev S2048x3840 : Shape := ⟨2, ![2048, 3840]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S3840x1024, .f32⟩
  | .hbm, ⟨2, _⟩ => ⟨S1024x3840, .f32⟩
  | .hbm, ⟨3, _⟩ => ⟨S2048x3840, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel19.lean ====
abbrev S2048x3840 : Shape := ⟨2, ![2048, 3840]⟩
abbrev S2048x1024 : Shape := ⟨2, ![2048, 1024]⟩
abbrev S3840x1024 : Shape := ⟨2, ![3840, 1024]⟩
abbrev S2048x1280 : Shape := ⟨2, ![2048, 1280]⟩
abbrev S1280x1024 : Shape := ⟨2, ![1280, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x3840, .f32⟩
  | .hbm, ⟨1, _⟩ => ⟨S2048x1024, .f32⟩
  | .hbm, ⟨2, _⟩ => ⟨S2048x3840, .bf16⟩
  | .hbm, ⟨3, _⟩ => ⟨S2048x1024, .bf16⟩
  | .hbm, ⟨4, _⟩ => ⟨S3840x1024, .bf16⟩
  | .local _ .vmem, ⟨0, _⟩ => ⟨S2048x1280, .bf16⟩
  | .local _ .vmem, ⟨1, _⟩ => ⟨S2048x1280, .bf16⟩
  | .local _ .vmem, ⟨2, _⟩ => ⟨S2048x1024, .bf16⟩
  | .local _ .vmem, ⟨3, _⟩ => ⟨S1280x1024, .bf16⟩
  | .local _ .vmem, ⟨4, _⟩ => ⟨S1280x1024, .bf16⟩
  | _, _ => ⟨S2048x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S2048x3840 : Shape := ⟨2, ![2048, 3840]⟩
abbrev S2048x1024 : Shape := ⟨2, ![2048, 1024]⟩
abbrev S_ : Shape := ⟨0, ![]⟩
abbrev S3840x1024 : Shape := ⟨2, ![3840, 1024]⟩
abbrev S1024x3840 : Shape := ⟨2, ![1024, 3840]⟩

abbrev nBuf : Space → Nat
  | .hbm => 10
  | .vmem => 0
  | .smem => 0
  | _ => 0

abbrev bufTy : (tb : Table) → Fin (tcTables nBuf tb) → BufTy
  | .hbm, ⟨0, _⟩ => ⟨S2048x3840, .f32⟩
  | .hbm, ⟨1, _⟩ => ⟨S2048x1024, .f32⟩
  | .hbm, ⟨2, _⟩ => ⟨S_, .f32⟩
  | .hbm, ⟨3, _⟩ => ⟨S3840x1024, .f32⟩
  | .hbm, ⟨4, _⟩ => ⟨S1024x3840, .f32⟩
  | .hbm, ⟨5, _⟩ => ⟨S2048x3840, .f32⟩
  | .hbm, ⟨6, _⟩ => ⟨S3840x1024, .f32⟩
  | .hbm, ⟨7, _⟩ => ⟨S1024x3840, .f32⟩
  | .hbm, ⟨8, _⟩ => ⟨S3840x1024, .f32⟩
  | .hbm, ⟨9, _⟩ => ⟨S3840x1024, .bf16⟩
  | _, _ => ⟨S2048x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel20.lean ====
abbrev S2048x3840 : Shape := ⟨2, ![2048, 3840]⟩
abbrev S3840x1024 : Shape := ⟨2, ![3840, 1024]⟩
abbrev S2048x1024 : Shape := ⟨2, ![2048, 1024]⟩
abbrev S1024x3840 : Shape := ⟨2, ![1024, 3840]⟩
abbrev S3840x512 : Shape := ⟨2, ![3840, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x3840, .f32⟩
  | .hbm, ⟨1, _⟩ => ⟨S3840x1024, .f32⟩
  | .hbm, ⟨2, _⟩ => ⟨S2048x3840, .bf16⟩
  | .hbm, ⟨3, _⟩ => ⟨S3840x1024, .bf16⟩
  | .hbm, ⟨4, _⟩ => ⟨S2048x1024, .f32⟩
  | .local _ .vmem, ⟨0, _⟩ => ⟨S1024x3840, .bf16⟩
  | .local _ .vmem, ⟨1, _⟩ => ⟨S1024x3840, .bf16⟩
  | .local _ .vmem, ⟨2, _⟩ => ⟨S3840x512, .bf16⟩
  | .local _ .vmem, ⟨3, _⟩ => ⟨S3840x512, .bf16⟩
  | .local _ .vmem, ⟨4, _⟩ => ⟨S1024x512, .f32⟩
  | .local _ .vmem, ⟨5, _⟩ => ⟨S1024x512, .f32⟩
  | _, _ => ⟨S2048x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3840 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3840x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S2048x3840 : Shape := ⟨2, ![2048, 3840]⟩
abbrev S3840x1024 : Shape := ⟨2, ![3840, 1024]⟩
abbrev S_ : Shape := ⟨0, ![]⟩
abbrev S2048x1024 : Shape := ⟨2, ![2048, 1024]⟩
abbrev S1024x3840 : Shape := ⟨2, ![1024, 3840]⟩

abbrev nBuf : Space → Nat
  | .hbm => 7
  | .vmem => 0
  | .smem => 0
  | _ => 0

abbrev bufTy : (tb : Table) → Fin (tcTables nBuf tb) → BufTy
  | .hbm, ⟨0, _⟩ => ⟨S2048x3840, .f32⟩
  | .hbm, ⟨1, _⟩ => ⟨S3840x1024, .f32⟩
  | .hbm, ⟨2, _⟩ => ⟨S_, .f32⟩
  | .hbm, ⟨3, _⟩ => ⟨S2048x1024, .f32⟩
  | .hbm, ⟨4, _⟩ => ⟨S1024x3840, .f32⟩
  | .hbm, ⟨5, _⟩ => ⟨S2048x3840, .f32⟩
  | .hbm, ⟨6, _⟩ => ⟨S2048x1024, .f32⟩
  | _, _ => ⟨S2048x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Reals.lean ====
/-
  Extended reals that are real: the precondition's arrays as real arrays, the literals the programs use, and the mean
  square of a row with its reciprocal root, so that a claim's two sides become two real expressions.
-/
module

public import Idealize.ShloMosaic.Lib.Pointwise
public import Idealize.ShloMosaic.PureOps.Ideal.Laws

@[expose] public section

noncomputable section

namespace Cert.Reals

open Idealize.ShloMosaic

theorem hz : (![0, 0] : Fin 2 → Nat) = fun _ => 0 := funext fun a => by fin_cases a <;> rfl

/-! ## Finite arrays -/

theorem real_of_lt_top {x : EReal} (h : max x (-x) < ⊤) : ∃ r : ℝ, x = (r : EReal) := by
  induction x with
  | bot => simp at h
  | coe r => exact ⟨r, rfl⟩
  | top => simp at h

theorem ofBits_inf : Ideal.ofBits .f32 0x7F800000#32 = ⊤ := by
  simp [Ideal.ofBits, Ideal.ieee]

/-- An array whose absolute values compare below infinity is an array of reals. -/
theorem reals_of_finite {s : Shape} (x : FVec Ideal s .f32) (y : FVec Ideal s .f32) (hy : ∀ i, y i = ⊤)
    (h : cmpf .olt (Host.absf x) y = fun _ => 1#1) : ∃ r : s.Idx → ℝ, x = fun i => (r i : EReal) := by
  have hr : ∀ i, ∃ r : ℝ, x i = (r : EReal) := fun i => by
    have := congrFun h i
    pointwise at this
    rw [hy] at this
    refine real_of_lt_top ?_
    by_contra hn
    have hn' : ¬FloatOps.absf (x i) < (⊤ : EReal) := hn
    simp [hn'] at this
  choose r hr using hr
  exact ⟨r, funext hr⟩

/-! ## Literals -/

theorem lit_1024 : Ideal.ofBits .f32 0x44800000#32 = ((1024 : ℝ) : EReal) := by
  simp [Ideal.ofBits, Ideal.ieee]
  rw [← EReal.coe_mul]
  norm_num

theorem lit_neg_half : Ideal.ofBits .f32 0xBF000000#32 = ((-(1 / 2) : ℝ) : EReal) := by
  simp [Ideal.ofBits, Ideal.ieee]
  rw [← EReal.coe_mul]
  norm_num

/-- A power of two as a 32-bit literal. -/
theorem lit_2 : Ideal.ofBits .f32 0x40000000#32 = ((2 : ℝ) : EReal) := by
  simp [Ideal.ofBits, Ideal.ieee]
  rw [← EReal.coe_mul]
  norm_num

theorem lit_1 : Ideal.ofBits .f32 0x3F800000#32 = ((1 : ℝ) : EReal) := by
  simp [Ideal.ofBits, Ideal.ieee]
  rw [← EReal.coe_mul]
  norm_num

theorem lit_half : Ideal.ofBits .f32 0x3F000000#32 = ((1 / 2 : ℝ) : EReal) := by
  simp [Ideal.ofBits, Ideal.ieee]
  rw [← EReal.coe_mul]
  norm_num

theorem lit_64 : Ideal.ofBits .f32 0x42800000#32 = ((64 : ℝ) : EReal) := by
  simp [Ideal.ofBits, Ideal.ieee]
  rw [← EReal.coe_mul]
  norm_num

theorem lit_64th : Ideal.ofBits .f32 0x3C800000#32 = ((1 / 64 : ℝ) : EReal) := by
  simp [Ideal.ofBits, Ideal.ieee]
  rw [← EReal.coe_mul]
  norm_num

theorem lit_1024th : Ideal.ofBits .f32 0x3A800000#32 = ((1 / 1024 : ℝ) : EReal) := by
  simp [Ideal.ofBits, Ideal.ieee]
  rw [← EReal.coe_mul]
  norm_num

/-- The small number under every root. -/
def eps : ℝ := 8796093 * (2 : ℝ) ^ (-43 : Int)

theorem eps_pos : 0 < eps := by unfold eps; positivity

theorem lit_eps : Ideal.ofBits .f32 0x358637BD#32 = ((eps : ℝ) : EReal) := by
  simp [Ideal.ofBits, Ideal.ieee, eps]

/-! ## Operations on reals -/

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem div_coe' {y : ℝ} (h : y ≠ 0) (x : ℝ) : Ideal.div (x : EReal) (y : EReal) = ((x / y : ℝ) : EReal) := by
  rw [Ideal.div_coe h, ← EReal.coe_mul, mul_one_div]

theorem div_1024 (x : ℝ) : Ideal.div (x : EReal) ((1024 : ℝ) : EReal) = ((x / 1024 : ℝ) : EReal) := div_coe' (by norm_num) x

theorem rsqrt_coe' {y : ℝ} (h : 0 < y) : Ideal.rsqrt (y : EReal) = (((Real.sqrt y)⁻¹ : ℝ) : EReal) := by
  rw [Ideal.rsqrt_coe, if_neg (not_lt.mpr h.le), if_neg h.ne']

/-! ## The mean square of a row -/

/-- The mean square of a row, with the small number under the root. -/
def ms {n : Nat} (d : ℝ) (x : Fin n → ℝ) : ℝ := (∑ k, x k * x k) / d + eps

theorem ms_pos {n : Nat} {d : ℝ} (hd : 0 < d) (x : Fin n → ℝ) : 0 < ms d x :=
  add_pos_of_nonneg_of_pos (div_nonneg (Finset.sum_nonneg fun k _ => mul_self_nonneg _) hd.le) eps_pos

/-- The reciprocal root mean square. -/
def rr {n : Nat} (d : ℝ) (x : Fin n → ℝ) : ℝ := (Real.sqrt (ms d x))⁻¹

theorem coe_ms {n : Nat} (d : ℝ) (x : Fin n → ℝ) : (((∑ k, x k * x k) / d : ℝ) : EReal) + (eps : EReal) = (ms d x : EReal) := by
  rw [← EReal.coe_add]; rfl

theorem rsqrt_ms {n : Nat} (x : Fin n → ℝ) : Ideal.rsqrt (ms 1024 x : EReal) = (rr 1024 x : EReal) := rsqrt_coe' (ms_pos (by norm_num) x)

theorem div_ms {n : Nat} (x : Fin n → ℝ) (y : ℝ) : Ideal.div (y : EReal) (ms 1024 x : EReal) = ((y / ms 1024 x : ℝ) : EReal) :=
  div_coe' (ms_pos (by norm_num) x).ne' y

/-- A reciprocal root over its radicand is its cube. -/
theorem rr_div {n : Nat} {d : ℝ} (hd : 0 < d) (x : Fin n → ℝ) : rr d x / ms d x = rr d x * rr d x * rr d x := by
  have h := ms_pos hd x
  have hs : Real.sqrt (ms d x) * Real.sqrt (ms d x) = ms d x := Real.mul_self_sqrt h.le
  have hne : Real.sqrt (ms d x) ≠ 0 := (Real.sqrt_pos.mpr h).ne'
  unfold rr
  rw [div_eq_mul_inv, mul_assoc, ← mul_inv (Real.sqrt (ms d x)) (Real.sqrt (ms d x)), hs]

/-- The gradient of a normed row, at column `l`: `g` the cotangent of the normed row, `w` the gain. -/
def dxRow {n : Nat} (d : ℝ) (x g w : Fin n → ℝ) (l : Fin n) : ℝ :=
  rr d x * (g l * w l) - x l * (rr d x * rr d x * rr d x) * ((∑ k, g k * w k * x k) / d)

/-- The derivative of the reciprocal root as it is written by differentiating it, one term of each factor of the square. -/
theorem dxRow_eq {n : Nat} {d : ℝ} (hd : 0 < d) (x g w : Fin n → ℝ) (l : Fin n) :
    g l * w l * rr d x + x l * ((∑ k, x k * (g k * w k)) * (-(1 / 2) * (rr d x / ms d x)) / d)
      + (∑ k, x k * (g k * w k)) * (-(1 / 2) * (rr d x / ms d x)) / d * x l = dxRow d x g w l := by
  have hs : (∑ k, x k * (g k * w k)) = ∑ k, g k * w k * x k := Finset.sum_congr rfl fun k _ => mul_comm _ _
  rw [rr_div hd x, hs]
  unfold dxRow
  ring

end Cert.Reals

end
-- ==== Proof.PreNorm.lean ====
module

public import Idealize.ShloMosaic.Lib.Pipeline.ValueKit
public import proofs.«01_k».proof.Defs
public import proofs.«01_k».proof.Proof.Gen.KernelIdeal.Value
public import proofs.«01_k».proof.Proof.Gen.ReferenceIdeal.Read
public import proofs.«01_k».proof.Proof.Reals
public import Idealize.ShloMosaic.Lib.Tactic

@[expose] public section

noncomputable section

namespace Cert.KernelIdeal.PreNorm

open Cert.KernelIdeal Cert.KernelIdeal.Gen Idealize.ShloMosaic Idealize.ShloMosaic.TcCoe Idealize.SL.Sem Cert.Reals

variable {F : FTy → Type} [FloatOps F]

theorem pay4_apply (x g : S512x1024.Idx → ℝ) (w : S1x1024.Idx → ℝ) (a : FVec Ideal S512x1024 .f32) (r : Fin 512) (l : Fin 1024) :
    k0_pay4 (F := Ideal) (fun i => (x i : EReal)) (fun i => (w i : EReal)) (fun i => (g i : EReal)) a (ix2 r l)
      = a (ix2 r l) + (dxRow 1024 (fun k => x (ix2 r k)) (fun k => g (ix2 r k)) (fun k => w (ix2 0 k)) l : EReal) := by
  pointwise [k0_pay4, k0_pay2, lit_1024, lit_eps, ← EReal.coe_mul, coe_sum, div_1024, coe_ms, rsqrt_ms, div_ms, Fin.sum_univ_one, ← EReal.coe_sub]
  rfl

theorem pay1_apply (x g : S512x1024.Idx → ℝ) (a : FVec Ideal S1x1024 .f32) (l : Fin 1024) :
    k0_pay1 (F := Ideal) (k0_pay3 (fun i => (x i : EReal)) (fun i => (g i : EReal))) a (ix2 0 l)
      = a (ix2 0 l) + ((∑ r, g (ix2 r l) * x (ix2 r l) * rr 1024 fun k => x (ix2 r k) : ℝ) : EReal) := by
  pointwise [k0_pay1, k0_pay3, k0_pay2, lit_1024, lit_eps, ← EReal.coe_mul, coe_sum, div_1024, coe_ms, rsqrt_ms, div_ms, Fin.sum_univ_one, ← EReal.coe_sub]

theorem pay5_apply (j) : k0_pay5 (F := Ideal) j = 0 := by pointwise [k0_pay5]

open Cert.ReferenceIdeal.Read in
theorem ref_dx (g x : S2048x1024.Idx → ℝ) (w : S1024.Idx → ℝ) (a : FVec Ideal S2048x1024 .f32) (r : Fin 2048) (l : Fin 1024) :
    val_main_v36 (F := Ideal) (fun i => (g i : EReal)) (fun i => (x i : EReal)) (fun i => (w i : EReal)) a (ix2 r l)
      = a (ix2 r l) + (dxRow 1024 (fun k => x (ix2 r k)) (fun k => g (ix2 r k)) (fun k => w (ix1 k)) l : EReal) := by
  pointwise [val_main_v36,val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_cst_3, val_main_v17, val_main_v18, val_main_v19, val_main_v20, val_main_cst_4, val_main_v21, val_main_v22, val_main_cst_5, val_main_v23, val_main_v24, val_main_v25, val_main_v26, val_main_v27, val_main_v28, val_main_cst_6, val_main_v29, val_main_v30, val_main_cst_7, val_main_v31, val_main_v32, val_main_v33, val_main_v34, val_main_v35, val_main_v36, val_main_v37, lit_1024, lit_eps, lit_neg_half, ← EReal.coe_mul, coe_sum, div_1024, coe_ms, rsqrt_ms, div_ms, Fin.sum_univ_one, ← EReal.coe_sub]
  rw [add_assoc, add_assoc, ← EReal.coe_add, ← EReal.coe_add]
  refine congrArg (fun z : ℝ => a (ix2 r l) + (z : EReal)) ?_
  have h := rr_div (d := 1024) (by norm_num) fun k => x (ix2 r k)
  have hs : (∑ i, x (ix2 r i) * (g (ix2 r i) * w (ix1 i))) = ∑ i, g (ix2 r i) * w (ix1 i) * x (ix2 r i) :=
    Finset.sum_congr rfl fun i _ => mul_comm _ _
  rw [h, hs]
  unfold dxRow
  ring

open Cert.ReferenceIdeal.Read in
theorem ref_dw (g x : S2048x1024.Idx → ℝ) (l : Fin 1024) :
    val_main_v37 (F := Ideal) (fun i => (g i : EReal)) (fun i => (x i : EReal)) (ix2 0 l)
      = ((∑ r, g (ix2 r l) * x (ix2 r l) * rr 1024 fun k => x (ix2 r k) : ℝ) : EReal) := by
  pointwise [val_main_v37,val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_cst_3, val_main_v17, val_main_v18, val_main_v19, val_main_v20, val_main_cst_4, val_main_v21, val_main_v22, val_main_cst_5, val_main_v23, val_main_v24, val_main_v25, val_main_v26, val_main_v27, val_main_v28, val_main_cst_6, val_main_v29, val_main_v30, val_main_cst_7, val_main_v31, val_main_v32, val_main_v33, val_main_v34, val_main_v35, val_main_v36, val_main_v37, lit_1024, lit_eps, lit_neg_half, ← EReal.coe_mul, coe_sum, div_1024, coe_ms, rsqrt_ms, div_ms, Fin.sum_univ_one, ← EReal.coe_sub]
  refine congrArg _ (Finset.sum_congr rfl fun i _ => by ring)

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![t.val, 0] ∧ win0_4.index t = ![t.val, 0] ∧ win0_5.index t = ![0, 0] :=
  (by decide +kernel : ∀ t : Fin grid0.N, _)

/-- Row `r` of the block of 512 rows that point `t` works on. -/
def row (t : Fin cfg0.N) (r : Fin 512) : Fin 2048 := ⟨t.val * 512 + r.val, by have := t.isLt; have : cfg0.N = 4 := N_0; omega⟩

section final
variable (c : Dev nD) (g x : S2048x1024.Idx → ℝ) (w : S1024.Idx → ℝ)
  (hg : m ((c : Thread nD τ).loc main_arg0) = fun i => (g i : EReal)) (hx : m ((c : Thread nD τ).loc main_arg1) = fun i => (x i : EReal))
  (hw : m ((c : Thread nD τ).loc main_arg2) = fun i => (w i : EReal))

include hg in
theorem blk0 (t : Fin cfg0.N) : iblk m c 0 t = fun y : S512x1024.Idx => (g (ix2 (row t (y 0)) (y 1)) : EReal) := by
  funext y
  refine Eq.trans ?_ (congrFun hg _)
  blk_ext [iblk, V, idx t, row]

include hx in
theorem blk1 (t : Fin cfg0.N) : iblk m c 1 t = fun y : S512x1024.Idx => (x (ix2 (row t (y 0)) (y 1)) : EReal) := by
  funext y
  refine Eq.trans ?_ (congrFun hx _)
  blk_ext [iblk, V, idx t, row]

include hw in
theorem blk2 (t : Fin cfg0.N) : iblk m c 2 t = fun y : S1x1024.Idx => (w (ix1 (y 1)) : EReal) := by
  funext y
  refine Eq.trans ?_ (congrFun hw _)
  blk_simp [iblk]
  entry_read
  pointwise
  refine congrArg (fun k => m ((c : Thread nD τ).loc main_arg2) (ix1 k)) ?_
  apply Fin.ext
  blk_simp [idx t]

theorem blk3 (t : Fin cfg0.N) (y) : iblk m c 3 t y = m ((c : Thread nD τ).loc main_arg3) (ix2 (row t (y 0)) (y 1)) := by
  blk_ext [iblk, V, idx t, row]

include hg hx hw

theorem point_dx (t : Fin cfg0.N) (y : S512x1024.Idx) : k0_pay4 (F := Ideal) (iblk m c 1 t) (iblk m c 2 t) (iblk m c 0 t) (iblk m c 3 t) y
    = Cert.ReferenceIdeal.Read.val_main_v36 (F := Ideal) (m ((c : Thread nD τ).loc main_arg0)) (m ((c : Thread nD τ).loc main_arg1)) (m ((c : Thread nD τ).loc main_arg2)) (m ((c : Thread nD τ).loc main_arg3)) (ix2 (row t (y 0)) (y 1)) := by
  rw [hg, hx, hw, blk0 m c g hg t, blk1 m c x hx t, blk2 m c w hw t]
  obtain ⟨r, l, rfl⟩ : ∃ r l, y = ix2 r l := ⟨y 0, y 1, by blk_ext []⟩
  refine (pay4_apply _ _ _ _ r l).trans (Eq.trans ?_ (ref_dx g x w _ (row t r) l).symm)
  exact congrArg (fun z : EReal => z + _) (blk3 m c t (ix2 r l))

theorem final_dx : (dats m 0 c).arrAt 4 (cfgs 0).N
    = Cert.ReferenceIdeal.Read.val_main_v36 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  have hy : ((View.whole main_v1_0).slice (win0_4.rect t)).emb y = ix2 (row t (y 0)) (y 1) := by blk_ext [idx t, row]
  rw [hy]
  refine Eq.trans ?_ (point_dx m c g x w hg hx hw t y)
  by_cases h : t.val % 4 = 0
  · rw [after0_4, outsAt0_A m c t h]
    frame_out
  · rw [after0_4, outsAt0_B m c t h]
    frame_out

theorem final_dw : (dats m 0 c).arrAt 5 (cfgs 0).N
    = Cert.ReferenceIdeal.Read.val_main_v37 (F := Ideal) (m ((c : Thread nD τ).loc main_arg0)) (m ((c : Thread nD τ).loc main_arg1)) := by
  refine (dats m 0 c).arrAt_eq_of_after_last 5 t0_3 (by decide +kernel) _ fun j => ?_
  blk_simp
  rw [after0_5, Pipeline.eq_sum_fin_of_reset_step_apply_last (fun n h => (outsAt0 m c n h).2) 4 (fun _ => 0)
    (fun t (j : S1x1024.Idx) => ((∑ r : Fin 512, g (ix2 (row t r) (j 1)) * x (ix2 (row t r) (j 1)) * rr 1024 fun k => x (ix2 (row t r) k) : ℝ) : EReal))
    (fun t h j => by
      rw [outsAt0_A m c t h]; frame_out
      rw [blk0 m c g hg t, blk1 m c x hx t]
      obtain ⟨l, rfl⟩ : ∃ l, j = ix2 0 l := ⟨j 1, by blk_ext []⟩
      exact (pay1_apply _ _ _ l).trans (congrArg (fun z : EReal => z + _) (pay5_apply _)))
    (fun t h j => by
      rw [outsAt0_B m c t h]; frame_out
      rw [blk0 m c g hg t, blk1 m c x hx t]
      obtain ⟨l, rfl⟩ : ∃ l, j = ix2 0 l := ⟨j 1, by blk_ext []⟩
      exact pay1_apply _ _ _ l)
    (le_of_eq N_0) t0_3 rfl j, zero_add]
  obtain ⟨l, rfl⟩ : ∃ l : Fin 1024, j = ix2 0 l := ⟨j 1, by blk_ext []⟩
  rw [hg, hx]
  refine Eq.trans ?_ (ref_dw g x l).symm
  rw [coe_sum]
  refine congrArg (fun z : ℝ => (z : EReal)) ?_
  refine Fin.sum_mul_add_congr fun s k hl => ?_
  rfl

end final

end Cert.KernelIdeal.PreNorm
-- ==== Proof.Rows.lean ====
/- The mean square of a row written as one real number, and its reciprocal root, at the row lengths the kernels use. -/
module

public import proofs.«01_k».proof.Proof.Reals

@[expose] public section

noncomputable section

namespace Cert.Reals

open Idealize.ShloMosaic

theorem rsqrt_row {n : Nat} (x : Fin n → ℝ) : Ideal.rsqrt (((∑ k, x k * x k) / 1024 + eps : ℝ) : EReal) = (rr 1024 x : EReal) := rsqrt_ms x

theorem div_row {n : Nat} (x : Fin n → ℝ) (y : ℝ) : Ideal.div (y : EReal) (((∑ k, x k * x k) / 1024 + eps : ℝ) : EReal) = ((y / ms 1024 x : ℝ) : EReal) := div_ms x y

theorem div_64 (x : ℝ) : Ideal.div (x : EReal) ((64 : ℝ) : EReal) = ((x / 64 : ℝ) : EReal) := div_coe' (by norm_num) x

theorem rsqrt_row64 {n : Nat} (x : Fin n → ℝ) : Ideal.rsqrt (((∑ k, x k * x k) / 64 + eps : ℝ) : EReal) = (rr 64 x : EReal) :=
  rsqrt_coe' (ms_pos (by norm_num) x)

theorem div_row64 {n : Nat} (x : Fin n → ℝ) (y : ℝ) : Ideal.div (y : EReal) (((∑ k, x k * x k) / 64 + eps : ℝ) : EReal) = ((y / ms 64 x : ℝ) : EReal) :=
  div_coe' (ms_pos (by norm_num) x).ne' y

theorem coe_ite {p : Prop} [Decidable p] (a b : ℝ) : (if p then (a : EReal) else (b : EReal)) = ((if p then a else b : ℝ) : EReal) := by
  split <;> rfl

theorem coe_ite_zero {p : Prop} [Decidable p] (a : ℝ) : (if p then (a : EReal) else 0) = ((if p then a else 0 : ℝ) : EReal) := by
  split <;> rfl

/-- The lower and the upper 64 of 128 lanes. -/
def lo (f : Fin 128 → ℝ) (j : Fin 64) : ℝ := f ⟨j.val, by omega⟩
def hi (f : Fin 128 → ℝ) (j : Fin 64) : ℝ := f ⟨64 + j.val, by omega⟩

theorem select_ite {p : Prop} [Decidable p] (a b : ℝ) : Scalar.select (if p then 1#1 else 0#1) (a : EReal) (b : EReal) = ((if p then a else b : ℝ) : EReal) := by
  split <;> rfl

theorem rsqrt_row64th {n : Nat} (x : Fin n → ℝ) : Ideal.rsqrt (((∑ k, x k * x k) * (1 / 64) + eps : ℝ) : EReal) = (rr 64 x : EReal) := by
  rw [mul_one_div]; exact rsqrt_row64 x

/-- A host sum over the two leading axes. -/
theorem hostSum_lead2 {n0 n1 n2 : Nat} (h : (⟨3, ![n0, n1, n2]⟩ : Shape).ReducesTo [0, 1] ⟨1, ![n2]⟩) (v : (⟨3, ![n0, n1, n2]⟩ : Shape).Idx → EReal)
    (init : EReal) (j : (⟨1, ![n2]⟩ : Shape).Idx) : Ideal.hostReduceAdd h v init j = init + ∑ a, ∑ b, v (ix3 a b (j 0)) := by
  have hf : ∀ i, h.drop i = j ↔ ∃ k : Fin n0 × Fin n1, ix3 k.1 k.2 (j 0) = i := by
    intro i
    constructor
    · rintro rfl
      refine ⟨(i 0, i 1), ?_⟩
      funext a; apply Fin.ext
      match a with
      | ⟨0, _⟩ => rfl
      | ⟨1, _⟩ => rfl
      | ⟨2, _⟩ => rfl
    · rintro ⟨k, rfl⟩
      funext b; apply Fin.ext
      match b with
      | ⟨0, _⟩ => rfl
  exact congrArg (init + ·) ((@Finset.sum_filter_eq_sum_of_fiber _ (Fin n0 × Fin n1) EReal _ _ _ _ (fun i => h.drop i = j) _ (fun k => ix3 k.1 k.2 (j 0))
    (fun _ _ e => Prod.ext (congrFun e 0) (congrFun e 1)) hf v).trans (Fintype.sum_prod_type _))

end Cert.Reals

end
-- ==== Proof.FoxNorm.lean ====
/- The gradient of the attention output's head norm: per head of 64 lanes, two heads to a block of 128, with the row sums
   of the gradient times the output, and the gain's sum over all rows and heads. -/
module

public import Idealize.ShloMosaic.Lib.Pipeline.ValueKit
public import proofs.«01_k».proof.Proof.Gen.Kernel2Ideal.Value
public import proofs.«01_k».proof.Proof.Gen.Reference2Ideal.Read
public import proofs.«01_k».proof.Proof.Rows
public import Idealize.ShloMosaic.Lib.Tactic

@[expose] public section

noncomputable section

namespace Cert.Kernel2Ideal.FoxNorm

open Cert.Kernel2Ideal Cert.Kernel2Ideal.Gen Idealize.ShloMosaic Idealize.ShloMosaic.TcCoe Idealize.SL.Sem Cert.Reals

section payloads

theorem mask_lo (l : Fin 128) : k0_pay5 (ix2 0 l) = if l.val < 64 then 1#1 else 0#1 := by
  revert l; decide +kernel

theorem mask_hi (l : Fin 128) : k0_pay6 (ix2 0 l) = if 64 ≤ l.val then 1#1 else 0#1 := by
  revert l; decide +kernel

variable (x g : S512x128.Idx → ℝ) (w : S1x128.Idx → ℝ)

/-- The reciprocal root mean square of the lane's head. -/
def rh (f : Fin 128 → ℝ) (l : Fin 128) : ℝ := if l.val < 64 then rr 64 (lo f) else rr 64 (hi f)

theorem pay9_eq : k0_pay9 (F := Ideal) (fun i => (x i : EReal)) = fun i : S512x128.Idx => (rr 64 (lo fun k => x (ix2 (i 0) k)) : EReal) := by
  funext i
  obtain ⟨r, l, rfl⟩ : ∃ r l, i = ix2 r l := ⟨i 0, i 1, by blk_ext []⟩
  pointwise [k0_pay9, k0_pay7, mask_lo, lit_64th, lit_eps, ← EReal.coe_mul, coe_sum, Finset.sum_const_zero, add_zero, zero_add, rsqrt_row64th, ← EReal.coe_add]
  rfl

theorem pay10_eq : k0_pay10 (F := Ideal) (fun i => (x i : EReal)) = fun i : S512x1.Idx => (rr 64 (hi fun k => x (ix2 (i 0) k)) : EReal) := by
  funext i
  obtain ⟨r, l, rfl⟩ : ∃ r l, i = ix2 r l := ⟨i 0, i 1, by blk_ext []⟩
  pointwise [k0_pay10, k0_pay7, mask_hi, lit_64th, lit_eps, ← EReal.coe_mul, coe_sum, Finset.sum_const_zero, add_zero, zero_add, rsqrt_row64th, ← EReal.coe_add]
  rfl

theorem pay11_eq : k0_pay11 (F := Ideal) k0_pay8 (k0_pay9 (fun i => (x i : EReal))) (k0_pay10 (fun i => (x i : EReal)))
    = fun i : S512x128.Idx => (rh (fun k => x (ix2 (i 0) k)) (i 1) : EReal) := by
  funext i
  obtain ⟨r, l, rfl⟩ : ∃ r l, i = ix2 r l := ⟨i 0, i 1, by blk_ext []⟩
  pointwise [k0_pay11, k0_pay8, pay9_eq, pay10_eq, mask_lo, coe_ite, select_ite]
  rfl

/-- The gradient of the head norm at a lane: the lane's own head alone. -/
def dox (x g w : Fin 128 → ℝ) (l : Fin 128) : ℝ :=
  rh x l * (g l * w l) - x l * (rh x l * rh x l * rh x l)
    * (if l.val < 64 then (∑ j, lo (fun k => g k * w k * x k) j) * (1 / 64) else (∑ j, hi (fun k => g k * w k * x k) j) * (1 / 64))

theorem pay12_eq : k0_pay12 (F := Ideal) k0_pay5 k0_pay6 (fun i => (x i : EReal)) (fun i => (g i : EReal)) k0_pay8 (k0_pay9 (fun i => (x i : EReal)))
      (k0_pay10 (fun i => (x i : EReal))) (fun i => (w i : EReal))
    = fun i : S512x128.Idx => (dox (fun k => x (ix2 (i 0) k)) (fun k => g (ix2 (i 0) k)) (fun k => w (ix2 0 k)) (i 1) : EReal) := by
  funext i
  obtain ⟨r, l, rfl⟩ : ∃ r l, i = ix2 r l := ⟨i 0, i 1, by blk_ext []⟩
  pointwise [k0_pay12, pay11_eq, mask_lo, mask_hi, lit_64th, ← EReal.coe_mul, coe_sum, Finset.sum_const_zero, add_zero, zero_add, coe_ite, select_ite, ← EReal.coe_sub, ← EReal.coe_add]
  rfl

theorem pay3_apply (z : FVec Ideal S1x128 .f32) (l : Fin 128) :
    k0_pay3 (F := Ideal) (fun i => (x i : EReal)) (fun i => (g i : EReal)) (k0_pay11 k0_pay8 (k0_pay9 (fun i => (x i : EReal))) (k0_pay10 (fun i => (x i : EReal)))) z (ix2 0 l)
      = z (ix2 0 l) + ((∑ r, g (ix2 r l) * x (ix2 r l) * rh (fun k => x (ix2 r k)) l : ℝ) : EReal) := by
  pointwise [k0_pay3, pay11_eq, ← EReal.coe_mul, coe_sum]

theorem pay4_apply (z : FVec Ideal S1x128 .f32) (l : Fin 128) :
    k0_pay4 (F := Ideal) z (ix2 0 l) = z (ix2 0 l) + z (ix2 0 ⟨(l.val + 64) % 128, by omega⟩) := by
  pointwise [k0_pay4]
  refine congrArg (fun q => z (ix2 0 l) + z (ix2 0 q)) (Fin.ext ?_)
  have := l.isLt
  show (l.val + 128 - 64) % 128 = (l.val + 64) % 128
  omega

theorem pay2_apply (l : Fin 128) : k0_pay2 (F := Ideal) (ix2 0 l) = 0 := by
  pointwise [k0_pay2]

theorem pay1_apply (r : Fin 512) (e : Fin 2) :
    k0_pay1 (F := Ideal) (k0_pay14 k0_pay5 k0_pay6 (fun i => (x i : EReal)) (fun i => (g i : EReal)) k0_pay8 (k0_pay9 (fun i => (x i : EReal))) (k0_pay10 (fun i => (x i : EReal))) (fun i => (w i : EReal)))
      (k0_pay15 k0_pay5 k0_pay6 (fun i => (x i : EReal)) (fun i => (g i : EReal)) k0_pay8 (k0_pay9 (fun i => (x i : EReal))) (k0_pay10 (fun i => (x i : EReal))) (fun i => (w i : EReal)))
      (Scalar.ofBits .f32 0x00000000#32) (k0_pay16 k0_pay6) (ix3 0 r e)
      = ((if e.val = 0 then ∑ j, lo (fun k => dox (fun k => x (ix2 r k)) (fun k => g (ix2 r k)) (fun k => w (ix2 0 k)) k * x (ix2 r k)) j
          else ∑ j, hi (fun k => dox (fun k => x (ix2 r k)) (fun k => g (ix2 r k)) (fun k => w (ix2 0 k)) k * x (ix2 r k)) j : ℝ) : EReal) := by
  pointwise [k0_pay1, k0_pay14, k0_pay15, k0_pay16, pay12_eq, mask_lo, mask_hi, ← EReal.coe_mul, coe_sum, Finset.sum_const_zero, add_zero, zero_add, coe_ite, select_ite]
  fin_cases e <;> rfl

end payloads

section reference
open Cert.Reference2Ideal.Read

variable (o : S2048x512.Idx → ℝ) (g : S2048x1024.Idx → ℝ) (w : S64.Idx → ℝ)

/-- Lane `k` of head `h`. -/
def lane (h : Fin 8) (k : Fin 64) : Fin 512 := ⟨h.val * 64 + k.val, by omega⟩
def wide (h : Fin 8) (k : Fin 64) : Fin 1024 := ⟨h.val * 64 + k.val, by omega⟩

/-- A head's row of the output and of the cotangent. -/
def oh (r : Fin 2048) (h : Fin 8) (k : Fin 64) : ℝ := o (ix2 r (lane h k))
def gh (r : Fin 2048) (h : Fin 8) (k : Fin 64) : ℝ := g (ix2 r (wide h k))

theorem v0_eq : val_main_v0 (F := Ideal) (fun i => (o i : EReal)) = fun i : Cert.Reference2Ideal.S2048x8x64.Idx => (oh o (i 0) (i 1) (i 2) : EReal) := by
  funext i
  obtain ⟨r, h, k, rfl⟩ : ∃ r h k, i = ix3 r h k := ⟨i 0, i 1, i 2, by blk_ext []⟩
  refine (val_main_v0_apply _ _).trans (congrArg (fun z => (o z : EReal)) ?_)
  have hr : r.val < 2048 := r.isLt
  have hh : h.val < 8 := h.isLt
  have hk : k.val < 64 := k.isLt
  blk_ext [lane] <;> omega

theorem v19_eq : val_main_v19 (F := Ideal) (fun i => (g i : EReal)) = fun i : Cert.Reference2Ideal.S2048x8x64.Idx => (gh g (i 0) (i 1) (i 2) : EReal) := by
  funext i
  obtain ⟨r, h, k, rfl⟩ : ∃ r h k, i = ix3 r h k := ⟨i 0, i 1, i 2, by blk_ext []⟩
  refine ((val_main_v19_apply _ _).trans (val_main_v18_apply _ _)).trans (congrArg (fun z => (g z : EReal)) ?_)
  have hr : r.val < 2048 := r.isLt
  have hh : h.val < 8 := h.isLt
  have hk : k.val < 64 := k.isLt
  blk_ext [wide] <;> omega

/-- The gradient of a head's row. -/
def doh (r : Fin 2048) (h : Fin 8) (k : Fin 64) : ℝ := dxRow 64 (oh o r h) (gh g r h) (fun k => w (ix1 k)) k

theorem v39_eq : val_main_v39 (F := Ideal) (fun i => (o i : EReal)) (fun i => (g i : EReal)) (fun i => (w i : EReal))
    = fun i : Cert.Reference2Ideal.S2048x8x64.Idx => (doh o g w (i 0) (i 1) (i 2) : EReal) := by
  funext i
  obtain ⟨r, h, k, rfl⟩ : ∃ r h k, i = ix3 r h k := ⟨i 0, i 1, i 2, by blk_ext []⟩
  pointwise [val_main_v39, val_main_v38, val_main_v37, val_main_v36, val_main_v35, val_main_v34, val_main_v33, val_main_v32, val_main_v31, val_main_v30, val_main_v29, val_main_v28, val_main_v27, val_main_v26, val_main_v24, val_main_v23, val_main_v14, val_main_v11, val_main_v10, val_main_v9, val_main_v8, val_main_v7, val_main_v6, val_main_v5, val_main_v4, val_main_v3, val_main_v2, val_main_v1, val_main_cst, val_main_cst_0, val_main_cst_1, val_main_cst_2, val_main_cst_5, val_main_cst_6, val_main_cst_7, v0_eq, v19_eq, lit_64, lit_eps, lit_neg_half, ← EReal.coe_mul, coe_sum, div_64, rsqrt_row64, div_row64, Fin.sum_univ_one, ← EReal.coe_sub, ← EReal.coe_add]
  exact congrArg (fun z : ℝ => (z : EReal)) (dxRow_eq (d := 64) (by norm_num) (oh o r h) (gh g r h) (fun k => w (ix1 k)) k)

/-- The output's gradient in its own columns. -/
theorem v40_apply (r : Fin 2048) (h : Fin 8) (k : Fin 64) : val_main_v40 (F := Ideal) (fun i => (o i : EReal)) (fun i => (g i : EReal)) (fun i => (w i : EReal)) (ix2 r (lane h k))
    = (doh o g w r h k : EReal) := by
  refine (val_main_v40_apply _ _ _ _).trans ?_
  rw [v39_eq]
  have hr : r.val < 2048 := r.isLt
  have hh : h.val < 8 := h.isLt
  have hk : k.val < 64 := k.isLt
  have e : idx_main_v40 (ix2 r (lane h k)) = ix3 r h k := by blk_ext [idx_main_v40, lane] <;> omega
  rw [e]
  rfl

theorem v46_apply (p : Fin 4) (r : Fin 2048) (e : Fin 2) : val_main_v46 (F := Ideal) (fun i => (o i : EReal)) (fun i => (g i : EReal)) (fun i => (w i : EReal)) (ix3 p r e)
    = ((∑ k, doh o g w r ⟨p.val * 2 + e.val, by omega⟩ k * oh o r ⟨p.val * 2 + e.val, by omega⟩ k : ℝ) : EReal) := by
  pointwise [val_main_v46, val_main_v45, val_main_v43, val_main_v42, val_main_v41, val_main_cst_8]
  refine (Finset.sum_congr rfl fun k _ => ?_).trans (coe_sum _ fun k => doh o g w r ⟨p.val * 2 + e.val, by omega⟩ k * oh o r ⟨p.val * 2 + e.val, by omega⟩ k)
  exact (congrArg (fun z : EReal => z * (oh o r ⟨p.val * 2 + e.val, by omega⟩ k : EReal)) (v40_apply o g w r ⟨p.val * 2 + e.val, by omega⟩ k)).trans (EReal.coe_mul _ _).symm

theorem v21_apply (k : Fin 64) : val_main_v21 (F := Ideal) (fun i => (o i : EReal)) (fun i => (g i : EReal)) (ix1 k)
    = ((∑ r, ∑ h, oh o r h k * rr 64 (oh o r h) * gh g r h k : ℝ) : EReal) := by
  unfold val_main_v21
  refine (Host.reduceAdd_apply _ _ _ _ _).trans ((hostSum_lead2 _ _ _ _).trans ?_)
  pointwise [val_main_v20, val_main_v13, val_main_v12, val_main_v8, val_main_v7, val_main_v6, val_main_v5, val_main_v4, val_main_v3, val_main_v2, val_main_v1, val_main_cst, val_main_cst_0, val_main_cst_1, val_main_cst_3, v0_eq, v19_eq, lit_64, lit_eps, ← EReal.coe_mul, coe_sum, div_64, rsqrt_row64, ← EReal.coe_add]

theorem v25_apply (k : Fin 64) : val_main_v25 (F := Ideal) (fun i => (o i : EReal)) (fun i => (g i : EReal)) (ix1 k)
    = val_main_v21 (F := Ideal) (fun i => (o i : EReal)) (fun i => (g i : EReal)) (ix1 k) := by
  unfold val_main_v25
  refine (Host.reduceAdd_apply _ _ _ _ _).trans ((hostSum_lead2 _ _ _ _).trans ?_)
  pointwise [val_main_v22, val_main_cst_4, Fin.sum_univ_one]

theorem v48_apply (l : Fin 128) : val_main_v48 (F := Ideal) (fun i => (o i : EReal)) (fun i => (g i : EReal)) (ix2 0 l)
    = ((∑ r, ∑ h, oh o r h ⟨l.val % 64, by omega⟩ * rr 64 (oh o r h) * gh g r h ⟨l.val % 64, by omega⟩ : ℝ) : EReal) := by
  refine Eq.trans ?_ ((v25_apply o g _).trans (v21_apply o g _))
  pointwise [val_main_v48, val_main_v47]
  have := l.isLt
  split
  · exact congrArg (fun q => val_main_v25 (F := Ideal) (fun i => (o i : EReal)) (fun i => (g i : EReal)) (ix1 q)) (Fin.ext (by show l.val = l.val % 64; omega))
  · exact congrArg (fun q => val_main_v25 (F := Ideal) (fun i => (o i : EReal)) (fun i => (g i : EReal)) (ix1 q)) (Fin.ext (by show l.val - 64 = l.val % 64; omega))

end reference

/-- Lane `k` of the pair's half `e`. -/
def pl (e : Fin 2) (k : Fin 64) : Fin 128 := ⟨e.val * 64 + k.val, by omega⟩

theorem exists_pl (l : Fin 128) : ∃ e k, l = pl e k :=
  ⟨⟨l.val / 64, by omega⟩, ⟨l.val % 64, by omega⟩, Fin.ext (by show l.val = l.val / 64 * 64 + l.val % 64; omega)⟩

theorem rh_pl (x : Fin 128 → ℝ) (e : Fin 2) (k : Fin 64) : rh x (pl e k) = rr 64 (fun j => x (pl e j)) := by
  have hk := k.isLt
  unfold rh
  fin_cases e
  · rw [if_pos (by simp [pl])]
    exact congrArg (rr 64) (funext fun j => congrArg x (Fin.ext (by simp [pl])))
  · rw [if_neg (by simp [pl])]
    exact congrArg (rr 64) (funext fun j => congrArg x (Fin.ext (by simp [pl])))

theorem dox_pl (x g w : Fin 128 → ℝ) (e : Fin 2) (k : Fin 64) :
    dox x g w (pl e k) = dxRow 64 (fun j => x (pl e j)) (fun j => g (pl e j)) (fun j => w (pl e j)) k := by
  have hk := k.isLt
  unfold dox dxRow
  rw [rh_pl, div_eq_mul_one_div (∑ j, _) (64 : ℝ)]
  congr 2
  fin_cases e
  · rw [if_pos (by simp [pl])]
    exact congrArg (fun z => z * (1 / 64 : ℝ)) (Finset.sum_congr rfl fun j _ => congrArg (fun q => g q * w q * x q) (Fin.ext (by simp [pl])))
  · rw [if_neg (by simp [pl])]
    exact congrArg (fun z => z * (1 / 64 : ℝ)) (Finset.sum_congr rfl fun j _ => congrArg (fun q => g q * w q * x q) (Fin.ext (by simp [pl])))

/-- The sum over the rows and heads, by the blocks of rows and pairs of heads. -/
theorem sum_pairs (F : Fin 2048 → Fin 8 → ℝ) :
    ∑ p : Fin 16, ∑ r : Fin 512, (F ⟨p.val % 4 * 512 + r.val, by omega⟩ ⟨p.val / 4 * 2, by omega⟩ + F ⟨p.val % 4 * 512 + r.val, by omega⟩ ⟨p.val / 4 * 2 + 1, by omega⟩)
      = ∑ r, ∑ h, F r h := by
  refine (Fin.sum_mul_add_congr (S := 4) (n := 4) (F := fun a q => ∑ r : Fin 512, (F ⟨q.val * 512 + r.val, by omega⟩ ⟨a.val * 2, by omega⟩ + F ⟨q.val * 512 + r.val, by omega⟩ ⟨a.val * 2 + 1, by omega⟩)) fun a q hl => ?_).symm.trans ?_
  · refine Finset.sum_congr rfl fun r _ => congrArg₂ (· + ·) (congrArg₂ F ?_ ?_) (congrArg₂ F ?_ ?_) <;> refine Fin.ext ?_ <;> have := a.isLt <;> have := q.isLt
    · show q.val * 512 + r.val = (a.val * 4 + q.val) % 4 * 512 + r.val; omega
    · show a.val * 2 = (a.val * 4 + q.val) / 4 * 2; omega
    · show q.val * 512 + r.val = (a.val * 4 + q.val) % 4 * 512 + r.val; omega
    · show a.val * 2 + 1 = (a.val * 4 + q.val) / 4 * 2 + 1; omega
  · refine (Finset.sum_congr rfl fun a _ => Fin.sum_mul_add_congr (L := 2048) (S := 4) (n := 512) (f := fun r : Fin 2048 => F r ⟨a.val * 2, by omega⟩ + F r ⟨a.val * 2 + 1, by omega⟩) fun q r hl => rfl).trans ?_
    rw [Finset.sum_comm]
    refine Finset.sum_congr rfl fun r _ => ?_
    rw [Fin.sum_univ_four, Fin.sum_univ_eight]
    show F r 0 + F r 1 + (F r 2 + F r 3) + (F r 4 + F r 5) + (F r 6 + F r 7) = _
    ring

variable (m : (ℓ : Loc nD τ sig) → Buf (Elt Ideal) ℓ)

theorem idx : ∀ t : Fin cfg0.N, win0_0.index t = ![t.val % 4, t.val / 4] ∧ win0_1.index t = ![t.val % 4, t.val / 4] ∧ win0_2.index t = ![0, 0]
    ∧ win0_3.index t = ![t.val % 4, t.val / 4] ∧ win0_4.index t = ![t.val / 4, t.val % 4, 0] ∧ win0_5.index t = ![0, 0] :=
  (by decide +kernel : ∀ t : Fin grid0.N, _)

theorem lt16 (t : Fin cfg0.N) : t.val < 16 := t.isLt

/-- Row `r` of point `t`'s block, and its lane `l` among the output's and the cotangent's columns. -/
def row (t : Fin cfg0.N) (r : Fin 512) : Fin 2048 := ⟨t.val % 4 * 512 + r.val, by omega⟩
def col (t : Fin cfg0.N) (l : Fin 128) : Fin 512 := ⟨t.val / 4 * 128 + l.val, by have := lt16 t; omega⟩
def wcol (t : Fin cfg0.N) (l : Fin 128) : Fin 1024 := ⟨t.val / 4 * 128 + l.val, by have := lt16 t; omega⟩
/-- The head of half `e` of point `t`'s pair. -/
def head (t : Fin cfg0.N) (e : Fin 2) : Fin 8 := ⟨t.val / 4 * 2 + e.val, by have := lt16 t; omega⟩

section final
variable (c : Dev nD) (o : S2048x512.Idx → ℝ) (g : S2048x1024.Idx → ℝ) (w : S64.Idx → ℝ)
  (ho : m ((c : Thread nD τ).loc main_arg0) = fun i => (o i : EReal)) (hg : m ((c : Thread nD τ).loc main_arg1) = fun i => (g i : EReal))
  (hw : m ((c : Thread nD τ).loc main_arg2) = fun i => (w i : EReal))

def oB (t : Fin cfg0.N) (i : S512x128.Idx) : ℝ := o (ix2 (row t (i 0)) (col t (i 1)))
def gB (t : Fin cfg0.N) (i : S512x128.Idx) : ℝ := g (ix2 (row t (i 0)) (wcol t (i 1)))
def wB (i : S1x128.Idx) : ℝ := w (ix1 ⟨(i 1).val % 64, Nat.mod_lt _ (by norm_num)⟩)

include ho in
theorem blkO (t : Fin cfg0.N) : iblk m c 0 t = fun i : S512x128.Idx => (oB o t i : EReal) := by
  funext i
  refine Eq.trans ?_ (congrFun ho _)
  blk_ext [iblk, V, idx t, row, col]

include hg in
theorem blkG (t : Fin cfg0.N) : iblk m c 1 t = fun i : S512x128.Idx => (gB g t i : EReal) := by
  funext i
  refine Eq.trans ?_ (congrFun hg _)
  blk_ext [iblk, V, idx t, row, wcol]

include hw in
theorem blkW (t : Fin cfg0.N) : iblk m c 2 t = fun i : S1x128.Idx => (wB w i : EReal) := by
  funext i
  obtain ⟨l, rfl⟩ : ∃ l, i = ix2 0 l := ⟨i 1, by blk_ext []⟩
  blk_simp [iblk]
  entry_read
  have he : ((cfg0.win 2).blk t).view.emb (ix2 0 l) = ix2 0 l := by blk_ext [idx t]
  rw [he]
  pointwise
  have := l.isLt
  split
  · exact (congrFun hw _).trans (congrArg (fun q => (w (ix1 q) : EReal)) (Fin.ext (by show l.val = l.val % 64; omega)))
  · exact (congrFun hw _).trans (congrArg (fun q => (w (ix1 q) : EReal)) (Fin.ext (by show l.val - 64 = l.val % 64; omega)))

theorem oB_pl (t : Fin cfg0.N) (r : Fin 512) (e : Fin 2) (k : Fin 64) : oB o t (ix2 r (pl e k)) = oh o (row t r) (head t e) k :=
  congrArg (fun q => o (ix2 (row t r) q)) (Fin.ext (by show t.val / 4 * 128 + (e.val * 64 + k.val) = (t.val / 4 * 2 + e.val) * 64 + k.val; omega))

theorem gB_pl (t : Fin cfg0.N) (r : Fin 512) (e : Fin 2) (k : Fin 64) : gB g t (ix2 r (pl e k)) = gh g (row t r) (head t e) k :=
  congrArg (fun q => g (ix2 (row t r) q)) (Fin.ext (by show t.val / 4 * 128 + (e.val * 64 + k.val) = (t.val / 4 * 2 + e.val) * 64 + k.val; omega))

theorem wB_pl (e : Fin 2) (k : Fin 64) : wB w (ix2 0 (pl e k)) = w (ix1 k) :=
  congrArg (fun q => w (ix1 q)) (Fin.ext (by show (e.val * 64 + k.val) % 64 = k.val; omega))

theorem dox_blk (t : Fin cfg0.N) (r : Fin 512) (e : Fin 2) (k : Fin 64) :
    dox (fun l => oB o t (ix2 r l)) (fun l => gB g t (ix2 r l)) (fun l => wB w (ix2 0 l)) (pl e k) = doh o g w (row t r) (head t e) k := by
  rw [dox_pl]
  simp only [oB_pl, gB_pl, wB_pl]
  rfl

include ho hg hw in
theorem final_do : (dats m 0 c).arrAt 3 (cfgs 0).N
    = Cert.Reference2Ideal.Read.val_main_v44 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y' => ?_
  blk_simp
  obtain ⟨r, l, rfl⟩ : ∃ r l, y' = ix2 r l := ⟨y' 0, y' 1, by blk_ext []⟩
  obtain ⟨e, k, rfl⟩ := exists_pl l
  have he : ((View.whole main_v2_0).slice (win0_3.rect t)).emb (ix2 r (pl e k)) = ix2 (row t r) (lane (head t e) k) := by
    blk_ext [idx t, row, lane, head, pl] <;> omega
  rw [he, ho, hg, hw]
  refine Eq.trans ?_ ((Cert.Reference2Ideal.Read.val_main_v44_apply _ _ _ _).trans (v40_apply o g w (row t r) (head t e) k)).symm
  refine Eq.trans (b := k0_pay13 (F := Ideal) k0_pay5 k0_pay6 (iblk m c 0 t) (iblk m c 1 t) k0_pay8 (k0_pay9 (iblk m c 0 t)) (k0_pay10 (iblk m c 0 t)) (iblk m c 2 t) (ix2 r (pl e k))) ?_ ?_
  swap
  · rw [blkO m c o ho t, blkG m c g hg t, blkW m c w hw t]
    refine (congrFun (pay12_eq (oB o t) (gB g t) (wB w)) (ix2 r (pl e k))).trans (congrArg (fun z : ℝ => (z : EReal)) (dox_blk o g w t r e k))
  by_cases h0 : t.val % 16 = 0
  · have h1 : ¬t.val % 16 = 15 := by omega
    rw [after0_3, outsAt0_A m c t h0 h1]
    frame_out
  · by_cases h1 : t.val % 16 = 15
    · rw [after0_3, outsAt0_C m c t h0 h1]
      frame_out
    · rw [after0_3, outsAt0_B m c t h0 h1]
      frame_out

theorem point_delta (t : Fin cfg0.N) (r : Fin 512) (e : Fin 2) :
    (if e.val = 0 then ∑ j, lo (fun k => dox (fun k => oB o t (ix2 r k)) (fun k => gB g t (ix2 r k)) (fun k => wB w (ix2 0 k)) k * oB o t (ix2 r k)) j
      else ∑ j, hi (fun k => dox (fun k => oB o t (ix2 r k)) (fun k => gB g t (ix2 r k)) (fun k => wB w (ix2 0 k)) k * oB o t (ix2 r k)) j)
      = ∑ k, doh o g w (row t r) (head t e) k * oh o (row t r) (head t e) k := by
  have hs : ∀ k, doh o g w (row t r) (head t e) k * oh o (row t r) (head t e) k
      = dox (fun k => oB o t (ix2 r k)) (fun k => gB g t (ix2 r k)) (fun k => wB w (ix2 0 k)) (pl e k) * oB o t (ix2 r (pl e k)) := fun k => by rw [dox_blk, oB_pl]
  rw [Finset.sum_congr rfl fun k _ => hs k]
  fin_cases e
  · rw [if_pos rfl]
    exact Finset.sum_congr rfl fun j _ => congrArg (fun q => dox (fun k => oB o t (ix2 r k)) (fun k => gB g t (ix2 r k)) (fun k => wB w (ix2 0 k)) q * oB o t (ix2 r q)) (Fin.ext (by simp [pl]))
  · rw [if_neg (by simp)]
    exact Finset.sum_congr rfl fun j _ => congrArg (fun q => dox (fun k => oB o t (ix2 r k)) (fun k => gB g t (ix2 r k)) (fun k => wB w (ix2 0 k)) q * oB o t (ix2 r q)) (Fin.ext (by simp [pl]))

include ho hg hw in
theorem final_delta : (dats m 0 c).arrAt 4 (cfgs 0).N
    = Cert.Reference2Ideal.Read.val_main_v46 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y' => ?_
  blk_simp
  obtain ⟨r, e, rfl⟩ : ∃ r e, y' = ix3 0 r e := ⟨y' 1, y' 2, by blk_ext []⟩
  have he : ((View.whole main_v2_1).slice (win0_4.rect t)).emb (ix3 0 r e) = ix3 ⟨t.val / 4, by have := lt16 t; omega⟩ (row t r) e := by blk_ext [idx t, row]
  rw [he, ho, hg, hw]
  refine Eq.trans ?_ ((v46_apply o g w ⟨t.val / 4, by have := lt16 t; omega⟩ (row t r) e).trans (congrArg (fun z : ℝ => (z : EReal)) (point_delta o g w t r e).symm)).symm
  refine Eq.trans (b := k0_pay1 (F := Ideal) (k0_pay14 k0_pay5 k0_pay6 (iblk m c 0 t) (iblk m c 1 t) k0_pay8 (k0_pay9 (iblk m c 0 t)) (k0_pay10 (iblk m c 0 t)) (iblk m c 2 t))
    (k0_pay15 k0_pay5 k0_pay6 (iblk m c 0 t) (iblk m c 1 t) k0_pay8 (k0_pay9 (iblk m c 0 t)) (k0_pay10 (iblk m c 0 t)) (iblk m c 2 t)) (Scalar.ofBits .f32 0x00000000#32) (k0_pay16 k0_pay6) (ix3 0 r e)) ?_ ?_
  swap
  · rw [blkO m c o ho t, blkG m c g hg t, blkW m c w hw t]
    exact pay1_apply (oB o t) (gB g t) (wB w) r e
  by_cases h0 : t.val % 16 = 0
  · have h1 : ¬t.val % 16 = 15 := by omega
    rw [after0_4, outsAt0_A m c t h0 h1]
    frame_out
  · by_cases h1 : t.val % 16 = 15
    · rw [after0_4, outsAt0_C m c t h0 h1]
      frame_out
    · rw [after0_4, outsAt0_B m c t h0 h1]
      frame_out

/-- What a point adds to a lane of the gain's gradient. -/
def term (t : Fin cfg0.N) (l : Fin 128) : ℝ := ∑ r, gB g t (ix2 r l) * oB o t (ix2 r l) * rh (fun k => oB o t (ix2 r k)) l

include ho hg in
theorem point_dw (t : Fin cfg0.N) (z : FVec Ideal S1x128 .f32) (l : Fin 128) :
    k0_pay3 (F := Ideal) (iblk m c 0 t) (iblk m c 1 t) (k0_pay11 k0_pay8 (k0_pay9 (iblk m c 0 t)) (k0_pay10 (iblk m c 0 t))) z (ix2 0 l) = z (ix2 0 l) + (term o g t l : EReal) := by
  rw [blkO m c o ho t, blkG m c g hg t]
  exact pay3_apply (oB o t) (gB g t) z l

include ho hg in
theorem before_last (l : Fin 128) : (outsAt0 m c 14 (by decide)).2.2 (ix2 0 l) = ((∑ p : Fin 15, term o g ⟨p.val, by have : cfg0.N = 16 := N_0; omega⟩ l : ℝ) : EReal) := by
  refine (Pipeline.eq_sum_fin_of_reset_step_apply_last (N := 15) (fun n h (l : Fin 128) => (outsAt0 m c n (lt_trans h (by decide))).2.2 (ix2 0 l)) 16 (fun _ => 0)
    (fun t l => (term o g ⟨t.val, lt_trans t.isLt (by decide)⟩ l : EReal)) (fun t h l => ?_) (fun t h l => ?_) (by decide) ⟨14, by decide⟩ rfl l).trans ?_
  · have h1 : ¬t.val % 16 = 15 := by omega
    show (outsAt0 m c t.val (lt_trans t.isLt (by decide))).2.2 (ix2 0 l) = _
    rw [outsAt0_A m c ⟨t.val, lt_trans t.isLt (by decide)⟩ h h1]
    frame_out
    exact (point_dw m c o g ho hg ⟨t.val, lt_trans t.isLt (by decide)⟩ _ l).trans (congrArg (fun z : EReal => z + _) (pay2_apply l))
  · have h1 : ¬t.val % 16 = 15 := by have := t.isLt; omega
    show (outsAt0 m c t.val (lt_trans t.isLt (by decide))).2.2 (ix2 0 l) = _
    rw [outsAt0_B m c ⟨t.val, lt_trans t.isLt (by decide)⟩ h h1]
    frame_out
    exact point_dw m c o g ho hg ⟨t.val, lt_trans t.isLt (by decide)⟩ _ l
  · rw [zero_add, coe_sum]

theorem term_pl (t : Fin cfg0.N) (e : Fin 2) (k : Fin 64) : term o g t (pl e k) = ∑ r, gh g (row t r) (head t e) k * oh o (row t r) (head t e) k * rr 64 (oh o (row t r) (head t e)) := by
  refine Finset.sum_congr rfl fun r _ => ?_
  rw [rh_pl, gB_pl, oB_pl, show (fun j => oB o t (ix2 r (pl e j))) = oh o (row t r) (head t e) from funext fun j => oB_pl o t r e j]

/-- The lane and its partner in the other half, over all the points: every row and every head. -/
theorem sum_terms (l : Fin 128) :
    (∑ p : Fin 16, term o g p l) + ∑ p : Fin 16, term o g p ⟨(l.val + 64) % 128, by omega⟩
      = ∑ r, ∑ h, oh o r h ⟨l.val % 64, by omega⟩ * rr 64 (oh o r h) * gh g r h ⟨l.val % 64, by omega⟩ := by
  obtain ⟨e, k, rfl⟩ := exists_pl l
  have hk := k.isLt
  have he : (⟨((pl e k).val + 64) % 128, by omega⟩ : Fin 128) = pl ⟨1 - e.val, by omega⟩ k := Fin.ext (by
    have := e.isLt
    show (e.val * 64 + k.val + 64) % 128 = (1 - e.val) * 64 + k.val
    interval_cases e.val <;> omega)
  have hl : (⟨(pl e k).val % 64, by omega⟩ : Fin 64) = k := Fin.ext (by show (e.val * 64 + k.val) % 64 = k.val; omega)
  rw [he, hl, ← Finset.sum_add_distrib, ← sum_pairs]
  refine Finset.sum_congr rfl fun p _ => ?_
  refine (congrArg₂ (fun y z : ℝ => y + z) (term_pl o g p e k) (term_pl o g p _ k)).trans ?_
  rw [← Finset.sum_add_distrib]
  refine Finset.sum_congr rfl fun r _ => ?_
  fin_cases e
  · show gh g (row p r) (head p 0) k * oh o (row p r) (head p 0) k * rr 64 (oh o (row p r) (head p 0)) + gh g (row p r) (head p 1) k * oh o (row p r) (head p 1) k * rr 64 (oh o (row p r) (head p 1)) =
      oh o (row p r) (head p 0) k * rr 64 (oh o (row p r) (head p 0)) * gh g (row p r) (head p 0) k + oh o (row p r) (head p 1) k * rr 64 (oh o (row p r) (head p 1)) * gh g (row p r) (head p 1) k
    ring
  · show gh g (row p r) (head p 1) k * oh o (row p r) (head p 1) k * rr 64 (oh o (row p r) (head p 1)) + gh g (row p r) (head p 0) k * oh o (row p r) (head p 0) k * rr 64 (oh o (row p r) (head p 0)) =
      oh o (row p r) (head p 0) k * rr 64 (oh o (row p r) (head p 0)) * gh g (row p r) (head p 0) k + oh o (row p r) (head p 1) k * rr 64 (oh o (row p r) (head p 1)) * gh g (row p r) (head p 1) k
    ring

include ho hg in
theorem final_dw : (dats m 0 c).arrAt 5 (cfgs 0).N
    = Cert.Reference2Ideal.Read.val_main_v48 (F := Ideal) (m ((c : Thread nD τ).loc main_arg0)) (m ((c : Thread nD τ).loc main_arg1)) := by
  refine (dats m 0 c).arrAt_eq_of_after_last 5 t0_15 (by decide +kernel) _ fun j => ?_
  blk_simp
  obtain ⟨l, rfl⟩ : ∃ l : Fin 128, j = ix2 0 l := ⟨j 1, by blk_ext []⟩
  have hlast : ∀ l : Fin 128, k0_pay3 (F := Ideal) (iblk m c 0 t0_15) (iblk m c 1 t0_15) (k0_pay11 k0_pay8 (k0_pay9 (iblk m c 0 t0_15)) (k0_pay10 (iblk m c 0 t0_15))) (outsAt0 m c 14 (by decide)).2.2 (ix2 0 l)
      = ((∑ p : Fin 16, term o g p l : ℝ) : EReal) := fun l => by
    rw [point_dw m c o g ho hg t0_15 _ l, before_last m c o g ho hg l, ← EReal.coe_add, Fin.sum_univ_castSucc (n := 15)]
    rfl
  rw [ho, hg]
  refine Eq.trans ?_ ((v48_apply o g l).trans (congrArg (fun z : ℝ => (z : EReal)) (sum_terms o g l).symm)).symm
  rw [after0_5, outsAt0_C m c t0_15 (by decide) (by decide)]
  frame_out
  refine (pay4_apply _ l).trans ?_
  exact (congrArg₂ (fun y z : EReal => y + z) (hlast l) (hlast _)).trans (EReal.coe_add _ _).symm

end final

end Cert.Kernel2Ideal.FoxNorm
-- ==== Proof.Gates.lean ====
/- The gradient of the gates: the forget gates summed along the sequence, the write strengths and the log decays. -/
module

public import Idealize.ShloMosaic.Lib.Pipeline.ValueKit
public import Idealize.ShloMosaic.Lib.Tactic
public import proofs.«01_k».proof.Proof.Gen.Kernel3Ideal.Value
public import proofs.«01_k».proof.Proof.Gen.Reference3Ideal.Read
public import proofs.«01_k».proof.Proof.Rows

@[expose] public section

noncomputable section

namespace Cert.Kernel3Ideal.Gates

open Cert.Kernel3Ideal Cert.Kernel3Ideal.Gen Idealize.ShloMosaic Idealize.ShloMosaic.TcCoe Idealize.SL.Sem Cert.Reals

/-! ## The arithmetic on reals -/

/-- The logistic function and the softplus. -/
def sg (z : ℝ) : ℝ := 1 / (1 + Real.exp (-z))
def sp (z : ℝ) : ℝ := max z 0 + Real.log (1 + Real.exp (-|z|))

theorem sg_coe (z : ℝ) : Ideal.div ((1 : ℝ) : EReal) ((1 + Real.exp (-z) : ℝ) : EReal) = (sg z : EReal) :=
  div_coe' (by positivity) 1

theorem exp_sub_sp (z : ℝ) : Real.exp (z - sp z) = sg z := by
  have hp : ∀ x : ℝ, 0 < 1 + Real.exp x := fun x => by positivity
  unfold sp sg
  rcases le_total 0 z with h | h
  · rw [max_eq_left h, abs_of_nonneg h, sub_add_eq_sub_sub, sub_self, zero_sub, Real.exp_neg, Real.exp_log (hp _), one_div]
  · rw [max_eq_right h, abs_of_nonpos h, neg_neg, zero_add, Real.exp_sub, Real.exp_log (hp _), Real.exp_neg,
      div_eq_div_iff (hp _).ne' (by positivity)]
    field_simp
    ring

theorem sg_neg (z : ℝ) : sg (-z) = 1 - sg z := by
  unfold sg
  have h : Real.exp (-z) * Real.exp z = 1 := by rw [← Real.exp_add, neg_add_cancel, Real.exp_zero]
  have h1 : (1 + Real.exp z) ≠ 0 := by positivity
  have h2 : (1 + Real.exp (-z)) ≠ 0 := by positivity
  rw [neg_neg]
  field_simp
  linear_combination -h

theorem log_coe' {x : ℝ} (h : 0 < x) : Ideal.log (x : EReal) = (Real.log x : EReal) := by
  rw [Ideal.log_coe, if_neg (not_le.mpr h)]

theorem max_coe (a b : ℝ) : max (a : EReal) (b : EReal) = ((max a b : ℝ) : EReal) :=
  (EReal.coe_strictMono.monotone.map_max).symm

theorem abs_coe (a : ℝ) : max (a : EReal) (-(a : EReal)) = ((|a| : ℝ) : EReal) := by
  rw [← EReal.coe_neg, max_coe]; rfl

theorem fold_sum {n : Nat} (g : Fin n → EReal) (v : EReal) : (List.finRange n).foldl (fun r i => r + g i) v = v + ∑ i, g i := by
  rw [← List.sum_ofFn, List.ofFn_eq_map]
  generalize List.finRange n = l
  induction l generalizing v with
  | nil => simp
  | cons a l ih => rw [List.foldl_cons, ih, List.map_cons, List.sum_cons, add_assoc]

/-- The host's sum over a window padded high by one less than the height: the sum of the entries from a row on. -/
theorem suffix_sum {h : Shape.ReduceWindows ⟨2, ![2048, 8]⟩ ![2048, 1] ![1, 1] ![0, 0] ![2047, 0] ⟨2, ![2048, 8]⟩} (v : EReal) (hv : v = 0) (x : (⟨2, ![2048, 8]⟩ : Shape).Idx → ℝ)
    (r : Fin 2048) (l : Fin 8) :
    Ideal.hostReduceWindowAdd (t := ⟨2, ![2048, 8]⟩) ![2048, 1] ![1, 1] ![0, 0] ![2047, 0] h (fun i => (x i : EReal)) v (ix2 r l)
      = ((∑ q : Fin 2048, if r ≤ q then x (ix2 q l) else 0 : ℝ) : EReal) := by
  subst hv
  unfold Ideal.hostReduceWindowAdd Host.reduceWindow
  refine (fold_sum _ _).trans ((zero_add _).trans ?_)
  refine ((Equiv.sum_comp (Shape.rowMajor ⟨2, ![2048, 1]⟩).symm (fun p : (⟨2, ![2048, 1]⟩ : Shape).Idx =>
    if hin : r.val + (p 0).val < 2048 then (x (ix2 ⟨r.val + (p 0).val, hin⟩ l) : EReal) else 0)).symm.trans ?_).symm.trans ?_
  · refine Finset.sum_congr rfl fun n _ => ?_
    obtain ⟨k, u, hp⟩ : ∃ (k : Fin 2048) (u : Fin 1), (Shape.rowMajor ⟨2, ![2048, 1]⟩).symm n = ix2 k u := ⟨_, _, eq_ix2 _⟩
    have hu : u.val = 0 := by omega
    have hl := l.isLt
    simp only [hp]
    by_cases h : r.val + k.val < 2048
    · refine (dif_pos h).trans (Eq.symm ((dif_pos fun a => ?_).trans ?_))
      · match a with
        | ⟨0, _⟩ => show 0 ≤ r.val * 1 + k.val ∧ r.val * 1 + k.val - 0 < 2048; omega
        | ⟨1, _⟩ => show 0 ≤ l.val * 1 + u.val ∧ l.val * 1 + u.val - 0 < 8; omega
      · refine congrArg (fun i => (x i : EReal)) ?_
        funext a; apply Fin.ext
        match a with
        | ⟨0, _⟩ => show r.val * 1 + k.val - 0 = r.val + k.val; omega
        | ⟨1, _⟩ => show l.val * 1 + u.val - 0 = l.val; omega
    · refine (dif_neg h).trans (Eq.symm (dif_neg fun hh => h ?_))
      have h0 : 0 ≤ r.val * 1 + k.val ∧ r.val * 1 + k.val - 0 < 2048 := hh 0
      omega
  · refine (Fintype.sum_equiv (⟨fun p => p 0, fun k => ix2 k 0, fun p => by blk_ext [], fun k => rfl⟩ : (⟨2, ![2048, 1]⟩ : Shape).Idx ≃ Fin 2048) _
      (fun k => if hin : r.val + k.val < 2048 then (x (ix2 ⟨r.val + k.val, hin⟩ l) : EReal) else 0) fun p => rfl).trans ?_
    rw [← coe_sum]
    refine Fintype.sum_equiv (Equiv.addLeft r) _ _ fun k => ?_
    have hv : (r + k).val = (r.val + k.val) % 2048 := rfl
    have hr := r.isLt
    have hk := k.isLt
    show _ = ((if r ≤ r + k then x (ix2 (r + k) l) else 0 : ℝ) : EReal)
    by_cases h : r.val + k.val < 2048
    · have e : r + k = ⟨r.val + k.val, h⟩ := Fin.ext (by rw [hv]; show _ = r.val + k.val; omega)
      rw [dif_pos h, if_pos (by rw [Fin.le_def, hv]; omega), e]
    · rw [dif_neg h, if_neg (by rw [Fin.le_def, hv]; omega)]
      rfl

section payloads
variable (s a1 a2 : S512x128.Idx → ℝ) (b v al : S1x128.Idx → ℝ)

theorem lane8 (l : Fin 128) : IntOp.cmpi .slt (BitVec.ofNat 32 l.val) 8#32 = if l.val < 8 then 1#1 else 0#1 := by
  revert l; decide +kernel

theorem lane12 (l : Fin 128) : IntOp.andi (IntOp.cmpi .sge (BitVec.ofNat 32 l.val) 8#32) (IntOp.cmpi .slt (BitVec.ofNat 32 l.val) 12#32) = if 8 ≤ l.val ∧ l.val < 12 then 1#1 else 0#1 := by
  revert l; decide +kernel

theorem lane16 (l : Fin 128) : IntOp.andi (IntOp.cmpi .sge (BitVec.ofNat 32 l.val) 12#32) (IntOp.cmpi .slt (BitVec.ofNat 32 l.val) 16#32) = if 12 ≤ l.val ∧ l.val < 16 then 1#1 else 0#1 := by
  revert l; decide +kernel

theorem lane4 (l : Fin 128) : IntOp.andi (IntOp.cmpi .sge (BitVec.ofNat 32 ((l.val + 128 - 116) % 128)) 12#32) (IntOp.cmpi .slt (BitVec.ofNat 32 ((l.val + 128 - 116) % 128)) 16#32) = if l.val < 4 then 1#1 else 0#1 := by
  revert l; decide +kernel

/-- The lane a row is moved from. -/
def from12 (l : Fin 128) : Fin 128 := ⟨(l.val + 128 - 116) % 128, Nat.mod_lt _ (by norm_num)⟩

theorem upper (q r : Fin 512) : (FloatOps.sitofp (F := Ideal) FTy.f32 (BitVec.setWidth 32 (IntOp.cmpi .sge (BitVec.ofNat 32 q.val) (BitVec.ofNat 32 r.val))) : EReal)
    = if r ≤ q then 1 else 0 := by
  have hq := q.isLt
  have hr := r.isLt
  have e : IntOp.cmpi .sge (BitVec.ofNat 32 q.val) (BitVec.ofNat 32 r.val) = if r ≤ q then 1#1 else 0#1 := by
    rw [WordCmp.cmpi_sge_ofNat (by omega) (by omega)]
    by_cases h : r ≤ q
    · have h' : r.val ≤ q.val := h
      rw [if_pos h, decide_eq_true h']; rfl
    · have h' : ¬r.val ≤ q.val := h
      rw [if_neg h, decide_eq_false h']; rfl
  have h1 : (BitVec.setWidth 32 1#1).toInt = 1 := by decide
  have h0 : (BitVec.setWidth 32 0#1).toInt = 0 := by decide
  rw [e]
  split
  · refine (congrArg (fun n : Int => ((n : ℝ) : EReal)) h1).trans ?_
    norm_num
  · refine (congrArg (fun n : Int => ((n : ℝ) : EReal)) h0).trans ?_
    norm_num

theorem upper_mul (q r : Fin 512) (x : ℝ) : (FloatOps.sitofp (F := Ideal) FTy.f32 (BitVec.setWidth 32 (IntOp.cmpi .sge (BitVec.ofNat 32 q.val) (BitVec.ofNat 32 r.val))) : EReal) * (x : EReal)
    = ((if r ≤ q then x else 0 : ℝ) : EReal) := by
  rw [upper]
  split
  · exact one_mul _
  · exact zero_mul _

theorem sel0 {p : Prop} [Decidable p] (x : ℝ) : Scalar.select (if p then 1#1 else 0#1) (x : EReal) 0 = ((if p then x else 0 : ℝ) : EReal) :=
  select_ite x 0

theorem pay7_eq : k0_pay7 (F := Ideal) (fun i => (s i : EReal)) (fun i => (b i : EReal)) = fun i : S512x128.Idx => ((s i + b (ix2 0 (i 1)) : ℝ) : EReal) := by
  funext i
  obtain ⟨r, l, rfl⟩ : ∃ r l, i = ix2 r l := ⟨i 0, i 1, by blk_ext []⟩
  pointwise [k0_pay7, ← EReal.coe_add]

theorem pay8_eq : k0_pay8 (F := Ideal) (fun i => (a1 i : EReal)) (fun i => (a2 i : EReal)) = fun i : S512x128.Idx => ((a1 i + a2 i : ℝ) : EReal) := by
  funext i
  obtain ⟨r, l, rfl⟩ : ∃ r l, i = ix2 r l := ⟨i 0, i 1, by blk_ext []⟩
  pointwise [k0_pay8, ← EReal.coe_add]

/-- The sums from a row of a block on, over what the rows after the block add to. -/
def suf (d : S512x128.Idx → ℝ) (v : S1x128.Idx → ℝ) (i : S512x128.Idx) : ℝ := (∑ q : Fin 512, if i 0 ≤ q then d (ix2 q (i 1)) else 0) + v (ix2 0 (i 1))

theorem pay9_eq (d : S512x128.Idx → ℝ) (h : k0_pay8 (F := Ideal) (fun i => (a1 i : EReal)) (fun i => (a2 i : EReal)) = fun i => (d i : EReal)) :
    k0_pay9 (F := Ideal) (fun i => (a1 i : EReal)) (fun i => (a2 i : EReal)) (fun i => (v i : EReal)) = fun i : S512x128.Idx => (suf d v i : EReal) := by
  funext i
  obtain ⟨r, l, rfl⟩ : ∃ r l, i = ix2 r l := ⟨i 0, i 1, by blk_ext []⟩
  unfold k0_pay9
  rw [h]
  pointwise [upper_mul, coe_sum, ← EReal.coe_add]
  rfl

theorem pay10_eq (d : S512x128.Idx → ℝ) (h : k0_pay8 (F := Ideal) (fun i => (a1 i : EReal)) (fun i => (a2 i : EReal)) = fun i => (d i : EReal)) :
    k0_pay10 (F := Ideal) (fun i => (a1 i : EReal)) (fun i => (a2 i : EReal)) (fun i => (v i : EReal)) = fun i : S1x128.Idx => (suf d v (ix2 0 (i 1)) : EReal) := by
  funext i
  obtain ⟨u, l, rfl⟩ : ∃ u l, i = ix2 u l := ⟨i 0, i 1, by blk_ext []⟩
  obtain rfl : u = 0 := Subsingleton.elim _ _
  unfold k0_pay10
  rw [pay9_eq a1 a2 v d h]
  pointwise

theorem pay11_eq (z : S512x128.Idx → ℝ) (h : k0_pay7 (F := Ideal) (fun i => (s i : EReal)) (fun i => (b i : EReal)) = fun i => (z i : EReal)) :
    k0_pay11 (F := Ideal) (fun i => (s i : EReal)) (fun i => (b i : EReal)) = fun i : S512x128.Idx => (sg (z i) : EReal) := by
  funext i
  obtain ⟨r, l, rfl⟩ : ∃ r l, i = ix2 r l := ⟨i 0, i 1, by blk_ext []⟩
  pointwise [k0_pay11, h, lit_1, zero_sub, ← EReal.coe_neg, Ideal.exp_coe, ← EReal.coe_add, sg_coe]

theorem pay12_eq : k0_pay12 (F := Ideal) (fun i => (al i : EReal)) = fun i : S1x128.Idx => (Real.exp (al i) : EReal) := by
  funext i
  obtain ⟨u, l, rfl⟩ : ∃ u l, i = ix2 u l := ⟨i 0, i 1, by blk_ext []⟩
  pointwise [k0_pay12, Ideal.exp_coe]

variable (d S y z : S512x128.Idx → ℝ) (w : S1x128.Idx → ℝ)

/-- The gradient of the sixteen columns: `d` the cotangent, `S` its sums from a row on, `y` the logistic function of the column, `w` the decays' rates. -/
def ds (d S y w : ℝ) (l : Fin 128) : ℝ :=
  if l.val < 8 then S * (1 - y) else if l.val < 12 then d * y * (1 - y) else if l.val < 16 then d * (-w) * y else 0

theorem pay16_eq : k0_pay16 (F := Ideal) (fun i => (d i : EReal)) (fun i => (S i : EReal)) (fun i => (y i : EReal)) (fun i => (w i : EReal))
    = fun i : S512x128.Idx => (ds (d i) (S i) (y i) (w (ix2 0 (i 1))) (i 1) : EReal) := by
  funext i
  obtain ⟨r, l, rfl⟩ : ∃ r l, i = ix2 r l := ⟨i 0, i 1, by blk_ext []⟩
  pointwise [k0_pay16, k0_pay13, k0_pay14, k0_pay15, lit_1, zero_sub, ← EReal.coe_neg, ← EReal.coe_add, ← EReal.coe_sub, ← EReal.coe_mul, lane8, lane12, lane16, sel0, select_ite]
  refine congrArg (fun z : ℝ => (z : EReal)) ?_
  unfold ds
  split_ifs <;> first | rfl | omega

theorem pay2_apply (R : S1x128.Idx → EReal) (l : Fin 128) : k0_pay2 (F := Ideal) k0_pay14 (fun i => (y i : EReal)) R (ix2 0 l)
    = R (ix2 0 l) + ((if l.val < 8 then ∑ r, y (ix2 r l) else 0 : ℝ) : EReal) := by
  pointwise [k0_pay2, k0_pay1, k0_pay14, coe_sum, lane8, sel0]

theorem pay3_apply (R : S1x128.Idx → EReal) (l : Fin 128) : k0_pay3 (F := Ideal) k0_pay15 (fun i => (y i : EReal)) R (ix2 0 l)
    = R (ix2 0 l) + ((if l.val < 4 then ∑ r, y (ix2 r (from12 l)) else 0 : ℝ) : EReal) := by
  pointwise [k0_pay3, k0_pay1, k0_pay15, coe_sum, lane4, sel0]
  rfl

theorem sp_coe (z : ℝ) : max (z : EReal) 0 + Ideal.log (((1 : ℝ) : EReal) + Ideal.exp (-((max (z : EReal) (-(z : EReal)))))) = (sp z : EReal) := by
  rw [abs_coe, ← EReal.coe_neg, Ideal.exp_coe, ← EReal.coe_add, log_coe' (by positivity), ← EReal.coe_zero, max_coe, ← EReal.coe_add]
  rfl

theorem pay4_apply (R : S1x128.Idx → EReal) (l : Fin 128) : k0_pay4 (F := Ideal) k0_pay15 (k0_pay19 (fun i => (d i : EReal)) (fun i => (w i : EReal))) (k0_pay20 (fun i => (z i : EReal))) (k0_pay21 (fun i => (z i : EReal))) (Scalar.ofBits .f32 0x3F800000#32) R (ix2 0 l)
    = R (ix2 0 l) + ((∑ r, if l.val < 4 then d (ix2 r (from12 l)) * (-w (ix2 0 (from12 l))) * sp (z (ix2 r (from12 l))) else 0 : ℝ) : EReal) := by
  pointwise [k0_pay4, k0_pay15, k0_pay19, k0_pay13, k0_pay20, k0_pay21, lit_1, zero_sub, lane4]
  rw [← coe_sum]
  refine congrArg (fun z => R (ix2 0 l) + z) (Finset.sum_congr rfl fun r _ => ?_)
  rw [← sel0, EReal.coe_mul, EReal.coe_mul, EReal.coe_neg, ← sp_coe]
  rfl

end payloads

section reference
open Cert.Reference3Ideal.Read

variable (ff : Cert.Reference3Ideal.S2048x8.Idx → ℝ) (gb ga : Cert.Reference3Ideal.S2048x4.Idx → ℝ) (fb : Cert.Reference3Ideal.S8.Idx → ℝ) (al dt : Cert.Reference3Ideal.S4.Idx → ℝ)
  (dc : Cert.Reference3Ideal.S2048x8.Idx → ℝ) (db dg : Cert.Reference3Ideal.S2048x4.Idx → ℝ)

theorem r_softplus (r : Fin 2048) (l : Fin 4) : val_main_v18_0 (F := Ideal) (fun i => (ga i : EReal)) (fun i => (dt i : EReal)) (ix2 r l) = (sp (ga (ix2 r l) + dt (ix1 l)) : EReal) := by
  pointwise [val_main_v18_0, val_main_call1_v11, val_main_call1_v10, val_main_call1_v9, val_main_call1_v8, val_main_call1_v7, val_main_call1_v6, val_main_call1_v5, val_main_call1_v4, val_main_call1_v3, val_main_call1_v2, val_main_call1_v1, val_main_call1_v0, val_main_call1_cst, val_main_v17, val_main_v16, val_main_v15]
  rw [if_neg (not_not.mpr rfl), ← EReal.coe_add]
  exact sp_coe _

theorem r_sig (r : Fin 2048) (l : Fin 4) : val_main_v18_1 (F := Ideal) (fun i => (ga i : EReal)) (fun i => (dt i : EReal)) (ix2 r l) = (sg (ga (ix2 r l) + dt (ix1 l)) : EReal) := by
  pointwise [val_main_v18_1, val_main_call1_v21, val_main_call1_v20, val_main_call1_v19, val_main_call1_cst_3, val_main_call1_v18, val_main_call1_v17, val_main_call1_cst_2, val_main_call1_v16, val_main_call1_v15, val_main_call1_cst_1, val_main_call1_v14, val_main_call1_v13, val_main_call1_cst_0, r_softplus, val_main_v17, val_main_v16, val_main_v15]
  rw [← EReal.coe_add, ofBits_inf, if_neg (EReal.coe_ne_top _), if_neg (EReal.coe_ne_top _), ← EReal.coe_sub, Ideal.exp_coe, exp_sub_sp]

theorem r_fox (r : Fin 2048) (l : Fin 8) : val_main_call0_v1_0 (F := Ideal) (fun i => (ff i : EReal)) (fun i => (fb i : EReal)) (ix2 r l) = (sp (-(ff (ix2 r l) + fb (ix1 l))) : EReal) := by
  pointwise [val_main_call0_v1_0, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0, val_main_v2, val_main_v1, val_main_v0]
  rw [if_neg (not_not.mpr rfl), ← EReal.coe_add, ← EReal.coe_neg]
  exact sp_coe _

theorem r_foxsig (r : Fin 2048) (l : Fin 8) : val_main_v3_1 (F := Ideal) (fun i => (ff i : EReal)) (fun i => (fb i : EReal)) (ix2 r l) = ((1 - sg (ff (ix2 r l) + fb (ix1 l)) : ℝ) : EReal) := by
  pointwise [val_main_v3_1, val_main_call0_call0_v21, val_main_call0_call0_v20, val_main_call0_call0_v19, val_main_call0_call0_cst_3, val_main_call0_call0_v18, val_main_call0_call0_v17, val_main_call0_call0_cst_2, val_main_call0_call0_v16, val_main_call0_call0_v15, val_main_call0_call0_cst_1, val_main_call0_call0_v14, val_main_call0_call0_v13, val_main_call0_call0_cst_0, r_fox, val_main_call0_v0, val_main_v2, val_main_v1, val_main_v0]
  rw [← EReal.coe_add, ← EReal.coe_neg, ofBits_inf, if_neg (EReal.coe_ne_top _), if_neg (EReal.coe_ne_top _), ← EReal.coe_sub, Ideal.exp_coe, exp_sub_sp, sg_neg]

/-- The columns' gradients. -/
def gF (r : Fin 2048) (l : Fin 8) : ℝ := (∑ q : Fin 2048, if r ≤ q then dc (ix2 q l) else 0) * (1 - sg (ff (ix2 r l) + fb (ix1 l)))
def gB (r : Fin 2048) (l : Fin 4) : ℝ := db (ix2 r l) * sg (gb (ix2 r l)) * (1 - sg (gb (ix2 r l)))
def gG (r : Fin 2048) (l : Fin 4) : ℝ := dg (ix2 r l) * (-Real.exp (al (ix1 l))) * sg (ga (ix2 r l) + dt (ix1 l))

theorem r_suffix (r : Fin 2048) (l : Fin 8) : val_main_v23 (F := Ideal) (fun i => (dc i : EReal)) (ix2 r l) = ((∑ q : Fin 2048, if r ≤ q then dc (ix2 q l) else 0 : ℝ) : EReal) := by
  unfold val_main_v23 Host.reduceWindowAdd
  rw [Ideal.hostReduceWindowAdd_def]
  refine suffix_sum _ ?_ dc r l
  pointwise [val_main_call3_call0_v0, val_main_call3_call0_cst]

theorem r_dff : val_main_v37 (F := Ideal) (fun i => (ff i : EReal)) (fun i => (fb i : EReal)) (fun i => (dc i : EReal)) = fun i : Cert.Reference3Ideal.S2048x8.Idx => (gF ff fb dc (i 0) (i 1) : EReal) := by
  funext i
  obtain ⟨r, l, rfl⟩ : ∃ r l, i = ix2 r l := ⟨i 0, i 1, by blk_ext []⟩
  have h := r_suffix dc r l
  pointwise [val_main_v37, val_main_call5_v1, val_main_call5_v0, r_foxsig]
  rw [h]
  simp only [← EReal.coe_neg, ← EReal.coe_mul]
  refine congrArg (fun z : ℝ => (z : EReal)) ?_
  unfold gF
  ring

theorem r_dgb : val_main_v36 (F := Ideal) (fun i => (gb i : EReal)) (fun i => (db i : EReal)) = fun i : Cert.Reference3Ideal.S2048x4.Idx => (gB gb db (i 0) (i 1) : EReal) := by
  funext i
  obtain ⟨r, l, rfl⟩ : ∃ r l, i = ix2 r l := ⟨i 0, i 1, by blk_ext []⟩
  pointwise [val_main_v36, val_main_v12, val_main_v11, val_main_v10, val_main_cst_1, val_main_v9, val_main_v8, val_main_cst_0, val_main_v7, val_main_v6, val_main_cst, val_main_v5, val_main_v4, lit_1, ← EReal.coe_neg, Ideal.exp_coe, ← EReal.coe_add, sg_coe, ← EReal.coe_sub, ← EReal.coe_mul]
  exact congrArg (fun z : ℝ => (z : EReal)) (mul_assoc _ _ _).symm

theorem r_dga : val_main_v30 (F := Ideal) (fun i => (ga i : EReal)) (fun i => (al i : EReal)) (fun i => (dt i : EReal)) (fun i => (dg i : EReal)) = fun i : Cert.Reference3Ideal.S2048x4.Idx => (gG ga al dt dg (i 0) (i 1) : EReal) := by
  funext i
  obtain ⟨r, l, rfl⟩ : ∃ r l, i = ix2 r l := ⟨i 0, i 1, by blk_ext []⟩
  pointwise [val_main_v30, r_sig, val_main_v25, val_main_v24, val_main_v19, val_main_v14, val_main_v13, Ideal.exp_coe, ← EReal.coe_neg, ← EReal.coe_mul]
  refine congrArg (fun z : ℝ => (z : EReal)) ?_
  unfold gG
  ring

theorem r_dfb (l : Fin 8) : val_main_v40 (F := Ideal) (fun i => (ff i : EReal)) (fun i => (fb i : EReal)) (fun i => (dc i : EReal)) (ix1 l) = ((∑ r, gF ff fb dc r l : ℝ) : EReal) := by
  pointwise [val_main_v40, val_main_cst_7, val_main_v39, val_main_v38, val_main_cst_6, r_dff, coe_sum, Fin.sum_univ_one]

theorem r_ddt (l : Fin 4) : val_main_v33 (F := Ideal) (fun i => (ga i : EReal)) (fun i => (al i : EReal)) (fun i => (dt i : EReal)) (fun i => (dg i : EReal)) (ix1 l) = ((∑ r, gG ga al dt dg r l : ℝ) : EReal) := by
  pointwise [val_main_v33, val_main_cst_5, val_main_v32, val_main_v31, val_main_cst_4, r_dga, coe_sum, Fin.sum_univ_one]

/-- What the decays' rates sum. -/
def gA (r : Fin 2048) (l : Fin 4) : ℝ := dg (ix2 r l) * (-Real.exp (al (ix1 l))) * sp (ga (ix2 r l) + dt (ix1 l))

theorem r_dal (l : Fin 4) : val_main_v35 (F := Ideal) (fun i => (ga i : EReal)) (fun i => (al i : EReal)) (fun i => (dt i : EReal)) (fun i => (dg i : EReal)) (ix1 l) = ((∑ r, gA ga al dt dg r l : ℝ) : EReal) := by
  pointwise [val_main_v35, val_main_v34, val_main_v29, val_main_cst_3, val_main_v28, val_main_v27, val_main_cst_2, val_main_v26, r_softplus, val_main_v13, Ideal.exp_coe, ← EReal.coe_mul, coe_sum, Fin.sum_univ_one, ← EReal.coe_neg]
  refine congrArg (fun z : ℝ => (z : EReal)) ?_
  unfold gA
  rw [neg_mul, Finset.sum_mul, ← Finset.sum_neg_distrib]
  exact Finset.sum_congr rfl fun r _ => by ring

/-- The sixteen columns. -/
def cols (r : Fin 2048) (j : Nat) : ℝ :=
  if h : j < 16 then (if h1 : j < 8 then gF ff fb dc r ⟨j, h1⟩ else if h2 : j - 8 < 4 then gB gb db r ⟨j - 8, h2⟩ else gG ga al dt dg r ⟨j - 8 - 4, by omega⟩) else 0

theorem z0 : (FloatOps.sitofp (F := Ideal) FTy.f32 0#32 : EReal) = ((0 : ℝ) : EReal) := by
  refine (congrArg (fun n : Int => ((n : ℝ) : EReal)) (by decide : (0#32).toInt = 0)).trans ?_
  norm_num

theorem v52_apply (y : (⟨S2048x3840, .bf16⟩ : BufTy).Contents (Elt Ideal)) (r : Fin 2048) (q : Fin 3840) :
    val_main_v52 (F := Ideal) (fun i => (ff i : EReal)) (fun i => (gb i : EReal)) (fun i => (ga i : EReal)) (fun i => (fb i : EReal)) (fun i => (al i : EReal)) (fun i => (dt i : EReal)) (fun i => (dc i : EReal)) (fun i => (db i : EReal)) (fun i => (dg i : EReal)) y (ix2 r q)
      = if q.val < 3584 then y (ix2 r q) else (cols ff gb ga fb al dt dc db dg r (q.val - 3584) : EReal) := by
  have hq := q.isLt
  pointwise [val_main_v52, val_main_v51, val_main_v50, val_main_v42, val_main_v41, val_main_call6_v0, val_main_c, r_dff, r_dgb, r_dga]
  unfold cols
  split_ifs <;> first | rfl | exact z0

/-- The three rows of sums. -/
def sums (k : Nat) (l : Fin 128) : ℝ :=
  if k < 3 then (if k < 1 then (if h : l.val < 8 then ∑ r, gF ff fb dc r ⟨l.val, h⟩ else 0)
    else if k - 1 < 1 then (if h : l.val < 4 then ∑ r, gG ga al dt dg r ⟨l.val, h⟩ else 0)
    else if h : l.val < 4 then ∑ r, gA ga al dt dg r ⟨l.val, h⟩ else 0) else 0

theorem v53_apply (k : Fin 8) (l : Fin 128) :
    val_main_v53 (F := Ideal) (fun i => (ff i : EReal)) (fun i => (ga i : EReal)) (fun i => (fb i : EReal)) (fun i => (al i : EReal)) (fun i => (dt i : EReal)) (fun i => (dc i : EReal)) (fun i => (dg i : EReal)) (ix2 k l)
      = (sums ff ga fb al dt dc dg k.val l : EReal) := by
  pointwise [val_main_v53, val_main_v49, val_main_v48, val_main_v47, val_main_v46, val_main_v45, val_main_v44, val_main_v43, val_main_call10_v0, val_main_c_11, val_main_call9_v0, val_main_c_10, val_main_call8_v0, val_main_c_9, val_main_call7_v0, val_main_c_8, r_dfb, r_ddt, r_dal]
  unfold sums
  split_ifs <;> first | rfl | exact z0

end reference

end Cert.Kernel3Ideal.Gates
-- ==== Proof.GatesEntry.lean ====
/- The gradient of the gates: what the kernel's arrays hold after its run. -/
module

public import proofs.«01_k».proof.Proof.Gates

@[expose] public section

noncomputable section

namespace Cert.Kernel3Ideal.Gates

open Cert.Kernel3Ideal Cert.Kernel3Ideal.Gen Idealize.ShloMosaic Idealize.ShloMosaic.TcCoe Idealize.SL.Sem Cert.Reals

variable (m : (ℓ : Loc nD τ sig) → Buf (Elt Ideal) ℓ)

theorem idx : ∀ t : Fin cfg0.N, win0_0.index t = ![3 - t.val, 28] ∧ win0_1.index t = ![0, 0] ∧ win0_2.index t = ![0, 0] ∧ win0_3.index t = ![3 - t.val, 0]
    ∧ win0_4.index t = ![3 - t.val, 0] ∧ win0_5.index t = ![3 - t.val, 14] ∧ win0_6.index t = ![0, 0] ∧ (grid0.coords t 0).val = t.val :=
  (by decide +kernel : ∀ t : Fin grid0.N, _)

section final
variable (c : Dev nD)

theorem entry_v11 : V m c main_v11_0 = m ((c : Thread nD τ).loc main_arg9) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  rfl

theorem entry_v10 : V m c main_v10
    = pad S2048x128 ![0, 0] ![0, 120] ![0, 0] (m ((c : Thread nD τ).loc main_arg6) : S2048x8.Idx → EReal) (sitofp (F := Ideal) .f32 (constantI S_ 32 0#32)) pads_S2048x8_S2048x128_000_01200 h_S_ := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  rfl

theorem entry_v9 : V m c main_v9
    = pad S2048x128 ![0, 8] ![0, 112] ![0, 0] (concatenate S2048x8 1 [⟨S2048x4, (m ((c : Thread nD τ).loc main_arg7) : S2048x4.Idx → EReal)⟩, ⟨S2048x4, (m ((c : Thread nD τ).loc main_arg8) : S2048x4.Idx → EReal)⟩] concatenates_S2048x4_S2048x4_S2048x8_d1) (sitofp (F := Ideal) .f32 (constantI S_ 32 0#32)) pads_S2048x8_S2048x128_000_81120 h_S_ := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  rfl

theorem entry_v1 : V m c main_v1
    = pad S2048x3840 ![0, 3584] ![0, 240] ![0, 0] (concatenate S2048x16 1 [⟨S2048x8, (m ((c : Thread nD τ).loc main_arg0) : S2048x8.Idx → EReal)⟩, ⟨S2048x4, (m ((c : Thread nD τ).loc main_arg1) : S2048x4.Idx → EReal)⟩, ⟨S2048x4, (m ((c : Thread nD τ).loc main_arg2) : S2048x4.Idx → EReal)⟩] concatenates_S2048x8_S2048x4_S2048x4_S2048x16_d1) (sitofp (F := Ideal) .f32 (constantI S_ 32 0#32)) pads_S2048x16_S2048x3840_000_35842400 h_S_ := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  rfl

theorem entry_v7 : V m c main_v7 = shapeCast S1x128 (pad S128 ![12] ![112] ![0] (m ((c : Thread nD τ).loc main_arg4) : S4.Idx → EReal) (sitofp (F := Ideal) .f32 (constantI S_ 32 0#32)) pads_S4_S128_121120 h_S_) shapeCasts_S128_S1x128 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  rfl

theorem entry_v5 : V m c main_v5
    = shapeCast S1x128 (concatenate S128 0 [⟨S8, (m ((c : Thread nD τ).loc main_arg3) : S8.Idx → EReal)⟩, ⟨S4, (broadcastInDim S4 ![] bcast_S_S4 (constant (F := Ideal) S_ .f32 0x00000000#32) : S4.Idx → EReal)⟩, ⟨S4, (m ((c : Thread nD τ).loc main_arg5) : S4.Idx → EReal)⟩, ⟨S112, (broadcastInDim S112 ![] bcast_S_S112 (constant (F := Ideal) S_ .f32 0x00000000#32) : S112.Idx → EReal)⟩] concatenates_S8_S4_S4_S112_S128_d0) shapeCasts_S128_S1x128 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  simp (disch := decide) only [StableHlo.after_cons, StableHlo.after_nil, StableHlo.reshape_result', StableHlo.nary4_result', StableHlo.nary_result_ne', StableHlo.unary_result', StableHlo.unary_result_ne', StableHlo.nullary_result', StableHlo.nullary_result_ne', StableHlo.binary_result_ne', StableHlo.reshape_result_ne']
  rfl

end final
end Cert.Kernel3Ideal.Gates
-- ==== Proof.GatesBlocks.lean ====
/- The gradient of the gates: what the kernel's arrays hold after its run. -/
module

public import proofs.«01_k».proof.Proof.GatesEntry

@[expose] public section

noncomputable section

namespace Cert.Kernel3Ideal.Gates

open Cert.Kernel3Ideal Cert.Kernel3Ideal.Gen Idealize.ShloMosaic Idealize.ShloMosaic.TcCoe Idealize.SL.Sem Cert.Reals

variable (m : (ℓ : Loc nD τ sig) → Buf (Elt Ideal) ℓ)

theorem lt4 (t : Fin cfg0.N) : t.val < 4 := lt_of_lt_of_eq t.isLt N_0

/-- The row of the sequence that row `r` of the block at point `t` is: the blocks come last to first. -/
def row (t : Fin cfg0.N) (r : Fin 512) : Fin 2048 := ⟨(3 - t.val) * 512 + r.val, by have := r.isLt; have := lt4 t; omega⟩

section final
variable (c : Dev nD)
variable (ff : S2048x8.Idx → ℝ) (gb ga : S2048x4.Idx → ℝ) (fb : S8.Idx → ℝ) (al dt : S4.Idx → ℝ) (dc : S2048x8.Idx → ℝ) (db dg : S2048x4.Idx → ℝ)

/-- The sixteen columns the gates read, the biases and the rates of their lanes, and what their gradients start from. -/
def zP (r : Fin 2048) (l : Fin 128) : ℝ :=
  if h : l.val < 16 then (if h1 : l.val < 8 then ff (ix2 r ⟨l.val, h1⟩) else if h2 : l.val - 8 < 4 then gb (ix2 r ⟨l.val - 8, h2⟩) else ga (ix2 r ⟨l.val - 8 - 4, by omega⟩)) else 0
def zB (l : Fin 128) : ℝ :=
  if h1 : l.val < 8 then fb (ix1 ⟨l.val, h1⟩) else if h2 : l.val - 8 < 4 then 0 else if h3 : l.val - 8 - 4 < 4 then dt (ix1 ⟨l.val - 8 - 4, h3⟩) else 0
def zA (l : Fin 128) : ℝ := if h : 12 ≤ l.val ∧ l.val < 16 then al (ix1 ⟨l.val - 12, by omega⟩) else 0
def zG (r : Fin 2048) (l : Fin 128) : ℝ :=
  if h : 8 ≤ l.val ∧ l.val - 8 < 8 then (if h1 : l.val - 8 < 4 then db (ix2 r ⟨l.val - 8, h1⟩) else dg (ix2 r ⟨l.val - 8 - 4, by omega⟩)) else 0
def zC (r : Fin 2048) (l : Fin 128) : ℝ := if h : l.val < 8 then dc (ix2 r ⟨l.val, h⟩) else 0

variable (h0 : m ((c : Thread nD τ).loc main_arg0) = fun i : S2048x8.Idx => (ff i : EReal)) (h1 : m ((c : Thread nD τ).loc main_arg1) = fun i : S2048x4.Idx => (gb i : EReal))
  (h2 : m ((c : Thread nD τ).loc main_arg2) = fun i : S2048x4.Idx => (ga i : EReal)) (h3 : m ((c : Thread nD τ).loc main_arg3) = fun i : S8.Idx => (fb i : EReal))
  (h4 : m ((c : Thread nD τ).loc main_arg4) = fun i : S4.Idx => (al i : EReal)) (h5 : m ((c : Thread nD τ).loc main_arg5) = fun i : S4.Idx => (dt i : EReal))
  (h6 : m ((c : Thread nD τ).loc main_arg6) = fun i : S2048x8.Idx => (dc i : EReal)) (h7 : m ((c : Thread nD τ).loc main_arg7) = fun i : S2048x4.Idx => (db i : EReal))
  (h8 : m ((c : Thread nD τ).loc main_arg8) = fun i : S2048x4.Idx => (dg i : EReal))

include h6 in
theorem blk4 (t : Fin cfg0.N) : iblk m c 4 t = fun i : S512x128.Idx => (zC dc (row t (i 0)) (i 1) : EReal) := by
  funext i
  obtain ⟨r, l, rfl⟩ : ∃ r l, i = ix2 r l := ⟨i 0, i 1, by blk_ext []⟩
  blk_simp [iblk]
  have he : ((cfg0.win 4).blk t).view.emb (ix2 r l) = ix2 (row t r) l := by blk_ext [idx t, row]
  rw [he, entry_v10, h6]
  have hr := (row t r).isLt
  pointwise [z0]
  unfold zC
  by_cases h : l.val < 8
  · rw [dif_pos h]
    refine (dif_pos fun a => ?_).trans ?_
    · match a with
      | ⟨0, _⟩ => show 0 ≤ (row t r).val ∧ ((row t r).val - 0) % 1 = 0 ∧ ((row t r).val - 0) / 1 < 2048; omega
      | ⟨1, _⟩ => show 0 ≤ l.val ∧ (l.val - 0) % 1 = 0 ∧ (l.val - 0) / 1 < 8; omega
    · rfl
  · rw [dif_neg h]
    refine dif_neg fun a => ?_
    have ha : 0 ≤ l.val ∧ (l.val - 0) % 1 = 0 ∧ (l.val - 0) / 1 < 8 := a 1
    omega

include h7 h8 in
theorem blk3 (t : Fin cfg0.N) : iblk m c 3 t = fun i : S512x128.Idx => (zG db dg (row t (i 0)) (i 1) : EReal) := by
  funext i
  obtain ⟨r, l, rfl⟩ : ∃ r l, i = ix2 r l := ⟨i 0, i 1, by blk_ext []⟩
  blk_simp [iblk]
  have he : ((cfg0.win 3).blk t).view.emb (ix2 r l) = ix2 (row t r) l := by blk_ext [idx t, row]
  rw [he, entry_v9, h7, h8]
  pointwise [z0]
  unfold zG
  split_ifs <;> rfl

include h0 h1 h2 in
theorem blk0 (t : Fin cfg0.N) : iblk m c 0 t = fun i : S512x128.Idx => (zP ff gb ga (row t (i 0)) (i 1) : EReal) := by
  funext i
  obtain ⟨r, l, rfl⟩ : ∃ r l, i = ix2 r l := ⟨i 0, i 1, by blk_ext []⟩
  blk_simp [iblk]
  have he : ((cfg0.win 0).blk t).view.emb (ix2 r l) = ix2 (row t r) ⟨3584 + l.val, by omega⟩ := by blk_ext [idx t, row]
  rw [he, entry_v1, h0, h1, h2]
  pointwise [z0]
  unfold zP
  split_ifs <;> rfl

include h3 h5 in
theorem blk1 (t : Fin cfg0.N) : iblk m c 1 t = fun i : S1x128.Idx => (zB fb dt (i 1) : EReal) := by
  funext i
  obtain ⟨r, l, rfl⟩ : ∃ r l, i = ix2 r l := ⟨i 0, i 1, by blk_ext []⟩
  blk_simp [iblk]
  have he : ((cfg0.win 1).blk t).view.emb (ix2 r l) = ix2 r l := by blk_ext [idx t, row]
  rw [he, entry_v5, h3, h5]
  pointwise [z0]
  unfold zB
  split_ifs <;> rfl

include h4 in
theorem blk2 (t : Fin cfg0.N) : iblk m c 2 t = fun i : S1x128.Idx => (zA al (i 1) : EReal) := by
  funext i
  obtain ⟨r, l, rfl⟩ : ∃ r l, i = ix2 r l := ⟨i 0, i 1, by blk_ext []⟩
  blk_simp [iblk]
  have he : ((cfg0.win 2).blk t).view.emb (ix2 r l) = ix2 r l := by blk_ext [idx t, row]
  rw [he, entry_v7, h4]
  pointwise [z0]
  unfold zA
  by_cases h : 12 ≤ l.val ∧ l.val < 16
  · rw [dif_pos h]
    exact dif_pos fun a => match a with | ⟨0, _⟩ => ⟨h.1, show l.val - 12 < 4 by omega⟩
  · rw [dif_neg h]
    refine dif_neg fun a => ?_
    have ha : 12 ≤ l.val ∧ l.val - 12 < 4 := a 0
    omega

/-- The gates' arguments and what their gradients start from, and the sums of the latter from a row on. -/
def zZ (r : Fin 2048) (l : Fin 128) : ℝ := zP ff gb ga r l + zB fb dt l
def zD (r : Fin 2048) (l : Fin 128) : ℝ := zG db dg r l + zC dc r l
def tail (f : Fin 2048 → ℝ) (n : Nat) : ℝ := ∑ q : Fin 2048, if n ≤ q.val then f q else 0

theorem tail_eq (f : Fin 2048 → ℝ) (n : Nat) : tail f n = ∑ q ∈ Finset.Ico n 2048, (if h : q < 2048 then f ⟨q, h⟩ else 0) := by
  have e := Fin.sum_univ_eq_sum_range (fun q => if n ≤ q then (if h : q < 2048 then f ⟨q, h⟩ else 0) else 0) 2048
  unfold tail
  refine Eq.trans (Finset.sum_congr rfl fun q _ => ?_) (e.trans ?_)
  · simp only [q.isLt, dif_pos]
  · rw [← Finset.sum_filter]
    refine Finset.sum_congr ?_ fun _ _ => rfl
    ext q
    simp only [Finset.mem_filter, Finset.mem_range, Finset.mem_Ico]
    omega

theorem tail_end (f : Fin 2048 → ℝ) : tail f 2048 = 0 := by rw [tail_eq, Finset.Ico_self, Finset.sum_empty]

theorem tail_step (f : Fin 2048 → ℝ) (b r : Nat) (hb : b < 4) (hr : r < 512) :
    tail f (b * 512 + r) = (∑ q : Fin 512, if r ≤ q.val then f ⟨b * 512 + q.val, by omega⟩ else 0) + tail f (b * 512 + 512) := by
  have e := Fin.sum_univ_eq_sum_range (fun q => if r ≤ q then (if h : b * 512 + q < 2048 then f ⟨b * 512 + q, h⟩ else 0) else 0) 512
  rw [tail_eq, tail_eq, ← Finset.sum_Ico_consecutive _ (show b * 512 + r ≤ b * 512 + 512 by omega) (show b * 512 + 512 ≤ 2048 by omega)]
  refine congrArg (· + _) (Eq.symm (Eq.trans (Finset.sum_congr rfl fun q _ => ?_) (e.trans ?_)))
  · rw [dif_pos (show b * 512 + q.val < 2048 by omega)]
  · rw [← Finset.sum_filter]
    have hs : (Finset.range 512).filter (fun q => r ≤ q) = Finset.Ico r 512 := by
      ext q
      simp only [Finset.mem_filter, Finset.mem_range, Finset.mem_Ico]
      omega
    rw [hs, Finset.sum_Ico_add (fun q => if h : q < 2048 then f ⟨q, h⟩ else 0) r 512 (b * 512), add_comm r, add_comm 512]

/-- The four blocks' sums, in the order the points run, are the sum over the sequence. -/
theorem blocks_sum (f : Fin 2048 → ℝ) : ∑ t : Fin cfg0.N, ∑ r : Fin 512, f (row t r) = ∑ r, f r := by
  have step : ∀ b : Fin 4, tail f (b.val * 512) = (∑ q : Fin 512, f ⟨b.val * 512 + q.val, by omega⟩) + tail f (b.val * 512 + 512) := fun b => by
    have e := tail_step f b.val 0 b.isLt (by norm_num)
    simpa using e
  have e0 : tail f (0 * 512) = ∑ r, f r := by simp [tail]
  have hN : cfg0.N = 4 := N_0
  have es : ∑ t : Fin cfg0.N, ∑ r : Fin 512, f (row t r) = ∑ b : Fin 4, ∑ q : Fin 512, f ⟨b.val * 512 + q.val, by omega⟩ := by
    refine Fintype.sum_equiv ((finCongr hN).trans Fin.revPerm) _ _ fun t => Finset.sum_congr rfl fun r _ => congrArg f (Fin.ext ?_)
    have := lt4 t
    show (3 - t.val) * 512 + r.val = (4 - (t.val + 1)) * 512 + r.val
    omega
  have s0 := step 0
  have s1 := step 1
  have s2 := step 2
  have s3 := step 3
  rw [es, Fin.sum_univ_four, ← e0]
  have e4 := tail_end f
  simp only [Fin.val_zero, Fin.val_one, Fin.val_two, show (3 : Fin 4).val = 3 from rfl] at s0 s1 s2 s3 ⊢
  norm_num at s0 s1 s2 s3 e4 ⊢
  linarith

/-- A gradient's column, in the kernel's lanes. -/
theorem ds_eq (r : Fin 2048) (l : Fin 128) : ds (zD dc db dg r l) (tail (fun q => zD dc db dg q l) r.val) (sg (zZ ff gb ga fb dt r l)) (Real.exp (zA al l)) l
    = cols ff gb ga fb al dt dc db dg r l.val := by
  by_cases h8 : l.val < 8
  · have hz : ∀ q, zD dc db dg q l = dc (ix2 q ⟨l.val, h8⟩) := fun q => by
      unfold zD zG zC
      rw [dif_neg (by omega), dif_pos h8, zero_add]
    simp only [hz]
    unfold ds cols zZ zP zB
    rw [if_pos h8, dif_pos (by omega), dif_pos h8, dif_pos (show l.val < 16 by omega), dif_pos h8, dif_pos h8]
    rfl
  · by_cases h12 : l.val - 8 < 4
    · unfold ds cols zZ zP zB zD zG zC
      rw [if_neg h8, if_pos (by omega), dif_pos (show 8 ≤ l.val ∧ l.val - 8 < 8 by omega), dif_pos h12, dif_neg h8, dif_pos (show l.val < 16 by omega), dif_neg h8, dif_pos h12, dif_neg h8, dif_pos h12,
        dif_pos (show l.val < 16 by omega), dif_neg h8, dif_pos h12, add_zero, add_zero]
      rfl
    · by_cases h16 : l.val < 16
      · unfold ds cols zZ zP zB zD zG zC zA
        rw [if_neg h8, if_neg (by omega), if_pos h16, dif_pos (show 8 ≤ l.val ∧ l.val - 8 < 8 by omega), dif_neg h12, dif_neg h8, dif_pos h16, dif_neg h8, dif_neg h12, dif_neg h8, dif_neg h12, dif_pos (show l.val - 8 - 4 < 4 by omega),
          dif_pos (show 12 ≤ l.val ∧ l.val < 16 by omega), dif_pos h16, dif_neg h8, dif_neg h12, add_zero]
        have e : (⟨l.val - 12, by omega⟩ : Fin 4) = ⟨l.val - 8 - 4, by omega⟩ := Fin.ext (by show l.val - 12 = l.val - 8 - 4; omega)
        rw [e]
        rfl
      · unfold ds cols
        rw [if_neg h8, if_neg (by omega), if_neg h16, dif_neg h16]

end final
end Cert.Kernel3Ideal.Gates
-- ==== Proof.GatesRun.lean ====
/- The gradient of the gates: what the kernel's arrays hold after its run. -/
module

public import proofs.«01_k».proof.Proof.GatesBlocks
public import Idealize.ShloMosaic.Lib.Pipeline.ReadBack
public import Idealize.ShloMosaic.Lib.WritesUnit

@[expose] public section

noncomputable section

namespace Cert.Kernel3Ideal.Gates

open Cert.Kernel3Ideal Cert.Kernel3Ideal.Gen Idealize.ShloMosaic Idealize.ShloMosaic.TcCoe Idealize.SL.Sem Cert.Reals

variable (m : (ℓ : Loc nD τ sig) → Buf (Elt Ideal) ℓ)

section final
variable (c : Dev nD)
variable (ff : S2048x8.Idx → ℝ) (gb ga : S2048x4.Idx → ℝ) (fb : S8.Idx → ℝ) (al dt : S4.Idx → ℝ) (dc : S2048x8.Idx → ℝ) (db dg : S2048x4.Idx → ℝ)
variable (h0 : m ((c : Thread nD τ).loc main_arg0) = fun i : S2048x8.Idx => (ff i : EReal)) (h1 : m ((c : Thread nD τ).loc main_arg1) = fun i : S2048x4.Idx => (gb i : EReal))
  (h2 : m ((c : Thread nD τ).loc main_arg2) = fun i : S2048x4.Idx => (ga i : EReal)) (h3 : m ((c : Thread nD τ).loc main_arg3) = fun i : S8.Idx => (fb i : EReal))
  (h4 : m ((c : Thread nD τ).loc main_arg4) = fun i : S4.Idx => (al i : EReal)) (h5 : m ((c : Thread nD τ).loc main_arg5) = fun i : S4.Idx => (dt i : EReal))
  (h6 : m ((c : Thread nD τ).loc main_arg6) = fun i : S2048x8.Idx => (dc i : EReal)) (h7 : m ((c : Thread nD τ).loc main_arg7) = fun i : S2048x4.Idx => (db i : EReal))
  (h8 : m ((c : Thread nD τ).loc main_arg8) = fun i : S2048x4.Idx => (dg i : EReal))

/-- What the rows after the block at point `t` add, and the block's values. -/
def after (t : Fin cfg0.N) (i : S1x128.Idx) : ℝ := tail (fun q => zD dc db dg q (i 1)) ((3 - t.val) * 512 + 512)
def dB (t : Fin cfg0.N) (i : S512x128.Idx) : ℝ := zD dc db dg (row t (i 0)) (i 1)
def zZB (t : Fin cfg0.N) (i : S512x128.Idx) : ℝ := zZ ff gb ga fb dt (row t (i 0)) (i 1)
def colB (t : Fin cfg0.N) (i : S512x128.Idx) : ℝ := cols ff gb ga fb al dt dc db dg (row t (i 0)) (i 1).val

include h6 h7 h8 in
theorem p8 (t : Fin cfg0.N) : k0_pay8 (F := Ideal) (iblk m c 3 t) (iblk m c 4 t) = fun i : S512x128.Idx => (dB dc db dg t i : EReal) := by
  rw [blk3 m c db dg h7 h8 t, blk4 m c dc h6 t]
  exact pay8_eq _ _

include h0 h1 h2 h3 h5 in
theorem p7 (t : Fin cfg0.N) : k0_pay7 (F := Ideal) (iblk m c 0 t) (iblk m c 1 t) = fun i : S512x128.Idx => (zZB ff gb ga fb dt t i : EReal) := by
  rw [blk0 m c ff gb ga h0 h1 h2 t, blk1 m c fb dt h3 h5 t]
  exact pay7_eq _ _

theorem suf_eq (t : Fin cfg0.N) (i : S512x128.Idx) : suf (dB dc db dg t) (after dc db dg t) i = tail (fun q => zD dc db dg q (i 1)) (row t (i 0)).val := by
  have h := lt4 t
  exact (tail_step (fun q => zD dc db dg q (i 1)) (3 - t.val) (i 0).val (by omega) (i 0).isLt).symm

include h6 h7 h8 in
theorem p9 (t : Fin cfg0.N) : k0_pay9 (F := Ideal) (iblk m c 3 t) (iblk m c 4 t) (fun i => (after dc db dg t i : EReal))
    = fun i : S512x128.Idx => (tail (fun q => zD dc db dg q (i 1)) (row t (i 0)).val : EReal) := by
  have e := p8 m c dc db dg h6 h7 h8 t
  rw [blk3 m c db dg h7 h8 t, blk4 m c dc h6 t] at e ⊢
  refine (pay9_eq _ _ (after dc db dg t) _ e).trans ?_
  funext i
  rw [suf_eq]

include h6 h7 h8 in
theorem p10 (t : Fin cfg0.N) : k0_pay10 (F := Ideal) (iblk m c 3 t) (iblk m c 4 t) (fun i => (after dc db dg t i : EReal))
    = fun i : S1x128.Idx => (tail (fun q => zD dc db dg q (i 1)) ((3 - t.val) * 512) : EReal) := by
  have e := p8 m c dc db dg h6 h7 h8 t
  rw [blk3 m c db dg h7 h8 t, blk4 m c dc h6 t] at e ⊢
  refine (pay10_eq _ _ (after dc db dg t) _ e).trans ?_
  funext i
  rw [suf_eq]
  rfl

include h0 h1 h2 h3 h4 h5 h6 h7 h8 in
theorem p16 (t : Fin cfg0.N) : k0_pay16 (F := Ideal) (k0_pay8 (iblk m c 3 t) (iblk m c 4 t)) (k0_pay9 (iblk m c 3 t) (iblk m c 4 t) (fun i => (after dc db dg t i : EReal)))
      (k0_pay11 (iblk m c 0 t) (iblk m c 1 t)) (k0_pay12 (iblk m c 2 t))
    = fun i : S512x128.Idx => (colB ff gb ga fb al dt dc db dg t i : EReal) := by
  have e7 := p7 m c ff gb ga fb dt h0 h1 h2 h3 h5 t
  rw [p8 m c dc db dg h6 h7 h8 t, p9 m c dc db dg h6 h7 h8 t]
  rw [blk0 m c ff gb ga h0 h1 h2 t, blk1 m c fb dt h3 h5 t] at e7 ⊢
  rw [blk2 m c al h4 t, pay11_eq _ _ _ e7, pay12_eq, pay16_eq]
  funext i
  exact congrArg (fun z : ℝ => (z : EReal)) (ds_eq ff gb ga fb al dt dc db dg (row t (i 0)) (i 1))

theorem pay17_eq (a b c' : S512x128.Idx → EReal) (d : S1x128.Idx → EReal) (i : S512x128.Idx) : k0_pay17 (F := Ideal) a b c' d i = k0_pay16 (F := Ideal) a b c' d i := by
  obtain ⟨r, l, rfl⟩ : ∃ r l, i = ix2 r l := ⟨i 0, i 1, by blk_ext []⟩
  pointwise [k0_pay17]

theorem pay18_apply (i : S512x128.Idx) : k0_pay18 (F := Ideal) i = ((0 : ℝ) : EReal) := by
  obtain ⟨r, l, rfl⟩ : ∃ r l, i = ix2 r l := ⟨i 0, i 1, by blk_ext []⟩
  pointwise [k0_pay18]
  exact EReal.coe_zero.symm

theorem pay5_eq (t : Fin cfg0.N) (h : t.val % 4 = 0) : k0_pay5 (F := Ideal) = fun i : S1x128.Idx => (after dc db dg t i : EReal) := by
  funext i
  obtain ⟨r, l, rfl⟩ : ∃ r l, i = ix2 r l := ⟨i 0, i 1, by blk_ext []⟩
  have e : t.val = 0 := by have := lt4 t; omega
  unfold after
  rw [e, tail_end]
  pointwise [k0_pay5]
  exact EReal.coe_zero.symm

theorem pay6_apply (i : S8x128.Idx) : k0_pay6 (F := Ideal) i = 0 := by
  obtain ⟨r, l, rfl⟩ : ∃ r l, i = ix2 r l := ⟨i 0, i 1, by blk_ext []⟩
  pointwise [k0_pay6]

theorem pred (t : Fin cfg0.N) (h : ¬t.val % 4 = 0) : ((3 - (t.val - 1)) * 512) = (3 - t.val) * 512 + 512 := by
  have := lt4 t
  omega

include h6 h7 h8 in
theorem carry : ∀ (n : ℕ) (hn : n < cfg0.N), (outsAt0 m c n hn).2.2 = fun i : S1x128.Idx => (tail (fun q => zD dc db dg q (i 1)) ((3 - n) * 512) : EReal) := by
  intro n
  induction n with
  | zero =>
    intro hn
    rw [outsAt0_A m c ⟨0, hn⟩ rfl]
    frame_out
    rw [pay5_eq dc db dg ⟨0, hn⟩ rfl]
    exact p10 m c dc db dg h6 h7 h8 ⟨0, hn⟩
  | succ n ih =>
    intro hn
    have hz : ¬(n + 1) % 4 = 0 := by have := lt4 ⟨n + 1, hn⟩; simp only at this; omega
    rw [outsAt0_B m c ⟨n + 1, hn⟩ hz]
    frame_out
    rw [read_unread_whole]
    have e : (outsAt0 m c n (by omega)).2.2 = fun i : S1x128.Idx => (after dc db dg ⟨n + 1, hn⟩ i : EReal) := by
      rw [ih (by omega)]
      funext i
      unfold after
      rw [← pred ⟨n + 1, hn⟩ hz]
      rfl
    refine Eq.trans (congrArg _ e) ?_
    exact p10 m c dc db dg h6 h7 h8 ⟨n + 1, hn⟩

include h6 h7 h8 in
theorem carry' (t : Fin cfg0.N) (hz : ¬t.val % 4 = 0) : View.read (Elt Ideal) (View.whole cc0_scratch0) ((Memref.isWhole_whole cc0_scratch0).unread (outsAt0 m c (t.val - 1) (Nat.lt_of_le_of_lt (Nat.sub_le _ _) t.isLt)).2.2)
    = fun i : S1x128.Idx => (after dc db dg t i : EReal) := by
  rw [read_unread_whole, carry m c dc db dg h6 h7 h8]
  funext i
  unfold after
  rw [← pred t hz]

/-- What the body leaves in the block of the gradient's columns. -/
def colsOut (t : Fin cfg0.N) (i : S512x256.Idx) : EReal := if h : (i 1).val < 128 then (cols ff gb ga fb al dt dc db dg (row t (i 0)) (i 1).val : EReal) else ((0 : ℝ) : EReal)

theorem colsOut_of (t : Fin cfg0.N) (P : S512x128.Idx → EReal) (hP : ∀ i, P i = (colB ff gb ga fb al dt dc db dg t i : EReal)) (i : S512x256.Idx) :
    View.canon (Val := Elt Ideal) (e := .bf16) [⟨Rect.unit (s := S512x256) ![0, 128] ![512, 128] inb_S512x256_S512x128_0_128, k0_pay18 (F := Ideal)⟩, ⟨Rect.unit (s := S512x256) ![0, 0] ![512, 128] inb_S512x256_S512x128_0_0, P⟩] i
      = colsOut ff gb ga fb al dt dc db dg t i := by
  obtain ⟨r, q, rfl⟩ : ∃ r q, i = ix2 r q := ⟨i 0, i 1, by blk_ext []⟩
  refine View.canon_apply_of_pieces (Val := Elt Ideal) (S := S512x256) (e := .bf16) (colsOut ff gb ga fb al dt dc db dg t) _ ?_ (ix2 r q) ?_
  · intro p hp
    simp only [List.mem_cons, List.not_mem_nil, or_false] at hp
    obtain rfl | rfl := hp
    · intro y
      obtain ⟨a, l, rfl⟩ : ∃ a l, y = ix2 a l := ⟨y 0, y 1, by blk_ext []⟩
      have e : (Rect.unit (s := S512x256) ![0, 128] ![512, 128] inb_S512x256_S512x128_0_128).emb (ix2 a l) = ix2 a ⟨128 + l.val, by omega⟩ := by blk_ext []
      rw [e]
      refine (pay18_apply (ix2 a l)).trans (Eq.symm ?_)
      refine dif_neg ?_
      show ¬(128 + l.val < 128)
      omega
    · intro y
      obtain ⟨a, l, rfl⟩ : ∃ a l, y = ix2 a l := ⟨y 0, y 1, by blk_ext []⟩
      have e : (Rect.unit (s := S512x256) ![0, 0] ![512, 128] inb_S512x256_S512x128_0_0).emb (ix2 a l) = ix2 a ⟨l.val, by omega⟩ := by blk_ext []
      rw [e]
      refine (hP _).trans (Eq.symm ?_)
      exact dif_pos l.isLt
  · have hq := q.isLt
    have hr := r.isLt
    by_cases h : q.val < 128
    · exact ⟨_, .tail _ (.head _), (Rect.mem_set_unit (inb := inb_S512x256_S512x128_0_0)).mpr fun a => match a with
        | ⟨0, _⟩ => ⟨Nat.zero_le _, show r.val < 0 + 512 by omega⟩
        | ⟨1, _⟩ => ⟨Nat.zero_le _, show q.val < 0 + 128 by omega⟩⟩
    · exact ⟨_, .head _, (Rect.mem_set_unit (inb := inb_S512x256_S512x128_0_128)).mpr fun a => match a with
        | ⟨0, _⟩ => ⟨Nat.zero_le _, show r.val < 0 + 512 by omega⟩
        | ⟨1, _⟩ => ⟨show 128 ≤ q.val by omega, show q.val < 128 + 128 by omega⟩⟩

include h0 h1 h2 h3 h4 h5 h6 h7 h8 in
theorem out5 (t : Fin cfg0.N) (i : S512x256.Idx) : (outsAt0 m c t.val t.isLt).1 i = colsOut ff gb ga fb al dt dc db dg t i := by
  have e := p16 m c ff gb ga fb al dt dc db dg h0 h1 h2 h3 h4 h5 h6 h7 h8 t
  by_cases hz : t.val % 4 = 0
  · rw [outsAt0_A m c t hz]
    frame_out
    rw [pay5_eq dc db dg t hz]
    exact colsOut_of ff gb ga fb al dt dc db dg t _ (fun i => (pay17_eq _ _ _ _ i).trans (congrFun e i)) i
  · rw [outsAt0_B m c t hz]
    frame_out
    have hc := carry' m c dc db dg h6 h7 h8 t hz
    refine colsOut_of ff gb ga fb al dt dc db dg t _ (fun i => (pay17_eq _ _ _ _ i).trans ?_) i
    rw [hc]
    exact congrFun e i

include h0 h1 h2 h3 h4 h5 h6 h7 h8 in
theorem final_dx : (dats m 0 c).arrAt 5 (cfgs 0).N
    = Cert.Reference3Ideal.Read.val_main_v52 (F := Ideal) (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [h0, h1, h2, h3, h4, h5, h6, h7, h8]
  refine (dats m 0 c).arrAt_eq_of_coversWhere_of_agree 5 _ (fun β => β 1 = 14) (by decide +kernel) (fun t _ y' => ?_) (fun j hj => ?_)
  · blk_simp
    obtain ⟨r, q, rfl⟩ : ∃ r q, y' = ix2 r q := ⟨y' 0, y' 1, by blk_ext []⟩
    have hq := q.isLt
    have he : ((View.whole main_v11_0).slice (win0_5.rect t)).emb (ix2 r q) = ix2 (row t r) ⟨3584 + q.val, by omega⟩ := by blk_ext [idx t, row]
    rw [after0_5, he, v52_apply, out5 m c ff gb ga fb al dt dc db dg h0 h1 h2 h3 h4 h5 h6 h7 h8]
    refine Eq.trans ?_ (dif_neg (show ¬(3584 + q.val < 3584) by omega)).symm
    have hs : 3584 + q.val - 3584 = q.val := by omega
    unfold colsOut
    split_ifs with h
    · exact congrArg (fun n => (cols ff gb ga fb al dt dc db dg (row t r) n : EReal)) hs.symm
    · refine congrArg (fun z : ℝ => (z : EReal)) (Eq.symm (dif_neg ?_))
      have h : ¬q.val < 128 := h
      show ¬(3584 + q.val - 3584 < 16)
      omega
  · blk_simp [Pipeline.Window.cell_apply] at hj
    obtain ⟨r, q, rfl⟩ : ∃ (r : Fin 2048) (q : Fin 3840), j = ix2 r q := ⟨j 0, j 1, by blk_ext []⟩
    have he : (cfg0.win 5).arr.view.emb (ix2 r q) = ix2 r q := rfl
    have hj : ¬(q.val / 256 = 14) := hj
    have hq := q.isLt
    rw [A_eq, he, v52_apply]
    refine Eq.trans ?_ (dif_pos (show q.val < 3584 by omega)).symm
    exact congrFun (entry_v11 m c) _

/-- What the body adds to the three rows of sums at point `t`. -/
def addR (t : Fin cfg0.N) (k : Nat) (l : Fin 128) : ℝ :=
  if k = 0 then (if l.val < 8 then ∑ r : Fin 512, colB ff gb ga fb al dt dc db dg t (ix2 r l) else 0)
  else if k = 1 then (if l.val < 4 then ∑ r : Fin 512, colB ff gb ga fb al dt dc db dg t (ix2 r (from12 l)) else 0)
  else if k = 2 then ∑ r : Fin 512, (if l.val < 4 then dB dc db dg t (ix2 r (from12 l)) * (-Real.exp (zA al (from12 l))) * sp (zZB ff gb ga fb dt t (ix2 r (from12 l))) else 0)
  else 0

/-- A row of the block of sums, read after the three rows' stores. -/
theorem rows3 {sp : Space} (v : View sig .tc sp S8x128 .f32) (f : v.ty.Contents (Elt Ideal)) (L : List (View.Piece (Elt Ideal) S8x128 .f32)) (P0 P1 P2 : S1x128.Idx → EReal) (k : Fin 8) (l : Fin 128) :
    v.read (Elt Ideal) (v.writes (Elt Ideal) f (⟨Rect.unit (s := S8x128) ![2, 0] ![1, 128] inb_S8x128_S1x128_2_0, P2⟩ :: ⟨Rect.unit (s := S8x128) ![1, 0] ![1, 128] inb_S8x128_S1x128_1_0, P1⟩
        :: ⟨Rect.unit (s := S8x128) ![0, 0] ![1, 128] inb_S8x128_S1x128_0_0, P0⟩ :: L)) (ix2 k l)
      = if k.val = 0 then P0 (ix2 0 l) else if k.val = 1 then P1 (ix2 0 l) else if k.val = 2 then P2 (ix2 0 l) else v.read (Elt Ideal) (v.writes (Elt Ideal) f L) (ix2 k l) := by
  have hit := fun (n : Nat) (inb) (P : S1x128.Idx → EReal) L (h : k.val = n) => View.read_writes_cons_rows_of_mem (Val := Elt Ideal) (d := ![8, 128]) (e := .f32) v f (off := ![n, 0]) (size := ![1, 128]) inb P L (ix2 k l) (ix2 0 l) rfl (show k.val = n + 0 from h) rfl
  have miss := fun (n : Nat) (inb) (P : S1x128.Idx → EReal) L (h : k.val ≠ n) => View.read_writes_cons_rows_of_not_mem (Val := Elt Ideal) (d := ![8, 128]) (e := .f32) v f (off := ![n, 0]) (size := ![1, 128]) (W := 1) inb P L (ix2 k l) rfl rfl
    (show k.val < n ∨ n + 1 ≤ k.val by omega)
  by_cases k0 : k.val = 0
  · rw [if_pos k0]
    exact (miss 2 _ _ _ (by omega)).trans ((miss 1 _ _ _ (by omega)).trans (hit 0 _ _ _ k0))
  · rw [if_neg k0]
    by_cases k1 : k.val = 1
    · rw [if_pos k1]
      exact (miss 2 _ _ _ (by omega)).trans (hit 1 _ _ _ k1)
    · rw [if_neg k1]
      by_cases k2 : k.val = 2
      · rw [if_pos k2]
        exact hit 2 _ _ _ k2
      · rw [if_neg k2]
        exact (miss 2 _ _ _ k2).trans ((miss 1 _ _ _ k1).trans (miss 0 _ _ _ k0))

/-- The three rows' stores over rows `X`, given what the block held elsewhere. -/
theorem rows_add (t : Fin cfg0.N) (X : S8x128.Idx → EReal) {sp : Space} (v : View sig .tc sp S8x128 .f32) (f : v.ty.Contents (Elt Ideal)) (L : List (View.Piece (Elt Ideal) S8x128 .f32)) (k : Fin 8) (l : Fin 128)
    (hX : v.read (Elt Ideal) (v.writes (Elt Ideal) f L) (ix2 k l) = X (ix2 k l))
    (B7 B8 : S512x128.Idx → EReal) (B12 : S1x128.Idx → EReal) (e7 : B7 = fun i => (zZB ff gb ga fb dt t i : EReal)) (e8 : B8 = fun i => (dB dc db dg t i : EReal)) (e12 : B12 = fun i => (Real.exp (zA al (i 1)) : EReal)) :
    v.read (Elt Ideal) (v.writes (Elt Ideal) f (⟨Rect.unit (s := S8x128) ![2, 0] ![1, 128] inb_S8x128_S1x128_2_0,
            k0_pay4 (F := Ideal) k0_pay15 (k0_pay19 B8 B12) (k0_pay20 B7) (k0_pay21 B7) (FloatOps.ofBits FTy.f32 1065353216#32) (View.ld (Val := Elt Ideal) (e' := .f32) X (Rect.unit ![2, 0] ![1, 128] inb_S8x128_S1x128_2_0))⟩
        :: ⟨Rect.unit (s := S8x128) ![1, 0] ![1, 128] inb_S8x128_S1x128_1_0,
            k0_pay3 (F := Ideal) k0_pay15 (fun i => (colB ff gb ga fb al dt dc db dg t i : EReal)) (View.ld (Val := Elt Ideal) (e' := .f32) X (Rect.unit ![1, 0] ![1, 128] inb_S8x128_S1x128_1_0))⟩
        :: ⟨Rect.unit (s := S8x128) ![0, 0] ![1, 128] inb_S8x128_S1x128_0_0,
            k0_pay2 (F := Ideal) k0_pay14 (fun i => (colB ff gb ga fb al dt dc db dg t i : EReal)) (View.ld (Val := Elt Ideal) (e' := .f32) X (Rect.unit ![0, 0] ![1, 128] inb_S8x128_S1x128_0_0))⟩ :: L)) (ix2 k l)
      = X (ix2 k l) + (addR ff gb ga fb al dt dc db dg t k.val l : EReal) := by
  subst e7 e8 e12
  refine (rows3 v f L _ _ _ k l).trans ?_
  have hl := fun (n : Fin 8) (inb) => View.ld_unit_apply_of (Val := Elt Ideal) (S := S8x128) (e := .f32) X ![n.val, 0] ![1, 128] inb (ix2 0 l) (ix2 n l) fun q => by fin_cases q <;> simp
  unfold addR
  by_cases k0 : k.val = 0
  · obtain rfl : k = 0 := Fin.ext k0
    rw [if_pos k0, if_pos k0]
    exact (pay2_apply _ _ l).trans (congrArg (fun z : EReal => z + _) (hl 0 inb_S8x128_S1x128_0_0))
  · rw [if_neg k0, if_neg k0]
    by_cases k1 : k.val = 1
    · obtain rfl : k = 1 := Fin.ext k1
      rw [if_pos k1, if_pos k1]
      exact (pay3_apply _ _ l).trans (congrArg (fun z : EReal => z + _) (hl 1 inb_S8x128_S1x128_1_0))
    · rw [if_neg k1, if_neg k1]
      by_cases k2 : k.val = 2
      · obtain rfl : k = 2 := Fin.ext k2
        rw [if_pos k2, if_pos k2]
        exact (pay4_apply _ _ _ _ l).trans (congrArg (fun z : EReal => z + _) (hl 2 inb_S8x128_S1x128_2_0))
      · rw [if_neg k2, if_neg k2, EReal.coe_zero, add_zero]
        exact hX

include h4 in
theorem p12 (t : Fin cfg0.N) : k0_pay12 (F := Ideal) (iblk m c 2 t) = fun i : S1x128.Idx => (Real.exp (zA al (i 1)) : EReal) := by
  rw [blk2 m c al h4 t, pay12_eq]

include h0 h1 h2 h3 h4 h5 h6 h7 h8 in
theorem add_A (t : Fin cfg0.N) (hz : t.val % 4 = 0) (j : S8x128.Idx) : (outsAt0 m c t.val t.isLt).2.1 j = 0 + (addR ff gb ga fb al dt dc db dg t (j 0).val (j 1) : EReal) := by
  have e := p16 m c ff gb ga fb al dt dc db dg h0 h1 h2 h3 h4 h5 h6 h7 h8 t
  obtain ⟨k, l, rfl⟩ : ∃ k l, j = ix2 k l := ⟨j 0, j 1, by blk_ext []⟩
  rw [outsAt0_A m c t hz]
  frame_out
  simp (disch := decide) only [↓ View.readCov_skip, View.readCov_fill]
  rw [pay5_eq dc db dg t hz, e]
  refine (View.read_writes_junk_apply_eq_canon (ms0_6 t).view (ix2 k l) _).symm.trans ((rows_add ff gb ga fb al dt dc db dg t (k0_pay6 (F := Ideal)) (ms0_6 t).view _ _ k l ?_ _ _ _
    (p7 m c ff gb ga fb dt h0 h1 h2 h3 h5 t) (p8 m c dc db dg h6 h7 h8 t) (p12 m c al h4 t)).trans ?_)
  · exact View.read_writes_cons_rows_of_mem (Val := Elt Ideal) (d := ![8, 128]) (e := .f32) (ms0_6 t).view _ (off := ![0, 0]) (size := ![8, 128]) inb_S8x128_S8x128_0_0 _ [] (ix2 k l) (ix2 k l) rfl (show k.val = 0 + k.val by omega) rfl
  · exact congrArg (fun z : EReal => z + _) (pay6_apply _)

include h0 h1 h2 h3 h4 h5 h6 h7 h8 in
theorem add_B (t : Fin cfg0.N) (hz : ¬t.val % 4 = 0) (j : S8x128.Idx) : (outsAt0 m c t.val t.isLt).2.1 j = (outsAt0 m c (t.val - 1) (Nat.lt_of_le_of_lt (Nat.sub_le _ _) t.isLt)).2.1 j + (addR ff gb ga fb al dt dc db dg t (j 0).val (j 1) : EReal) := by
  have e := p16 m c ff gb ga fb al dt dc db dg h0 h1 h2 h3 h4 h5 h6 h7 h8 t
  obtain ⟨k, l, rfl⟩ : ∃ k l, j = ix2 k l := ⟨j 0, j 1, by blk_ext []⟩
  rw [outsAt0_B m c t hz]
  frame_out
  rw [carry' m c dc db dg h6 h7 h8 t hz, e]
  refine rows_add ff gb ga fb al dt dc db dg t _ (ms0_6 t).view _ [] k l ?_ _ _ _
    (p7 m c ff gb ga fb dt h0 h1 h2 h3 h5 t) (p8 m c dc db dg h6 h7 h8 t) (p12 m c al h4 t)
  exact congrFun (Memref.IsWhole.read_unread _ _) _

include h0 h1 h2 h3 h4 h5 h6 h7 h8 in
theorem final_red : (dats m 0 c).arrAt 6 (cfgs 0).N
    = Cert.Reference3Ideal.Read.val_main_v53 (F := Ideal) (m ((c : Thread nD τ).loc main_arg0)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg8)) := by
  refine (dats m 0 c).arrAt_eq_of_after_last 6 t0_3 (by decide +kernel) _ fun j => ?_
  blk_simp
  rw [after0_6, Pipeline.eq_sum_fin_of_reset_step_apply_last (fun n h => (outsAt0 m c n h).2.1) 4 (fun _ => 0)
    (fun t (j : S8x128.Idx) => (addR ff gb ga fb al dt dc db dg t (j 0).val (j 1) : EReal))
    (fun t h j => add_A m c ff gb ga fb al dt dc db dg h0 h1 h2 h3 h4 h5 h6 h7 h8 t h j)
    (fun t h j => add_B m c ff gb ga fb al dt dc db dg h0 h1 h2 h3 h4 h5 h6 h7 h8 t h j)
    (le_of_eq N_0) t0_3 rfl j, zero_add]
  obtain ⟨k, l, rfl⟩ : ∃ k l, j = ix2 k l := ⟨j 0, j 1, by blk_ext []⟩
  rw [h0, h2, h3, h4, h5, h6, h8]
  refine Eq.trans ?_ (v53_apply ff ga fb al dt dc dg k l).symm
  rw [coe_sum]
  refine congrArg (fun z : ℝ => (z : EReal)) ?_
  show ∑ t : Fin cfg0.N, addR ff gb ga fb al dt dc db dg t k.val l = _
  unfold addR sums
  have hl := l.isLt
  by_cases k0 : k.val = 0
  · simp only [if_pos k0]
    rw [if_pos (by omega), if_pos (by omega)]
    by_cases h : l.val < 8
    · simp only [if_pos h]
      rw [dif_pos h]
      refine (blocks_sum fun r => cols ff gb ga fb al dt dc db dg r l.val).trans (Finset.sum_congr rfl fun r _ => ?_)
      exact (dif_pos (show l.val < 16 by omega)).trans (dif_pos h)
    · simp only [if_neg h]
      rw [dif_neg h, Finset.sum_const_zero]
  · simp only [if_neg k0]
    by_cases k1 : k.val = 1
    · simp only [if_pos k1]
      rw [if_pos (by omega), if_neg (by omega), if_pos (by omega)]
      by_cases h : l.val < 4
      · have e12 : (from12 l).val = l.val + 12 := by show (l.val + 128 - 116) % 128 = _; omega
        simp only [if_pos h]
        rw [dif_pos h]
        refine (blocks_sum fun r => cols ff gb ga fb al dt dc db dg r (from12 l).val).trans (Finset.sum_congr rfl fun r _ => ?_)
        unfold cols
        rw [dif_pos (by omega), dif_neg (by omega), dif_neg (by omega)]
        exact congrArg (gG ga al dt dg r) (Fin.ext (by show (from12 l).val - 8 - 4 = l.val; omega))
      · simp only [if_neg h]
        rw [dif_neg h, Finset.sum_const_zero]
    · simp only [if_neg k1]
      by_cases k2 : k.val = 2
      · simp only [if_pos k2]
        rw [if_pos (by omega), if_neg (by omega), if_neg (by omega)]
        by_cases h : l.val < 4
        · have e12 : (from12 l).val = l.val + 12 := by show (l.val + 128 - 116) % 128 = _; omega
          simp only [if_pos h]
          rw [dif_pos h]
          refine (blocks_sum fun r => zD dc db dg r (from12 l) * (-Real.exp (zA al (from12 l))) * sp (zZ ff gb ga fb dt r (from12 l))).trans (Finset.sum_congr rfl fun r _ => ?_)
          have en : (⟨(from12 l).val - 8 - 4, by omega⟩ : Fin 4) = ⟨l.val, h⟩ := Fin.ext (by show (from12 l).val - 8 - 4 = l.val; omega)
          have en' : (⟨(from12 l).val - 12, by omega⟩ : Fin 4) = ⟨l.val, h⟩ := Fin.ext (by show (from12 l).val - 12 = l.val; omega)
          unfold zD zG zC zA zZ zP zB gA
          rw [dif_pos (by omega), dif_neg (by omega), dif_neg (by omega), dif_pos (by omega), dif_pos (by omega), dif_neg (by omega), dif_neg (by omega), dif_neg (by omega), dif_neg (by omega), dif_pos (by omega), en, en', add_zero]
        · simp only [if_neg h]
          rw [dif_neg h]
          simp
      · simp only [if_neg k2]
        rw [if_neg (by omega), Finset.sum_const_zero]

end final
end Cert.Kernel3Ideal.Gates
-- ==== Proof.GdnPre.lean ====
/- The gradient of the short causal convolution, its gate and the unit norms of the queries and keys. -/
module

public import Idealize.ShloMosaic.Lib.Pipeline.ValueKit
public import proofs.«01_k».proof.Proof.Gen.Kernel4Ideal.Value
public import proofs.«01_k».proof.Proof.Gen.Reference4Ideal.Read
public import proofs.«01_k».proof.Proof.Rows
public import Idealize.ShloMosaic.Lib.Tactic

@[expose] public section

noncomputable section

namespace Cert.Kernel4Ideal.GdnPre

open Cert.Kernel4Ideal Cert.Kernel4Ideal.Gen Idealize.ShloMosaic Idealize.ShloMosaic.TcCoe Idealize.SL.Sem Cert.Reals

/-! ## The arithmetic on reals -/

/-- The logistic function. -/
def sg (z : ℝ) : ℝ := 1 / (1 + Real.exp (-z))

theorem sg_coe (z : ℝ) : Ideal.div ((1 : ℝ) : EReal) ((1 + Real.exp (-z) : ℝ) : EReal) = (sg z : EReal) :=
  div_coe' (by positivity) 1

/-- A column shifted down, and shifted up, zeros coming in. -/
def dn (d : Nat) (u : Fin 2048 → ℝ) (r : Fin 2048) : ℝ := if d ≤ r.val then u ⟨r.val - d, by omega⟩ else 0
def up (d : Nat) (u : Fin 2048 → ℝ) (r : Fin 2048) : ℝ := if h : r.val + d < 2048 then u ⟨r.val + d, h⟩ else 0

/-- The causal convolution of a column with its four taps. -/
def conv (a : Fin 4 → ℝ) (u : Fin 2048 → ℝ) (r : Fin 2048) : ℝ := u r * a 3 + dn 3 u r * a 0 + dn 2 u r * a 1 + dn 1 u r * a 2

/-- Its transpose. -/
def convT (a : Fin 4 → ℝ) (u : Fin 2048 → ℝ) (r : Fin 2048) : ℝ := u r * a 3 + up 3 u r * a 0 + up 2 u r * a 1 + up 1 u r * a 2

/-- The literal that scales the queries. -/
def qs : ℝ := 11863283 * (2 : ℝ) ^ (-27 : Int)

theorem lit_qs : Ideal.ofBits .f32 0x3DB504F3#32 = ((qs : ℝ) : EReal) := by
  simp [Ideal.ofBits, Ideal.ieee, qs]

/-- The scale of head block `n`: queries, keys, values. -/
def sc (n : Nat) : ℝ := if n < 4 then qs else 1

/-- The cotangent of the gated row of head block `n`, from that of the normed row. -/
def dgate (n : Nat) (c g : Fin 128 → ℝ) (k : Fin 128) : ℝ := if n < 8 then dxRow 1 c g (fun _ => sc n) k else g k * sc n

/-- The cotangent of the convolution's row. -/
def dpre (n : Nat) (p g : Fin 128 → ℝ) (k : Fin 128) : ℝ :=
  dgate n (fun j => p j * sg (p j)) g k * sg (p k) * (1 + p k * (1 - sg (p k)))

theorem rsqrt_sum {n : Nat} (x : Fin n → ℝ) : Ideal.rsqrt (((∑ k, x k * x k) + eps : ℝ) : EReal) = (rr 1 x : EReal) := by
  have h := rsqrt_coe' (ms_pos (d := 1) one_pos x)
  unfold ms at h
  rw [div_one] at h
  rw [h, rr, ms, div_one]

theorem div_sum {n : Nat} (x : Fin n → ℝ) (y : ℝ) : Ideal.div (y : EReal) (((∑ k, x k * x k) + eps : ℝ) : EReal) = ((y / ms 1 x : ℝ) : EReal) := by
  have h := div_coe' (ms_pos (d := 1) one_pos x).ne' y
  rw [← h, ms, div_one]

section payloads
variable (x : S2048x128.Idx → ℝ) (w : S4x128.Idx → ℝ) (d : S1x2048x128.Idx → ℝ)

theorem sge_mask (k : Fin 4) (r : Fin 2048) : IntOp.cmpi .sge (BitVec.ofNat 32 r.val) (BitVec.ofNat 32 k.val) = if k.val ≤ r.val then 1#1 else 0#1 := by
  revert k r; decide +kernel

theorem slt_mask (k : Fin 4) (r : Fin 2048) : IntOp.cmpi .slt (BitVec.ofNat 32 r.val) (BitVec.ofNat 32 (2048 - k.val)) = if r.val + k.val < 2048 then 1#1 else 0#1 := by
  revert k r; decide +kernel

theorem dn_sel (k : Fin 4) (u : Fin 2048 → ℝ) (r : Fin 2048) (h : (r.val + 2048 - k.val) % 2048 < 2048) :
    Scalar.select (IntOp.cmpi .sge (BitVec.ofNat 32 r.val) (BitVec.ofNat 32 k.val)) (u ⟨(r.val + 2048 - k.val) % 2048, h⟩ : EReal) 0 = (dn k.val u r : EReal) := by
  have := r.isLt
  have := k.isLt
  rw [sge_mask]
  unfold dn
  split
  · exact congrArg (fun q => (u q : EReal)) (Fin.ext (by show (r.val + 2048 - k.val) % 2048 = r.val - k.val; omega))
  · rfl

theorem up_sel (k : Fin 4) (u : Fin 2048 → ℝ) (r : Fin 2048) (h : (r.val + 2048 - (2048 - k.val)) % 2048 < 2048) :
    Scalar.select (IntOp.cmpi .slt (BitVec.ofNat 32 r.val) (BitVec.ofNat 32 (2048 - k.val))) (u ⟨(r.val + 2048 - (2048 - k.val)) % 2048, h⟩ : EReal) 0 = (up k.val u r : EReal) := by
  have := r.isLt
  have := k.isLt
  rw [slt_mask]
  unfold up
  split
  · exact congrArg (fun q => (u q : EReal)) (Fin.ext (by show (r.val + 2048 - (2048 - k.val)) % 2048 = r.val + k.val; omega))
  · rfl

theorem up_sel_mul (k : Fin 4) (u : Fin 2048 → ℝ) (b : ℝ) (r : Fin 2048) (h : (r.val + 2048 - (2048 - k.val)) % 2048 < 2048) :
    Scalar.select (IntOp.cmpi .slt (BitVec.ofNat 32 r.val) (BitVec.ofNat 32 (2048 - k.val))) ((u ⟨(r.val + 2048 - (2048 - k.val)) % 2048, h⟩ : EReal) * (b : EReal)) 0
      = ((up k.val u r * b : ℝ) : EReal) := by
  rw [EReal.coe_mul, ← up_sel k u r h, slt_mask]
  split
  · rfl
  · exact (zero_mul _).symm

theorem slt8 {n : Nat} (hn : n < 12) : Scalar.cmpi .slt (BitVec.ofNat 32 n) 8#32 = if n < 8 then 1#1 else 0#1 := by
  interval_cases n <;> rfl

theorem slt4 {n : Nat} (hn : n < 12) : Scalar.cmpi .slt (BitVec.ofNat 32 n) 4#32 = if n < 4 then 1#1 else 0#1 := by
  interval_cases n <;> rfl

theorem pay2_eq : k0_pay2 (F := Ideal) (fun i => (x i : EReal)) = fun i : S2048x128.Idx => (dn 0 (fun r => x (ix2 r (i 1))) (i 0) : EReal) := by
  funext i
  obtain ⟨r, l, rfl⟩ : ∃ r l, i = ix2 r l := ⟨i 0, i 1, by blk_ext []⟩
  pointwise [k0_pay2]
  rfl

theorem pay3_eq : k0_pay3 (F := Ideal) (fun i => (x i : EReal)) = fun i : S2048x128.Idx => (dn 3 (fun r => x (ix2 r (i 1))) (i 0) : EReal) := by
  funext i
  obtain ⟨r, l, rfl⟩ : ∃ r l, i = ix2 r l := ⟨i 0, i 1, by blk_ext []⟩
  pointwise [k0_pay3, k0_pay2]
  exact dn_sel 3 (fun r => x (ix2 r l)) r _

theorem pay4_eq : k0_pay4 (F := Ideal) (fun i => (x i : EReal)) = fun i : S2048x128.Idx => (dn 2 (fun r => x (ix2 r (i 1))) (i 0) : EReal) := by
  funext i
  obtain ⟨r, l, rfl⟩ : ∃ r l, i = ix2 r l := ⟨i 0, i 1, by blk_ext []⟩
  pointwise [k0_pay4, k0_pay2]
  exact dn_sel 2 (fun r => x (ix2 r l)) r _

theorem pay5_eq : k0_pay5 (F := Ideal) (fun i => (x i : EReal)) = fun i : S2048x128.Idx => (dn 1 (fun r => x (ix2 r (i 1))) (i 0) : EReal) := by
  funext i
  obtain ⟨r, l, rfl⟩ : ∃ r l, i = ix2 r l := ⟨i 0, i 1, by blk_ext []⟩
  pointwise [k0_pay5, k0_pay2]
  exact dn_sel 1 (fun r => x (ix2 r l)) r _

theorem pay6_eq : k0_pay6 (F := Ideal) (fun i => (x i : EReal)) (fun i => (w i : EReal))
    = fun i : S2048x128.Idx => (conv (fun j => w (ix2 j (i 1))) (fun r => x (ix2 r (i 1))) (i 0) : EReal) := by
  funext i
  obtain ⟨r, l, rfl⟩ : ∃ r l, i = ix2 r l := ⟨i 0, i 1, by blk_ext []⟩
  pointwise [k0_pay6, k0_pay2, pay3_eq, pay4_eq, pay5_eq, ← EReal.coe_mul, ← EReal.coe_add]
  rfl

theorem pay7_eq (p : S2048x128.Idx → ℝ) (h : k0_pay6 (F := Ideal) (fun i => (x i : EReal)) (fun i => (w i : EReal)) = fun i => (p i : EReal)) :
    k0_pay7 (F := Ideal) (fun i => (x i : EReal)) (fun i => (w i : EReal)) = fun i : S2048x128.Idx => (sg (p i) : EReal) := by
  funext i
  obtain ⟨r, l, rfl⟩ : ∃ r l, i = ix2 r l := ⟨i 0, i 1, by blk_ext []⟩
  pointwise [k0_pay7, h, lit_1, zero_sub, ← EReal.coe_neg, Ideal.exp_coe, ← EReal.coe_add, sg_coe]

theorem pay8_eq (p : S2048x128.Idx → ℝ) (n : Nat) (hn : n < 12) : k0_pay8 (F := Ideal) (BitVec.ofNat 32 n) (fun i => (p i : EReal)) (fun i => (sg (p i) : EReal)) (fun i => (d i : EReal))
    = fun i : S2048x128.Idx => (dpre n (fun k => p (ix2 (i 0) k)) (fun k => d (ix3 0 (i 0) k)) (i 1) : EReal) := by
  funext i
  obtain ⟨r, l, rfl⟩ : ∃ r l, i = ix2 r l := ⟨i 0, i 1, by blk_ext []⟩
  pointwise [k0_pay8, lit_1, lit_qs, lit_eps, slt8 hn, slt4 hn, ← EReal.coe_mul, ← EReal.coe_add, ← EReal.coe_sub, coe_sum, rsqrt_sum, select_ite]
  refine congrArg (fun z : ℝ => (z : EReal)) ?_
  unfold dpre dgate dxRow
  rw [div_one]
  rfl

set_option maxRecDepth 16384 in
theorem pay10_eq (n : BitVec 32) (p q : FVec Ideal S2048x128 .f32) (z : S2048x128.Idx → ℝ) (h : k0_pay8 (F := Ideal) n p q (fun i => (d i : EReal)) = fun i => (z i : EReal)) :
    k0_pay10 (F := Ideal) n p q (fun i => (d i : EReal)) = fun i : S2048x128.Idx => (up 3 (fun r => z (ix2 r (i 1))) (i 0) : EReal) := by
  funext i
  obtain ⟨r, l, rfl⟩ : ∃ r l, i = ix2 r l := ⟨i 0, i 1, by blk_ext []⟩
  unfold k0_pay10
  rw [h]
  pointwise
  exact up_sel 3 (fun r => z (ix2 r l)) r _

set_option maxRecDepth 16384 in
theorem pay12_eq (n : BitVec 32) (p q : FVec Ideal S2048x128 .f32) (z : S2048x128.Idx → ℝ) (h : k0_pay8 (F := Ideal) n p q (fun i => (d i : EReal)) = fun i => (z i : EReal)) :
    k0_pay12 (F := Ideal) (fun i => (w i : EReal)) (fun i => (z i : EReal)) (k0_pay9 n (fun i => (w i : EReal)) p q (fun i => (d i : EReal))) (k0_pay10 n p q (fun i => (d i : EReal))) (k0_pay11 (fun i => (w i : EReal)))
      = fun i : S2048x128.Idx => (convT (fun j => w (ix2 j (i 1))) (fun r => z (ix2 r (i 1))) (i 0) : EReal) := by
  funext i
  obtain ⟨r, l, rfl⟩ : ∃ r l, i = ix2 r l := ⟨i 0, i 1, by blk_ext []⟩
  rw [pay10_eq d n p q z h]
  unfold k0_pay9
  rw [h]
  pointwise [k0_pay12, k0_pay11]
  refine (congrArg₂ (fun a b : EReal => (z (ix2 r l) : EReal) * (w (ix2 3 l) : EReal) + (up 3 (fun r => z (ix2 r l)) r : EReal) * (w (ix2 0 l) : EReal) + a + b)
    (up_sel_mul 2 (fun r => z (ix2 r l)) (w (ix2 1 l)) r (Nat.mod_lt _ (by norm_num))) (up_sel_mul 1 (fun r => z (ix2 r l)) (w (ix2 2 l)) r (Nat.mod_lt _ (by norm_num)))).trans ?_
  simp only [← EReal.coe_mul, ← EReal.coe_add]
  rfl

variable (z y : S2048x128.Idx → ℝ)

theorem pay13_apply (l : Fin 128) : k0_pay13 (F := Ideal) (fun i => (y i : EReal)) (fun i => (z i : EReal)) (ix2 0 l) = ((∑ r, z (ix2 r l) * y (ix2 r l) : ℝ) : EReal) := by
  pointwise [k0_pay13, ← EReal.coe_mul, coe_sum]

theorem pay14_apply (l : Fin 128) : k0_pay14 (F := Ideal) (fun i => (y i : EReal)) (fun i => (z i : EReal)) (ix2 0 l) = ((∑ r, z (ix2 r l) * y (ix2 r l) : ℝ) : EReal) := by
  pointwise [k0_pay14, ← EReal.coe_mul, coe_sum]

theorem pay15_apply (l : Fin 128) : k0_pay15 (F := Ideal) (fun i => (y i : EReal)) (fun i => (z i : EReal)) (ix2 0 l) = ((∑ r, z (ix2 r l) * y (ix2 r l) : ℝ) : EReal) := by
  pointwise [k0_pay15, ← EReal.coe_mul, coe_sum]

theorem pay1_apply (l : Fin 128) : k0_pay1 (F := Ideal) (k0_pay16 (fun i => (y i : EReal)) (fun i => (z i : EReal))) (ix2 0 l) = ((∑ r, z (ix2 r l) * y (ix2 r l) : ℝ) : EReal) := by
  pointwise [k0_pay1, k0_pay16, ← EReal.coe_mul, coe_sum]

end payloads

section reference
open Cert.Reference4Ideal.Read

variable (x : S2048x1536.Idx → ℝ) (w : S4x1536.Idx → ℝ) (d : S3x2048x512.Idx → ℝ)

/-- A shifted column read from the column with three zeros before it. -/
theorem left_eq (k : Nat) (r : Fin 2048) (j : Fin 1536) (q : Fin 2051) (h : q.val + k = r.val + 3) :
    val_main_v1 (F := Ideal) (fun i => (x i : EReal)) (ix2 q j) = (dn k (fun r => x (ix2 r j)) r : EReal) := by
  pointwise [val_main_v1, val_main_v0, val_main_cst]
  unfold dn
  by_cases hk : k ≤ r.val
  · rw [dif_neg (by omega), if_pos hk]
    exact congrArg (fun z => (x (ix2 z j) : EReal)) (Fin.ext (by show q.val - 3 = r.val - k; omega))
  · rw [dif_pos (by omega), if_neg hk]
    rfl

theorem dn_zero (u : Fin 2048 → ℝ) (r : Fin 2048) : dn 0 u r = u r := if_pos (Nat.zero_le _)

/-- The convolution's row, by columns. -/
def pR (r : Fin 2048) (j : Fin 1536) : ℝ := conv (fun k => w (ix2 k j)) (fun r => x (ix2 r j)) r

theorem v31_eq : val_main_v31 (F := Ideal) (fun i => (x i : EReal)) (fun i => (w i : EReal)) = fun i : S2048x1536.Idx => (pR x w (i 0) (i 1) : EReal) := by
  funext i
  obtain ⟨r, j, rfl⟩ : ∃ r j, i = ix2 r j := ⟨i 0, i 1, by blk_ext []⟩
  pointwise [val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst_1]
  have hr := r.isLt
  rw [left_eq x 3 r j ⟨r.val, by omega⟩ rfl, left_eq x 2 r j ⟨1 + r.val, by omega⟩ (by show 1 + r.val + 2 = r.val + 3; omega),
    left_eq x 1 r j ⟨2 + r.val, by omega⟩ (by show 2 + r.val + 1 = r.val + 3; omega), left_eq x 0 r j ⟨3 + r.val, by omega⟩ (by show 3 + r.val + 0 = r.val + 3; omega), dn_zero]
  simp only [← EReal.coe_mul, ← EReal.coe_add]
  refine congrArg (fun z : ℝ => (z : EReal)) ?_
  unfold pR conv
  ring

theorem v32_2_eq : val_main_v32_2 (F := Ideal) (fun i => (x i : EReal)) (fun i => (w i : EReal)) = fun i : S2048x1536.Idx => (sg (pR x w (i 0) (i 1)) : EReal) := by
  funext i
  obtain ⟨r, j, rfl⟩ : ∃ r j, i = ix2 r j := ⟨i 0, i 1, by blk_ext []⟩
  pointwise [val_main_v32_2, val_main_call0_v4, val_main_call0_v3, val_main_call0_v2, val_main_call0_v1, val_main_call0_v0, val_main_call0_cst, val_main_call0_cst_0, v31_eq, lit_1, ← EReal.coe_neg, Ideal.exp_coe, ← EReal.coe_add, sg_coe]

/-- Lane `k` of head block `n`. -/
def lane (n : Fin 12) (k : Fin 128) : Fin 1536 := ⟨n.val * 128 + k.val, by omega⟩

/-- The gated row of a head block, and its cotangent's. -/
def cR (r : Fin 2048) (n : Fin 12) (k : Fin 128) : ℝ := pR x w r (lane n k) * sg (pR x w r (lane n k))
def gR (r : Fin 2048) (n : Fin 12) (k : Fin 128) : ℝ := d (ix3 ⟨n.val / 4, by omega⟩ r ⟨n.val % 4 * 128 + k.val, by omega⟩)

theorem v36_eq : val_main_v36 (F := Ideal) (fun i => (x i : EReal)) (fun i => (w i : EReal)) = fun i : Cert.Reference4Ideal.S2048x4x128.Idx => (cR x w (i 0) ⟨(i 1).val, lt_trans (i 1).isLt (by decide)⟩ (i 2) : EReal) := by
  funext i
  obtain ⟨r, h, k, rfl⟩ : ∃ r h k, i = ix3 r h k := ⟨i 0, i 1, i 2, by blk_ext []⟩
  pointwise [val_main_v36, val_main_v33, val_main_v32_0, v31_eq, v32_2_eq, ← EReal.coe_mul]
  rfl

theorem v37_eq : val_main_v37 (F := Ideal) (fun i => (x i : EReal)) (fun i => (w i : EReal)) = fun i : Cert.Reference4Ideal.S2048x4x128.Idx => (cR x w (i 0) ⟨4 + (i 1).val, Nat.add_lt_add_left (i 1).isLt 4 |>.trans (by decide)⟩ (i 2) : EReal) := by
  funext i
  obtain ⟨r, h, k, rfl⟩ : ∃ r h k, i = ix3 r h k := ⟨i 0, i 1, i 2, by blk_ext []⟩
  pointwise [val_main_v37, val_main_v34, val_main_v32_0, v31_eq, v32_2_eq, ← EReal.coe_mul]
  exact congrArg (fun j => ((pR x w r j * sg (pR x w r j) : ℝ) : EReal)) (Fin.ext (by show 512 + (h.val * 128 + k.val) = (4 + h.val) * 128 + k.val; omega))

theorem v78_eq : val_main_v78 (F := Ideal) (fun i => (d i : EReal)) = fun i : Cert.Reference4Ideal.S2048x4x128.Idx => (gR d (i 0) ⟨(i 1).val, lt_trans (i 1).isLt (by decide)⟩ (i 2) : EReal) := by
  funext i
  obtain ⟨r, h, k, rfl⟩ : ∃ r h k, i = ix3 r h k := ⟨i 0, i 1, i 2, by blk_ext []⟩
  pointwise [val_main_v78, val_main_v71, val_main_v70]
  have hh := h.isLt
  exact congrArg₂ (fun a b => (d (ix3 a r b) : EReal)) (Fin.ext (by show 0 = h.val / 4; omega)) (Fin.ext (by show h.val * 128 + k.val = h.val % 4 * 128 + k.val; omega))

theorem v77_eq : val_main_v77 (F := Ideal) (fun i => (d i : EReal)) = fun i : Cert.Reference4Ideal.S2048x4x128.Idx => (gR d (i 0) ⟨4 + (i 1).val, Nat.add_lt_add_left (i 1).isLt 4 |>.trans (by decide)⟩ (i 2) : EReal) := by
  funext i
  obtain ⟨r, h, k, rfl⟩ : ∃ r h k, i = ix3 r h k := ⟨i 0, i 1, i 2, by blk_ext []⟩
  pointwise [val_main_v77, val_main_v73, val_main_v72]
  have hh := h.isLt
  exact congrArg₂ (fun a b => (d (ix3 a r b) : EReal)) (Fin.ext (by show 1 = (4 + h.val) / 4; omega)) (Fin.ext (by show h.val * 128 + k.val = (4 + h.val) % 4 * 128 + k.val; omega))

theorem v76_eq : val_main_v76 (F := Ideal) (fun i => (d i : EReal)) = fun i : Cert.Reference4Ideal.S2048x4x128.Idx => (gR d (i 0) ⟨8 + (i 1).val, Nat.add_lt_add_left (i 1).isLt 8⟩ (i 2) : EReal) := by
  funext i
  obtain ⟨r, h, k, rfl⟩ : ∃ r h k, i = ix3 r h k := ⟨i 0, i 1, i 2, by blk_ext []⟩
  pointwise [val_main_v76, val_main_v75, val_main_v74]
  have hh := h.isLt
  exact congrArg₂ (fun a b => (d (ix3 a r b) : EReal)) (Fin.ext (by show 2 = (8 + h.val) / 4; omega)) (Fin.ext (by show h.val * 128 + k.val = (8 + h.val) % 4 * 128 + k.val; omega))

theorem dxRow1_eq (x g w : Fin 128 → ℝ) (l : Fin 128) :
    g l * w l * rr 1 x + x l * ((∑ k, x k * (g k * w k)) * (-(1 / 2) * (rr 1 x / ms 1 x)))
      + (∑ k, x k * (g k * w k)) * (-(1 / 2) * (rr 1 x / ms 1 x)) * x l = dxRow 1 x g w l := by
  rw [← dxRow_eq one_pos x g w l, div_one]

theorem v104_eq : val_main_v104 (F := Ideal) (fun i => (x i : EReal)) (fun i => (w i : EReal)) (fun i => (d i : EReal))
    = fun i : Cert.Reference4Ideal.S2048x4x128.Idx => (dxRow 1 (cR x w (i 0) ⟨(i 1).val, lt_trans (i 1).isLt (by decide)⟩) (gR d (i 0) ⟨(i 1).val, lt_trans (i 1).isLt (by decide)⟩) (fun _ => qs) (i 2) : EReal) := by
  funext i
  obtain ⟨r, h, k, rfl⟩ : ∃ r h k, i = ix3 r h k := ⟨i 0, i 1, i 2, by blk_ext []⟩
  pointwise [val_main_v104, val_main_v103, val_main_v102, val_main_v101, val_main_v100, val_main_v99, val_main_v98, val_main_v97, val_main_v96, val_main_v95, val_main_v94, val_main_v93, val_main_v92, val_main_v91, val_main_cst_11, val_main_cst_12, val_main_cst_13, val_main_v47, val_main_v46, val_main_v45, val_main_v44, val_main_v43, val_main_v42, val_main_v41, val_main_v40, val_main_v39, val_main_cst_2, val_main_cst_3, val_main_cst_4, v36_eq, v78_eq, lit_qs, lit_eps, lit_neg_half, ← EReal.coe_mul, coe_sum, ← EReal.coe_add, rsqrt_sum, div_sum, Fin.sum_univ_one]
  exact congrArg (fun z : ℝ => (z : EReal)) (dxRow1_eq (cR x w r ⟨h.val, by omega⟩) (gR d r ⟨h.val, by omega⟩) (fun _ => qs) k)

theorem v90_eq : val_main_v90 (F := Ideal) (fun i => (x i : EReal)) (fun i => (w i : EReal)) (fun i => (d i : EReal))
    = fun i : Cert.Reference4Ideal.S2048x4x128.Idx => (dxRow 1 (cR x w (i 0) ⟨4 + (i 1).val, Nat.add_lt_add_left (i 1).isLt 4 |>.trans (by decide)⟩) (gR d (i 0) ⟨4 + (i 1).val, Nat.add_lt_add_left (i 1).isLt 4 |>.trans (by decide)⟩) (fun _ => 1) (i 2) : EReal) := by
  funext i
  obtain ⟨r, h, k, rfl⟩ : ∃ r h k, i = ix3 r h k := ⟨i 0, i 1, i 2, by blk_ext []⟩
  pointwise [val_main_v90, val_main_v89, val_main_v88, val_main_v87, val_main_v86, val_main_v85, val_main_v84, val_main_v83, val_main_v82, val_main_v81, val_main_v80, val_main_v79, val_main_cst_9, val_main_cst_10, val_main_v60, val_main_v59, val_main_v58, val_main_v57, val_main_v56, val_main_v55, val_main_v54, val_main_v53, val_main_v52, val_main_cst_6, val_main_cst_7, val_main_cst_8, v37_eq, v77_eq, lit_eps, lit_neg_half, ← EReal.coe_mul, coe_sum, ← EReal.coe_add, rsqrt_sum, div_sum, Fin.sum_univ_one]
  refine congrArg (fun z : ℝ => (z : EReal)) ?_
  rw [← dxRow1_eq]
  simp only [mul_one]

/-- The cotangent of the convolution's row, by columns. -/
def zR (r : Fin 2048) (j : Fin 1536) : ℝ :=
  dpre (j.val / 128) (fun k => pR x w r (lane ⟨j.val / 128, by omega⟩ k)) (gR d r ⟨j.val / 128, by omega⟩) ⟨j.val % 128, by omega⟩

theorem exists_lane (j : Fin 1536) : ∃ n k, j = lane n k :=
  ⟨⟨j.val / 128, by omega⟩, ⟨j.val % 128, by omega⟩, Fin.ext (by show j.val = j.val / 128 * 128 + j.val % 128; omega)⟩

theorem zR_lane (r : Fin 2048) (n : Fin 12) (k : Fin 128) : zR x w d r (lane n k) = dpre n.val (fun k => pR x w r (lane n k)) (gR d r n) k := by
  have e : ∀ a (ha : a < 12) b (hb : b < 128), a = n.val → b = k.val →
      dpre a (fun k => pR x w r (lane ⟨a, ha⟩ k)) (gR d r ⟨a, ha⟩) ⟨b, hb⟩ = dpre n.val (fun k => pR x w r (lane n k)) (gR d r n) k := by
    rintro _ _ _ _ rfl rfl; rfl
  have hk := k.isLt
  exact e _ _ _ _ (by show (n.val * 128 + k.val) / 128 = n.val; omega) (by show (n.val * 128 + k.val) % 128 = k.val; omega)

theorem v107_apply (r : Fin 2048) (h : Fin 4) (k : Fin 128) (q : Fin 512) (hq : q.val = h.val * 128 + k.val) :
    val_main_v107 (F := Ideal) (fun i => (x i : EReal)) (fun i => (w i : EReal)) (fun i => (d i : EReal)) (ix2 r q)
      = val_main_v104 (F := Ideal) (fun i => (x i : EReal)) (fun i => (w i : EReal)) (fun i => (d i : EReal)) (ix3 r h k) := by
  have hr : r.val < 2048 := r.isLt
  have hh : h.val < 4 := h.isLt
  have hk : k.val < 128 := k.isLt
  refine (val_main_v107_apply _ _ _ _).trans (congrArg _ ?_)
  blk_ext [idx_main_v107] <;> omega

theorem v106_apply (r : Fin 2048) (h : Fin 4) (k : Fin 128) (q : Fin 512) (hq : q.val = h.val * 128 + k.val) :
    val_main_v106 (F := Ideal) (fun i => (x i : EReal)) (fun i => (w i : EReal)) (fun i => (d i : EReal)) (ix2 r q)
      = val_main_v90 (F := Ideal) (fun i => (x i : EReal)) (fun i => (w i : EReal)) (fun i => (d i : EReal)) (ix3 r h k) := by
  have hr : r.val < 2048 := r.isLt
  have hh : h.val < 4 := h.isLt
  have hk : k.val < 128 := k.isLt
  refine (val_main_v106_apply _ _ _ _).trans (congrArg _ ?_)
  blk_ext [idx_main_v106] <;> omega

theorem v105_apply (r : Fin 2048) (h : Fin 4) (k : Fin 128) (q : Fin 512) (hq : q.val = h.val * 128 + k.val) :
    val_main_v105 (F := Ideal) (fun i => (d i : EReal)) (ix2 r q) = val_main_v76 (F := Ideal) (fun i => (d i : EReal)) (ix3 r h k) := by
  have hr : r.val < 2048 := r.isLt
  have hh : h.val < 4 := h.isLt
  have hk : k.val < 128 := k.isLt
  refine (val_main_v105_apply _ _).trans (congrArg _ ?_)
  blk_ext [idx_main_v105] <;> omega

theorem v108_apply (r : Fin 2048) (n : Fin 12) (k : Fin 128) :
    val_main_v108 (F := Ideal) (fun i => (x i : EReal)) (fun i => (w i : EReal)) (fun i => (d i : EReal)) (ix2 r (lane n k)) = (dgate n.val (cR x w r n) (gR d r n) k : EReal) := by
  have hn := n.isLt
  have hk := k.isLt
  pointwise [val_main_v108]
  have hl : (lane n k).val = n.val * 128 + k.val := rfl
  unfold dgate sc
  by_cases h4 : n.val < 4
  · refine (dif_pos (by omega)).trans ?_
    refine (v107_apply x w d r ⟨n.val, h4⟩ k _ hl).trans ?_
    rw [v104_eq, if_pos (by omega)]
    simp only [if_pos h4]
    rfl
  · refine (dif_neg (by omega)).trans ?_
    by_cases h8 : n.val < 8
    · have e : (⟨4 + (n.val - 4), by omega⟩ : Fin 12) = n := Fin.ext (by show 4 + (n.val - 4) = n.val; omega)
      refine (dif_pos (by omega)).trans ?_
      refine (v106_apply x w d r ⟨n.val - 4, by omega⟩ k _ (by show (lane n k).val - 512 = (n.val - 4) * 128 + k.val; omega)).trans ?_
      rw [v90_eq, if_pos h8]
      simp only [if_neg h4]
      exact congrArg (fun n => (dxRow 1 (cR x w r n) (gR d r n) (fun _ => 1) k : EReal)) e
    · have e : (⟨8 + (n.val - 8), by omega⟩ : Fin 12) = n := Fin.ext (by show 8 + (n.val - 8) = n.val; omega)
      refine (dif_neg (by omega)).trans ?_
      refine (v105_apply d r ⟨n.val - 8, by omega⟩ k _ (by show (lane n k).val - 512 - 512 = (n.val - 8) * 128 + k.val; omega)).trans ?_
      rw [v76_eq, if_neg h8, if_neg h4, mul_one]
      exact congrArg (fun n => (gR d r n k : EReal)) e

theorem v109_eq : val_main_v109 (F := Ideal) (fun i => (x i : EReal)) (fun i => (w i : EReal)) (fun i => (d i : EReal)) = fun i : S2048x1536.Idx => (zR x w d (i 0) (i 1) : EReal) := by
  funext i
  obtain ⟨r, j, rfl⟩ : ∃ r j, i = ix2 r j := ⟨i 0, i 1, by blk_ext []⟩
  obtain ⟨n, k, rfl⟩ := exists_lane j
  pointwise [val_main_v109, val_main_call1_v0, val_main_call1_v1, val_main_call1_v2, val_main_v32_1, val_main_call0_v7, val_main_call0_v6, val_main_call0_cst_1, lit_1, v31_eq, v32_2_eq, v108_apply x w d r n k, ← EReal.coe_mul, ← EReal.coe_sub, ← EReal.coe_add]
  refine congrArg (fun z : ℝ => (z : EReal)) ?_
  rw [zR_lane]
  unfold dpre cR
  ring

theorem up_pad (k : Nat) (u : Fin 2048 → ℝ) (b : ℝ) (r : Fin 2048) {P : Prop} [Decidable P] (hP : P ↔ r.val + k < 2048) (q : P → Fin 2048) (hq : ∀ h, (q h).val = r.val + k) :
    (if h : P then (u (q h) : EReal) * (b : EReal) else 0) = ((up k u r * b : ℝ) : EReal) := by
  unfold up
  by_cases h : P
  · rw [dif_pos h, dif_pos (hP.mp h), EReal.coe_mul]
    exact congrArg (fun a => (u a : EReal) * (b : EReal)) (Fin.ext (hq h))
  · rw [dif_neg h, dif_neg (fun hh => h (hP.mpr hh)), zero_mul]
    rfl

theorem v153_apply (z : Fin 2048 → Fin 1536 → ℝ) (hz : val_main_v109 (F := Ideal) (fun i => (x i : EReal)) (fun i => (w i : EReal)) (fun i => (d i : EReal)) = fun i : S2048x1536.Idx => (z (i 0) (i 1) : EReal))
    (r : Fin 2048) (j : Fin 1536) :
    val_main_v153 (F := Ideal) (fun i => (x i : EReal)) (fun i => (w i : EReal)) (fun i => (d i : EReal)) (ix2 r j) = (convT (fun k => w (ix2 k j)) (fun r => z r j) r : EReal) := by
  pointwise [val_main_v153, val_main_v151, val_main_v150, val_main_v145, val_main_v144, val_main_v140, val_main_v139, val_main_v134, val_main_v133, val_main_v129, val_main_v128, val_main_v123, val_main_v122, val_main_v118, val_main_v114, val_main_v113, val_main_cst_17, val_main_cst_21, val_main_cst_25, val_main_cst_29, hz,
    val_main_v6, val_main_v5, val_main_v4, val_main_v14, val_main_v13, val_main_v12, val_main_v21, val_main_v20, val_main_v19, val_main_v28, val_main_v27, val_main_v26]
  have hr := r.isLt
  refine (congrArg₂ (fun a b : EReal => a + b) (congrArg₂ (fun a b : EReal => a + b) (congrArg (fun b : EReal => (z r j : EReal) * (w (ix2 3 j) : EReal) + b)
    (up_pad 1 (fun r => z r j) (w (ix2 2 j)) r (by omega) (fun h => ⟨3 + r.val - 2, h.2⟩) fun h => by show 3 + r.val - 2 = r.val + 1; omega))
    (up_pad 2 (fun r => z r j) (w (ix2 1 j)) r (by omega) (fun h => ⟨3 + r.val - 1, h.2⟩) fun h => by show 3 + r.val - 1 = r.val + 2; omega))
    (up_pad 3 (fun r => z r j) (w (ix2 0 j)) r (by omega) (fun h => ⟨3 + r.val, h⟩) fun h => by show 3 + r.val = r.val + 3; omega)).trans ?_
  simp only [← EReal.coe_mul, ← EReal.coe_add]
  refine congrArg (fun z : ℝ => (z : EReal)) ?_
  unfold convT
  ring

theorem v149_apply (z : Fin 2048 → Fin 1536 → ℝ) (hz : val_main_v109 (F := Ideal) (fun i => (x i : EReal)) (fun i => (w i : EReal)) (fun i => (d i : EReal)) = fun i : S2048x1536.Idx => (z (i 0) (i 1) : EReal))
    (k : Fin 4) (j : Fin 1536) :
    val_main_v149 (F := Ideal) (fun i => (x i : EReal)) (fun i => (w i : EReal)) (fun i => (d i : EReal)) (ix2 k j) = ((∑ r, z r j * dn (3 - k.val) (fun r => x (ix2 r j)) r : ℝ) : EReal) := by
  pointwise [val_main_v149, val_main_v148, val_main_v147, val_main_v146, val_main_v143, val_main_v142, val_main_v141, val_main_v138, val_main_v137, val_main_v136, val_main_v135, val_main_v132, val_main_v131, val_main_v130, val_main_v127, val_main_v126, val_main_v125, val_main_v124, val_main_v121, val_main_v120, val_main_v119, val_main_v117, val_main_v116, val_main_v115, val_main_v112, val_main_v111, val_main_v110,
    val_main_cst_14, val_main_cst_15, val_main_cst_16, val_main_cst_18, val_main_cst_19, val_main_cst_20, val_main_cst_22, val_main_cst_23, val_main_cst_24, val_main_cst_26, val_main_cst_27, val_main_cst_28, val_main_v3, val_main_v11, val_main_v18, val_main_v25, hz, Fin.sum_univ_one]
  have hs : ∀ q : Fin 2048 → Fin 2051, (∀ r : Fin 2048, (q r).val = k.val + r.val) →
      ∑ r, val_main_v1 (F := Ideal) (fun i => (x i : EReal)) (ix2 (q r) j) * (z r j : EReal) = ((∑ r, z r j * dn (3 - k.val) (fun r => x (ix2 r j)) r : ℝ) : EReal) := fun q hq => by
    refine (Finset.sum_congr rfl fun r _ => ?_).trans (coe_sum _ _)
    rw [left_eq x (3 - k.val) r j (q r) (by rw [hq]; omega), ← EReal.coe_mul, mul_comm]
  obtain h | h | h | h : k.val = 0 ∨ k.val = 1 ∨ k.val = 2 ∨ k.val = 3 := by omega
  · rw [dif_neg (by omega), dif_neg (by omega), dif_neg (by omega), dif_pos (by omega), add_zero, add_zero, zero_add]
    exact hs _ fun r => by show r.val = k.val + r.val; omega
  · rw [dif_neg (by omega), dif_neg (by omega), dif_pos (by omega), dif_neg (by omega), add_zero, zero_add, zero_add]
    exact hs _ fun r => by show 1 + r.val = k.val + r.val; omega
  · rw [dif_neg (by omega), dif_pos (by omega), dif_neg (by omega), dif_neg (by omega), add_zero, add_zero, zero_add]
    exact hs _ fun r => by show 2 + r.val = k.val + r.val; omega
  · rw [dif_pos (by omega), dif_neg (by omega), dif_neg (by omega), dif_neg (by omega), add_zero, add_zero, add_zero]
    exact hs _ fun r => by show 3 + r.val = k.val + r.val; omega

/-- The array whose middle columns the gradient replaces. -/
theorem v157_apply (y : (⟨S2048x3840, .bf16⟩ : BufTy).Contents (Elt Ideal)) (r : Fin 2048) (q : Fin 3840) :
    val_main_v157 (F := Ideal) (fun i => (x i : EReal)) (fun i => (w i : EReal)) (fun i => (d i : EReal)) y (ix2 r q)
      = if h : 1536 ≤ q.val ∧ q.val < 3072 then val_main_v153 (F := Ideal) (fun i => (x i : EReal)) (fun i => (w i : EReal)) (fun i => (d i : EReal)) (ix2 r ⟨q.val - 1536, by omega⟩) else y (ix2 r q) := by
  have hq := q.isLt
  pointwise [val_main_v157, val_main_v156, val_main_v155, val_main_v154]
  by_cases h1 : q.val < 1536
  · rw [dif_pos h1, dif_neg (by omega)]
  · refine (dif_neg h1).trans ?_
    by_cases h2 : q.val < 3072
    · rw [dif_pos (by omega : q.val - 1536 < 1536), dif_pos (by omega)]
    · refine (dif_neg (by omega)).trans ?_
      rw [dif_neg (by omega)]
      exact congrArg (fun q => y (ix2 r q)) (Fin.ext (by show 3072 + (q.val - 1536 - 1536) = q.val; omega))

end reference

variable (m : (ℓ : Loc nD τ sig) → Buf (Elt Ideal) ℓ)

theorem idx : ∀ t : Fin cfg0.N, win0_0.index t = ![0, 12 + t.val] ∧ win0_1.index t = ![0, t.val] ∧ win0_2.index t = ![t.val / 4, 0, t.val % 4]
    ∧ win0_3.index t = ![0, 12 + t.val] ∧ win0_4.index t = ![0, t.val] ∧ (grid0.coords t 0).val = t.val :=
  (by decide +kernel : ∀ t : Fin grid0.N, _)

theorem lt12 (t : Fin cfg0.N) : t.val < 12 := t.isLt
def pt (t : Fin cfg0.N) : Fin 12 := ⟨t.val, t.isLt⟩

section final
variable (c : Dev nD) (x : S2048x1536.Idx → ℝ) (w : S4x1536.Idx → ℝ) (d : S3x2048x512.Idx → ℝ)
  (hx : m ((c : Thread nD τ).loc main_arg0) = fun i => (x i : EReal)) (hw : m ((c : Thread nD τ).loc main_arg1) = fun i => (w i : EReal))
  (hd : m ((c : Thread nD τ).loc main_arg2) = fun i => (d i : EReal))

def xB (t : Fin cfg0.N) (i : S2048x128.Idx) : ℝ := x (ix2 (i 0) (lane (pt t) (i 1)))
def wB (t : Fin cfg0.N) (i : S4x128.Idx) : ℝ := w (ix2 (i 0) (lane (pt t) (i 1)))
def dB (t : Fin cfg0.N) (i : S1x2048x128.Idx) : ℝ := gR d (i 1) (pt t) (i 2)

theorem entry : StableHlo.after [hostOps0 (F := Ideal), hostOps0_1, hostOps0_2].flatten (fun b => m (c, b))
    = StableHlo.after [StableHlo.nullary main_c (constantI S_ 32 0#32),
      StableHlo.TRef.unary (.of main_c : StableHlo.TRef sig ⟨S_, .i32⟩) (.of main_call0_v0 : StableHlo.TRef sig ⟨S_, .f32⟩) (sitofp (F := Ideal) .f32),
      StableHlo.TRef.binary (.of main_arg0 : StableHlo.TRef sig ⟨S2048x1536, .f32⟩) (.of main_call0_v0 : StableHlo.TRef sig ⟨S_, .f32⟩) (.of main_v0 : StableHlo.TRef sig ⟨S2048x3840, .f32⟩)
        (fun x v => pad S2048x3840 ![0, 1536] ![0, 768] ![0, 0] x v pads_S2048x1536_S2048x3840_000_15367680 h_S_),
      StableHlo.unary main_arg3 main_v1_0 id] (fun b => m (c, b)) := rfl

theorem entry_v0 : StableHlo.after [hostOps0 (F := Ideal), hostOps0_1, hostOps0_2].flatten (fun b => m (c, b)) (Proc.tc.devRef main_v0)
    = pad S2048x3840 ![0, 1536] ![0, 768] ![0, 0] (m ((c : Thread nD τ).loc main_arg0) : S2048x1536.Idx → EReal) (sitofp (F := Ideal) .f32 (constantI S_ 32 0#32)) pads_S2048x1536_S2048x3840_000_15367680 h_S_ := by
  rw [entry]
  entry_read
  rfl

theorem entry_v1 : StableHlo.after [hostOps0 (F := Ideal), hostOps0_1, hostOps0_2].flatten (fun b => m (c, b)) (Proc.tc.devRef main_v1_0)
    = m ((c : Thread nD τ).loc main_arg3) := by
  rw [entry]
  entry_read
  rfl

include hx in
theorem blkX (t : Fin cfg0.N) : iblk m c 0 t = fun i : S2048x128.Idx => (xB x t i : EReal) := by
  funext i
  obtain ⟨r, l, rfl⟩ : ∃ r l, i = ix2 r l := ⟨i 0, i 1, by blk_ext []⟩
  blk_simp [iblk]
  have he : ((cfg0.win 0).blk t).view.emb (ix2 r l) = ix2 r ⟨(12 + t.val) * 128 + l.val, by have := lt12 t; omega⟩ := by blk_ext [idx t]
  rw [he]
  unfold V
  rw [entry_v0, hx]
  have hl := l.isLt
  have ht := lt12 t
  have hr := r.isLt
  pointwise
  refine (dif_pos fun a => ?_).trans ?_
  · match a with
    | ⟨0, _⟩ => show 0 ≤ r.val ∧ (r.val - 0) % 1 = 0 ∧ (r.val - 0) / 1 < 2048; omega
    | ⟨1, _⟩ => show 1536 ≤ (12 + t.val) * 128 + l.val ∧ ((12 + t.val) * 128 + l.val - 1536) % 1 = 0 ∧ ((12 + t.val) * 128 + l.val - 1536) / 1 < 1536; omega
  · exact congrArg (fun q => (x (ix2 r q) : EReal)) (Fin.ext (by show (12 + t.val) * 128 + l.val - 1536 = t.val * 128 + l.val; omega))

include hw in
theorem blkW (t : Fin cfg0.N) : iblk m c 1 t = fun i : S4x128.Idx => (wB w t i : EReal) := by
  funext i
  refine Eq.trans ?_ (congrFun hw _)
  blk_ext [iblk, V, idx t, lane, pt]

include hd in
theorem blkD (t : Fin cfg0.N) : iblk m c 2 t = fun i : S1x2048x128.Idx => (dB d t i : EReal) := by
  funext i
  refine Eq.trans ?_ (congrFun hd _)
  blk_ext [iblk, V, idx t, lane, pt]

/-- What the body computes before the shifted products, at point `t`. -/
def zB (t : Fin cfg0.N) (i : S2048x128.Idx) : ℝ := zR x w d (i 0) (lane (pt t) (i 1))

include hx hw hd in
theorem zblk (t : Fin cfg0.N) : k0_pay8 (F := Ideal) (BitVec.ofNat 32 t.val) (k0_pay6 (iblk m c 0 t) (iblk m c 1 t)) (k0_pay7 (iblk m c 0 t) (iblk m c 1 t)) (iblk m c 2 t)
    = fun i : S2048x128.Idx => (zB x w d t i : EReal) := by
  rw [blkX m c x hx t, blkW m c w hw t, blkD m c d hd t, pay7_eq (xB x t) (wB w t) _ (pay6_eq (xB x t) (wB w t)), pay6_eq (xB x t) (wB w t)]
  refine (pay8_eq (dB d t) (fun i => conv (fun j => wB w t (ix2 j (i 1))) (fun r => xB x t (ix2 r (i 1))) (i 0)) t.val (lt12 t)).trans ?_
  funext i
  exact congrArg (fun z : ℝ => (z : EReal)) (zR_lane x w d (i 0) (pt t) (i 1)).symm

include hx hw hd in
theorem final_dx : (dats m 0 c).arrAt 3 (cfgs 0).N
    = Cert.Reference4Ideal.Read.val_main_v157 (F := Ideal) (m ((c : Thread nD τ).loc main_arg0)) (m ((c : Thread nD τ).loc main_arg1)) (m ((c : Thread nD τ).loc main_arg2)) (m ((c : Thread nD τ).loc main_arg3)) := by
  rw [hx, hw, hd]
  refine (dats m 0 c).arrAt_eq_of_coversWhere_of_agree 3 _ (fun β => 12 ≤ β 1 ∧ β 1 < 24) (by decide +kernel) (fun t _ y' => ?_) (fun j hj => ?_)
  · blk_simp
    obtain ⟨r, l, rfl⟩ : ∃ r l, y' = ix2 r l := ⟨y' 0, y' 1, by blk_ext []⟩
    have hl := l.isLt
    have ht := lt12 t
    have he : ((View.whole main_v1_0).slice (win0_3.rect t)).emb (ix2 r l) = ix2 r ⟨(12 + t.val) * 128 + l.val, by omega⟩ := by blk_ext [idx t]
    have hn : (⟨(12 + t.val) * 128 + l.val - 1536, by omega⟩ : Fin 1536) = lane (pt t) l := Fin.ext (by show (12 + t.val) * 128 + l.val - 1536 = t.val * 128 + l.val; omega)
    refine Eq.trans (b := (convT (fun k => w (ix2 k (lane (pt t) l))) (fun r => zR x w d r (lane (pt t) l)) r : EReal)) ?_ ?_
    · rw [after0_3]
      unfold outsAt0
      frame_out
      have hz := zblk m c x w d hx hw hd t
      have h12 := fun n p q h => congrFun (pay12_eq (wB w t) (dB d t) n p q (zB x w d t) h) (ix2 r l)
      rw [← blkW m c w hw t, ← blkD m c d hd t] at h12
      rw [(idx t).2.2.2.2.2, hz]
      exact h12 _ _ _ hz
    · rw [he, v157_apply]
      refine Eq.symm ((dif_pos (show 1536 ≤ (12 + t.val) * 128 + l.val ∧ (12 + t.val) * 128 + l.val < 3072 from by omega)).trans ?_)
      rw [hn, v153_apply x w d _ (v109_eq x w d)]
  · blk_simp [Pipeline.Window.cell_apply] at hj
    obtain ⟨r, q, rfl⟩ : ∃ (r : Fin 2048) (q : Fin 3840), j = ix2 r q := ⟨j 0, j 1, by blk_ext []⟩
    have he : (cfg0.win 3).arr.view.emb (ix2 r q) = ix2 r q := rfl
    have hj : ¬(12 ≤ q.val / 128 ∧ q.val / 128 < 24) := hj
    rw [A_eq, he, v157_apply, dif_neg (by omega)]
    exact congrFun (entry_v1 m c) _

/-- The four rows of the weight's gradient at point `t`. -/
def rows (t : Fin cfg0.N) (i : S4x128.Idx) : EReal := ((∑ r, zB x w d t (ix2 r (i 1)) * dn (3 - (i 0).val) (fun r => xB x t (ix2 r (i 1))) r : ℝ) : EReal)

theorem rows_piece (t : Fin cfg0.N) (n : Fin 4) (P : S1x128.Idx → EReal) (inb : ∀ a, (![n.val, 0] : Fin 2 → Nat) a + (![1, 128] : Fin 2 → Nat) a ≤ S4x128.size a)
    (h : ∀ l, P (ix2 0 l) = ((∑ r, zB x w d t (ix2 r l) * dn (3 - n.val) (fun r => xB x t (ix2 r l)) r : ℝ) : EReal)) (y : S1x128.Idx) :
    P y = rows x w d t ((Rect.unit (s := S4x128) ![n.val, 0] ![1, 128] inb).emb y) := by
  obtain ⟨a, l, rfl⟩ : ∃ a l, y = ix2 a l := ⟨y 0, y 1, by blk_ext []⟩
  obtain rfl : a = 0 := Subsingleton.elim _ _
  have e : (Rect.unit (s := S4x128) ![n.val, 0] ![1, 128] inb).emb (ix2 0 l) = ix2 n l := by blk_ext []
  rw [e, h]
  rfl

include hx hw hd in
theorem final_dw : (dats m 0 c).arrAt 4 (cfgs 0).N
    = Cert.Reference4Ideal.Read.val_main_v149 (F := Ideal) (m ((c : Thread nD τ).loc main_arg0)) (m ((c : Thread nD τ).loc main_arg1)) (m ((c : Thread nD τ).loc main_arg2)) := by
  rw [hx, hw, hd]
  refine (dats m 0 c).arrAt_eq_of_covers 4 _ (by decide +kernel) fun t _ y' => ?_
  blk_simp
  obtain ⟨k, l, rfl⟩ : ∃ k l, y' = ix2 k l := ⟨y' 0, y' 1, by blk_ext []⟩
  have he : ((View.whole main_v1_1).slice (win0_4.rect t)).emb (ix2 k l) = ix2 k (lane (pt t) l) := by blk_ext [idx t, lane, pt]
  rw [he, v149_apply x w d _ (v109_eq x w d), after0_4]
  unfold outsAt0
  frame_out
  have hz : k0_pay8 (F := Ideal) (BitVec.ofNat 32 (grid0.coords t 0).val) (k0_pay6 (iblk m c 0 t) (iblk m c 1 t)) (k0_pay7 (iblk m c 0 t) (iblk m c 1 t)) (iblk m c 2 t) = _ :=
    (congrArg (fun n => k0_pay8 (F := Ideal) (BitVec.ofNat 32 n) _ _ _) ((idx t).2.2.2.2.2)).trans (zblk m c x w d hx hw hd t)
  rw [hz, blkX m c x hx t, pay2_eq, pay3_eq, pay4_eq, pay5_eq]
  refine View.canon_apply_of_pieces (Val := Elt Ideal) (S := S4x128) (e := .f32) (rows x w d t) _ ?_ (ix2 k l) ?_
  · intro p hp
    simp only [List.mem_cons, List.not_mem_nil, or_false] at hp
    obtain rfl | rfl | rfl | rfl := hp
    · exact rows_piece x w d t 3 _ inb_S4x128_S1x128_3_0 fun l => pay1_apply (zB x w d t) (fun i => dn 0 (fun r => xB x t (ix2 r (i 1))) (i 0)) l
    · exact rows_piece x w d t 2 _ inb_S4x128_S1x128_2_0 fun l => pay15_apply (zB x w d t) (fun i => dn 1 (fun r => xB x t (ix2 r (i 1))) (i 0)) l
    · exact rows_piece x w d t 1 _ inb_S4x128_S1x128_1_0 fun l => pay14_apply (zB x w d t) (fun i => dn 2 (fun r => xB x t (ix2 r (i 1))) (i 0)) l
    · exact rows_piece x w d t 0 _ inb_S4x128_S1x128_0_0 fun l => pay13_apply (zB x w d t) (fun i => dn 3 (fun r => xB x t (ix2 r (i 1))) (i 0)) l
  · have hl := l.isLt
    have mem : ∀ n : Nat, k.val = n → ∀ a, (![n, 0] : Fin 2 → Nat) a ≤ ix2 k l a ∧ (ix2 k l a).val < (![n, 0] : Fin 2 → Nat) a + (![1, 128] : Fin 2 → Nat) a := fun n h a => by
      match a with
      | ⟨0, _⟩ => show n ≤ k.val ∧ k.val < n + 1; omega
      | ⟨1, _⟩ => show 0 ≤ l.val ∧ l.val < 0 + 128; omega
    obtain h | h | h | h : k.val = 3 ∨ k.val = 2 ∨ k.val = 1 ∨ k.val = 0 := by omega
    · exact ⟨_, .head _, (Rect.mem_set_unit (inb := inb_S4x128_S1x128_3_0)).mpr (mem 3 h)⟩
    · exact ⟨_, .tail _ (.head _), (Rect.mem_set_unit (inb := inb_S4x128_S1x128_2_0)).mpr (mem 2 h)⟩
    · exact ⟨_, .tail _ (.tail _ (.head _)), (Rect.mem_set_unit (inb := inb_S4x128_S1x128_1_0)).mpr (mem 1 h)⟩
    · exact ⟨_, .tail _ (.tail _ (.tail _ (.head _))), (Rect.mem_set_unit (inb := inb_S4x128_S1x128_0_0)).mpr (mem 0 h)⟩

end final

end Cert.Kernel4Ideal.GdnPre
-- ==== Proof.MidBwd.lean ====
/- The gradient of the two norms around the first residual, over the product that feeds them: the second norm's gradient
   added to the residual's, the mixer norm's gradient of that, and the two gains' sums over the row blocks. -/
module

public import Idealize.ShloMosaic.Lib.Pipeline.ValueKit
public import proofs.«01_k».proof.Proof.Gen.Kernel5Ideal.Value
public import proofs.«01_k».proof.Proof.Gen.Reference5Ideal.Read
public import proofs.«01_k».proof.Proof.Rows
public import Idealize.ShloMosaic.Lib.Tactic

@[expose] public section

noncomputable section

namespace Cert.Kernel5Ideal.MidBwd

open Cert.Kernel5Ideal Cert.Kernel5Ideal.Gen Idealize.ShloMosaic Idealize.ShloMosaic.TcCoe Idealize.SL.Sem Cert.Reals

/-- The residual after the mixer's output norm: `x` plus the normed row `y` with gain `w`. -/
def res (x y w : Fin 1024 → ℝ) (l : Fin 1024) : ℝ := x l + y l * rr 1024 y * w l

/-- The product of a row block with the transposed weight, its four column blocks one after another. -/
def acc (a : Vec Ideal S512x4096 .bf16) (b : Vec Ideal S4x1024x1024 .bf16) : FVec Ideal S512x1024 .f32 :=
  k0_pay6 (View.ld (Val := Elt Ideal) (S := S512x4096) (e' := .bf16) a (Rect.unit ![0, 0] ![512, 1024] inb_S512x4096_S512x1024_0_0)) (View.ld (Val := Elt Ideal) (S := S4x1024x1024) (e' := .bf16) b (Rect.unit ![0, 0, 0] ![1, 1024, 1024] inb_S4x1024x1024_S1x1024x1024_0_0_0))
    (View.ld (Val := Elt Ideal) (S := S512x4096) (e' := .bf16) a (Rect.unit ![0, 1024] ![512, 1024] inb_S512x4096_S512x1024_0_1024)) (View.ld (Val := Elt Ideal) (S := S4x1024x1024) (e' := .bf16) b (Rect.unit ![1, 0, 0] ![1, 1024, 1024] inb_S4x1024x1024_S1x1024x1024_1_0_0))
    (View.ld (Val := Elt Ideal) (S := S512x4096) (e' := .bf16) a (Rect.unit ![0, 2048] ![512, 1024] inb_S512x4096_S512x1024_0_2048)) (View.ld (Val := Elt Ideal) (S := S4x1024x1024) (e' := .bf16) b (Rect.unit ![2, 0, 0] ![1, 1024, 1024] inb_S4x1024x1024_S1x1024x1024_2_0_0))
    (View.ld (Val := Elt Ideal) (S := S512x4096) (e' := .bf16) a (Rect.unit ![0, 3072] ![512, 1024] inb_S512x4096_S512x1024_0_3072)) (View.ld (Val := Elt Ideal) (S := S4x1024x1024) (e' := .bf16) b (Rect.unit ![3, 0, 0] ![1, 1024, 1024] inb_S4x1024x1024_S1x1024x1024_3_0_0))

theorem pay6_apply (a0 a1 a2 a3 : S512x1024.Idx → ℝ) (b0 b1 b2 b3 : S1x1024x1024.Idx → ℝ) (r : Fin 512) (l : Fin 1024) :
    k0_pay6 (F := Ideal) (fun i => (a0 i : EReal)) (fun i => (b0 i : EReal)) (fun i => (a1 i : EReal)) (fun i => (b1 i : EReal))
        (fun i => (a2 i : EReal)) (fun i => (b2 i : EReal)) (fun i => (a3 i : EReal)) (fun i => (b3 i : EReal)) (ix2 r l)
      = ((∑ k, a0 (ix2 r k) * b0 (ix3 0 l k) + ∑ k, a1 (ix2 r k) * b1 (ix3 0 l k) + ∑ k, a2 (ix2 r k) * b2 (ix3 0 l k) + ∑ k, a3 (ix2 r k) * b3 (ix3 0 l k) : ℝ) : EReal) := by
  pointwise [k0_pay6, ← EReal.coe_mul, coe_sum, ← EReal.coe_add]

/-- Column block `s` of a row block. -/
def col (a : S512x4096.Idx → ℝ) (s : Fin 4) (i : S512x1024.Idx) : ℝ :=
  a (ix2 (i 0) ⟨s.val * 1024 + (i 1).val, by have h : (i 1).val < 1024 := (i 1).isLt; omega⟩)

/-- Block `s` of the stacked weight. -/
def stk (b : S4x1024x1024.Idx → ℝ) (s : Fin 4) (i : S1x1024x1024.Idx) : ℝ := b (ix3 s (i 1) (i 2))

theorem acc_eq (a : S512x4096.Idx → ℝ) (b : S4x1024x1024.Idx → ℝ) : acc (fun i => (a i : EReal)) (fun i => (b i : EReal))
    = k0_pay6 (F := Ideal) (fun i => (col a 0 i : EReal)) (fun i => (stk b 0 i : EReal)) (fun i => (col a 1 i : EReal)) (fun i => (stk b 1 i : EReal))
        (fun i => (col a 2 i : EReal)) (fun i => (stk b 2 i : EReal)) (fun i => (col a 3 i : EReal)) (fun i => (stk b 3 i : EReal)) := by
  unfold acc
  congr 1 <;> funext y <;> first
    | exact View.ld_unit_apply_of (S := S512x4096) (e := .bf16) _ _ _ _ y _ fun q => by fin_cases q <;> simp
    | exact View.ld_unit_apply_of (S := S4x1024x1024) (e := .bf16) _ _ _ _ y _ fun q => by fin_cases q <;> simp

/-- With the weight's column blocks stacked, the product is one sum over all columns. -/
theorem acc_apply (a : S512x4096.Idx → ℝ) (b : S4x1024x1024.Idx → ℝ) (w : S1024x4096.Idx → ℝ)
    (hw : ∀ (s : Fin 4) (l k : Fin 1024) (h : s.val * 1024 + k.val < 4096), b (ix3 s l k) = w (ix2 l ⟨s.val * 1024 + k.val, h⟩)) (r : Fin 512) (l : Fin 1024) :
    acc (fun i => (a i : EReal)) (fun i => (b i : EReal)) (ix2 r l) = ((∑ k, a (ix2 r k) * w (ix2 l k) : ℝ) : EReal) := by
  rw [acc_eq]
  refine (pay6_apply _ _ _ _ _ _ _ _ r l).trans (congrArg (fun z : ℝ => (z : EReal)) ?_)
  refine (Fin.sum_univ_four (fun s : Fin 4 => ∑ k : Fin 1024, col a s (ix2 r k) * stk b s (ix3 0 l k))).symm.trans ?_
  refine Fin.sum_mul_add_congr fun s k hl => ?_
  exact congrArg (fun z : ℝ => a (ix2 r ⟨s.val * 1024 + k.val, hl⟩) * z) (hw s l k hl)

section payloads
variable (g x d y : S512x1024.Idx → ℝ) (v w : S1x1024.Idx → ℝ)

/-- The gradient of the residual in a block: the incoming `d` plus the second norm's. -/
def dres (i : S512x1024.Idx) : ℝ := d i + dxRow 1024 (fun k => x (ix2 (i 0) k)) (fun k => g (ix2 (i 0) k)) (fun k => v (ix2 0 k)) (i 1)

theorem pay10_eq : k0_pay10 (F := Ideal) (fun i => (g i : EReal)) (k0_pay7 (fun i => (x i : EReal))) (fun i => (d i : EReal)) (fun i => (v i : EReal))
    = fun i : S512x1024.Idx => (dres g x d v i : EReal) := by
  funext i
  obtain ⟨r, l, rfl⟩ : ∃ r l, i = ix2 r l := ⟨i 0, i 1, by blk_ext []⟩
  pointwise [k0_pay10, k0_pay8, k0_pay7, lit_1024, lit_eps, ← EReal.coe_mul, coe_sum, div_1024, rsqrt_row, div_row, Fin.sum_univ_one, ← EReal.coe_sub, ← EReal.coe_add]
  rfl

theorem pay3_apply (r : Fin 512) (l : Fin 1024) :
    k0_pay3 (F := Ideal) (fun i => (y i : EReal))
        (k0_pay12 (fun i => (g i : EReal)) (k0_pay7 (fun i => (x i : EReal))) (fun i => (d i : EReal)) (fun i => (v i : EReal)) (fun i => (w i : EReal)))
        (k0_pay13 (fun i => (g i : EReal)) (k0_pay7 (fun i => (x i : EReal))) (fun i => (d i : EReal)) (fun i => (y i : EReal)) (fun i => (v i : EReal)) (fun i => (w i : EReal)))
        (k0_pay14 (fun i => (y i : EReal))) (ix2 r l)
      = (dxRow 1024 (fun k => y (ix2 r k)) (fun k => dres g x d v (ix2 r k)) (fun k => w (ix2 0 k)) l : EReal) := by
  pointwise [k0_pay3, k0_pay12, k0_pay13, k0_pay14, k0_pay11, pay10_eq, lit_1024, lit_eps, ← EReal.coe_mul, coe_sum, div_1024, rsqrt_row, div_row, Fin.sum_univ_one, ← EReal.coe_sub, ← EReal.coe_add]
  rfl

theorem pay1_apply (l : Fin 1024) : k0_pay1 (F := Ideal) (k0_pay9 (fun i => (g i : EReal)) (k0_pay7 (fun i => (x i : EReal)))) (ix2 0 l)
    = ((∑ r, g (ix2 r l) * x (ix2 r l) * rr 1024 (fun k => x (ix2 r k)) : ℝ) : EReal) := by
  pointwise [k0_pay1, k0_pay9, k0_pay8, k0_pay7, lit_1024, lit_eps, ← EReal.coe_mul, coe_sum, div_1024, rsqrt_row, div_row, Fin.sum_univ_one, ← EReal.coe_sub, ← EReal.coe_add]

theorem pay2_apply (l : Fin 1024) :
    k0_pay2 (F := Ideal) (fun i => (y i : EReal)) (k0_pay10 (fun i => (g i : EReal)) (k0_pay7 (fun i => (x i : EReal))) (fun i => (d i : EReal)) (fun i => (v i : EReal))) (k0_pay11 (fun i => (y i : EReal))) (ix2 0 l)
    = ((∑ r, dres g x d v (ix2 r l) * y (ix2 r l) * rr 1024 (fun k => y (ix2 r k)) : ℝ) : EReal) := by
  pointwise [k0_pay2, k0_pay11, pay10_eq, lit_1024, lit_eps, ← EReal.coe_mul, coe_sum, div_1024, rsqrt_row, div_row, Fin.sum_univ_one, ← EReal.coe_sub, ← EReal.coe_add]

end payloads

theorem pay4_apply (p : FVec Ideal S512x1024 .f32) (z : FVec Ideal S1x1024 .f32) (l : Fin 1024) :
    k0_pay4 (F := Ideal) p z (ix2 0 l) = z (ix2 0 l) + k0_pay1 p (ix2 0 l) := by
  pointwise [k0_pay4]

theorem pay5_apply (p q : FVec Ideal S512x1024 .f32) (s : FVec Ideal S512x1 .f32) (z : FVec Ideal S1x1024 .f32) (l : Fin 1024) :
    k0_pay5 (F := Ideal) p q s z (ix2 0 l) = z (ix2 0 l) + k0_pay2 p q s (ix2 0 l) := by
  pointwise [k0_pay5]

section reference
open Cert.Reference5Ideal.Read

variable (b : FVec Ideal S1024x4096 .f32) (a : FVec Ideal S2048x4096 .f32) (g x y d : S2048x1024.Idx → ℝ) (v w : S1024.Idx → ℝ)
  (hg : val_main_v36 (F := Ideal) b a = fun i => (g i : EReal))

/-- The residual, row by row. -/
def resv (i : S2048x1024.Idx) : ℝ := res (fun k => x (ix2 (i 0) k)) (fun k => y (ix2 (i 0) k)) (fun k => w (ix1 k)) (i 1)

theorem v16_eq : val_main_v16 (F := Ideal) (fun i => (x i : EReal)) (fun i => (y i : EReal)) (fun i => (w i : EReal)) = fun i : S2048x1024.Idx => (resv x y w i : EReal) := by
  funext i
  obtain ⟨r, l, rfl⟩ : ∃ r l, i = ix2 r l := ⟨i 0, i 1, by blk_ext []⟩
  pointwise [val_main_v16, val_main_v15, val_main_v14, val_main_v13, val_main_v12, val_main_v11, val_main_v7, val_main_v6, val_main_v5, val_main_v4, val_main_v3, val_main_v2, val_main_v1, val_main_v0, val_main_cst, val_main_cst_0, val_main_cst_1, lit_1024, lit_eps, ← EReal.coe_mul, coe_sum, div_1024, rsqrt_row, div_row, Fin.sum_univ_one, ← EReal.coe_sub, ← EReal.coe_add]
  rfl

/-- The gradient of the residual, row by row. -/
def dresv (i : S2048x1024.Idx) : ℝ :=
  d i + dxRow 1024 (fun k => resv x y w (ix2 (i 0) k)) (fun k => g (ix2 (i 0) k)) (fun k => v (ix1 k)) (i 1)

include hg

theorem v57_eq : val_main_v57 (F := Ideal) (fun i => (x i : EReal)) (fun i => (y i : EReal)) (fun i => (w i : EReal)) (fun i => (v i : EReal)) b (fun i => (d i : EReal)) a
    = fun i : S2048x1024.Idx => (dresv g x y d v w i : EReal) := by
  funext i
  obtain ⟨r, l, rfl⟩ : ∃ r l, i = ix2 r l := ⟨i 0, i 1, by blk_ext []⟩
  pointwise [val_main_v57, val_main_v56, val_main_v55, val_main_v54, val_main_v53, val_main_v52, val_main_v51, val_main_v50, val_main_v49, val_main_v48, val_main_v47, val_main_v46, val_main_v45, val_main_v44, val_main_v43, val_main_v41, val_main_v40, val_main_v30, val_main_v27, val_main_v26, val_main_v25, val_main_v24, val_main_v23, val_main_v22, val_main_v21, val_main_v20, val_main_v19, val_main_v18, val_main_v17, val_main_cst_3, val_main_cst_4, val_main_cst_5, val_main_cst_6, val_main_cst_9, val_main_cst_10, val_main_cst_11, v16_eq x y w, hg, lit_1024, lit_eps, lit_neg_half, ← EReal.coe_mul, coe_sum, div_1024, rsqrt_row, div_row, Fin.sum_univ_one, ← EReal.coe_sub, ← EReal.coe_add]
  refine congrArg (fun z : ℝ => (z : EReal)) ?_
  have h := dxRow_eq (d := 1024) (by norm_num) (fun k => resv x y w (ix2 r k)) (fun k => g (ix2 r k)) (fun k => v (ix1 k)) l
  refine Eq.trans ?_ (congrArg (fun z : ℝ => d (ix2 r l) + z) h)
  ring

theorem v79_apply (r : Fin 2048) (l : Fin 1024) : val_main_v79 (F := Ideal) (fun i => (x i : EReal)) (fun i => (y i : EReal)) (fun i => (w i : EReal)) (fun i => (v i : EReal)) b (fun i => (d i : EReal)) a (ix2 r l)
    = (dxRow 1024 (fun k => y (ix2 r k)) (fun k => dresv g x y d v w (ix2 r k)) (fun k => w (ix1 k)) l : EReal) := by
  pointwise [val_main_v79, val_main_v78, val_main_v77, val_main_v76, val_main_v75, val_main_v74, val_main_v73, val_main_v72, val_main_v71, val_main_v70, val_main_v69, val_main_v68, val_main_v67, val_main_v66, val_main_v65, val_main_v63, val_main_v62, val_main_v58, val_main_v13, val_main_v10, val_main_v9, val_main_v8, val_main_v7, val_main_v6, val_main_v5, val_main_v4, val_main_v3, val_main_v2, val_main_v1, val_main_v0, val_main_cst, val_main_cst_0, val_main_cst_1, val_main_cst_2, val_main_cst_14, val_main_cst_15, val_main_cst_16, v57_eq b a g x y d v w hg, lit_1024, lit_eps, lit_neg_half, ← EReal.coe_mul, coe_sum, div_1024, rsqrt_row, div_row, Fin.sum_univ_one, ← EReal.coe_sub, ← EReal.coe_add]
  exact congrArg (fun z : ℝ => (z : EReal)) (dxRow_eq (d := 1024) (by norm_num) (fun k => y (ix2 r k)) (fun k => dresv g x y d v w (ix2 r k)) (fun k => w (ix1 k)) l)

theorem v80_apply (l : Fin 1024) : val_main_v80 (F := Ideal) (fun i => (x i : EReal)) (fun i => (y i : EReal)) (fun i => (w i : EReal)) b a (ix2 0 l)
    = ((∑ r, g (ix2 r l) * resv x y w (ix2 r l) * rr 1024 (fun k => resv x y w (ix2 r k)) : ℝ) : EReal) := by
  pointwise [val_main_v80, val_main_v42, val_main_v39, val_main_v38, val_main_v37, val_main_v29, val_main_v28, val_main_v24, val_main_v23, val_main_v22, val_main_v21, val_main_v20, val_main_v19, val_main_v18, val_main_v17, val_main_cst_3, val_main_cst_4, val_main_cst_5, val_main_cst_7, val_main_cst_8, v16_eq x y w, hg, lit_1024, lit_eps, ← EReal.coe_mul, coe_sum, div_1024, rsqrt_row, div_row, Fin.sum_univ_one, ← EReal.coe_sub, ← EReal.coe_add]
  refine congrArg (fun z : ℝ => (z : EReal)) (Finset.sum_congr rfl fun r _ => ?_)
  ring

theorem v81_apply (l : Fin 1024) : val_main_v81 (F := Ideal) (fun i => (x i : EReal)) (fun i => (y i : EReal)) (fun i => (w i : EReal)) (fun i => (v i : EReal)) b (fun i => (d i : EReal)) a (ix2 0 l)
    = ((∑ r, dresv g x y d v w (ix2 r l) * y (ix2 r l) * rr 1024 (fun k => y (ix2 r k)) : ℝ) : EReal) := by
  pointwise [val_main_v81, val_main_v64, val_main_v61, val_main_v60, val_main_v59, val_main_v58, val_main_v12, val_main_v11, val_main_v7, val_main_v6, val_main_v5, val_main_v4, val_main_v3, val_main_v2, val_main_v1, val_main_v0, val_main_cst, val_main_cst_0, val_main_cst_1, val_main_cst_12, val_main_cst_13, v57_eq b a g x y d v w hg, lit_1024, lit_eps, ← EReal.coe_mul, coe_sum, div_1024, rsqrt_row, div_row, Fin.sum_univ_one, ← EReal.coe_sub, ← EReal.coe_add]
  refine congrArg (fun z : ℝ => (z : EReal)) (Finset.sum_congr rfl fun r _ => ?_)
  ring

end reference

variable (m : (ℓ : Loc nD τ sig) → Buf (Elt Ideal) ℓ)

theorem idx : ∀ t : Fin cfg0.N, win0_0.index t = ![t.val, 0] ∧ win0_1.index t = ![0, 0, 0] ∧ win0_2.index t = ![t.val, 0] ∧ win0_3.index t = ![t.val, 0] ∧ win0_4.index t = ![t.val, 0]
    ∧ win0_5.index t = ![0, 0] ∧ win0_6.index t = ![0, 0] ∧ win0_7.index t = ![t.val, 0] ∧ win0_8.index t = ![t.val, 0] ∧ win0_9.index t = ![0, 0] ∧ win0_10.index t = ![0, 0] :=
  (by decide +kernel : ∀ t : Fin grid0.N, _)

/-- Row `r` of the block of 512 rows that point `t` works on. -/
def row (t : Fin cfg0.N) (r : Fin 512) : Fin 2048 := ⟨t.val * 512 + r.val, by have := t.isLt; have : cfg0.N = 4 := N_0; omega⟩

theorem later {t : Fin cfg0.N} (h : ¬t.val % 4 = 0) : 1 ≤ t.val := by omega

theorem first {t : Fin cfg0.N} (h : t.val % 4 = 0) : ¬1 ≤ t.val := by have := t.isLt; have : cfg0.N = 4 := N_0; omega

section final
variable (c : Dev nD) (x y d : S2048x1024.Idx → ℝ) (w v : S1024.Idx → ℝ) (b : S1024x4096.Idx → ℝ) (a : S2048x4096.Idx → ℝ)
  (hx : m ((c : Thread nD τ).loc main_arg0) = fun i => (x i : EReal)) (hy : m ((c : Thread nD τ).loc main_arg1) = fun i => (y i : EReal))
  (hw : m ((c : Thread nD τ).loc main_arg2) = fun i => (w i : EReal)) (hv : m ((c : Thread nD τ).loc main_arg3) = fun i => (v i : EReal))
  (hb : m ((c : Thread nD τ).loc main_arg4) = fun i => (b i : EReal)) (hd : m ((c : Thread nD τ).loc main_arg5) = fun i => (d i : EReal))
  (ha : m ((c : Thread nD τ).loc main_arg6) = fun i => (a i : EReal))

include ha in
theorem blk0 (t : Fin cfg0.N) : iblk m c 0 t = fun y : S512x4096.Idx => (a (ix2 (row t (y 0)) (y 1)) : EReal) := by
  funext y
  refine Eq.trans ?_ (congrFun ha _)
  blk_simp [iblk]
  entry_read
  pointwise
  refine congrArg (m ((c : Thread nD τ).loc main_arg6)) ?_
  blk_ext [idx t, row]

/-- The weight's columns in four blocks, stacked. -/
def stacked (i : S4x1024x1024.Idx) : ℝ := b (ix2 (i 1) ⟨(i 0).val * 1024 + (i 2).val, by have h0 : (i 0).val < 4 := (i 0).isLt; have h2 : (i 2).val < 1024 := (i 2).isLt; omega⟩)

include hb in
theorem blk1 (t : Fin cfg0.N) : iblk m c 1 t = fun y : S4x1024x1024.Idx => (stacked b y : EReal) := by
  funext y
  refine Eq.trans ?_ (congrFun hb _)
  blk_simp [iblk]
  entry_read
  pointwise
  refine congrArg (m ((c : Thread nD τ).loc main_arg4)) ?_
  blk_ext [idx t]

include hx hy hw in
theorem blk2 (t : Fin cfg0.N) : iblk m c 2 t = fun i : S512x1024.Idx => (resv x y w (ix2 (row t (i 0)) (i 1)) : EReal) := by
  funext i
  obtain ⟨r, l, rfl⟩ : ∃ r l, i = ix2 r l := ⟨i 0, i 1, by blk_ext []⟩
  blk_simp [iblk]
  entry_read
  rw [hx, hy, hw]
  have he : ((cfg0.win 2).blk t).view.emb (ix2 r l) = ix2 (row t r) l := by blk_ext [idx t, row]
  rw [he]
  pointwise [lit_1024, lit_eps, ← EReal.coe_mul, coe_sum, div_1024, rsqrt_row, div_row, Fin.sum_univ_one, ← EReal.coe_sub, ← EReal.coe_add]
  rfl

include hd in
theorem blk3 (t : Fin cfg0.N) : iblk m c 3 t = fun y : S512x1024.Idx => (d (ix2 (row t (y 0)) (y 1)) : EReal) := by
  funext y
  refine Eq.trans ?_ (congrFun hd _)
  blk_ext [iblk, V, idx t, row]

include hy in
theorem blk4 (t : Fin cfg0.N) : iblk m c 4 t = fun i : S512x1024.Idx => (y (ix2 (row t (i 0)) (i 1)) : EReal) := by
  funext i
  refine Eq.trans ?_ (congrFun hy _)
  blk_ext [iblk, V, idx t, row]

include hv in
theorem blk5 (t : Fin cfg0.N) : iblk m c 5 t = fun y : S1x1024.Idx => (v (ix1 (y 1)) : EReal) := by
  funext y
  refine Eq.trans ?_ (congrFun hv _)
  blk_simp [iblk]
  entry_read
  pointwise
  refine congrArg (fun k => m ((c : Thread nD τ).loc main_arg3) (ix1 k)) ?_
  apply Fin.ext
  blk_simp [idx t]

include hw in
theorem blk6 (t : Fin cfg0.N) : iblk m c 6 t = fun y : S1x1024.Idx => (w (ix1 (y 1)) : EReal) := by
  funext y
  refine Eq.trans ?_ (congrFun hw _)
  blk_simp [iblk]
  entry_read
  pointwise
  refine congrArg (fun k => m ((c : Thread nD τ).loc main_arg2) (ix1 k)) ?_
  apply Fin.ext
  blk_simp [idx t]

/-- The product that feeds the second norm's gradient. -/
def prod (i : S2048x1024.Idx) : ℝ := ∑ k, a (ix2 (i 0) k) * b (ix2 (i 1) k)

theorem acc_blk (t : Fin cfg0.N) :
    acc (fun y : S512x4096.Idx => (a (ix2 (row t (y 0)) (y 1)) : EReal)) (fun y : S4x1024x1024.Idx => (stacked b y : EReal))
      = fun i : S512x1024.Idx => (prod b a (ix2 (row t (i 0)) (i 1)) : EReal) := by
  funext i
  obtain ⟨r, l, rfl⟩ : ∃ r l, i = ix2 r l := ⟨i 0, i 1, by blk_ext []⟩
  exact acc_apply (fun y : S512x4096.Idx => a (ix2 (row t (y 0)) (y 1))) (stacked b) b (fun _ _ _ _ => rfl) r l

theorem v36_prod : Cert.Reference5Ideal.Read.val_main_v36 (F := Ideal) (fun i => (b i : EReal)) (fun i => (a i : EReal)) = fun i => (prod b a i : EReal) := by
  funext i
  obtain ⟨r, l, rfl⟩ : ∃ r l, i = ix2 r l := ⟨i 0, i 1, by blk_ext []⟩
  pointwise [Cert.Reference5Ideal.Read.val_main_v36, ← EReal.coe_mul, coe_sum]
  rfl

/-- A block's product, residual, cotangent and mixer output. -/
def gB (t : Fin cfg0.N) (i : S512x1024.Idx) : ℝ := prod b a (ix2 (row t (i 0)) (i 1))
def xB (t : Fin cfg0.N) (i : S512x1024.Idx) : ℝ := resv x y w (ix2 (row t (i 0)) (i 1))
def rB (z : S2048x1024.Idx → ℝ) (t : Fin cfg0.N) (i : S512x1024.Idx) : ℝ := z (ix2 (row t (i 0)) (i 1))
def wB (z : S1024.Idx → ℝ) (i : S1x1024.Idx) : ℝ := z (ix1 (i 1))

theorem dres_blk (t : Fin cfg0.N) (r : Fin 512) (l : Fin 1024) :
    dres (gB b a t) (xB x y w t) (rB d t) (wB v) (ix2 r l) = dresv (prod b a) x y d v w (ix2 (row t r) l) := rfl

include hx hy hw hv hb hd ha

theorem accB (t : Fin cfg0.N) : acc (iblk m c 0 t) (iblk m c 1 t) = fun i : S512x1024.Idx => (gB b a t i : EReal) := by
  rw [blk0 m c a ha t, blk1 m c b hb t]
  exact acc_blk b a t

theorem blkX (t : Fin cfg0.N) : iblk m c 2 t = fun i : S512x1024.Idx => (xB x y w t i : EReal) := blk2 m c x y w hx hy hw t

theorem blkD (t : Fin cfg0.N) : iblk m c 3 t = fun i : S512x1024.Idx => (rB d t i : EReal) := blk3 m c d hd t

theorem blkY (t : Fin cfg0.N) : iblk m c 4 t = fun i : S512x1024.Idx => (rB y t i : EReal) := blk4 m c y hy t

theorem blkV (t : Fin cfg0.N) : iblk m c 5 t = fun i : S1x1024.Idx => (wB v i : EReal) := blk5 m c v hv t

theorem blkW (t : Fin cfg0.N) : iblk m c 6 t = fun i : S1x1024.Idx => (wB w i : EReal) := blk6 m c w hw t

theorem final_dx : (dats m 0 c).arrAt 7 (cfgs 0).N
    = Cert.Reference5Ideal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y' => ?_
  blk_simp
  obtain ⟨r, l, rfl⟩ : ∃ r l, y' = ix2 r l := ⟨y' 0, y' 1, by blk_ext []⟩
  have he : ((View.whole main_v20_0).slice (win0_7.rect t)).emb (ix2 r l) = ix2 (row t r) l := by blk_ext [idx t, row]
  rw [he, hx, hy, hw, hv, hb, hd, ha, v57_eq _ _ _ _ _ _ _ _ (v36_prod b a)]
  refine Eq.trans (b := k0_pay10 (F := Ideal) (acc (iblk m c 0 t) (iblk m c 1 t)) (k0_pay7 (iblk m c 2 t)) (iblk m c 3 t) (iblk m c 5 t) (ix2 r l)) ?_ ?_
  swap
  · rw [accB m c x y d w v b a hx hy hw hv hb hd ha t, blkX m c x y d w v b a hx hy hw hv hb hd ha t, blkD m c x y d w v b a hx hy hw hv hb hd ha t, blkV m c x y d w v b a hx hy hw hv hb hd ha t]
    exact congrFun (pay10_eq (gB b a t) (xB x y w t) (rB d t) (wB v)) (ix2 r l)
  by_cases h : t.val % 4 = 0
  · rw [after0_7, outsAt0_A m c t h (first h) h (first h)]
    frame_out
    rfl
  · rw [after0_7, outsAt0_B m c t h (later h) h (later h)]
    frame_out
    rfl

theorem final_dmixed : (dats m 0 c).arrAt 8 (cfgs 0).N
    = Cert.Reference5Ideal.Read.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y' => ?_
  blk_simp
  obtain ⟨r, l, rfl⟩ : ∃ r l, y' = ix2 r l := ⟨y' 0, y' 1, by blk_ext []⟩
  have he : ((View.whole main_v20_1).slice (win0_8.rect t)).emb (ix2 r l) = ix2 (row t r) l := by blk_ext [idx t, row]
  rw [he, hx, hy, hw, hv, hb, hd, ha]
  refine Eq.trans ?_ (v79_apply _ _ _ _ _ _ _ _ (v36_prod b a) (row t r) l).symm
  refine Eq.trans (b := k0_pay3 (F := Ideal) (iblk m c 4 t) (k0_pay12 (acc (iblk m c 0 t) (iblk m c 1 t)) (k0_pay7 (iblk m c 2 t)) (iblk m c 3 t) (iblk m c 5 t) (iblk m c 6 t))
    (k0_pay13 (acc (iblk m c 0 t) (iblk m c 1 t)) (k0_pay7 (iblk m c 2 t)) (iblk m c 3 t) (iblk m c 4 t) (iblk m c 5 t) (iblk m c 6 t)) (k0_pay14 (iblk m c 4 t)) (ix2 r l)) ?_ ?_
  swap
  · rw [accB m c x y d w v b a hx hy hw hv hb hd ha t, blkX m c x y d w v b a hx hy hw hv hb hd ha t, blkD m c x y d w v b a hx hy hw hv hb hd ha t, blkY m c x y d w v b a hx hy hw hv hb hd ha t, blkV m c x y d w v b a hx hy hw hv hb hd ha t, blkW m c x y d w v b a hx hy hw hv hb hd ha t]
    exact pay3_apply (gB b a t) (xB x y w t) (rB d t) (rB y t) (wB v) (wB w) r l
  by_cases h : t.val % 4 = 0
  · rw [after0_8, outsAt0_A m c t h (first h) h (first h)]
    frame_out
    rfl
  · rw [after0_8, outsAt0_B m c t h (later h) h (later h)]
    frame_out
    rfl

theorem point_dv (t : Fin cfg0.N) (l : Fin 1024) :
    k0_pay1 (F := Ideal) (k0_pay9 (acc (iblk m c 0 t) (iblk m c 1 t)) (k0_pay7 (iblk m c 2 t))) (ix2 0 l)
      = ((∑ r : Fin 512, prod b a (ix2 (row t r) l) * resv x y w (ix2 (row t r) l) * rr 1024 (fun k => resv x y w (ix2 (row t r) k)) : ℝ) : EReal) := by
  rw [accB m c x y d w v b a hx hy hw hv hb hd ha t, blkX m c x y d w v b a hx hy hw hv hb hd ha t]
  exact pay1_apply (gB b a t) (xB x y w t) l

theorem point_dw (t : Fin cfg0.N) (l : Fin 1024) :
    k0_pay2 (F := Ideal) (iblk m c 4 t) (k0_pay10 (acc (iblk m c 0 t) (iblk m c 1 t)) (k0_pay7 (iblk m c 2 t)) (iblk m c 3 t) (iblk m c 5 t)) (k0_pay11 (iblk m c 4 t)) (ix2 0 l)
      = ((∑ r : Fin 512, dresv (prod b a) x y d v w (ix2 (row t r) l) * y (ix2 (row t r) l) * rr 1024 (fun k => y (ix2 (row t r) k)) : ℝ) : EReal) := by
  rw [accB m c x y d w v b a hx hy hw hv hb hd ha t, blkX m c x y d w v b a hx hy hw hv hb hd ha t, blkD m c x y d w v b a hx hy hw hv hb hd ha t, blkY m c x y d w v b a hx hy hw hv hb hd ha t, blkV m c x y d w v b a hx hy hw hv hb hd ha t]
  exact pay2_apply (gB b a t) (xB x y w t) (rB d t) (rB y t) (wB v) l

theorem final_dv : (dats m 0 c).arrAt 9 (cfgs 0).N
    = Cert.Reference5Ideal.Read.val_main_v80 (F := Ideal) (m ((c : Thread nD τ).loc main_arg0)) (m ((c : Thread nD τ).loc main_arg1)) (m ((c : Thread nD τ).loc main_arg2)) (m ((c : Thread nD τ).loc main_arg4)) (m ((c : Thread nD τ).loc main_arg6)) := by
  refine (dats m 0 c).arrAt_eq_of_after_last 9 t0_3 (by decide +kernel) _ fun j => ?_
  blk_simp
  rw [after0_9, Pipeline.eq_sum_fin_of_reset_step_apply_last (fun n h => (outsAt0 m c n h).2.2.1) 4 (fun _ => 0)
    (fun t (j : S1x1024.Idx) => ((∑ r : Fin 512, prod b a (ix2 (row t r) (j 1)) * resv x y w (ix2 (row t r) (j 1)) * rr 1024 (fun k => resv x y w (ix2 (row t r) k)) : ℝ) : EReal))
    (fun t h j => by
      rw [outsAt0_A m c t h (first h) h (first h)]; frame_out
      obtain ⟨l, rfl⟩ : ∃ l, j = ix2 0 l := ⟨j 1, by blk_ext []⟩
      exact (point_dv m c x y d w v b a hx hy hw hv hb hd ha t l).trans (zero_add _).symm)
    (fun t h j => by
      rw [outsAt0_B m c t h (later h) h (later h)]; frame_out
      obtain ⟨l, rfl⟩ : ∃ l, j = ix2 0 l := ⟨j 1, by blk_ext []⟩
      exact (pay4_apply _ _ l).trans (congrArg (fun z : EReal => _ + z) (point_dv m c x y d w v b a hx hy hw hv hb hd ha t l)))
    (le_of_eq N_0) t0_3 rfl j, zero_add]
  obtain ⟨l, rfl⟩ : ∃ l : Fin 1024, j = ix2 0 l := ⟨j 1, by blk_ext []⟩
  rw [hx, hy, hw, hb, ha]
  refine Eq.trans ?_ (v80_apply _ _ _ _ _ _ (v36_prod b a) l).symm
  rw [coe_sum]
  refine congrArg (fun z : ℝ => (z : EReal)) ?_
  refine Fin.sum_mul_add_congr fun s k hl => ?_
  rfl

theorem final_dw : (dats m 0 c).arrAt 10 (cfgs 0).N
    = Cert.Reference5Ideal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_after_last 10 t0_3 (by decide +kernel) _ fun j => ?_
  blk_simp
  rw [after0_10, Pipeline.eq_sum_fin_of_reset_step_apply_last (fun n h => (outsAt0 m c n h).2.2.2) 4 (fun _ => 0)
    (fun t (j : S1x1024.Idx) => ((∑ r : Fin 512, dresv (prod b a) x y d v w (ix2 (row t r) (j 1)) * y (ix2 (row t r) (j 1)) * rr 1024 (fun k => y (ix2 (row t r) k)) : ℝ) : EReal))
    (fun t h j => by
      rw [outsAt0_A m c t h (first h) h (first h)]; frame_out
      obtain ⟨l, rfl⟩ : ∃ l, j = ix2 0 l := ⟨j 1, by blk_ext []⟩
      exact (point_dw m c x y d w v b a hx hy hw hv hb hd ha t l).trans (zero_add _).symm)
    (fun t h j => by
      rw [outsAt0_B m c t h (later h) h (later h)]; frame_out
      obtain ⟨l, rfl⟩ : ∃ l, j = ix2 0 l := ⟨j 1, by blk_ext []⟩
      exact (pay5_apply _ _ _ _ l).trans (congrArg (fun z : EReal => _ + z) (point_dw m c x y d w v b a hx hy hw hv hb hd ha t l)))
    (le_of_eq N_0) t0_3 rfl j, zero_add]
  obtain ⟨l, rfl⟩ : ∃ l : Fin 1024, j = ix2 0 l := ⟨j 1, by blk_ext []⟩
  rw [hx, hy, hw, hv, hb, hd, ha]
  refine Eq.trans ?_ (v81_apply _ _ _ _ _ _ _ _ (v36_prod b a) l).symm
  rw [coe_sum]
  refine congrArg (fun z : ℝ => (z : EReal)) ?_
  refine Fin.sum_mul_add_congr fun s k hl => ?_
  rfl

end final

end Cert.Kernel5Ideal.MidBwd
-- ==== Proof.Relu2.lean ====
/- The gradient of the squared rectifier: the product's row against the weights, times twice the rectified value. -/
module

public import Idealize.ShloMosaic.Lib.Pipeline.ValueKit
public import proofs.«01_k».proof.Proof.Gen.Kernel6Ideal.Value
public import proofs.«01_k».proof.Proof.Gen.Reference6Ideal.Read
public import proofs.«01_k».proof.Proof.Reals
public import Idealize.ShloMosaic.Lib.Tactic

@[expose] public section

noncomputable section

namespace Cert.Kernel6Ideal.Relu2

open Cert.Kernel6Ideal Cert.Kernel6Ideal.Gen Idealize.ShloMosaic Idealize.ShloMosaic.TcCoe Idealize.SL.Sem Cert.Reals

variable (m : (ℓ : Loc nD τ sig) → Buf (Elt Ideal) ℓ)

theorem idx : ∀ t : Fin cfg0.N, win0_0.index t = ![t.val / 4, 0] ∧ win0_1.index t = ![t.val % 4, 0] ∧ win0_2.index t = ![t.val / 4, t.val % 4] ∧ win0_3.index t = ![t.val / 4, t.val % 4] :=
  (by decide +kernel : ∀ t : Fin grid0.N, _)

/-- Row `r` of the block of 1024 rows that point `t` works on. -/
def row (t : Fin cfg0.N) (r : Fin 1024) : Fin 2048 := ⟨t.val / 4 * 1024 + r.val, by have := t.isLt; have : cfg0.N = 8 := N_0; omega⟩

/-- Column `l` of the block of 1024 columns that point `t` works on. -/
def col (t : Fin cfg0.N) (l : Fin 1024) : Fin 4096 := ⟨t.val % 4 * 1024 + l.val, by omega⟩

/-- A product with twice a rectified value is nothing where the value is not above zero. -/
theorem twice (s u : EReal) : s * (2 : ℝ) * max u 0 = if u > 0 then s * ((2 : ℝ) * max u 0) else 0 := by
  split
  · rw [mul_assoc]
  · rw [max_eq_right (not_lt.mp ‹_›), mul_zero]

theorem pay1_apply (a b u : FVec Ideal S1024x1024 .bf16) (r l : Fin 1024) :
    k0_pay1 (F := Ideal) a b u (ix2 r l) = (∑ k : Fin 1024, a (ix2 r k) * b (ix2 l k)) * (2 : ℝ) * u (ix2 r l) := by
  pointwise [k0_pay1, lit_2]

open Cert.Reference6Ideal.Read in
theorem ref_apply (up : FVec Ideal S2048x4096 .f32) (w : FVec Ideal S4096x1024 .f32) (dy : FVec Ideal S2048x1024 .f32) (r : Fin 2048) (l : Fin 4096) :
    val_main_v14 (F := Ideal) up w dy (ix2 r l)
      = if up (ix2 r l) > 0 then (∑ k : Fin 1024, dy (ix2 r k) * w (ix2 l k)) * ((2 : ℝ) * max (up (ix2 r l)) 0) else 0 := by
  pointwise [val_main_v14, val_main_v13, val_main_v12, val_main_v11, val_main_v10, val_main_v6, val_main_v5, val_main_v2, val_main_v1, val_main_v0, val_main_call0_v0, val_main_call0_cst, val_main_cst, val_main_cst_1, val_main_cst_2, lit_2]

section final
variable (c : Dev nD)

theorem blk0 (t : Fin cfg0.N) (r k : Fin 1024) : iblk m c 0 t (ix2 r k) = m ((c : Thread nD τ).loc main_arg2) (ix2 (row t r) k) := by
  blk_simp [iblk]
  entry_read
  pointwise
  refine congrArg (m ((c : Thread nD τ).loc main_arg2)) ?_
  blk_ext [idx t, row]

theorem blk1 (t : Fin cfg0.N) (l k : Fin 1024) : iblk m c 1 t (ix2 l k) = m ((c : Thread nD τ).loc main_arg1) (ix2 (col t l) k) := by
  blk_simp [iblk]
  entry_read
  pointwise
  refine congrArg (m ((c : Thread nD τ).loc main_arg1)) ?_
  blk_ext [idx t, col]

theorem blk2 (t : Fin cfg0.N) (r l : Fin 1024) : iblk m c 2 t (ix2 r l) = (max (m ((c : Thread nD τ).loc main_arg0) (ix2 (row t r) (col t l)) : EReal) 0 : EReal) := by
  blk_simp [iblk]
  entry_read
  pointwise
  refine congrArg (fun z : EReal => max z 0) (congrArg (m ((c : Thread nD τ).loc main_arg0)) ?_)
  blk_ext [idx t, row, col]

theorem final_dup : (dats m 0 c).arrAt 3 (cfgs 0).N
    = Cert.Reference6Ideal.Read.val_main_v14 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  obtain ⟨r, l, rfl⟩ : ∃ r l, y = ix2 r l := ⟨y 0, y 1, by blk_ext []⟩
  have hy : (win0_3.blk t).view.emb (ix2 r l) = ix2 (row t r) (col t l) := by blk_ext [idx t, row, col]
  rw [hy, after0_3]
  refine Eq.trans ?_ (ref_apply _ _ _ (row t r) (col t l)).symm
  refine Eq.trans (b := k0_pay1 (F := Ideal) (iblk m c 0 t) (iblk m c 1 t) (iblk m c 2 t) (ix2 r l)) (by frame_out) ?_
  refine (pay1_apply _ _ _ r l).trans ?_
  rw [blk2 m c t r l, twice]
  simp only [blk0 m c t, blk1 m c t]

end final

end Cert.Kernel6Ideal.Relu2
-- ==== Proof.LossHead.lean ====
/- The loss and the gradient of the last norm over the product that feeds it: the error row, its gradient, the norm's
   gradient in the product, the gain's and the loss's sums over the row blocks. -/
module

public import Idealize.ShloMosaic.Lib.Pipeline.ValueKit
public import proofs.«01_k».proof.Proof.Gen.Kernel7Ideal.Value
public import proofs.«01_k».proof.Proof.Gen.Reference7Ideal.Read
public import proofs.«01_k».proof.Proof.Rows
public import Idealize.ShloMosaic.Lib.Tactic

@[expose] public section

noncomputable section

namespace Cert.Kernel7Ideal.LossHead

open Cert.Kernel7Ideal Cert.Kernel7Ideal.Gen Idealize.ShloMosaic Idealize.ShloMosaic.TcCoe Idealize.SL.Sem Cert.Reals

/-- The error of a row at column `l`: the residual `x` and the normed product `y` with gain `w`, less the target `u`. -/
def err (y x u w : Fin 1024 → ℝ) (l : Fin 1024) : ℝ := x l + y l * rr 1024 y * w l - u l

/-- The error's gradient. -/
def derr (y x u w : Fin 1024 → ℝ) (l : Fin 1024) : ℝ := err y x u w l * (1 / 1024)

section payloads
variable (a : FVec Ideal S512x4096 .bf16) (b : FVec Ideal S4096x1024 .bf16) (y x u : S512x1024.Idx → ℝ) (w : S1x1024.Idx → ℝ)
  (hy : k0_pay2 (F := Ideal) a b = fun i => (y i : EReal))

theorem pay2_apply (a : S512x4096.Idx → ℝ) (b : S4096x1024.Idx → ℝ) :
    k0_pay2 (F := Ideal) (fun i => (a i : EReal)) (fun i => (b i : EReal))
      = fun i : S512x1024.Idx => ((∑ k, a (ix2 (i 0) k) * b (ix2 k (i 1)) : ℝ) : EReal) := by
  funext i
  obtain ⟨r, l, rfl⟩ : ∃ r l, i = ix2 r l := ⟨i 0, i 1, by blk_ext []⟩
  pointwise [k0_pay2, ← EReal.coe_mul, coe_sum]

include hy

theorem pay4_apply (r : Fin 512) (l : Fin 1024) :
    k0_pay4 (F := Ideal) a b (fun i => (x i : EReal)) (fun i => (u i : EReal)) (fun i => (w i : EReal)) (ix2 r l)
      = (err (fun k => y (ix2 r k)) (fun k => x (ix2 r k)) (fun k => u (ix2 r k)) (fun k => w (ix2 0 k)) l : EReal) := by
  pointwise [k0_pay4, k0_pay3, hy, lit_1024, lit_eps, ← EReal.coe_mul, coe_sum, div_1024, rsqrt_row, div_row, Fin.sum_univ_one, ← EReal.coe_sub, ← EReal.coe_add]
  rfl

theorem pay4_eq :
    k0_pay4 (F := Ideal) a b (fun i => (x i : EReal)) (fun i => (u i : EReal)) (fun i => (w i : EReal))
      = fun i : S512x1024.Idx => (err (fun k => y (ix2 (i 0) k)) (fun k => x (ix2 (i 0) k)) (fun k => u (ix2 (i 0) k)) (fun k => w (ix2 0 k)) (i 1) : EReal) := by
  funext i
  obtain ⟨r, l, rfl⟩ : ∃ r l, i = ix2 r l := ⟨i 0, i 1, by blk_ext []⟩
  exact pay4_apply a b y x u w hy r l

theorem pay5_eq :
    k0_pay5 (F := Ideal) a b (fun i => (x i : EReal)) (fun i => (u i : EReal)) (fun i => (w i : EReal))
      = fun i : S512x1024.Idx => (derr (fun k => y (ix2 (i 0) k)) (fun k => x (ix2 (i 0) k)) (fun k => u (ix2 (i 0) k)) (fun k => w (ix2 0 k)) (i 1) : EReal) := by
  funext i
  obtain ⟨r, l, rfl⟩ : ∃ r l, i = ix2 r l := ⟨i 0, i 1, by blk_ext []⟩
  pointwise [k0_pay5, pay4_eq a b y x u w hy, lit_1024th, ← EReal.coe_mul]
  rfl

theorem pay12_apply (r : Fin 512) (l : Fin 1024) :
    k0_pay12 (F := Ideal) (k0_pay2 a b) (k0_pay7 a b (fun i => (x i : EReal)) (fun i => (u i : EReal)) (fun i => (w i : EReal)))
        (k0_pay8 a b (fun i => (x i : EReal)) (fun i => (u i : EReal)) (fun i => (w i : EReal))) (k0_pay9 a b) (ix2 r l)
      = (dxRow 1024 (fun k => y (ix2 r k)) (derr (fun k => y (ix2 r k)) (fun k => x (ix2 r k)) (fun k => u (ix2 r k)) (fun k => w (ix2 0 k))) (fun k => w (ix2 0 k)) l : EReal) := by
  pointwise [k0_pay12, k0_pay7, k0_pay8, k0_pay9, k0_pay6, k0_pay3, pay5_eq a b y x u w hy, hy, lit_1024, lit_eps, ← EReal.coe_mul, coe_sum, div_1024, rsqrt_row, div_row, Fin.sum_univ_one, ← EReal.coe_sub, ← EReal.coe_add]
  rfl

theorem pay10_apply (l : Fin 1024) :
    k0_pay10 (F := Ideal) (k0_pay2 a b) (k0_pay5 a b (fun i => (x i : EReal)) (fun i => (u i : EReal)) (fun i => (w i : EReal))) (k0_pay6 a b) (ix2 0 l)
      = ((∑ r, derr (fun k => y (ix2 r k)) (fun k => x (ix2 r k)) (fun k => u (ix2 r k)) (fun k => w (ix2 0 k)) l * y (ix2 r l) * rr 1024 (fun k => y (ix2 r k)) : ℝ) : EReal) := by
  pointwise [k0_pay10, k0_pay6, pay5_eq a b y x u w hy, hy, lit_1024, lit_eps, ← EReal.coe_mul, coe_sum, div_1024, rsqrt_row, div_row, Fin.sum_univ_one, ← EReal.coe_sub, ← EReal.coe_add]

theorem pay11_apply (l : Fin 1024) :
    k0_pay11 (F := Ideal) (k0_pay4 a b (fun i => (x i : EReal)) (fun i => (u i : EReal)) (fun i => (w i : EReal))) (ix2 0 l)
      = ((∑ r : Fin 512, 1 / 2 * ((∑ k, err (fun k => y (ix2 r k)) (fun k => x (ix2 r k)) (fun k => u (ix2 r k)) (fun k => w (ix2 0 k)) k * err (fun k => y (ix2 r k)) (fun k => x (ix2 r k)) (fun k => u (ix2 r k)) (fun k => w (ix2 0 k)) k) / 1024) : ℝ) : EReal) := by
  pointwise [k0_pay11, pay4_eq a b y x u w hy, lit_1024, lit_half, ← EReal.coe_mul, coe_sum, div_1024, Fin.sum_univ_one]
  rw [← Finset.mul_sum]

end payloads

theorem pay13_apply (p q : FVec Ideal S512x1024 .f32) (s : FVec Ideal S512x1 .f32) (v : FVec Ideal S1x1024 .f32) (l : Fin 1024) :
    k0_pay13 (F := Ideal) p q s v (ix2 0 l) = v (ix2 0 l) + k0_pay10 p q s (ix2 0 l) := by
  pointwise [k0_pay13]

theorem pay1_apply (p v : FVec Ideal S1x1024 .f32) (l : Fin 1024) : k0_pay1 (F := Ideal) p v (ix2 0 l) = v (ix2 0 l) + p (ix2 0 l) := by
  pointwise [k0_pay1]

section reference
open Cert.Reference7Ideal.Read

variable (a : FVec Ideal S2048x4096 .f32) (b : FVec Ideal S4096x1024 .f32) (y x u : S2048x1024.Idx → ℝ) (w : S1024.Idx → ℝ)
  (hy : val_main_v0 (F := Ideal) a b = fun i => (y i : EReal))

theorem v0_apply (a : S2048x4096.Idx → ℝ) (b : S4096x1024.Idx → ℝ) :
    val_main_v0 (F := Ideal) (fun i => (a i : EReal)) (fun i => (b i : EReal))
      = fun i : S2048x1024.Idx => ((∑ k, a (ix2 (i 0) k) * b (ix2 k (i 1)) : ℝ) : EReal) := by
  funext i
  obtain ⟨r, l, rfl⟩ : ∃ r l, i = ix2 r l := ⟨i 0, i 1, by blk_ext []⟩
  pointwise [val_main_v0, ← EReal.coe_mul, coe_sum]

include hy

theorem v18_eq : val_main_v18 (F := Ideal) a b (fun i => (w i : EReal)) (fun i => (x i : EReal)) (fun i => (u i : EReal))
    = fun i : S2048x1024.Idx => (err (fun k => y (ix2 (i 0) k)) (fun k => x (ix2 (i 0) k)) (fun k => u (ix2 (i 0) k)) (fun k => w (ix1 k)) (i 1) : EReal) := by
  funext i
  obtain ⟨r, l, rfl⟩ : ∃ r l, i = ix2 r l := ⟨i 0, i 1, by blk_ext []⟩
  pointwise [val_main_v18, val_main_v17, val_main_v16, val_main_v15, val_main_v14, val_main_v13, val_main_v12, val_main_v8, val_main_v7, val_main_v6, val_main_v5, val_main_v4, val_main_v3, val_main_v2, val_main_v1, val_main_cst, val_main_cst_0, val_main_cst_1, hy, lit_1024, lit_eps, ← EReal.coe_mul, coe_sum, div_1024, rsqrt_row, div_row, Fin.sum_univ_one, ← EReal.coe_sub, ← EReal.coe_add]
  rfl

theorem v32_eq : val_main_v32 (F := Ideal) a b (fun i => (w i : EReal)) (fun i => (x i : EReal)) (fun i => (u i : EReal))
    = fun i : S2048x1024.Idx => (derr (fun k => y (ix2 (i 0) k)) (fun k => x (ix2 (i 0) k)) (fun k => u (ix2 (i 0) k)) (fun k => w (ix1 k)) (i 1) : EReal) := by
  funext i
  obtain ⟨r, l, rfl⟩ : ∃ r l, i = ix2 r l := ⟨i 0, i 1, by blk_ext []⟩
  pointwise [val_main_v32, val_main_v31, val_main_v30, val_main_v29, val_main_v28, val_main_v27, val_main_v21, val_main_v20, val_main_cst_3, val_main_cst_8, val_main_cst_9, val_main_cst_10, v18_eq a b y x u w hy, lit_1024, lit_half, lit_1, lit_2, ← EReal.coe_mul, div_1024]
  refine congrArg (fun z : ℝ => (z : EReal)) ?_
  unfold derr
  ring

theorem v54_apply (r : Fin 2048) (l : Fin 1024) : val_main_v54 (F := Ideal) a b (fun i => (w i : EReal)) (fun i => (x i : EReal)) (fun i => (u i : EReal)) (ix2 r l)
    = (dxRow 1024 (fun k => y (ix2 r k)) (derr (fun k => y (ix2 r k)) (fun k => x (ix2 r k)) (fun k => u (ix2 r k)) (fun k => w (ix1 k))) (fun k => w (ix1 k)) l : EReal) := by
  pointwise [val_main_v54, val_main_v53, val_main_v52, val_main_v51, val_main_v50, val_main_v49, val_main_v48, val_main_v47, val_main_v46, val_main_v45, val_main_v44, val_main_v43, val_main_v42, val_main_v41, val_main_v40, val_main_v38, val_main_v37, val_main_v14, val_main_v11, val_main_v10, val_main_v9, val_main_v8, val_main_v7, val_main_v6, val_main_v5, val_main_v4, val_main_v3, val_main_v2, val_main_v1, val_main_cst, val_main_cst_0, val_main_cst_1, val_main_cst_2, val_main_cst_13, val_main_cst_14, val_main_cst_15, v32_eq a b y x u w hy, hy, lit_1024, lit_eps, lit_neg_half, ← EReal.coe_mul, coe_sum, div_1024, rsqrt_row, div_row, Fin.sum_univ_one, ← EReal.coe_sub, ← EReal.coe_add]
  exact congrArg (fun z : ℝ => (z : EReal)) (dxRow_eq (d := 1024) (by norm_num) (fun k => y (ix2 r k))
    (derr (fun k => y (ix2 r k)) (fun k => x (ix2 r k)) (fun k => u (ix2 r k)) (fun k => w (ix1 k))) (fun k => w (ix1 k)) l)

theorem v55_apply (l : Fin 1024) : val_main_v55 (F := Ideal) a b (fun i => (w i : EReal)) (fun i => (x i : EReal)) (fun i => (u i : EReal)) (ix2 0 l)
    = ((∑ r, derr (fun k => y (ix2 r k)) (fun k => x (ix2 r k)) (fun k => u (ix2 r k)) (fun k => w (ix1 k)) l * y (ix2 r l) * rr 1024 (fun k => y (ix2 r k)) : ℝ) : EReal) := by
  pointwise [val_main_v55, val_main_v39, val_main_v36, val_main_v35, val_main_v34, val_main_v13, val_main_v12, val_main_v8, val_main_v7, val_main_v6, val_main_v5, val_main_v4, val_main_v3, val_main_v2, val_main_v1, val_main_cst, val_main_cst_0, val_main_cst_1, val_main_cst_11, val_main_cst_12, v32_eq a b y x u w hy, hy, lit_1024, lit_eps, ← EReal.coe_mul, coe_sum, div_1024, rsqrt_row, div_row, Fin.sum_univ_one, ← EReal.coe_sub, ← EReal.coe_add]
  refine congrArg (fun z : ℝ => (z : EReal)) (Finset.sum_congr rfl fun r _ => ?_)
  ring

theorem v56_apply (l : Fin 1024) : val_main_v56 (F := Ideal) a b (fun i => (w i : EReal)) (fun i => (x i : EReal)) (fun i => (u i : EReal)) (ix2 0 l)
    = ((∑ r : Fin 2048, 1 / 2 * ((∑ k, err (fun k => y (ix2 r k)) (fun k => x (ix2 r k)) (fun k => u (ix2 r k)) (fun k => w (ix1 k)) k * err (fun k => y (ix2 r k)) (fun k => x (ix2 r k)) (fun k => u (ix2 r k)) (fun k => w (ix1 k)) k) / 1024) : ℝ) : EReal) := by
  pointwise [val_main_v56, val_main_v26, val_main_v25, val_main_v24, val_main_v23, val_main_v22, val_main_v19, val_main_cst_4, val_main_cst_5, val_main_cst_6, val_main_cst_7, v18_eq a b y x u w hy, lit_1024, lit_half, ← EReal.coe_mul, coe_sum, div_1024, Fin.sum_univ_one]
  rw [← Finset.mul_sum]

end reference

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![t.val, 0] ∧ win0_4.index t = ![0, 0]
    ∧ win0_5.index t = ![t.val, 0] ∧ win0_6.index t = ![t.val, 0] ∧ win0_7.index t = ![0, 0] ∧ win0_8.index t = ![0, 0] :=
  (by decide +kernel : ∀ t : Fin grid0.N, _)

/-- Row `r` of the block of 512 rows that point `t` works on. -/
def row (t : Fin cfg0.N) (r : Fin 512) : Fin 2048 := ⟨t.val * 512 + r.val, by have := t.isLt; have : cfg0.N = 4 := N_0; omega⟩

theorem later {t : Fin cfg0.N} (h : ¬t.val % 4 = 0) : 1 ≤ t.val := by omega

theorem first {t : Fin cfg0.N} (h : t.val % 4 = 0) : ¬1 ≤ t.val := by have := t.isLt; have : cfg0.N = 4 := N_0; omega

section final
variable (c : Dev nD) (a : S2048x4096.Idx → ℝ) (b : S4096x1024.Idx → ℝ) (w : S1024.Idx → ℝ) (x u : S2048x1024.Idx → ℝ)
  (ha : m ((c : Thread nD τ).loc main_arg0) = fun i => (a i : EReal)) (hb : m ((c : Thread nD τ).loc main_arg1) = fun i => (b i : EReal))
  (hw : m ((c : Thread nD τ).loc main_arg2) = fun i => (w i : EReal))
  (hx : m ((c : Thread nD τ).loc main_arg3) = fun i => (x i : EReal)) (hu : m ((c : Thread nD τ).loc main_arg4) = fun i => (u i : EReal))

include ha in
theorem blk0 (t : Fin cfg0.N) : iblk m c 0 t = fun y : S512x4096.Idx => (a (ix2 (row t (y 0)) (y 1)) : EReal) := by
  funext y
  refine Eq.trans ?_ (congrFun ha _)
  blk_simp [iblk]
  entry_read
  pointwise
  refine congrArg (m ((c : Thread nD τ).loc main_arg0)) ?_
  blk_ext [idx t, row]

include hb in
theorem blk1 (t : Fin cfg0.N) : iblk m c 1 t = fun y : S4096x1024.Idx => (b (ix2 (y 0) (y 1)) : EReal) := by
  funext y
  refine Eq.trans ?_ (congrFun hb _)
  blk_simp [iblk]
  entry_read
  pointwise
  refine congrArg (m ((c : Thread nD τ).loc main_arg1)) ?_
  blk_ext [idx t]

include hx in
theorem blk2 (t : Fin cfg0.N) : iblk m c 2 t = fun y : S512x1024.Idx => (x (ix2 (row t (y 0)) (y 1)) : EReal) := by
  funext y
  refine Eq.trans ?_ (congrFun hx _)
  blk_ext [iblk, V, idx t, row]

include hu in
theorem blk3 (t : Fin cfg0.N) : iblk m c 3 t = fun y : S512x1024.Idx => (u (ix2 (row t (y 0)) (y 1)) : EReal) := by
  funext y
  refine Eq.trans ?_ (congrFun hu _)
  blk_ext [iblk, V, idx t, row]

include hw in
theorem blk4 (t : Fin cfg0.N) : iblk m c 4 t = fun y : S1x1024.Idx => (w (ix1 (y 1)) : EReal) := by
  funext y
  refine Eq.trans ?_ (congrFun hw _)
  blk_simp [iblk]
  entry_read
  pointwise
  refine congrArg (fun k => m ((c : Thread nD τ).loc main_arg2) (ix1 k)) ?_
  apply Fin.ext
  blk_simp [idx t]

/-- The product the norm is taken of. -/
def prod (i : S2048x1024.Idx) : ℝ := ∑ k, a (ix2 (i 0) k) * b (ix2 k (i 1))

theorem pay2_blk (t : Fin cfg0.N) :
    k0_pay2 (F := Ideal) (fun y : S512x4096.Idx => (a (ix2 (row t (y 0)) (y 1)) : EReal)) (fun y : S4096x1024.Idx => (b (ix2 (y 0) (y 1)) : EReal))
      = fun i : S512x1024.Idx => (prod a b (ix2 (row t (i 0)) (i 1)) : EReal) := pay2_apply _ _

theorem v0_prod : Cert.Reference7Ideal.Read.val_main_v0 (F := Ideal) (fun i => (a i : EReal)) (fun i => (b i : EReal)) = fun i => (prod a b i : EReal) := v0_apply a b

include ha hb hw hx hu

theorem final_dx : (dats m 0 c).arrAt 5 (cfgs 0).N
    = Cert.Reference7Ideal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  obtain ⟨r, l, rfl⟩ : ∃ r l, y = ix2 r l := ⟨y 0, y 1, by blk_ext []⟩
  have hy : ((View.whole main_v3_0).slice (win0_5.rect t)).emb (ix2 r l) = ix2 (row t r) l := by blk_ext [idx t, row]
  rw [hy, ha, hb, hw, hx, hu, v32_eq _ _ _ _ _ _ (v0_prod a b)]
  refine Eq.trans (b := k0_pay5 (F := Ideal) (iblk m c 0 t) (iblk m c 1 t) (iblk m c 2 t) (iblk m c 3 t) (iblk m c 4 t) (ix2 r l)) ?_ ?_
  swap
  · rw [blk0 m c a ha t, blk1 m c b hb t, blk2 m c x hx t, blk3 m c u hu t, blk4 m c w hw t]
    exact congrFun (pay5_eq _ _ _ _ _ _ (pay2_blk a b t)) (ix2 r l)
  by_cases h : t.val % 4 = 0
  · rw [after0_5, outsAt0_A m c t h (first h) h (first h)]
    frame_out
  · rw [after0_5, outsAt0_B m c t h (later h) h (later h)]
    frame_out

theorem final_dy : (dats m 0 c).arrAt 6 (cfgs 0).N
    = Cert.Reference7Ideal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  obtain ⟨r, l, rfl⟩ : ∃ r l, y = ix2 r l := ⟨y 0, y 1, by blk_ext []⟩
  have hy : ((View.whole main_v3_1).slice (win0_6.rect t)).emb (ix2 r l) = ix2 (row t r) l := by blk_ext [idx t, row]
  rw [hy, ha, hb, hw, hx, hu]
  refine Eq.trans ?_ (v54_apply _ _ _ _ _ _ (v0_prod a b) (row t r) l).symm
  refine Eq.trans (b := k0_pay12 (F := Ideal) (k0_pay2 (iblk m c 0 t) (iblk m c 1 t)) (k0_pay7 (iblk m c 0 t) (iblk m c 1 t) (iblk m c 2 t) (iblk m c 3 t) (iblk m c 4 t))
      (k0_pay8 (iblk m c 0 t) (iblk m c 1 t) (iblk m c 2 t) (iblk m c 3 t) (iblk m c 4 t)) (k0_pay9 (iblk m c 0 t) (iblk m c 1 t)) (ix2 r l)) ?_ ?_
  swap
  · rw [blk0 m c a ha t, blk1 m c b hb t, blk2 m c x hx t, blk3 m c u hu t, blk4 m c w hw t]
    exact pay12_apply _ _ _ _ _ _ (pay2_blk a b t) r l
  by_cases h : t.val % 4 = 0
  · rw [after0_6, outsAt0_A m c t h (first h) h (first h)]
    frame_out
  · rw [after0_6, outsAt0_B m c t h (later h) h (later h)]
    frame_out

/-- A row of the gain's gradient at column `l`. -/
def dgain (r : Fin 2048) (l : Fin 1024) : ℝ :=
  derr (fun k => prod a b (ix2 r k)) (fun k => x (ix2 r k)) (fun k => u (ix2 r k)) (fun k => w (ix1 k)) l * prod a b (ix2 r l) * rr 1024 (fun k => prod a b (ix2 r k))

/-- A row's part of the loss. -/
def part (r : Fin 2048) : ℝ :=
  1 / 2 * ((∑ k, err (fun k => prod a b (ix2 r k)) (fun k => x (ix2 r k)) (fun k => u (ix2 r k)) (fun k => w (ix1 k)) k
    * err (fun k => prod a b (ix2 r k)) (fun k => x (ix2 r k)) (fun k => u (ix2 r k)) (fun k => w (ix1 k)) k) / 1024)

theorem point_dw (t : Fin cfg0.N) (l : Fin 1024) :
    k0_pay10 (F := Ideal) (k0_pay2 (iblk m c 0 t) (iblk m c 1 t)) (k0_pay5 (iblk m c 0 t) (iblk m c 1 t) (iblk m c 2 t) (iblk m c 3 t) (iblk m c 4 t)) (k0_pay6 (iblk m c 0 t) (iblk m c 1 t)) (ix2 0 l)
      = ((∑ r : Fin 512, dgain a b w x u (row t r) l : ℝ) : EReal) := by
  rw [blk0 m c a ha t, blk1 m c b hb t, blk2 m c x hx t, blk3 m c u hu t, blk4 m c w hw t]
  exact pay10_apply _ _ _ _ _ _ (pay2_blk a b t) l

theorem point_loss (t : Fin cfg0.N) (l : Fin 1024) :
    k0_pay11 (F := Ideal) (k0_pay4 (iblk m c 0 t) (iblk m c 1 t) (iblk m c 2 t) (iblk m c 3 t) (iblk m c 4 t)) (ix2 0 l)
      = ((∑ r : Fin 512, part a b w x u (row t r) : ℝ) : EReal) := by
  rw [blk0 m c a ha t, blk1 m c b hb t, blk2 m c x hx t, blk3 m c u hu t, blk4 m c w hw t]
  exact pay11_apply _ _ _ _ _ _ (pay2_blk a b t) l

theorem final_dw : (dats m 0 c).arrAt 7 (cfgs 0).N
    = Cert.Reference7Ideal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 7 t0_3 (by decide +kernel) _ fun j => ?_
  blk_simp
  rw [after0_7, Pipeline.eq_sum_fin_of_reset_step_apply_last (fun n h => (outsAt0 m c n h).2.2.1) 4 (fun _ => 0)
    (fun t (j : S1x1024.Idx) => ((∑ r : Fin 512, dgain a b w x u (row t r) (j 1) : ℝ) : EReal))
    (fun t h j => by
      rw [outsAt0_A m c t h (first h) h (first h)]; frame_out
      obtain ⟨l, rfl⟩ : ∃ l, j = ix2 0 l := ⟨j 1, by blk_ext []⟩
      exact (point_dw m c a b w x u ha hb hw hx hu t l).trans (zero_add _).symm)
    (fun t h j => by
      rw [outsAt0_B m c t h (later h) h (later h)]; frame_out
      obtain ⟨l, rfl⟩ : ∃ l, j = ix2 0 l := ⟨j 1, by blk_ext []⟩
      exact (pay13_apply _ _ _ _ l).trans (congrArg (fun z : EReal => _ + z) (point_dw m c a b w x u ha hb hw hx hu t l)))
    (le_of_eq N_0) t0_3 rfl j, zero_add]
  obtain ⟨l, rfl⟩ : ∃ l : Fin 1024, j = ix2 0 l := ⟨j 1, by blk_ext []⟩
  rw [ha, hb, hw, hx, hu]
  refine Eq.trans ?_ (v55_apply _ _ _ _ _ _ (v0_prod a b) l).symm
  rw [coe_sum]
  refine congrArg (fun z : ℝ => (z : EReal)) ?_
  refine Fin.sum_mul_add_congr fun s k hl => ?_
  rfl

theorem final_loss : (dats m 0 c).arrAt 8 (cfgs 0).N
    = Cert.Reference7Ideal.Read.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 8 t0_3 (by decide +kernel) _ fun j => ?_
  blk_simp
  rw [after0_8, Pipeline.eq_sum_fin_of_reset_step_apply_last (fun n h => (outsAt0 m c n h).2.2.2) 4 (fun _ => 0)
    (fun t (j : S1x1024.Idx) => ((∑ r : Fin 512, part a b w x u (row t r) : ℝ) : EReal))
    (fun t h j => by
      rw [outsAt0_A m c t h (first h) h (first h)]; frame_out
      obtain ⟨l, rfl⟩ : ∃ l, j = ix2 0 l := ⟨j 1, by blk_ext []⟩
      exact (point_loss m c a b w x u ha hb hw hx hu t l).trans (zero_add _).symm)
    (fun t h j => by
      rw [outsAt0_B m c t h (later h) h (later h)]; frame_out
      obtain ⟨l, rfl⟩ : ∃ l, j = ix2 0 l := ⟨j 1, by blk_ext []⟩
      exact (pay1_apply _ _ l).trans (congrArg (fun z : EReal => _ + z) (point_loss m c a b w x u ha hb hw hx hu t l)))
    (le_of_eq N_0) t0_3 rfl j, zero_add]
  obtain ⟨l, rfl⟩ : ∃ l : Fin 1024, j = ix2 0 l := ⟨j 1, by blk_ext []⟩
  rw [ha, hb, hw, hx, hu]
  refine Eq.trans ?_ (v56_apply _ _ _ _ _ _ (v0_prod a b) l).symm
  rw [coe_sum]
  refine congrArg (fun z : ℝ => (z : EReal)) ?_
  refine Fin.sum_mul_add_congr fun s k hl => ?_
  rfl

end final

end Cert.Kernel7Ideal.LossHead
-- ==== Proof.RowNorm.lean ====
/- A row over its root mean square, times a gain, on extended reals. -/
module

public import proofs.«01_k».proof.Proof.Reals

@[expose] public section

noncomputable section

namespace Cert.Reals

open Idealize.ShloMosaic

/-- A row of 1024 over its root mean square, times a gain, at column `l`. -/
def normRow (x w : Fin 1024 → EReal) (l : Fin 1024) : EReal :=
  x l * Ideal.rsqrt (Ideal.div (∑ k, x k * x k) (Ideal.ofBits .f32 0x44800000#32) + Ideal.ofBits .f32 0x358637BD#32) * w l

end Cert.Reals

end
-- ==== Proof.OutFwd.lean ====
/- The mixer's output product with the norm and the residual after it and the norm before the MLP. -/
module

public import Idealize.ShloMosaic.Lib.Pipeline.ValueKit
public import proofs.«01_k».proof.Proof.Gen.Kernel8Ideal.Value
public import proofs.«01_k».proof.Proof.Gen.Reference8Ideal.Read
public import proofs.«01_k».proof.Proof.RowNorm
public import Idealize.ShloMosaic.Lib.Tactic

@[expose] public section

noncomputable section

namespace Cert.Kernel8Ideal.OutFwd

open Cert.Kernel8Ideal Cert.Kernel8Ideal.Gen Idealize.ShloMosaic Idealize.ShloMosaic.TcCoe Idealize.SL.Sem Cert.Reals

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![t.val, 0] ∧ win0_6.index t = ![t.val, 0] ∧ win0_7.index t = ![t.val, 0] :=
  (by decide +kernel : ∀ t : Fin grid0.N, _)

/-- Row `r` of the block of 512 rows that point `t` works on. -/
def row (t : Fin cfg0.N) (r : Fin 512) : Fin 2048 := ⟨t.val * 512 + r.val, by have := t.isLt; have : cfg0.N = 4 := N_0; omega⟩

/-- The residual row: the given row plus the normed product row. -/
def resRow (x y w : Fin 1024 → EReal) (l : Fin 1024) : EReal := x l + normRow y w l

theorem pay2_apply (a : FVec Ideal S512x1024 .bf16) (b : FVec Ideal S1024x1024 .bf16) (r : Fin 512) (l : Fin 1024) :
    k0_pay2 (F := Ideal) a b (ix2 r l) = ∑ k : Fin 1024, a (ix2 r k) * b (ix2 k l) := by
  pointwise [k0_pay2]

theorem pay3_apply (a : FVec Ideal S512x1024 .bf16) (b : FVec Ideal S1024x1024 .bf16) (x : FVec Ideal S512x1024 .f32) (w : FVec Ideal S1x1024 .f32) (r : Fin 512) (l : Fin 1024) :
    k0_pay3 (F := Ideal) a b x w (ix2 r l)
      = resRow (fun k => x (ix2 r k)) (fun k => k0_pay2 (F := Ideal) a b (ix2 r k)) (fun k => w (ix2 0 k)) l := by
  pointwise [k0_pay3]
  rfl

theorem pay4_apply (a : FVec Ideal S512x1024 .bf16) (b : FVec Ideal S1024x1024 .bf16) (x : FVec Ideal S512x1024 .f32) (w v : FVec Ideal S1x1024 .f32) (r : Fin 512) (l : Fin 1024) :
    k0_pay4 (F := Ideal) a b x w v (ix2 r l)
      = normRow (fun k => k0_pay3 (F := Ideal) a b x w (ix2 r k)) (fun k => v (ix2 0 k)) l := by
  pointwise [k0_pay4]
  rfl

section reference
open Cert.Reference8Ideal.Read
variable (a : FVec Ideal S2048x1024 .f32) (b : FVec Ideal S1024x1024 .f32) (x : FVec Ideal S2048x1024 .f32) (w v : FVec Ideal S1024 .f32)

theorem v0_apply (r : Fin 2048) (l : Fin 1024) : val_main_v0 (F := Ideal) a b (ix2 r l) = ∑ k : Fin 1024, a (ix2 r k) * b (ix2 k l) := by
  pointwise [val_main_v0]

theorem v14_apply (r : Fin 2048) (l : Fin 1024) : val_main_v14 (F := Ideal) a b x w (ix2 r l)
    = resRow (fun k => x (ix2 r k)) (fun k => val_main_v0 (F := Ideal) a b (ix2 r k)) (fun k => w (ix1 k)) l := by
  pointwise [val_main_v14, val_main_v13, val_main_v12, val_main_v11, val_main_v10, val_main_v9, val_main_v8, val_main_v7, val_main_v6, val_main_v5, val_main_v4, val_main_v3, val_main_v2, val_main_v1, val_main_cst, val_main_cst_0, val_main_cst_1]
  rfl

theorem v28_apply (r : Fin 2048) (l : Fin 1024) : val_main_v28 (F := Ideal) a b x w v (ix2 r l)
    = normRow (fun k => val_main_v14 (F := Ideal) a b x w (ix2 r k)) (fun k => v (ix1 k)) l := by
  pointwise [val_main_v28, val_main_v27, val_main_v26, val_main_v25, val_main_v24, val_main_v23, val_main_v22, val_main_v21, val_main_v20, val_main_v19, val_main_v18, val_main_v17, val_main_v16, val_main_v15, val_main_cst_2, val_main_cst_3, val_main_cst_4]
  rfl

end reference

section final
variable (c : Dev nD)

theorem blk0 (t : Fin cfg0.N) (r : Fin 512) (k : Fin 1024) : iblk m c 0 t (ix2 r k) = m ((c : Thread nD τ).loc main_arg0) (ix2 (row t r) k) := by
  blk_simp [iblk]
  entry_read
  pointwise
  refine congrArg (m ((c : Thread nD τ).loc main_arg0)) ?_
  blk_ext [idx t, row]

theorem blk1 (t : Fin cfg0.N) (k l : Fin 1024) : iblk m c 1 t (ix2 k l) = m ((c : Thread nD τ).loc main_arg1) (ix2 k l) := by
  blk_simp [iblk]
  entry_read
  pointwise
  refine congrArg (m ((c : Thread nD τ).loc main_arg1)) ?_
  blk_ext [idx t]

theorem blk2 (t : Fin cfg0.N) (r : Fin 512) (k : Fin 1024) : iblk m c 2 t (ix2 r k) = m ((c : Thread nD τ).loc main_arg2) (ix2 (row t r) k) := by
  blk_simp [iblk]
  entry_read
  refine congrArg (m ((c : Thread nD τ).loc main_arg2)) ?_
  blk_ext [idx t, row]

theorem blk3 (t : Fin cfg0.N) (k : Fin 1024) : iblk m c 3 t (ix2 0 k) = m ((c : Thread nD τ).loc main_arg3) (ix1 k) := by
  blk_simp [iblk]
  entry_read
  pointwise
  refine congrArg (m ((c : Thread nD τ).loc main_arg3)) ?_
  blk_ext [idx t]

theorem blk4 (t : Fin cfg0.N) (k : Fin 1024) : iblk m c 4 t (ix2 0 k) = m ((c : Thread nD τ).loc main_arg4) (ix1 k) := by
  blk_simp [iblk]
  entry_read
  pointwise
  refine congrArg (m ((c : Thread nD τ).loc main_arg4)) ?_
  blk_ext [idx t]

open Cert.Reference8Ideal.Read in
theorem prod (t : Fin cfg0.N) (r : Fin 512) (l : Fin 1024) : k0_pay2 (F := Ideal) (iblk m c 0 t) (iblk m c 1 t) (ix2 r l)
    = val_main_v0 (F := Ideal) (m ((c : Thread nD τ).loc main_arg0)) (m ((c : Thread nD τ).loc main_arg1)) (ix2 (row t r) l) := by
  refine (pay2_apply _ _ r l).trans (Eq.trans ?_ (v0_apply _ _ (row t r) l).symm)
  simp only [blk0 m c t, blk1 m c t]

open Cert.Reference8Ideal.Read in
theorem res (t : Fin cfg0.N) (r : Fin 512) (l : Fin 1024) : k0_pay3 (F := Ideal) (iblk m c 0 t) (iblk m c 1 t) (iblk m c 2 t) (iblk m c 3 t) (ix2 r l)
    = val_main_v14 (F := Ideal) (m ((c : Thread nD τ).loc main_arg0)) (m ((c : Thread nD τ).loc main_arg1)) (m ((c : Thread nD τ).loc main_arg2)) (m ((c : Thread nD τ).loc main_arg3)) (ix2 (row t r) l) := by
  refine (pay3_apply _ _ _ _ r l).trans (Eq.trans ?_ (v14_apply _ _ _ _ (row t r) l).symm)
  simp only [blk2 m c t, blk3 m c t, prod m c t]

open Cert.Reference8Ideal.Read in
theorem final_mixed : (dats m 0 c).arrAt 5 (cfgs 0).N
    = val_main_v0 (F := Ideal) (m ((c : Thread nD τ).loc main_arg0)) (m ((c : Thread nD τ).loc main_arg1)) := by
  refine (dats m 0 c).arrAt_eq_of_covers 5 _ (by decide +kernel) fun t _ y => ?_
  blk_simp
  obtain ⟨r, l, rfl⟩ : ∃ r l, y = ix2 r l := ⟨y 0, y 1, by blk_ext []⟩
  have hy : (win0_5.blk t).view.emb (ix2 r l) = ix2 (row t r) l := by blk_ext [idx t, row]
  rw [hy, after0_5]
  refine Eq.trans (b := k0_pay2 (F := Ideal) (iblk m c 0 t) (iblk m c 1 t) (ix2 r l)) (by frame_out) ?_
  exact prod m c t r l

open Cert.Reference8Ideal.Read in
theorem final_x1 : (dats m 0 c).arrAt 6 (cfgs 0).N
    = val_main_v14 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  obtain ⟨r, l, rfl⟩ : ∃ r l, y = ix2 r l := ⟨y 0, y 1, by blk_ext []⟩
  have hy : (win0_6.blk t).view.emb (ix2 r l) = ix2 (row t r) l := by blk_ext [idx t, row]
  rw [hy, after0_6]
  refine Eq.trans (b := k0_pay3 (F := Ideal) (iblk m c 0 t) (iblk m c 1 t) (iblk m c 2 t) (iblk m c 3 t) (ix2 r l)) (by frame_out) ?_
  exact res m c t r l

open Cert.Reference8Ideal.Read in
theorem final_h2 : (dats m 0 c).arrAt 7 (cfgs 0).N
    = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  obtain ⟨r, l, rfl⟩ : ∃ r l, y = ix2 r l := ⟨y 0, y 1, by blk_ext []⟩
  have hy : (win0_7.blk t).view.emb (ix2 r l) = ix2 (row t r) l := by blk_ext [idx t, row]
  rw [hy, after0_7]
  refine Eq.trans (b := k0_pay4 (F := Ideal) (iblk m c 0 t) (iblk m c 1 t) (iblk m c 2 t) (iblk m c 3 t) (iblk m c 4 t) (ix2 r l)) (by frame_out; rfl) ?_
  refine (pay4_apply _ _ _ _ _ r l).trans (Eq.trans ?_ (v28_apply _ _ _ _ _ (row t r) l).symm)
  simp only [blk4 m c t, res m c t]

end final

end Cert.Kernel8Ideal.OutFwd
-- ==== Proof.UpFwd.lean ====
/- The rectifier and its square, with the product that feeds them: one block of 1024 columns of the weights at a time. -/
module

public import Idealize.ShloMosaic.Lib.Pipeline.ValueKit
public import proofs.«01_k».proof.Proof.Gen.Kernel9Ideal.Value
public import proofs.«01_k».proof.Proof.Gen.Reference9Ideal.Read
public import proofs.«01_k».proof.Proof.Reals
public import Idealize.ShloMosaic.Lib.Tactic

@[expose] public section

noncomputable section

namespace Cert.Kernel9Ideal.UpFwd

open Cert.Kernel9Ideal Cert.Kernel9Ideal.Gen Idealize.ShloMosaic Idealize.ShloMosaic.TcCoe Idealize.SL.Sem Cert.Reals

variable (m : (ℓ : Loc nD τ sig) → Buf (Elt Ideal) ℓ)

theorem idx : ∀ t : Fin cfg0.N, win0_0.index t = ![t.val / 4, 0] ∧ win0_1.index t = ![t.val % 4, 0, 0] ∧ win0_2.index t = ![t.val / 4, t.val % 4] ∧ win0_3.index t = ![t.val / 4, t.val % 4] :=
  (by decide +kernel : ∀ t : Fin grid0.N, _)

/-- Row `r` of the block of 1024 rows that point `t` works on. -/
def row (t : Fin cfg0.N) (r : Fin 1024) : Fin 2048 := ⟨t.val / 4 * 1024 + r.val, by have := t.isLt; have : cfg0.N = 8 := N_0; omega⟩

/-- Column `l` of the block of 1024 columns that point `t` works on. -/
def col (t : Fin cfg0.N) (l : Fin 1024) : Fin 4096 := ⟨t.val % 4 * 1024 + l.val, by omega⟩

theorem pay1_apply (a : FVec Ideal S1024x1024 .bf16) (b : FVec Ideal S1x1024x1024 .bf16) (r l : Fin 1024) :
    k0_pay1 (F := Ideal) a b (ix2 r l) = max (∑ k : Fin 1024, a (ix2 r k) * b (ix3 0 k l)) 0 := by
  pointwise [k0_pay1]

open Cert.Reference9Ideal.Read in
theorem ref_apply (h : FVec Ideal S2048x1024 .f32) (w : FVec Ideal Cert.Reference9Ideal.S1024x4096 .f32) (r : Fin 2048) (l : Fin 4096) :
    val_main_v1 (F := Ideal) h w (ix2 r l) = max (∑ k : Fin 1024, h (ix2 r k) * w (ix2 k l)) 0 := by
  pointwise [val_main_v1, val_main_v0, val_main_call0_v0, val_main_call0_cst]

section final
variable (c : Dev nD)

theorem blk0 (t : Fin cfg0.N) (r k : Fin 1024) : iblk m c 0 t (ix2 r k) = m ((c : Thread nD τ).loc main_arg0) (ix2 (row t r) k) := by
  blk_simp [iblk]
  entry_read
  pointwise
  refine congrArg (m ((c : Thread nD τ).loc main_arg0)) ?_
  blk_ext [idx t, row]

theorem blk1 (t : Fin cfg0.N) (l k : Fin 1024) : iblk m c 1 t (ix3 0 k l) = m ((c : Thread nD τ).loc main_arg1) (ix2 k (col t l)) := by
  blk_simp [iblk]
  entry_read
  pointwise
  refine congrArg (m ((c : Thread nD τ).loc main_arg1)) ?_
  blk_ext [idx t, col]

theorem pay (t : Fin cfg0.N) (r l : Fin 1024) : k0_pay1 (F := Ideal) (iblk m c 0 t) (iblk m c 1 t) (ix2 r l)
    = Cert.Reference9Ideal.Read.val_main_v1 (F := Ideal) (m ((c : Thread nD τ).loc main_arg0)) (m ((c : Thread nD τ).loc main_arg1)) (ix2 (row t r) (col t l)) := by
  refine (pay1_apply _ _ r l).trans (Eq.trans ?_ (ref_apply _ _ (row t r) (col t l)).symm)
  simp only [blk0 m c t, blk1 m c t]

theorem final_relu : (dats m 0 c).arrAt 2 (cfgs 0).N
    = Cert.Reference9Ideal.Read.val_main_v2 (F := Ideal) (m ((c : Thread nD τ).loc main_arg0)) (m ((c : Thread nD τ).loc main_arg1)) := by
  refine (dats m 0 c).arrAt_eq_of_covers 2 _ (by decide +kernel) fun t _ y => ?_
  blk_simp
  obtain ⟨r, l, rfl⟩ : ∃ r l, y = ix2 r l := ⟨y 0, y 1, by blk_ext []⟩
  have hy : (win0_2.blk t).view.emb (ix2 r l) = ix2 (row t r) (col t l) := by blk_ext [idx t, row, col]
  rw [hy, after0_2]
  refine Eq.trans (b := k0_pay2 (F := Ideal) (iblk m c 0 t) (iblk m c 1 t) (ix2 r l)) (by frame_out) ?_
  exact pay m c t r l

theorem final_act : (dats m 0 c).arrAt 3 (cfgs 0).N
    = Cert.Reference9Ideal.Read.val_main_v4 (F := Ideal) (m ((c : Thread nD τ).loc main_arg0)) (m ((c : Thread nD τ).loc main_arg1)) := by
  refine (dats m 0 c).arrAt_eq_of_covers 3 _ (by decide +kernel) fun t _ y => ?_
  blk_simp
  obtain ⟨r, l, rfl⟩ : ∃ r l, y = ix2 r l := ⟨y 0, y 1, by blk_ext []⟩
  have hy : (win0_3.blk t).view.emb (ix2 r l) = ix2 (row t r) (col t l) := by blk_ext [idx t, row, col]
  rw [hy, after0_3]
  refine Eq.trans (b := k0_pay3 (F := Ideal) (iblk m c 0 t) (iblk m c 1 t) (ix2 r l)) (by frame_out) ?_
  exact congrArg (fun z : EReal => z * z) (pay m c t r l)

end final

end Cert.Kernel9Ideal.UpFwd
-- ==== Proof.PreFwd.lean ====
/- The first norm: each row times its reciprocal root mean square and the gain, block by block. -/
module

public import Idealize.ShloMosaic.Lib.Pipeline.ValueKit
public import proofs.«01_k».proof.Proof.Gen.Kernel10Ideal.Value
public import proofs.«01_k».proof.Proof.Gen.Reference10Ideal.Read
public import proofs.«01_k».proof.Proof.RowNorm
public import Idealize.ShloMosaic.Lib.Tactic

@[expose] public section

noncomputable section

namespace Cert.Kernel10Ideal.PreFwd

open Cert.Kernel10Ideal Cert.Kernel10Ideal.Gen Idealize.ShloMosaic Idealize.ShloMosaic.TcCoe Idealize.SL.Sem Cert.Reals

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- Row `r` of the block of 512 rows that point `t` works on. -/
def row (t : Fin cfg0.N) (r : Fin 512) : Fin 2048 := ⟨t.val * 512 + r.val, by have := t.isLt; have : cfg0.N = 4 := N_0; omega⟩

theorem pay1_apply (x : FVec Ideal S512x1024 .f32) (w : FVec Ideal S1x1024 .f32) (r : Fin 512) (l : Fin 1024) :
    k0_pay1 (F := Ideal) x w (ix2 r l) = normRow (fun k => x (ix2 r k)) (fun k => w (ix2 0 k)) l := by
  pointwise [k0_pay1]
  rfl

open Cert.Reference10Ideal.Read in
theorem ref_apply (x : FVec Ideal S2048x1024 .f32) (w : FVec Ideal S1024 .f32) (r : Fin 2048) (l : Fin 1024) :
    val_main_v13 (F := Ideal) x w (ix2 r l) = normRow (fun k => x (ix2 r k)) (fun k => w (ix1 k)) l := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

section final
variable (c : Dev nD)

theorem blk0 (t : Fin cfg0.N) (r : Fin 512) (k : Fin 1024) : iblk m c 0 t (ix2 r k) = m ((c : Thread nD τ).loc main_arg0) (ix2 (row t r) k) := by
  blk_simp [iblk]
  entry_read
  refine congrArg (m ((c : Thread nD τ).loc main_arg0)) ?_
  blk_ext [idx t, row]

theorem blk1 (t : Fin cfg0.N) (k : Fin 1024) : iblk m c 1 t (ix2 0 k) = m ((c : Thread nD τ).loc main_arg1) (ix1 k) := by
  blk_simp [iblk]
  entry_read
  pointwise
  refine congrArg (m ((c : Thread nD τ).loc main_arg1)) ?_
  blk_ext [idx t]

theorem final_h : (dats m 0 c).arrAt 2 (cfgs 0).N
    = Cert.Reference10Ideal.Read.val_main_v13 (F := Ideal) (m ((c : Thread nD τ).loc main_arg0)) (m ((c : Thread nD τ).loc main_arg1)) := by
  refine (dats m 0 c).arrAt_eq_of_covers 2 _ (by decide +kernel) fun t _ y => ?_
  blk_simp
  obtain ⟨r, l, rfl⟩ : ∃ r l, y = ix2 r l := ⟨y 0, y 1, by blk_ext []⟩
  have hy : (win0_2.blk t).view.emb (ix2 r l) = ix2 (row t r) l := by blk_ext [idx t, row]
  rw [hy, after0_2]
  refine Eq.trans ?_ (ref_apply _ _ (row t r) l).symm
  refine Eq.trans (b := k0_pay1 (F := Ideal) (iblk m c 0 t) (iblk m c 1 t) (ix2 r l)) (by frame_out) ?_
  refine (pay1_apply _ _ r l).trans ?_
  simp only [blk0 m c t, blk1 m c t]

end final

end Cert.Kernel10Ideal.PreFwd
-- ==== Proof.GatesFwd.lean ====
/- The gates: the forget gates' logarithms summed along the sequence, the write strengths and the log decays. -/
module

public import Idealize.ShloMosaic.Lib.Pipeline.ValueKit
public import Idealize.ShloMosaic.Lib.Pipeline.ReadBack
public import Idealize.ShloMosaic.Lib.Tactic
public import proofs.«01_k».proof.Proof.Gen.Kernel11Ideal.Value
public import proofs.«01_k».proof.Proof.Gen.Reference11Ideal.Read
public import proofs.«01_k».proof.Proof.Reals

@[expose] public section

noncomputable section

namespace Cert.Kernel11Ideal.GatesFwd

open Cert.Kernel11Ideal Cert.Kernel11Ideal.Gen Idealize.ShloMosaic Idealize.ShloMosaic.TcCoe Idealize.SL.Sem Cert.Reals

/-! ## The arithmetic, on the extended reals -/

/-- The part of the softplus that is even, the softplus, and the logarithm of the logistic function. -/
def even (z : EReal) : EReal := Ideal.log (1 + Ideal.exp (-(max z (-z))))
def sp (z : EReal) : EReal := max z 0 + even z
def lf (z : EReal) : EReal := min z 0 - even z

theorem even_neg (z : EReal) : even (-z) = even z := by
  unfold even
  rw [neg_neg, max_comm]

theorem log_pos {x : ℝ} (h : 0 < x) : Ideal.log (x : EReal) = (Real.log x : EReal) := by
  rw [Ideal.log_coe, if_neg (not_le.mpr h)]

theorem even_real (z : EReal) : ∃ y : ℝ, even z = (y : EReal) := by
  unfold even
  have h : ∃ y : ℝ, Ideal.exp (-(max z (-z))) = (y : EReal) ∧ 0 ≤ y := by
    induction z with
    | bot => exact ⟨0, by rw [EReal.neg_bot, max_eq_right bot_le, EReal.neg_top, Ideal.exp_bot, EReal.coe_zero], le_refl _⟩
    | top => exact ⟨0, by rw [max_eq_left le_top, EReal.neg_top, Ideal.exp_bot, EReal.coe_zero], le_refl _⟩
    | coe x => exact ⟨Real.exp (-(max x (-x))), by rw [← EReal.coe_neg, ← EReal.coe_strictMono.monotone.map_max, ← EReal.coe_neg, Ideal.exp_coe], by positivity⟩
  obtain ⟨y, e, hy⟩ := h
  exact ⟨Real.log (1 + y), by rw [e, ← EReal.coe_one, ← EReal.coe_add, log_pos (by positivity)]⟩

theorem neg_max (z : EReal) : -(max (-z) 0) = min z 0 := by
  rcases le_total z 0 with h | h
  · rw [min_eq_left h, max_eq_left (by rw [← neg_zero]; exact EReal.neg_le_neg_iff.mpr h), neg_neg]
  · rw [min_eq_right h, max_eq_right (by rw [← neg_zero]; exact EReal.neg_le_neg_iff.mpr h), neg_zero]

theorem neg_sp (z : EReal) : -(sp (-z)) = lf z := by
  unfold sp lf
  rw [even_neg]
  obtain ⟨y, e⟩ := even_real z
  rw [e, EReal.neg_add (Or.inr (EReal.coe_ne_top y)) (Or.inr (EReal.coe_ne_bot y)), neg_max]

/-- The sum of the first `n` entries of a column. -/
def head (f : Fin 2048 → EReal) (n : Nat) : EReal := ∑ q : Fin 2048, if q.val < n then f q else 0

theorem head_eq (f : Fin 2048 → EReal) (n : Nat) (hn : n ≤ 2048) : head f n = ∑ q ∈ Finset.range n, (if h : q < 2048 then f ⟨q, h⟩ else 0) := by
  have e := Fin.sum_univ_eq_sum_range (fun q => if q < n then (if h : q < 2048 then f ⟨q, h⟩ else 0) else 0) 2048
  unfold head
  refine Eq.trans (Finset.sum_congr rfl fun q _ => ?_) (e.trans ?_)
  · simp only [q.isLt, dif_pos]
  · rw [← Finset.sum_filter]
    refine Finset.sum_congr ?_ fun _ _ => rfl
    ext q
    simp only [Finset.mem_filter, Finset.mem_range]
    omega

theorem head_zero (f : Fin 2048 → EReal) : head f 0 = 0 := by rw [head_eq f 0 (by norm_num), Finset.range_zero, Finset.sum_empty]

theorem head_step (f : Fin 2048 → EReal) (b : Nat) (hb : b < 4) (r : Fin 512) :
    (∑ q : Fin 512, if q ≤ r then f ⟨b * 512 + q.val, by omega⟩ else 0) + head f (b * 512) = head f (b * 512 + r.val + 1) := by
  have hr := r.isLt
  have e := Fin.sum_univ_eq_sum_range (fun q => if q ≤ r.val then (if h : b * 512 + q < 2048 then f ⟨b * 512 + q, h⟩ else 0) else 0) 512
  rw [head_eq f _ (by omega), head_eq f _ (by omega), add_assoc (b * 512), Finset.sum_range_add, add_comm]
  refine congrArg (_ + ·) (Eq.trans (Finset.sum_congr rfl fun q _ => ?_) (e.trans ?_))
  · rw [dif_pos (show b * 512 + q.val < 2048 by omega)]
    rfl
  · rw [← Finset.sum_filter]
    refine Finset.sum_congr ?_ fun _ _ => rfl
    ext q
    simp only [Finset.mem_filter, Finset.mem_range]
    omega

theorem fold_sum {n : Nat} (g : Fin n → EReal) (v : EReal) : (List.finRange n).foldl (fun r i => r + g i) v = v + ∑ i, g i := by
  rw [← List.sum_ofFn, List.ofFn_eq_map]
  generalize List.finRange n = l
  induction l generalizing v with
  | nil => simp
  | cons a l ih => rw [List.foldl_cons, ih, List.map_cons, List.sum_cons, add_assoc]

/-- The host's sum over a window padded low by one less than the height: the sum of the entries up to a row. -/
theorem prefix_sum {h : Shape.ReduceWindows ⟨2, ![2048, 8]⟩ ![2048, 1] ![1, 1] ![2047, 0] ![0, 0] ⟨2, ![2048, 8]⟩} (v : EReal) (hv : v = 0) (x : (⟨2, ![2048, 8]⟩ : Shape).Idx → EReal)
    (r : Fin 2048) (l : Fin 8) :
    Ideal.hostReduceWindowAdd (t := ⟨2, ![2048, 8]⟩) ![2048, 1] ![1, 1] ![2047, 0] ![0, 0] h x v (ix2 r l) = head (fun q => x (ix2 q l)) (r.val + 1) := by
  subst hv
  unfold Ideal.hostReduceWindowAdd Host.reduceWindow
  refine (fold_sum _ _).trans ((zero_add _).trans ?_)
  have hr := r.isLt
  refine ((Equiv.sum_comp (Shape.rowMajor ⟨2, ![2048, 1]⟩).symm (fun p : (⟨2, ![2048, 1]⟩ : Shape).Idx =>
    if hin : 2047 ≤ r.val + (p 0).val ∧ r.val + (p 0).val - 2047 < 2048 then x (ix2 ⟨r.val + (p 0).val - 2047, hin.2⟩ l) else 0)).symm.trans ?_).symm.trans ?_
  · refine Finset.sum_congr rfl fun n _ => ?_
    obtain ⟨k, u, hp⟩ : ∃ (k : Fin 2048) (u : Fin 1), (Shape.rowMajor ⟨2, ![2048, 1]⟩).symm n = ix2 k u := ⟨_, _, eq_ix2 _⟩
    have hu : u.val = 0 := by omega
    have hl := l.isLt
    simp only [hp]
    by_cases h : 2047 ≤ r.val + k.val ∧ r.val + k.val - 2047 < 2048
    · refine (dif_pos h).trans (Eq.symm ((dif_pos fun a => ?_).trans ?_))
      · match a with
        | ⟨0, _⟩ => show 2047 ≤ r.val * 1 + k.val ∧ r.val * 1 + k.val - 2047 < 2048; omega
        | ⟨1, _⟩ => show 0 ≤ l.val * 1 + u.val ∧ l.val * 1 + u.val - 0 < 8; omega
      · refine congrArg x ?_
        funext a; apply Fin.ext
        match a with
        | ⟨0, _⟩ => show r.val * 1 + k.val - 2047 = r.val + k.val - 2047; omega
        | ⟨1, _⟩ => show l.val * 1 + u.val - 0 = l.val; omega
    · refine (dif_neg h).trans (Eq.symm (dif_neg fun hh => h ?_))
      have h0 : 2047 ≤ r.val * 1 + k.val ∧ r.val * 1 + k.val - 2047 < 2048 := hh 0
      omega
  · refine (Fintype.sum_equiv (⟨fun p => p 0, fun k => ix2 k 0, fun p => by blk_ext [], fun k => rfl⟩ : (⟨2, ![2048, 1]⟩ : Shape).Idx ≃ Fin 2048) _
      (fun k => if hin : 2047 ≤ r.val + k.val ∧ r.val + k.val - 2047 < 2048 then x (ix2 ⟨r.val + k.val - 2047, hin.2⟩ l) else 0) fun p => rfl).trans ?_
    refine Fintype.sum_equiv (Equiv.addLeft (r + 1)) _ _ fun k => ?_
    have hv : (r + 1 + k).val = ((r.val + 1) % 2048 + k.val) % 2048 := by
      rw [Fin.val_add, Fin.val_add]
      rfl
    have hk := k.isLt
    show _ = (if (r + 1 + k).val < r.val + 1 then x (ix2 (r + 1 + k) l) else 0)
    by_cases h : 2047 ≤ r.val + k.val
    · have e : r + 1 + k = ⟨r.val + k.val - 2047, by omega⟩ := Fin.ext (by rw [hv]; show _ = r.val + k.val - 2047; omega)
      rw [dif_pos ⟨h, by omega⟩, if_pos (by rw [hv]; omega), e]
    · rw [dif_neg fun hh => h hh.1, if_neg (by rw [hv]; omega)]

section payloads

theorem lane8 (l : Fin 128) : IntOp.cmpi .slt (BitVec.ofNat 32 l.val) 8#32 = if l.val < 8 then 1#1 else 0#1 := by
  revert l; decide +kernel

theorem lane12 (l : Fin 128) : IntOp.andi (IntOp.cmpi .sge (BitVec.ofNat 32 l.val) 8#32) (IntOp.cmpi .slt (BitVec.ofNat 32 l.val) 12#32) = if 8 ≤ l.val ∧ l.val < 12 then 1#1 else 0#1 := by
  revert l; decide +kernel

theorem lane16 (l : Fin 128) : IntOp.andi (IntOp.cmpi .sge (BitVec.ofNat 32 l.val) 12#32) (IntOp.cmpi .slt (BitVec.ofNat 32 l.val) 16#32) = if 12 ≤ l.val ∧ l.val < 16 then 1#1 else 0#1 := by
  revert l; decide +kernel

theorem sel {p : Prop} [Decidable p] (a b : EReal) : Scalar.select (if p then 1#1 else 0#1) a b = if p then a else b := by
  split <;> rfl

theorem lower_mul (q r : Fin 512) (x : EReal) : (FloatOps.sitofp (F := Ideal) FTy.f32 (BitVec.setWidth 32 (IntOp.cmpi .sle (BitVec.ofNat 32 q.val) (BitVec.ofNat 32 r.val))) : EReal) * x
    = if q ≤ r then x else 0 := by
  have hq := q.isLt
  have hr := r.isLt
  have e : IntOp.cmpi .sle (BitVec.ofNat 32 q.val) (BitVec.ofNat 32 r.val) = if q ≤ r then 1#1 else 0#1 := by
    rw [WordCmp.cmpi_sle_ofNat (by omega) (by omega)]
    by_cases h : q ≤ r
    · have h' : q.val ≤ r.val := h
      rw [if_pos h, decide_eq_true h']; rfl
    · have h' : ¬q.val ≤ r.val := h
      rw [if_neg h, decide_eq_false h']; rfl
  have h1 : (BitVec.setWidth 32 1#1).toInt = 1 := by decide
  have h0 : (BitVec.setWidth 32 0#1).toInt = 0 := by decide
  rw [e]
  split
  · refine (congrArg (fun n : Int => ((n : ℝ) : EReal) * x) h1).trans ?_
    rw [Int.cast_one, EReal.coe_one, one_mul]
  · refine (congrArg (fun n : Int => ((n : ℝ) : EReal) * x) h0).trans ?_
    rw [Int.cast_zero, EReal.coe_zero, zero_mul]

variable (s : FVec Ideal S512x128 .f32) (b v : FVec Ideal S1x128 .f32)

theorem pay3_apply (r : Fin 512) (l : Fin 128) : k0_pay3 (F := Ideal) s b (ix2 r l) = s (ix2 r l) + b (ix2 0 l) := by
  pointwise [k0_pay3]

theorem pay4_apply (r : Fin 512) (l : Fin 128) : k0_pay4 (F := Ideal) s b (ix2 r l) = even (s (ix2 r l) + b (ix2 0 l)) := by
  pointwise [k0_pay4, pay3_apply, lit_1, EReal.coe_one, zero_sub]
  rfl

theorem pay5_apply (r : Fin 512) (l : Fin 128) : k0_pay5 (F := Ideal) s b (ix2 r l) = sp (s (ix2 r l) + b (ix2 0 l)) := by
  pointwise [k0_pay5, pay3_apply, pay4_apply]
  rfl

theorem pay6_apply (r : Fin 512) (l : Fin 128) : k0_pay6 (F := Ideal) s b v (ix2 r l) = (∑ q : Fin 512, if q ≤ r then lf (s (ix2 q l) + b (ix2 0 l)) else 0) + v (ix2 0 l) := by
  pointwise [k0_pay6, pay3_apply, pay4_apply, lower_mul]
  rfl

theorem pay7_apply (l : Fin 128) : k0_pay7 (F := Ideal) s b v (ix2 0 l) = k0_pay6 (F := Ideal) s b v (ix2 511 l) := by
  pointwise [k0_pay7]

/-- A lane of the block: the sum, the logistic function, the decay, or nothing. -/
def pick (l : Nat) (cum z a s : EReal) : EReal := if l < 8 then cum else if l < 12 then Ideal.div 1 (1 + Ideal.exp (-z)) else if l < 16 then -(Ideal.exp a) * s else 0

theorem pay1_apply (z s cum : FVec Ideal S512x128 .f32) (a : FVec Ideal S1x128 .f32) (r : Fin 512) (l : Fin 128) :
    k0_pay1 (F := Ideal) z s cum (iota .tc S512x128 32 [1] iota_S512x128_d1_w32) k0_pay8 k0_pay9 a (ix2 r l) = pick l.val (cum (ix2 r l)) (z (ix2 r l)) (a (ix2 0 l)) (s (ix2 r l)) := by
  pointwise [k0_pay1, k0_pay8, k0_pay9, lit_1, EReal.coe_one, zero_sub, lane8, lane12, lane16, sel]
  unfold pick
  split_ifs <;> first | rfl | omega

end payloads

section reference
open Cert.Reference11Ideal.Read

variable (ff : FVec Ideal Cert.Reference11Ideal.S2048x8 .f32) (gb ga : FVec Ideal Cert.Reference11Ideal.S2048x4 .f32) (fb : FVec Ideal Cert.Reference11Ideal.S8 .f32) (al dt : FVec Ideal Cert.Reference11Ideal.S4 .f32)

theorem r_softplus (r : Fin 2048) (l : Fin 4) : val_main_v15 (F := Ideal) ga dt (ix2 r l) = sp (ga (ix2 r l) + dt (ix1 l)) := by
  pointwise [val_main_v15, val_main_call1_v11, val_main_call1_v10, val_main_call1_v9, val_main_call1_v8, val_main_call1_v7, val_main_call1_v6, val_main_call1_v5, val_main_call1_v4, val_main_call1_v3, val_main_call1_v2, val_main_call1_v1, val_main_call1_v0, val_main_call1_cst, val_main_v14, val_main_v13, val_main_v12]
  rw [if_neg (not_not.mpr rfl)]
  rfl

theorem r_fox (r : Fin 2048) (l : Fin 8) : val_main_v3 (F := Ideal) ff fb (ix2 r l) = lf (ff (ix2 r l) + fb (ix1 l)) := by
  rw [← neg_sp]
  pointwise [val_main_v3, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0, val_main_v2, val_main_v1, val_main_v0]
  rw [if_neg (not_not.mpr rfl)]
  rfl

theorem r_cum (r : Fin 2048) (l : Fin 8) : val_main_v19 (F := Ideal) ff fb (ix2 r l) = head (fun q => lf (ff (ix2 q l) + fb (ix1 l))) (r.val + 1) := by
  unfold val_main_v19 Host.reduceWindowAdd
  rw [Ideal.hostReduceWindowAdd_def]
  refine (prefix_sum _ ?_ (val_main_v3 (F := Ideal) ff fb) r l).trans ?_
  · pointwise [val_main_call2_call0_v0, val_main_call2_call0_cst]
  · simp only [r_fox]

theorem r_beta (r : Fin 2048) (l : Fin 4) : val_main_v9 (F := Ideal) gb (ix2 r l) = Ideal.div 1 (1 + Ideal.exp (-gb (ix2 r l))) := by
  pointwise [val_main_v9, val_main_v8, val_main_v7, val_main_v6, val_main_v5, val_main_v4, val_main_cst, val_main_cst_0, lit_1, EReal.coe_one]

theorem r_decay (r : Fin 2048) (l : Fin 4) : val_main_v18 (F := Ideal) ga al dt (ix2 r l) = -(Ideal.exp (al (ix1 l))) * sp (ga (ix2 r l) + dt (ix1 l)) := by
  pointwise [val_main_v18, val_main_v17, val_main_v16, val_main_v11, val_main_v10, r_softplus]

theorem z0 : (FloatOps.sitofp (F := Ideal) FTy.f32 0#32 : EReal) = 0 := by
  refine (congrArg (fun n : Int => ((n : ℝ) : EReal)) (by decide : (0#32).toInt = 0)).trans ?_
  norm_num

/-- The sixteen columns. -/
def cols (r : Fin 2048) (j : Nat) : EReal :=
  if h : j < 16 then (if h1 : j < 8 then head (fun q => lf (ff (ix2 q ⟨j, h1⟩) + fb (ix1 ⟨j, h1⟩))) (r.val + 1)
    else if h2 : j - 8 < 4 then Ideal.div 1 (1 + Ideal.exp (-gb (ix2 r ⟨j - 8, h2⟩)))
    else -(Ideal.exp (al (ix1 ⟨j - 8 - 4, by omega⟩))) * sp (ga (ix2 r ⟨j - 8 - 4, by omega⟩) + dt (ix1 ⟨j - 8 - 4, by omega⟩))) else 0

theorem v21_apply (r : Fin 2048) (l : Fin 128) : val_main_v21 (F := Ideal) ff gb ga fb al dt (ix2 r l) = cols ff gb ga fb al dt r l.val := by
  pointwise [val_main_v21, val_main_v20, val_main_call3_v0, val_main_c, z0]
  unfold cols
  by_cases h : l.val < 16
  · rw [dif_pos h, dif_pos h]
    by_cases h1 : l.val < 8
    · rw [dif_pos h1, dif_pos h1]
      exact r_cum ff fb r ⟨l.val, h1⟩
    · rw [dif_neg h1, dif_neg h1]
      by_cases h2 : l.val - 8 < 4
      · rw [dif_pos h2, dif_pos h2]
        exact r_beta gb r ⟨l.val - 8, h2⟩
      · rw [dif_neg h2, dif_neg h2]
        exact r_decay ga al dt r ⟨l.val - 8 - 4, by omega⟩
  · rw [dif_neg h, dif_neg h]

end reference

variable (m : (ℓ : Loc nD τ sig) → Buf (Elt Ideal) ℓ)

theorem idx : ∀ t : Fin cfg0.N, win0_0.index t = ![t.val, 28] ∧ win0_1.index t = ![0, 0] ∧ win0_2.index t = ![0, 0] ∧ win0_3.index t = ![t.val, 0] :=
  (by decide +kernel : ∀ t : Fin grid0.N, _)

theorem lt4 (t : Fin cfg0.N) : t.val < 4 := lt_of_lt_of_eq t.isLt N_0

/-- The row of the sequence that row `r` of the block at point `t` is. -/
def row (t : Fin cfg0.N) (r : Fin 512) : Fin 2048 := ⟨t.val * 512 + r.val, by have := r.isLt; have := lt4 t; omega⟩

section final
variable (c : Dev nD)

theorem entry_v1 : V m c main_v1
    = pad S2048x3840 ![0, 3584] ![0, 240] ![0, 0] (concatenate S2048x16 1 [⟨S2048x8, (m ((c : Thread nD τ).loc main_arg0) : S2048x8.Idx → EReal)⟩, ⟨S2048x4, (m ((c : Thread nD τ).loc main_arg1) : S2048x4.Idx → EReal)⟩, ⟨S2048x4, (m ((c : Thread nD τ).loc main_arg2) : S2048x4.Idx → EReal)⟩] concatenates_S2048x8_S2048x4_S2048x4_S2048x16_d1) (sitofp (F := Ideal) .f32 (constantI S_ 32 0#32)) pads_S2048x16_S2048x3840_000_35842400 h_S_ := by
  unfold V
  simp only [hostOps0, hostOps0_1, hostOps0_2, hostOps0_3, hostOps0_4, List.flatten_cons, List.flatten_nil, List.append_nil, List.cons_append, List.nil_append]
  entry_read
  rfl

theorem entry_v7 : V m c main_v7 = shapeCast S1x128 (pad S128 ![12] ![112] ![0] (m ((c : Thread nD τ).loc main_arg4) : S4.Idx → EReal) (sitofp (F := Ideal) .f32 (constantI S_ 32 0#32)) pads_S4_S128_121120 h_S_) shapeCasts_S128_S1x128 := by
  unfold V
  simp only [hostOps0, hostOps0_1, hostOps0_2, hostOps0_3, hostOps0_4, List.flatten_cons, List.flatten_nil, List.append_nil, List.cons_append, List.nil_append]
  entry_read
  rfl

theorem entry_v5 : V m c main_v5
    = shapeCast S1x128 (concatenate S128 0 [⟨S8, (m ((c : Thread nD τ).loc main_arg3) : S8.Idx → EReal)⟩, ⟨S4, (broadcastInDim S4 ![] bcast_S_S4 (constant (F := Ideal) S_ .f32 0x00000000#32) : S4.Idx → EReal)⟩, ⟨S4, (m ((c : Thread nD τ).loc main_arg5) : S4.Idx → EReal)⟩, ⟨S112, (broadcastInDim S112 ![] bcast_S_S112 (constant (F := Ideal) S_ .f32 0x00000000#32) : S112.Idx → EReal)⟩] concatenates_S8_S4_S4_S112_S128_d0) shapeCasts_S128_S1x128 := by
  unfold V
  simp only [hostOps0, hostOps0_1, hostOps0_2, hostOps0_3, hostOps0_4, List.flatten_cons, List.flatten_nil, List.append_nil, List.cons_append, List.nil_append]
  simp (disch := decide) only [StableHlo.after_cons, StableHlo.after_nil, StableHlo.reshape_result', StableHlo.nary4_result', StableHlo.nary_result_ne', StableHlo.unary_result', StableHlo.unary_result_ne', StableHlo.nullary_result', StableHlo.nullary_result_ne', StableHlo.binary_result_ne', StableHlo.reshape_result_ne']
  rfl

/-- The sixteen columns the gates read, and the biases and the rates of their lanes. -/
def zP (ff : FVec Ideal S2048x8 .f32) (gb ga : FVec Ideal S2048x4 .f32) (r : Fin 2048) (l : Fin 128) : EReal :=
  if h : l.val < 16 then (if h1 : l.val < 8 then ff (ix2 r ⟨l.val, h1⟩) else if h2 : l.val - 8 < 4 then gb (ix2 r ⟨l.val - 8, h2⟩) else ga (ix2 r ⟨l.val - 8 - 4, by omega⟩)) else 0
def zB (fb : FVec Ideal S8 .f32) (dt : FVec Ideal S4 .f32) (l : Fin 128) : EReal :=
  if h1 : l.val < 8 then fb (ix1 ⟨l.val, h1⟩) else if h2 : l.val - 8 < 4 then 0 else if h3 : l.val - 8 - 4 < 4 then dt (ix1 ⟨l.val - 8 - 4, h3⟩) else 0
def zA (al : FVec Ideal S4 .f32) (l : Fin 128) : EReal := if h : 12 ≤ l.val ∧ l.val < 16 then al (ix1 ⟨l.val - 12, by omega⟩) else 0

theorem blk0 (t : Fin cfg0.N) (r : Fin 512) (l : Fin 128) : iblk m c 0 t (ix2 r l) = zP (m ((c : Thread nD τ).loc main_arg0)) (m ((c : Thread nD τ).loc main_arg1)) (m ((c : Thread nD τ).loc main_arg2)) (row t r) l := by
  blk_simp [iblk]
  have he : ((cfg0.win 0).blk t).view.emb (ix2 r l) = ix2 (row t r) ⟨3584 + l.val, by omega⟩ := by blk_ext [idx t, row]
  rw [he, entry_v1]
  pointwise [z0]
  unfold zP
  split_ifs <;> rfl

theorem blk1 (t : Fin cfg0.N) (l : Fin 128) : iblk m c 1 t (ix2 0 l) = zB (m ((c : Thread nD τ).loc main_arg3)) (m ((c : Thread nD τ).loc main_arg5)) l := by
  blk_simp [iblk]
  have he : ((cfg0.win 1).blk t).view.emb (ix2 0 l) = ix2 0 l := by blk_ext [idx t, row]
  rw [he, entry_v5]
  pointwise [z0]
  unfold zB
  split_ifs <;> rfl

theorem blk2 (t : Fin cfg0.N) (l : Fin 128) : iblk m c 2 t (ix2 0 l) = zA (m ((c : Thread nD τ).loc main_arg4)) l := by
  blk_simp [iblk]
  have he : ((cfg0.win 2).blk t).view.emb (ix2 0 l) = ix2 0 l := by blk_ext [idx t, row]
  rw [he, entry_v7]
  pointwise [z0]
  unfold zA
  by_cases h : 12 ≤ l.val ∧ l.val < 16
  · rw [dif_pos h]
    exact dif_pos fun a => match a with | ⟨0, _⟩ => ⟨h.1, show l.val - 12 < 4 by omega⟩
  · rw [dif_neg h]
    refine dif_neg fun a => ?_
    have ha : 12 ≤ l.val ∧ l.val - 12 < 4 := a 0
    omega

/-- A lane's column, its biases added. -/
def zZ (l : Fin 128) (r : Fin 2048) : EReal := zP (m ((c : Thread nD τ).loc main_arg0)) (m ((c : Thread nD τ).loc main_arg1)) (m ((c : Thread nD τ).loc main_arg2)) r l + zB (m ((c : Thread nD τ).loc main_arg3)) (m ((c : Thread nD τ).loc main_arg5)) l

/-- What the rows before the block at point `t` add to a lane's sums. -/
def before (n : Nat) (i : S1x128.Idx) : EReal := head (fun q => lf (zZ m c (i 1) q)) (n * 512)

theorem p6 (t : Fin cfg0.N) (r : Fin 512) (l : Fin 128) : k0_pay6 (F := Ideal) (iblk m c 0 t) (iblk m c 1 t) (before m c t.val) (ix2 r l) = head (fun q => lf (zZ m c l q)) ((row t r).val + 1) := by
  rw [pay6_apply]
  simp only [blk0 m c t, blk1 m c t]
  exact head_step (fun q => lf (zZ m c l q)) t.val (lt4 t) r

theorem p7 (t : Fin cfg0.N) : k0_pay7 (F := Ideal) (iblk m c 0 t) (iblk m c 1 t) (before m c t.val) = before m c (t.val + 1) := by
  funext i
  obtain ⟨u, l, rfl⟩ : ∃ u l, i = ix2 u l := ⟨i 0, i 1, by blk_ext []⟩
  obtain rfl : u = 0 := Subsingleton.elim _ _
  rw [pay7_apply, p6]
  exact congrArg (head _) (by show t.val * 512 + 511 + 1 = (t.val + 1) * 512; omega)

theorem pay2_eq : k0_pay2 (F := Ideal) = before m c 0 := by
  funext i
  obtain ⟨u, l, rfl⟩ : ∃ u l, i = ix2 u l := ⟨i 0, i 1, by blk_ext []⟩
  unfold before
  rw [Nat.zero_mul, head_zero]
  pointwise [k0_pay2]

theorem carry : ∀ (n : ℕ) (hn : n < cfg0.N), (outsAt0 m c n hn).2 = before m c (n + 1) := by
  intro n
  induction n with
  | zero =>
    intro hn
    rw [outsAt0_A m c ⟨0, hn⟩ rfl]
    frame_out
    rw [pay2_eq m c]
    exact p7 m c ⟨0, hn⟩
  | succ n ih =>
    intro hn
    have hz : ¬(n + 1) % 4 = 0 := by have := lt4 ⟨n + 1, hn⟩; simp only at this; omega
    rw [outsAt0_B m c ⟨n + 1, hn⟩ hz]
    frame_out
    rw [read_unread_whole]
    refine Eq.trans (congrArg _ (ih (by omega))) ?_
    exact p7 m c ⟨n + 1, hn⟩

/-- A lane, in the reference's columns. -/
theorem pick_eq (r : Fin 2048) (l : Fin 128) : pick l.val (head (fun q => lf (zZ m c l q)) (r.val + 1)) (zZ m c l r) (zA (m ((c : Thread nD τ).loc main_arg4)) l) (sp (zZ m c l r)) = cols (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r l.val := by
  unfold pick cols zZ zP zB zA
  by_cases h8 : l.val < 8
  · simp only [h8, show l.val < 16 by omega, if_true, dif_pos]
  · by_cases h12 : l.val < 12
    · simp only [h8, h12, show l.val < 16 by omega, show l.val - 8 < 4 by omega, if_true, if_false, dif_pos, dif_neg, not_false_eq_true, add_zero]
    · by_cases h16 : l.val < 16
      · have e : l.val - 12 = l.val - 8 - 4 := by omega
        simp only [h8, h12, h16, show ¬l.val - 8 < 4 by omega, show 12 ≤ l.val ∧ True from ⟨by omega, trivial⟩, show l.val - 8 - 4 < 4 by omega, if_true, if_false, dif_pos, dif_neg, not_false_eq_true, and_self, e]
      · simp only [h8, h12, h16, if_false, dif_neg, not_false_eq_true]

theorem p1 (t : Fin cfg0.N) (r : Fin 512) (l : Fin 128) :
    k0_pay1 (F := Ideal) (k0_pay3 (iblk m c 0 t) (iblk m c 1 t)) (k0_pay5 (iblk m c 0 t) (iblk m c 1 t)) (k0_pay6 (iblk m c 0 t) (iblk m c 1 t) (before m c t.val))
      (iota .tc S512x128 32 [1] iota_S512x128_d1_w32) k0_pay8 k0_pay9 (iblk m c 2 t) (ix2 r l) = cols (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t r) l.val := by
  rw [pay1_apply, pay3_apply, pay5_apply, p6, blk0, blk1, blk2]
  exact pick_eq m c (row t r) l

theorem final_y : (dats m 0 c).arrAt 3 (cfgs 0).N = Cert.Reference11Ideal.Read.val_main_v21 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 3 _ (by decide +kernel) fun t _ y => ?_
  blk_simp
  obtain ⟨r, l, rfl⟩ : ∃ r l, y = ix2 r l := ⟨y 0, y 1, by blk_ext []⟩
  have hy : (win0_3.blk t).view.emb (ix2 r l) = ix2 (row t r) l := by blk_ext [idx t, row]
  rw [hy, after0_3, v21_apply]
  by_cases hz : t.val % 4 = 0
  · have e : t.val = 0 := by have := lt4 t; omega
    rw [outsAt0_A m c t hz]
    frame_out
    rw [pay2_eq m c, ← e]
    exact p1 m c t r l
  · rw [outsAt0_B m c t hz]
    frame_out
    rw [read_unread_whole, carry m c]
    have e : t.val - 1 + 1 = t.val := by omega
    rw [e]
    exact p1 m c t r l

end final

end Cert.Kernel11Ideal.GatesFwd
-- ==== Proof.GdnFwd.lean ====
/- The short causal convolution, its gate and the unit norms of the queries and keys: one head block of 128 columns at a time. -/
module

public import Idealize.ShloMosaic.Lib.Pipeline.ValueKit
public import proofs.«01_k».proof.Proof.Gen.Kernel12Ideal.Value
public import proofs.«01_k».proof.Proof.Gen.Reference12Ideal.Read
public import proofs.«01_k».proof.Proof.Reals
public import Idealize.ShloMosaic.Lib.Tactic

@[expose] public section

noncomputable section

namespace Cert.Kernel12Ideal.GdnFwd

open Cert.Kernel12Ideal Cert.Kernel12Ideal.Gen Idealize.ShloMosaic Idealize.ShloMosaic.TcCoe Idealize.SL.Sem Cert.Reals

/-! ## The arithmetic, on the extended reals -/

/-- A column shifted down by `d` rows, zeros coming in. -/
def dn (d : Nat) (u : Fin 2048 → EReal) (r : Fin 2048) : EReal := if d ≤ r.val then u ⟨r.val - d, by omega⟩ else 0

/-- The causal convolution of a column with its four taps. -/
def conv (a : Fin 4 → EReal) (u : Fin 2048 → EReal) (r : Fin 2048) : EReal := u r * a 3 + dn 3 u r * a 0 + dn 2 u r * a 1 + dn 1 u r * a 2

/-- A number times its logistic. -/
def gate (z : EReal) : EReal := z * Ideal.div 1 (1 + Ideal.exp (-z))

/-- A row of head block `n`, normed where it belongs to a query or a key, and scaled where it belongs to a query. -/
def normed (n : Nat) (u : Fin 128 → EReal) (k : Fin 128) : EReal :=
  u k * (if n < 8 then Ideal.rsqrt ((∑ j, u j * u j) + ((eps : ℝ) : EReal)) else 1) * (if n < 4 then Ideal.ofBits .f32 0x3DB504F3#32 else 1)

section payloads

theorem dn_sel (k : Fin 4) (u : Fin 2048 → EReal) (b : EReal) (r : Fin 2048) (h : (r.val + 2048 - k.val) % 2048 < 2048) :
    Scalar.select (IntOp.cmpi .sge (BitVec.ofNat 32 r.val) (BitVec.ofNat 32 k.val)) (u ⟨(r.val + 2048 - k.val) % 2048, h⟩ * b) 0 = dn k.val u r * b := by
  have := r.isLt
  have := k.isLt
  have e : ∀ (k : Fin 4) (r : Fin 2048), IntOp.cmpi .sge (BitVec.ofNat 32 r.val) (BitVec.ofNat 32 k.val) = if k.val ≤ r.val then 1#1 else 0#1 := by decide +kernel
  rw [e]
  unfold dn
  split
  · exact congrArg (fun q => u q * b) (Fin.ext (by show (r.val + 2048 - k.val) % 2048 = r.val - k.val; omega))
  · exact (zero_mul b).symm

theorem sel {p : Prop} [Decidable p] (a b : EReal) : Scalar.select (if p then 1#1 else 0#1) a b = if p then a else b := by
  split <;> rfl

theorem slt8 {n : Nat} (hn : n < 12) : Scalar.cmpi .slt (BitVec.ofNat 32 n) 8#32 = if n < 8 then 1#1 else 0#1 := by
  interval_cases n <;> rfl

theorem slt4 {n : Nat} (hn : n < 12) : Scalar.cmpi .slt (BitVec.ofNat 32 n) 4#32 = if n < 4 then 1#1 else 0#1 := by
  interval_cases n <;> rfl

variable (x : FVec Ideal S2048x128 .f32) (w : FVec Ideal S4x128 .f32)

theorem pay2_apply (r : Fin 2048) (l : Fin 128) : k0_pay2 (F := Ideal) x w (ix2 r l) = conv (fun j => w (ix2 j l)) (fun r => x (ix2 r l)) r := by
  have h : ∀ k, (r.val + 2048 - k) % 2048 < 2048 := fun k => Nat.mod_lt _ (by norm_num)
  pointwise [k0_pay2]
  exact congr (congrArg HAdd.hAdd (congr (congrArg HAdd.hAdd (congrArg (fun z => x (ix2 r l) * w (ix2 3 l) + z)
    (dn_sel 3 (fun r => x (ix2 r l)) (w (ix2 0 l)) r (h 3)))) (dn_sel 2 (fun r => x (ix2 r l)) (w (ix2 1 l)) r (h 2)))) (dn_sel 1 (fun r => x (ix2 r l)) (w (ix2 2 l)) r (h 1))

theorem pay3_apply (r : Fin 2048) (l : Fin 128) : k0_pay3 (F := Ideal) x w (ix2 r l) = Ideal.div 1 (1 + Ideal.exp (-conv (fun j => w (ix2 j l)) (fun r => x (ix2 r l)) r)) := by
  pointwise [k0_pay3, pay2_apply, lit_1, EReal.coe_one, zero_sub]

theorem pay1_apply (n : Nat) (hn : n < 12) (p q : FVec Ideal S2048x128 .f32) (r : Fin 2048) (l : Fin 128) :
    k0_pay1 (F := Ideal) (BitVec.ofNat 32 n) p q (ix2 r l) = normed n (fun k => p (ix2 r k) * q (ix2 r k)) l := by
  pointwise [k0_pay1, lit_1, EReal.coe_one, lit_eps, slt8 hn, slt4 hn, sel]
  rfl

end payloads

section reference
open Cert.Reference12Ideal.Read

variable (x : FVec Ideal S2048x1536 .f32) (w : FVec Ideal S4x1536 .f32)

/-- Lane `k` of head block `n`. -/
def lane (n : Fin 12) (k : Fin 128) : Fin 1536 := ⟨n.val * 128 + k.val, by omega⟩

theorem exists_lane (j : Fin 1536) : ∃ n k, j = lane n k :=
  ⟨⟨j.val / 128, by omega⟩, ⟨j.val % 128, by omega⟩, Fin.ext (by show j.val = j.val / 128 * 128 + j.val % 128; omega)⟩

/-- The gated row of a head block. -/
def cR (r : Fin 2048) (n : Fin 12) (k : Fin 128) : EReal := gate (conv (fun i => w (ix2 i (lane n k))) (fun r => x (ix2 r (lane n k))) r)

theorem left_eq (k : Nat) (r : Fin 2048) (j : Fin 1536) (q : Fin 2051) (h : q.val + k = r.val + 3) :
    val_main_v1 (F := Ideal) x (ix2 q j) = dn k (fun r => x (ix2 r j)) r := by
  pointwise [val_main_v1, val_main_v0, val_main_cst]
  unfold dn
  by_cases hk : k ≤ r.val
  · rw [dif_neg (by omega), if_pos hk]
    exact congrArg (fun z => x (ix2 z j)) (Fin.ext (by show q.val - 3 = r.val - k; omega))
  · rw [dif_pos (by omega), if_neg hk]

theorem dn_zero (u : Fin 2048 → EReal) (r : Fin 2048) : dn 0 u r = u r := if_pos (Nat.zero_le _)

theorem v31_apply (r : Fin 2048) (j : Fin 1536) : val_main_v31 (F := Ideal) x w (ix2 r j) = gate (conv (fun k => w (ix2 k j)) (fun r => x (ix2 r j)) r) := by
  have e : val_main_v30 (F := Ideal) x w (ix2 r j) = conv (fun k => w (ix2 k j)) (fun r => x (ix2 r j)) r := by
    pointwise [val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_cst_0]
    have hr := r.isLt
    rw [left_eq x 3 r j ⟨r.val, by omega⟩ rfl, left_eq x 2 r j ⟨1 + r.val, by omega⟩ (by show 1 + r.val + 2 = r.val + 3; omega),
      left_eq x 1 r j ⟨2 + r.val, by omega⟩ (by show 2 + r.val + 1 = r.val + 3; omega), left_eq x 0 r j ⟨3 + r.val, by omega⟩ (by show 3 + r.val + 0 = r.val + 3; omega), dn_zero]
    unfold conv
    abel
  pointwise [val_main_v31, val_main_call0_v5, val_main_call0_v4, val_main_call0_v3, val_main_call0_v2, val_main_call0_v1, val_main_call0_v0, val_main_call0_cst, val_main_call0_cst_0, e, lit_1]
  rfl

theorem v35_apply (r : Fin 2048) (h : Fin 4) (k : Fin 128) : val_main_v35 (F := Ideal) x w (ix3 r h k) = cR x w r ⟨h.val, by omega⟩ k := by
  pointwise [val_main_v35, val_main_v32, v31_apply]
  rfl

theorem v36_apply (r : Fin 2048) (h : Fin 4) (k : Fin 128) : val_main_v36 (F := Ideal) x w (ix3 r h k) = cR x w r ⟨4 + h.val, by omega⟩ k := by
  pointwise [val_main_v36, val_main_v33, v31_apply]
  have e : (⟨512 + (h.val * 128 + k.val), by omega⟩ : Fin 1536) = lane ⟨4 + h.val, by omega⟩ k := Fin.ext (by show 512 + (h.val * 128 + k.val) = (4 + h.val) * 128 + k.val; omega)
  unfold cR
  rw [← e]

theorem v37_apply (r : Fin 2048) (h : Fin 4) (k : Fin 128) : val_main_v37 (F := Ideal) x w (ix3 r h k) = cR x w r ⟨8 + h.val, by omega⟩ k := by
  pointwise [val_main_v37, val_main_v34, v31_apply]
  have e : (⟨1024 + (h.val * 128 + k.val), by omega⟩ : Fin 1536) = lane ⟨8 + h.val, by omega⟩ k := Fin.ext (by show 1024 + (h.val * 128 + k.val) = (8 + h.val) * 128 + k.val; omega)
  unfold cR
  rw [← e]

theorem v47_apply (r : Fin 2048) (h : Fin 4) (k : Fin 128) : val_main_v47 (F := Ideal) x w (ix3 r h k) = normed h.val (cR x w r ⟨h.val, by omega⟩) k := by
  pointwise [val_main_v47, val_main_v46, val_main_v45, val_main_v44, val_main_v43, val_main_v42, val_main_v41, val_main_v40, val_main_v39, val_main_v38, val_main_cst_1, val_main_cst_2, val_main_cst_3, v35_apply, lit_eps]
  unfold normed
  rw [if_pos (by omega), if_pos (by omega)]

theorem v55_apply (r : Fin 2048) (h : Fin 4) (k : Fin 128) : val_main_v55 (F := Ideal) x w (ix3 r h k) = normed (4 + h.val) (cR x w r ⟨4 + h.val, by omega⟩) k := by
  pointwise [val_main_v55, val_main_v54, val_main_v53, val_main_v52, val_main_v51, val_main_v50, val_main_v49, val_main_v48, val_main_cst_4, val_main_cst_5, v36_apply, lit_eps]
  unfold normed
  rw [if_pos (by omega), if_neg (by omega), mul_one]

theorem v56_apply (r : Fin 2048) (h : Fin 4) (k : Fin 128) (q : Fin 512) (hq : q.val = h.val * 128 + k.val) :
    val_main_v56 (F := Ideal) x w (ix2 r q) = val_main_v47 (F := Ideal) x w (ix3 r h k) := by
  have hr : r.val < 2048 := r.isLt
  have hh : h.val < 4 := h.isLt
  have hk : k.val < 128 := k.isLt
  refine (val_main_v56_apply _ _ _).trans (congrArg _ ?_)
  blk_ext [idx_main_v56] <;> omega

theorem v57_apply (r : Fin 2048) (h : Fin 4) (k : Fin 128) (q : Fin 512) (hq : q.val = h.val * 128 + k.val) :
    val_main_v57 (F := Ideal) x w (ix2 r q) = val_main_v55 (F := Ideal) x w (ix3 r h k) := by
  have hr : r.val < 2048 := r.isLt
  have hh : h.val < 4 := h.isLt
  have hk : k.val < 128 := k.isLt
  refine (val_main_v57_apply _ _ _).trans (congrArg _ ?_)
  blk_ext [idx_main_v57] <;> omega

theorem v58_apply (r : Fin 2048) (h : Fin 4) (k : Fin 128) (q : Fin 512) (hq : q.val = h.val * 128 + k.val) :
    val_main_v58 (F := Ideal) x w (ix2 r q) = val_main_v37 (F := Ideal) x w (ix3 r h k) := by
  have hr : r.val < 2048 := r.isLt
  have hh : h.val < 4 := h.isLt
  have hk : k.val < 128 := k.isLt
  refine (val_main_v58_apply _ _ _).trans (congrArg _ ?_)
  blk_ext [idx_main_v58] <;> omega

theorem v64_apply (r : Fin 2048) (q : Fin 512) : val_main_v64 (F := Ideal) x w (ix2 r q) = val_main_v56 (F := Ideal) x w (ix2 r q) := by
  pointwise [val_main_v64, val_main_v63, val_main_v62, val_main_v59]

theorem v66_apply (r : Fin 2048) (q : Fin 512) : val_main_v66 (F := Ideal) x w (ix2 r q) = val_main_v57 (F := Ideal) x w (ix2 r q) := by
  pointwise [val_main_v66, val_main_v65, val_main_v62, val_main_v60]

theorem v68_apply (r : Fin 2048) (q : Fin 512) : val_main_v68 (F := Ideal) x w (ix2 r q) = val_main_v58 (F := Ideal) x w (ix2 r q) := by
  pointwise [val_main_v68, val_main_v67, val_main_v62, val_main_v61]

theorem v69_apply (r : Fin 2048) (n : Fin 12) (k : Fin 128) : val_main_v69 (F := Ideal) x w (ix2 r (lane n k)) = normed n.val (cR x w r n) k := by
  have hn := n.isLt
  have hk := k.isLt
  have hl : (lane n k).val = n.val * 128 + k.val := rfl
  pointwise [val_main_v69]
  by_cases h4 : n.val < 4
  · refine (dif_pos (by omega)).trans ?_
    refine (v64_apply x w r _).trans ?_
    exact (v56_apply x w r ⟨n.val, h4⟩ k _ hl).trans (v47_apply x w r ⟨n.val, h4⟩ k)
  · refine (dif_neg (by omega)).trans ?_
    by_cases h8 : n.val < 8
    · have e : (⟨4 + (n.val - 4), by omega⟩ : Fin 12) = n := Fin.ext (by show 4 + (n.val - 4) = n.val; omega)
      refine (dif_pos (by omega)).trans ?_
      refine (v66_apply x w r _).trans ?_
      refine (v57_apply x w r ⟨n.val - 4, by omega⟩ k _ (by show (lane n k).val - 512 = (n.val - 4) * 128 + k.val; omega)).trans ?_
      refine (v55_apply x w r ⟨n.val - 4, by omega⟩ k).trans ?_
      exact congrArg (fun n : Fin 12 => normed n.val (cR x w r n) k) e
    · have e : (⟨8 + (n.val - 8), by omega⟩ : Fin 12) = n := Fin.ext (by show 8 + (n.val - 8) = n.val; omega)
      refine (dif_neg (by omega)).trans ?_
      refine (v68_apply x w r _).trans ?_
      refine (v58_apply x w r ⟨n.val - 8, by omega⟩ k _ (by show (lane n k).val - 512 - 512 = (n.val - 8) * 128 + k.val; omega)).trans ?_
      refine (v37_apply x w r ⟨n.val - 8, by omega⟩ k).trans ?_
      unfold normed
      rw [if_neg h8, if_neg h4, mul_one, mul_one]
      exact congrArg (fun n : Fin 12 => cR x w r n k) e

end reference

variable (m : (ℓ : Loc nD τ sig) → Buf (Elt Ideal) ℓ)

theorem idx : ∀ t : Fin cfg0.N, win0_0.index t = ![0, 12 + t.val] ∧ win0_1.index t = ![0, t.val] ∧ win0_2.index t = ![0, t.val] ∧ (grid0.coords t 0).val = t.val :=
  (by decide +kernel : ∀ t : Fin grid0.N, _)

theorem lt12 (t : Fin cfg0.N) : t.val < 12 := t.isLt
def pt (t : Fin cfg0.N) : Fin 12 := ⟨t.val, t.isLt⟩

section final
variable (c : Dev nD)

theorem entry_v0 : V m c main_v0
    = pad S2048x3840 ![0, 1536] ![0, 768] ![0, 0] (m ((c : Thread nD τ).loc main_arg0) : S2048x1536.Idx → EReal) (sitofp (F := Ideal) .f32 (constantI S_ 32 0#32)) pads_S2048x1536_S2048x3840_000_15367680 h_S_ := by
  unfold V
  simp only [hostOps0, hostOps0_1, List.flatten_cons, List.flatten_nil, List.append_nil, List.cons_append, List.nil_append]
  entry_read
  rfl

theorem blkX (t : Fin cfg0.N) (r : Fin 2048) (l : Fin 128) : iblk m c 0 t (ix2 r l) = m ((c : Thread nD τ).loc main_arg0) (ix2 r (lane (pt t) l)) := by
  blk_simp [iblk]
  have he : ((cfg0.win 0).blk t).view.emb (ix2 r l) = ix2 r ⟨(12 + t.val) * 128 + l.val, by have := lt12 t; omega⟩ := by blk_ext [idx t]
  rw [he, entry_v0]
  have hl := l.isLt
  have ht := lt12 t
  have hr := r.isLt
  pointwise
  refine (dif_pos fun a => ?_).trans ?_
  · match a with
    | ⟨0, _⟩ => show 0 ≤ r.val ∧ (r.val - 0) % 1 = 0 ∧ (r.val - 0) / 1 < 2048; omega
    | ⟨1, _⟩ => show 1536 ≤ (12 + t.val) * 128 + l.val ∧ ((12 + t.val) * 128 + l.val - 1536) % 1 = 0 ∧ ((12 + t.val) * 128 + l.val - 1536) / 1 < 1536; omega
  · exact congrArg (fun q => m ((c : Thread nD τ).loc main_arg0) (ix2 r q)) (Fin.ext (by show (12 + t.val) * 128 + l.val - 1536 = t.val * 128 + l.val; omega))

theorem blkW (t : Fin cfg0.N) (k : Fin 4) (l : Fin 128) : iblk m c 1 t (ix2 k l) = m ((c : Thread nD τ).loc main_arg1) (ix2 k (lane (pt t) l)) := by
  blk_ext [iblk, V, idx t, lane, pt]

theorem final_y : (dats m 0 c).arrAt 2 (cfgs 0).N
    = Cert.Reference12Ideal.Read.val_main_v69 (F := Ideal) (m ((c : Thread nD τ).loc main_arg0)) (m ((c : Thread nD τ).loc main_arg1)) := by
  refine (dats m 0 c).arrAt_eq_of_covers 2 _ (by decide +kernel) fun t _ y => ?_
  blk_simp
  obtain ⟨r, l, rfl⟩ : ∃ r l, y = ix2 r l := ⟨y 0, y 1, by blk_ext []⟩
  have hy : (win0_2.blk t).view.emb (ix2 r l) = ix2 r (lane (pt t) l) := by blk_ext [idx t, lane, pt]
  rw [hy, after0_2, v69_apply]
  refine Eq.trans (b := k0_pay1 (F := Ideal) (BitVec.ofNat 32 t.val) (k0_pay2 (iblk m c 0 t) (iblk m c 1 t)) (k0_pay3 (iblk m c 0 t) (iblk m c 1 t)) (ix2 r l)) ?_ ?_
  · rw [← (idx t).2.2.2]
    frame_out
  · rw [pay1_apply t.val (lt12 t)]
    simp only [pay2_apply, pay3_apply, blkX m c t, blkW m c t]
    rfl

end final

end Cert.Kernel12Ideal.GdnFwd
-- ==== Proof.FoxMath.lean ====
/- The softmax of a row taken block by block against the softmax of the whole row, over the reals, with
   values that need not be real: the running maximum divides out of what is kept of the sum and of the weighted sum. -/
module

public import proofs.«01_k».proof.Proof.Reals

@[expose] public section

noncomputable section

namespace Cert.FoxMath

open Idealize.ShloMosaic Cert.Reals

/-- A row's score: a real where the key is kept, nothing where it is masked. -/
def score (keep : Prop) [Decidable keep] (x : ℝ) : EReal := if keep then (x : EReal) else ⊥

/-- A key's weight before it is divided by the sum. -/
def wt (keep : Prop) [Decidable keep] (x : ℝ) : ℝ := if keep then Real.exp x else 0

theorem exp_score_sub (keep : Prop) [Decidable keep] (x M : ℝ) :
    Ideal.exp (score keep x - (M : EReal)) = ((Real.exp (-M) * wt keep x : ℝ) : EReal) := by
  unfold score wt
  split
  · rw [← EReal.coe_sub, Ideal.exp_coe, sub_eq_neg_add, Real.exp_add]
  · rw [EReal.bot_sub, Ideal.exp_bot, mul_zero, EReal.coe_zero]

theorem wt_nonneg (keep : Prop) [Decidable keep] (x : ℝ) : 0 ≤ wt keep x := by
  unfold wt; split; exacts [(Real.exp_pos _).le, le_rfl]

theorem wt_mul (keep : Prop) [Decidable keep] (x : ℝ) (v : EReal) : (wt keep x : EReal) * v = if keep then (Real.exp x : EReal) * v else 0 := by
  unfold wt; split
  · rfl
  · rw [EReal.coe_zero, zero_mul]

/-- A real that is not negative distributes over sums that need not be real. -/
theorem coe_mul_add {c : ℝ} (hc : 0 ≤ c) (a b : EReal) : (c : EReal) * (a + b) = c * a + c * b :=
  EReal.left_distrib_of_nonneg_of_ne_top (EReal.coe_nonneg.mpr hc) (EReal.coe_ne_top c) a b

theorem coe_mul_sum {c : ℝ} (hc : 0 ≤ c) {ι : Type*} (s : Finset ι) (f : ι → EReal) : (c : EReal) * ∑ j ∈ s, f j = ∑ j ∈ s, (c : EReal) * f j := by
  classical
  induction s using Finset.induction_on with
  | empty => rw [Finset.sum_empty, Finset.sum_empty, mul_zero]
  | insert a s ha ih => rw [Finset.sum_insert ha, Finset.sum_insert ha, coe_mul_add hc, ih]

/-- The reciprocal root mean square of 64 entries. -/
def rrOf (f : Fin 64 → EReal) : EReal := Ideal.rsqrt ((∑ k, f k * f k) * ((1 / 64 : ℝ) : EReal) + (eps : EReal))

/-- The greatest of a row's scores is real where a key is kept. -/
theorem fold_max_real {n : ℕ} (s : Fin n → EReal) (hs : ∀ j, s j = ⊥ ∨ ∃ x : ℝ, s j = x) (h : ∃ j, ∃ x : ℝ, s j = x) :
    ∃ M : ℝ, Finset.univ.fold max ⊥ s = (M : EReal) := by
  have e : Finset.univ.fold max ⊥ s = Finset.univ.sup s := by
    rw [Finset.sup_def, Finset.fold]; rfl
  have hlt : Finset.univ.sup s < ⊤ := by
    rw [Finset.sup_lt_iff (by simp)]
    intro j _
    rcases hs j with h | ⟨x, h⟩ <;> rw [h]
    · exact bot_lt_top
    · exact EReal.coe_lt_top x
  obtain ⟨j, x, hx⟩ := h
  have hgt : ⊥ < Finset.univ.sup s := lt_of_lt_of_le (by rw [hx]; exact EReal.bot_lt_coe x) (Finset.le_sup (Finset.mem_univ j))
  rw [e]
  exact ⟨_, (EReal.coe_toReal hlt.ne hgt.ne').symm⟩

/-- What the loop keeps of a row: its greatest score so far, and the sum and a weighted sum of the weights, both divided by
    the weight of that score. -/
def Kept (m l a : EReal) (Z : ℝ) (N : EReal) : Prop :=
  (m = ⊥ ∧ l = 0 ∧ a = 0 ∧ Z = 0 ∧ N = 0)
    ∨ ∃ M : ℝ, m = M ∧ l = ((Real.exp (-M) * Z : ℝ) : EReal) ∧ a = (Real.exp (-M) : EReal) * N

theorem kept_init : Kept ⊥ 0 0 0 0 := .inl ⟨rfl, rfl, rfl, rfl, rfl⟩

/-- One block of keys more. -/
theorem kept_step {n : ℕ} (m l a : EReal) (Z : ℝ) (N : EReal) (keep : Fin n → Prop) [∀ j, Decidable (keep j)] (x : Fin n → ℝ) (v : Fin n → EReal)
    (h : Kept m l a Z N) (j0 : Fin n) (hj : keep j0) (m' : EReal)
    (hm' : m' = max m (Finset.univ.fold max ⊥ fun j => score (keep j) (x j))) :
    (∃ M : ℝ, m' = M)
      ∧ Kept m' (Ideal.exp (m - m') * l + ∑ j, Ideal.exp (score (keep j) (x j) - m'))
        (Ideal.exp (m - m') * a + ∑ j, Ideal.exp (score (keep j) (x j) - m') * v j)
        (Z + ∑ j, wt (keep j) (x j)) (N + ∑ j, (wt (keep j) (x j) : EReal) * v j) := by
  obtain ⟨B, hB⟩ := fold_max_real (fun j => score (keep j) (x j))
    (fun j => by unfold score; split; exacts [.inr ⟨_, rfl⟩, .inl rfl]) ⟨j0, x j0, by unfold score; rw [if_pos hj]⟩
  have hM : ∃ M : ℝ, m' = M := by
    rw [hm', hB]
    rcases h with ⟨rfl, -⟩ | ⟨M, rfl, -⟩
    · exact ⟨B, max_eq_right bot_le⟩
    · exact ⟨max M B, (EReal.coe_strictMono.monotone.map_max (a := M) (b := B)).symm⟩
  refine ⟨hM, ?_⟩
  obtain ⟨M, rfl⟩ := hM
  refine .inr ⟨M, rfl, ?_, ?_⟩
  · simp only [exp_score_sub, coe_sum]
    rw [← Finset.mul_sum, mul_add, EReal.coe_add]
    congr 1
    rcases h with ⟨rfl, rfl, -, rfl, -⟩ | ⟨M', rfl, rfl, -⟩
    · rw [mul_zero, mul_zero, EReal.coe_zero]
    · rw [← EReal.coe_sub, Ideal.exp_coe, ← EReal.coe_mul, ← mul_assoc, ← Real.exp_add]
      congr 4; ring
  · simp only [exp_score_sub, EReal.coe_mul, mul_assoc]
    rw [← coe_mul_sum (Real.exp_pos _).le, coe_mul_add (Real.exp_pos _).le]
    congr 1
    rcases h with ⟨rfl, -, rfl, -, rfl⟩ | ⟨M', rfl, -, rfl⟩
    · rw [mul_zero, mul_zero]
    · rw [← EReal.coe_sub, Ideal.exp_coe, ← mul_assoc, ← EReal.coe_mul, ← Real.exp_add]
      congr 3; ring

/-- The log of the sum, from what is kept. -/
theorem kept_log {M Z : ℝ} (hZ : 0 < Z) : (M : EReal) + Ideal.log ((Real.exp (-M) * Z : ℝ) : EReal) = (Real.log Z : EReal) := by
  have hp : 0 < Real.exp (-M) * Z := mul_pos (Real.exp_pos _) hZ
  rw [Ideal.log_coe, if_neg (not_le.mpr hp), Real.log_mul (Real.exp_pos _).ne' hZ.ne', Real.log_exp, ← EReal.coe_add]
  congr 1; ring

/-- The quotient of the two sums, from what is kept. -/
theorem kept_div {M Z : ℝ} (hZ : 0 < Z) (N : EReal) :
    Ideal.div ((Real.exp (-M) : EReal) * N) ((Real.exp (-M) * Z : ℝ) : EReal) = ((Z⁻¹ : ℝ) : EReal) * N := by
  have hp := (mul_pos (Real.exp_pos (-M)) hZ).ne'
  have e : Ideal.div ((Real.exp (-M) : EReal) * N) ((Real.exp (-M) * Z : ℝ) : EReal) = ((Real.exp (-M) : EReal) * N) * ((Real.exp (-M) * Z : ℝ) : EReal)⁻¹ := by
    unfold Ideal.div
    rw [if_neg (by exact_mod_cast hp)]
  rw [e, ← EReal.coe_inv, mul_comm, ← mul_assoc, ← EReal.coe_mul]
  congr 2
  have := (Real.exp_pos (-M)).ne'
  field_simp

/-- A sum over the first `n + 1` blocks. -/
theorem sum_block {α : Type*} [AddCommMonoid α] (b n : ℕ) (f : ℕ → α) :
    ∑ k ∈ Finset.range (b * n), f k + ∑ j : Fin b, f (b * n + j.val) = ∑ k ∈ Finset.range (b * (n + 1)), f k := by
  rw [mul_add, mul_one, Finset.sum_range_add, Finset.sum_range (fun x => f (b * n + x))]

/-- Past the row nothing is kept. -/
theorem sum_past {α : Type*} [AddCommMonoid α] {n N q : ℕ} (hn : n ≤ N) (hq : q < n) (f : ℕ → α) (hf : ∀ k, q < k → f k = 0) :
    ∑ k ∈ Finset.range n, f k = ∑ k : Fin N, f k.val := by
  rw [← Finset.sum_range (fun k => f k)]
  refine Finset.sum_subset (Finset.range_mono hn) fun k _ hk => hf k ?_
  have := Finset.mem_range.not.mp hk
  omega

end Cert.FoxMath
-- ==== Proof.FoxRef.lean ====
/- The attention with forgetting of the reference, entry by entry each head's weights, which are reals, summed over the keys up
   to the query, the output the mean of the values with those weights, with the log of the sum. -/
module

public import Idealize.ShloMosaic.Lib.Pipeline.ValueKit
public import proofs.«01_k».proof.Proof.Gen.Reference13Ideal.Read
public import proofs.«01_k».proof.Proof.Rows
public import proofs.«01_k».proof.Proof.FoxMath
public import Idealize.ShloMosaic.Lib.KernelVsHost
public import Idealize.ShloMosaic.Lib.Tactic

@[expose] public section

noncomputable section

namespace Cert.Reference13Ideal.Fox

open Cert.Reference13Ideal Cert.Reference13Ideal.Read Idealize.ShloMosaic Idealize.ShloMosaic.TcCoe Idealize.SL.Sem Cert.Reals Cert.FoxMath

variable (q k : S2048x512.Idx → ℝ) (v : S2048x512.Idx → EReal) (cum : S2048x8.Idx → ℝ)

/-- Lane `d` of head `h`. -/
def lane (h : Fin 8) (d : Fin 64) : Fin 512 := ⟨h.val * 64 + d.val, by omega⟩

/-- A head's logit of a query and a key. -/
def logit (h : Fin 8) (i j : Fin 2048) : ℝ :=
  (∑ d, q (ix2 i (lane h d)) * k (ix2 j (lane h d))) * (1 / 8) + cum (ix2 i h) - cum (ix2 j h)

/-- A key's weight for a query, and the sums of the weights, alone and with the values. -/
def w (h : Fin 8) (i j : Fin 2048) : ℝ := wt (j.val ≤ i.val) (logit q k cum h i j)
def Z (h : Fin 8) (i : Fin 2048) : ℝ := ∑ j, w q k cum h i j
def N (h : Fin 8) (i : Fin 2048) (d : Fin 64) : EReal := ∑ j, (w q k cum h i j : EReal) * v (ix2 j (lane h d))
def out (h : Fin 8) (i : Fin 2048) (d : Fin 64) : EReal := (((Z q k cum h i)⁻¹ : ℝ) : EReal) * N q k v cum h i d

theorem Z_pos (h : Fin 8) (i : Fin 2048) : 0 < Z q k cum h i :=
  Finset.sum_pos' (fun j _ => by unfold w wt; split; exacts [(Real.exp_pos _).le, le_rfl])
    ⟨i, Finset.mem_univ i, by unfold w wt; rw [if_pos le_rfl]; exact Real.exp_pos _⟩

theorem lit_8th : Ideal.ofBits .f32 0x3E000000#32 = ((1 / 8 : ℝ) : EReal) := by
  simp [Ideal.ofBits, Ideal.ieee]
  rw [← EReal.coe_mul]
  norm_num

theorem lit_ninf : Ideal.ofBits .f32 0xFF800000#32 = ⊥ := by
  simp [Ideal.ofBits, Ideal.ieee]

theorem v0_apply (x : S2048x512.Idx → EReal) (r : Fin 2048) (h : Fin 8) (d : Fin 64) : val_main_v0 (F := Ideal) x (ix3 r h d) = x (ix2 r (lane h d)) := by
  refine (val_main_v0_apply _ _).trans (congrArg x ?_)
  have hr : r.val < 2048 := r.isLt
  have hh : h.val < 8 := h.isLt
  have hk : d.val < 64 := d.isLt
  blk_ext [lane] <;> omega

theorem v1_apply (x : S2048x512.Idx → EReal) (r : Fin 2048) (h : Fin 8) (d : Fin 64) : val_main_v1 (F := Ideal) x (ix3 r h d) = x (ix2 r (lane h d)) :=
  v0_apply x r h d

theorem v2_apply (x : S2048x512.Idx → EReal) (r : Fin 2048) (h : Fin 8) (d : Fin 64) : val_main_v2 (F := Ideal) x (ix3 r h d) = x (ix2 r (lane h d)) :=
  v0_apply x r h d

theorem cmp_le (a b : Nat) (ha : a < 2048) (hb : b < 2048) : IntOp.cmpi .sle (BitVec.ofNat 32 a) (BitVec.ofNat 32 b) = if a ≤ b then 1#1 else 0#1 := by
  have h : (BitVec.ofNat 32 a).sle (BitVec.ofNat 32 b) = decide (a ≤ b) := by
    rw [BitVec.sle_eq_decide, BitVec.toInt_ofNat', BitVec.toInt_ofNat']
    refine decide_eq_decide.mpr ?_
    rw [Int.bmod_eq_of_le (by omega) (by omega), Int.bmod_eq_of_le (by omega) (by omega)]
    omega
  show BitVec.ofBool ((BitVec.ofNat 32 a).sle (BitVec.ofNat 32 b)) = _
  rw [h]
  by_cases hab : a ≤ b <;> simp [hab]

theorem v19_apply (i j : Fin 2048) : val_main_v19 (F := Ideal) (ix2 i j) = if j.val ≤ i.val then 1#1 else 0#1 := by
  refine Eq.trans ?_ (cmp_le j.val i.val j.isLt i.isLt)
  pointwise [val_main_v19, val_main_v17, val_main_v18, val_main_v14, val_main_v16, val_main_v13, val_main_v15]

theorem select_score {p : Prop} [Decidable p] (x : ℝ) : Scalar.select (if p then 1#1 else 0#1) (x : EReal) ⊥ = score p x := by
  unfold score; split <;> rfl

theorem v4_apply (h : Fin 8) (i j : Fin 2048) : val_main_v4 (F := Ideal) (fun i => (q i : EReal)) (fun i => (k i : EReal)) (ix3 h i j)
    = ((∑ d, q (ix2 i (lane h d)) * k (ix2 j (lane h d)) : ℝ) : EReal) := by
  rw [val_main_v4_apply, ← coe_sum]
  refine Finset.sum_congr rfl fun d _ => ?_
  rw [EReal.coe_mul, show lidx_main_v4 (ix3 h i j) d = ix3 i h d by blk_ext [], show ridx_main_v4 (ix3 h i j) d = ix3 j h d by blk_ext [], v0_apply, v1_apply]

theorem v20_apply (h : Fin 8) (i j : Fin 2048) :
    val_main_v20 (F := Ideal) (fun i => (q i : EReal)) (fun i => (k i : EReal)) (fun i => (cum i : EReal)) (ix3 h i j)
      = score (j.val ≤ i.val) (logit q k cum h i j) := by
  pointwise [val_main_v20, val_main_v12, val_main_v9, val_main_v6, val_main_v5, val_main_cst, val_main_v8, val_main_v7, val_main_v3, val_main_v11, val_main_v10,
    val_main_call0_v1, val_main_call0_v2, v4_apply, lit_8th, v19_apply, ← EReal.coe_mul, ← EReal.coe_add, ← EReal.coe_sub]
  rw [show (val_main_call0_v0 (F := Ideal) ix0 : EReal) = ⊥ from lit_ninf]
  exact select_score _

/-- A row's greatest logit. -/
@[irreducible] def top (h : Fin 8) (i : Fin 2048) : EReal := Finset.univ.fold max ⊥ (fun j : Fin 2048 => score (j.val ≤ i.val) (logit q k cum h i j))

theorem max_real (h : Fin 8) (i : Fin 2048) : ∃ M : ℝ, top q k cum h i = (M : EReal) := by
  unfold top
  exact fold_max_real _ (fun j => by unfold score; split; exacts [.inr ⟨_, rfl⟩, .inl rfl]) ⟨i, _, by unfold score; rw [if_pos le_rfl]⟩

theorem v21_apply (h : Fin 8) (i : Fin 2048) :
    val_main_v21 (F := Ideal) (fun i => (q i : EReal)) (fun i => (k i : EReal)) (fun i => (cum i : EReal)) (ix2 h i)
      = top q k cum h i := by
  unfold top
  unfold val_main_v21
  have e := Host.reduce_eq_fold_single (FloatOps.maximumf (F := Ideal) (φ := .f32)) (val_main_v20 (F := Ideal) (fun i => (q i : EReal)) (fun i => (k i : EReal)) (fun i => (cum i : EReal)))
    (val_main_cst_1 (F := Ideal)) Gen.reducesTo_S8x2048x2048_S8x2048_d2 (by decide) Gen.h_S_ (ix2 h i)
  refine e.trans ?_
  rw [show (val_main_cst_1 (F := Ideal) (Shape.Idx.first Gen.h_S_) : EReal) = ⊥ from lit_ninf]
  refine Finset.fold_congr fun j _ => ?_
  exact (congrArg (val_main_v20 (F := Ideal) (fun i => (q i : EReal)) (fun i => (k i : EReal)) (fun i => (cum i : EReal))) (funext fun a => Fin.ext (by fin_cases a <;> rfl))).trans (v20_apply q k cum h i j)

theorem v23_apply (h : Fin 8) (i : Fin 2048) : val_main_v23 (F := Ideal) (fun i => (q i : EReal)) (fun i => (k i : EReal)) (fun i => (cum i : EReal)) (ix2 h i) = top q k cum h i := by
  refine (val_main_v23_apply _ _ _ _).trans ?_
  rw [v21_apply]
  exact (congrArg (max · (top q k cum h i)) lit_ninf).trans (max_eq_right bot_le)

theorem v27_apply (h : Fin 8) (i j : Fin 2048) (M : ℝ) (hM : top q k cum h i = (M : EReal)) :
    val_main_v27 (F := Ideal) (fun i => (q i : EReal)) (fun i => (k i : EReal)) (fun i => (cum i : EReal)) (ix3 h i j) = ((Real.exp (-M) * w q k cum h i j : ℝ) : EReal) := by
  have e : val_main_v25 (F := Ideal) (fun i => (q i : EReal)) (fun i => (k i : EReal)) (fun i => (cum i : EReal)) (ix3 h i j) = (M : EReal) :=
    (val_main_v25_apply _ _ _ _).trans ((val_main_v24_apply _ _ _ _).trans ((congrArg _ (by blk_ext [])).trans ((v23_apply q k cum h i).trans hM)))
  refine (val_main_v27_apply _ _ _ _).trans ?_
  rw [val_main_v26_apply, e, v20_apply]
  exact exp_score_sub _ _ M

theorem v32_apply (h : Fin 8) (i : Fin 2048) : val_main_v32 (F := Ideal) (fun i => (q i : EReal)) (fun i => (k i : EReal)) (fun i => (cum i : EReal)) (ix2 h i) = top q k cum h i := by
  refine Eq.trans ?_ (v21_apply q k cum h i)
  unfold val_main_v32 val_main_v21 val_main_cst_4 val_main_cst_1
  rfl

theorem v36_apply (h : Fin 8) (i j : Fin 2048) (M : ℝ) (hM : top q k cum h i = (M : EReal)) :
    val_main_v36 (F := Ideal) (fun i => (q i : EReal)) (fun i => (k i : EReal)) (fun i => (cum i : EReal)) (ix3 h i j) = ((Real.exp (-M) * w q k cum h i j : ℝ) : EReal) := by
  have e : val_main_v34 (F := Ideal) (fun i => (q i : EReal)) (fun i => (k i : EReal)) (fun i => (cum i : EReal)) (ix3 h i j) = (M : EReal) :=
    (val_main_v34_apply _ _ _ _).trans ((val_main_v33_apply _ _ _ _).trans ((congrArg _ (by blk_ext [])).trans ((v32_apply q k cum h i).trans hM)))
  refine (val_main_v36_apply _ _ _ _).trans ?_
  rw [val_main_v35_apply, e, v20_apply]
  exact exp_score_sub _ _ M

theorem v28_apply (h : Fin 8) (i : Fin 2048) (M : ℝ)
    (hM : top q k cum h i = (M : EReal)) :
    val_main_v28 (F := Ideal) (fun i => (q i : EReal)) (fun i => (k i : EReal)) (fun i => (cum i : EReal)) (ix2 h i)
      = ((Real.exp (-M) * Z q k cum h i : ℝ) : EReal) := by
  rw [val_main_v28_apply, show (val_main_cst_3 (F := Ideal) (Shape.Idx.first Gen.h_S_) : EReal) = 0 from by pointwise [val_main_cst_3], zero_add, Z, Finset.mul_sum, ← coe_sum]
  exact Finset.sum_congr rfl fun j _ => (congrArg _ (by blk_ext [])).trans (v27_apply q k cum h i j M hM)

theorem v37_apply (h : Fin 8) (i : Fin 2048) (M : ℝ)
    (hM : top q k cum h i = (M : EReal)) :
    val_main_v37 (F := Ideal) (fun i => (q i : EReal)) (fun i => (k i : EReal)) (fun i => (cum i : EReal)) (ix2 h i)
      = ((Real.exp (-M) * Z q k cum h i : ℝ) : EReal) := by
  rw [val_main_v37_apply, show (val_main_cst_5 (F := Ideal) (Shape.Idx.first Gen.h_S_) : EReal) = 0 from by pointwise [val_main_cst_5], zero_add, Z, Finset.mul_sum, ← coe_sum]
  exact Finset.sum_congr rfl fun j _ => (congrArg _ (by blk_ext [])).trans (v36_apply q k cum h i j M hM)

/-- The log of the sum of a row's weights. -/
theorem v39_apply (h : Fin 8) (i : Fin 2048) :
    val_main_v39 (F := Ideal) (fun i => (q i : EReal)) (fun i => (k i : EReal)) (fun i => (cum i : EReal)) (ix2 h i) = (Real.log (Z q k cum h i) : EReal) := by
  obtain ⟨M, hM⟩ := max_real q k cum h i
  refine Eq.trans ?_ (kept_log (M := M) (Z_pos q k cum h i))
  rw [val_main_v39_apply, val_main_v38_apply, v32_apply, hM, v37_apply q k cum h i M hM]
  rfl

theorem v31_apply (h : Fin 8) (i j : Fin 2048) :
    val_main_v31 (F := Ideal) (fun i => (q i : EReal)) (fun i => (k i : EReal)) (fun i => (cum i : EReal)) (ix3 h i j)
      = ((w q k cum h i j / Z q k cum h i : ℝ) : EReal) := by
  obtain ⟨M, hM⟩ := max_real q k cum h i
  refine Eq.trans ?_ ((kept_div (M := M) (Z_pos q k cum h i) (w q k cum h i j : EReal)).trans ?_)
  swap
  · rw [← EReal.coe_mul, inv_mul_eq_div]
  have e : val_main_v30 (F := Ideal) (fun i => (q i : EReal)) (fun i => (k i : EReal)) (fun i => (cum i : EReal)) (ix3 h i j) = ((Real.exp (-M) * Z q k cum h i : ℝ) : EReal) :=
    (val_main_v30_apply _ _ _ _).trans ((val_main_v29_apply _ _ _ _).trans ((congrArg _ (by blk_ext [])).trans (v28_apply q k cum h i M hM)))
  rw [val_main_v31_apply, e, v27_apply q k cum h i j M hM, EReal.coe_mul]
  rfl

/-- The attention's output. -/
theorem v41_apply (i : Fin 2048) (h : Fin 8) (d : Fin 64) :
    val_main_v41 (F := Ideal) (fun i => (q i : EReal)) (fun i => (k i : EReal)) v (fun i => (cum i : EReal)) (ix3 i h d)
      = out q k v cum h i d := by
  refine (val_main_v41_apply _ _ _ _ _).trans ((val_main_v40_apply _ _ _ _ _).trans ?_)
  unfold out N
  rw [coe_mul_sum (inv_pos.mpr (Z_pos q k cum h i)).le]
  refine Finset.sum_congr rfl fun j _ => ?_
  refine (congrArg₂ (· * ·) ((congrArg _ (by blk_ext [])).trans (v2_apply _ j h d)) ((congrArg _ (by blk_ext [])).trans (v31_apply q k cum h i j))).trans ?_
  rw [mul_comm, ← mul_assoc, ← EReal.coe_mul, inv_mul_eq_div]

theorem div_64' (x : EReal) : Ideal.div x ((64 : ℝ) : EReal) = x * ((1 / 64 : ℝ) : EReal) := by
  unfold Ideal.div
  rw [if_neg (by exact_mod_cast (by norm_num : (64 : ℝ) ≠ 0)), ← EReal.coe_inv, one_div]

/-- The output after its head's norm and gain. -/
theorem v54_apply (g : S64.Idx → EReal) (i : Fin 2048) (h : Fin 8) (d : Fin 64) :
    val_main_v54 (F := Ideal) (fun i => (q i : EReal)) (fun i => (k i : EReal)) v (fun i => (cum i : EReal)) g (ix3 i h d)
      = out q k v cum h i d * rrOf (out q k v cum h i) * g (ix1 d) := by
  pointwise [val_main_v54, val_main_v53, val_main_v52, val_main_v51, val_main_v50, val_main_v49, val_main_v48, val_main_v47, val_main_v46, val_main_v45, val_main_v44,
    val_main_v43, val_main_v42, v41_apply, val_main_cst_6, val_main_cst_7, val_main_cst_8, lit_64, lit_eps, zero_add, div_64', rrOf]

/-- The output in its own columns. -/
theorem v56_apply (i : Fin 2048) (h : Fin 8) (d : Fin 64) :
    val_main_v56 (F := Ideal) (fun i => (q i : EReal)) (fun i => (k i : EReal)) v (fun i => (cum i : EReal)) (ix2 i (lane h d)) = out q k v cum h i d := by
  refine (val_main_v56_apply _ _ _ _ _).trans ((congrArg _ ?_).trans (v41_apply q k v cum i h d))
  have hr : i.val < 2048 := i.isLt
  have hh : h.val < 8 := h.isLt
  have hk : d.val < 64 := d.isLt
  blk_ext [lane] <;> omega

/-- The log sums, two heads to a block. -/
theorem v60_apply (p : Fin 4) (i : Fin 2048) (e : Fin 2) :
    val_main_v60 (F := Ideal) (fun i => (q i : EReal)) (fun i => (k i : EReal)) (fun i => (cum i : EReal)) (ix3 p i e) = (Real.log (Z q k cum ⟨2 * p.val + e.val, by omega⟩ i) : EReal) := by
  refine (val_main_v60_apply _ _ _ _).trans ((val_main_v59_apply _ _ _ _).trans ((congrArg _ ?_).trans (v39_apply q k cum ⟨2 * p.val + e.val, by omega⟩ i)))
  have hr : i.val < 2048 := i.isLt
  have hh : p.val < 4 := p.isLt
  have hk : e.val < 2 := e.isLt
  blk_ext [] <;> omega

/-- The normed output in its own columns. -/
theorem v58_apply (g : S64.Idx → EReal) (i : Fin 2048) (h : Fin 8) (d : Fin 64) :
    val_main_v58 (F := Ideal) (fun i => (q i : EReal)) (fun i => (k i : EReal)) v (fun i => (cum i : EReal)) g (ix2 i ⟨h.val * 64 + d.val, by omega⟩)
      = out q k v cum h i d * rrOf (out q k v cum h i) * g (ix1 d) := by
  refine Eq.trans ?_ (v54_apply q k v cum g i h d)
  have hr : i.val < 2048 := i.isLt
  have hh : h.val < 8 := h.isLt
  have hk : d.val < 64 := d.isLt
  show val_main_v57 (F := Ideal) (fun i => (q i : EReal)) (fun i => (k i : EReal)) v (fun i => (cum i : EReal)) g (ix2 i ⟨h.val * 64 + d.val, by omega⟩) = _
  unfold val_main_v57
  rw [pad_apply_of_inside _ _ _ _ _ _ _ _ (ix2 i (lane h d)) (fun a => by fin_cases a <;> simp [lane])]
  refine (val_main_v55_apply _ _ _ _ _ _).trans (congrArg _ ?_)
  blk_ext [lane] <;> omega

end Cert.Reference13Ideal.Fox
-- ==== Proof.FoxBlocks.lean ====
/- The attention's blocks: a pair of heads' columns of the queries, keys and values, the log gates, and the gain, as entries
   of the arguments. -/
module

public import Idealize.ShloMosaic.Lib.Pipeline.ValueKit
public import proofs.«01_k».proof.Proof.Gen.Kernel13Ideal.Frame
public import proofs.«01_k».proof.Proof.Rows
public import Idealize.ShloMosaic.Lib.KernelVsHost
public import Idealize.ShloMosaic.Lib.Tactic

@[expose] public section

noncomputable section

namespace Cert.Kernel13Ideal.Fox

open Cert.Kernel13Ideal Cert.Kernel13Ideal.Gen Idealize.ShloMosaic Idealize.ShloMosaic.TcCoe Idealize.SL.Sem Cert.Reals

variable (m : (ℓ : Loc nD τ sig) → Buf (Elt Ideal) ℓ) (c : Dev nD)

/-- The group of four heads and the block of queries of a grid point. -/
def grp (t : Fin cfg0.N) : Nat := t.val / 4
def blk (t : Fin cfg0.N) : Nat := t.val % 4

theorem N8 (t : Fin cfg0.N) : t.val < 8 := t.isLt
theorem grp_lt (t : Fin cfg0.N) : grp t < 2 := by have := N8 t; unfold grp; omega
theorem blk_lt (t : Fin cfg0.N) : blk t < 4 := by unfold blk; omega

theorem idx : ∀ t : Fin cfg0.N, win0_0.index t = ![blk t, 6 * grp t] ∧ win0_1.index t = ![0, 6 * grp t + 1] ∧ win0_2.index t = ![0, 6 * grp t + 2]
    ∧ win0_3.index t = ![blk t, 6 * grp t + 3] ∧ win0_4.index t = ![0, 6 * grp t + 4] ∧ win0_5.index t = ![0, 6 * grp t + 5]
    ∧ win0_6.index t = ![0, 0] ∧ win0_7.index t = ![0, 0] ∧ win0_8.index t = ![blk t, grp t] ∧ win0_9.index t = ![blk t, grp t] ∧ win0_10.index t = ![grp t, blk t, 0]
    ∧ (grid0.coords t 0).val = grp t ∧ (grid0.coords t 1).val = blk t :=
  (by decide +kernel : ∀ t : Fin grid0.N, _)

/-- A column of the arguments: lane `l` of the pair `p`. -/
def pairLane (p : Fin 4) (l : Fin 128) : Fin 512 := ⟨p.val * 128 + l.val, by omega⟩

/-- The packed columns: queries, keys and values of a pair next to each other. -/
theorem packed (part : Fin 3) (r : Fin 2048) (p : Fin 4) (l : Fin 128) :
    V m c main_v8 (ix2 r ⟨(3 * p.val + part.val) * 128 + l.val, by omega⟩)
      = (![m ((c : Thread nD τ).loc main_arg0), m ((c : Thread nD τ).loc main_arg1), m ((c : Thread nD τ).loc main_arg2)] part : S2048x512.Idx → EReal) (ix2 r (pairLane p l)) := by
  have e : V m c main_v8 = pad S2048x3840 ![0, 0] ![0, 2304] ![0, 0] (shapeCast S2048x1536 (concatenate S2048x4x3x128 2
      [⟨S2048x4x1x128, broadcastInDim S2048x4x1x128 ![0, 1, 3] bcast_S2048x4x128_S2048x4x1x128_0_1_3 (shapeCast S2048x4x128 (m ((c : Thread nD τ).loc main_arg0) : S2048x512.Idx → EReal) shapeCasts_S2048x512_S2048x4x128)⟩,
        ⟨S2048x4x1x128, broadcastInDim S2048x4x1x128 ![0, 1, 3] bcast_S2048x4x128_S2048x4x1x128_0_1_3 (shapeCast S2048x4x128 (m ((c : Thread nD τ).loc main_arg1) : S2048x512.Idx → EReal) shapeCasts_S2048x512_S2048x4x128)⟩,
        ⟨S2048x4x1x128, broadcastInDim S2048x4x1x128 ![0, 1, 3] bcast_S2048x4x128_S2048x4x1x128_0_1_3 (shapeCast S2048x4x128 (m ((c : Thread nD τ).loc main_arg2) : S2048x512.Idx → EReal) shapeCasts_S2048x512_S2048x4x128)⟩] concatenates_S2048x4x1x128_S2048x4x1x128_S2048x4x1x128_S2048x4x3x128_d2) shapeCasts_S2048x4x3x128_S2048x1536)
      (sitofp (F := Ideal) .f32 (constantI S_ 32 0#32)) pads_S2048x1536_S2048x3840_000_023040 h_S_ := by
    unfold V
    simp only [hostOps0, hostOps0_1, List.flatten_cons, List.flatten_nil, List.append_nil, List.cons_append, List.nil_append]
    simp (disch := decide) only [StableHlo.after_cons, StableHlo.after_nil, StableHlo.reshape_result', StableHlo.nary_result', StableHlo.nary_result_ne', StableHlo.unary_result', StableHlo.unary_result_ne', StableHlo.nullary_result', StableHlo.nullary_result_ne', StableHlo.binary_result', StableHlo.binary_result_ne', StableHlo.reshape_result_ne']
    rfl
  have hp := p.isLt
  have hl := l.isLt
  have hq := part.isLt
  rw [e, pad_apply_of_inside _ _ _ _ _ _ _ _ (ix2 r ⟨(3 * p.val + part.val) * 128 + l.val, by omega⟩) (fun a => by fin_cases a <;> simp),
    shapeCast_apply _ _ _ (ix4 r p part l) (by rewrite [Shape.rowMajor_val_four, Shape.rowMajor_val_two]; show ((r.val * 4 + p.val) * 3 + part.val) * 128 + l.val = r.val * 1536 + ((3 * p.val + part.val) * 128 + l.val); omega)]
  fin_cases part <;> pointwise
  all_goals rfl

theorem blkW (t : Fin cfg0.N) (l : Fin 128) : iblk m c 7 t (ix2 0 l) = (m ((c : Thread nD τ).loc main_arg4) : S64.Idx → EReal) (ix1 ⟨l.val % 64, by omega⟩) := by
  have e : V m c main_v11 = shapeCast S1x128 (concatenate S128 0 [⟨S64, (m ((c : Thread nD τ).loc main_arg4) : S64.Idx → EReal)⟩, ⟨S64, (m ((c : Thread nD τ).loc main_arg4) : S64.Idx → EReal)⟩] concatenates_S64_S64_S128_d0) shapeCasts_S128_S1x128 := by
    unfold V
    simp only [hostOps0, hostOps0_1, List.flatten_cons, List.flatten_nil, List.append_nil, List.cons_append, List.nil_append]
    entry_read
    rfl
  blk_simp [iblk]
  have he : ((cfg0.win 7).blk t).view.emb (ix2 0 l) = ix2 0 l := by blk_ext [idx t]
  rw [he, e]
  pointwise
  have hl := l.isLt
  split
  · exact congrArg (fun q => m ((c : Thread nD τ).loc main_arg4) (ix1 q)) (Fin.ext (by show l.val = l.val % 64; omega))
  · exact congrArg (fun q => m ((c : Thread nD τ).loc main_arg4) (ix1 q)) (Fin.ext (by show l.val - 64 = l.val % 64; omega))

theorem blkG (t : Fin cfg0.N) (r : Fin 2048) (h : Fin 8) : iblk m c 6 t (ix2 r ⟨h.val, by omega⟩) = (m ((c : Thread nD τ).loc main_arg3) : S2048x8.Idx → EReal) (ix2 r h) := by
  have e : V m c main_v9 = pad S2048x128 ![0, 0] ![0, 120] ![0, 0] (m ((c : Thread nD τ).loc main_arg3) : S2048x8.Idx → EReal) (sitofp (F := Ideal) .f32 (constantI S_ 32 0#32)) pads_S2048x8_S2048x128_000_01200 h_S_ := by
    unfold V
    simp only [hostOps0, hostOps0_1, List.flatten_cons, List.flatten_nil, List.append_nil, List.cons_append, List.nil_append]
    entry_read
    rfl
  blk_simp [iblk]
  have he : ((cfg0.win 6).blk t).view.emb (ix2 r ⟨h.val, by omega⟩) = ix2 r ⟨h.val, by omega⟩ := by blk_ext [idx t]
  rw [he, e]
  rw [pad_apply_of_inside _ _ _ _ _ _ _ _ (ix2 r h) (fun a => by fin_cases a <;> simp)]

/-- A block's row of queries, and a pair of heads of the group. -/
def qrow (t : Fin cfg0.N) (r : Fin 512) : Fin 2048 := ⟨512 * blk t + r.val, by have := blk_lt t; omega⟩
def pr (t : Fin cfg0.N) (e : Fin 2) : Fin 4 := ⟨2 * grp t + e.val, by have := grp_lt t; omega⟩

theorem blk0 (t : Fin cfg0.N) (r : Fin 512) (l : Fin 128) : iblk m c 0 t (ix2 r l) = (m ((c : Thread nD τ).loc main_arg0) : S2048x512.Idx → EReal) (ix2 (qrow t r) (pairLane (pr t 0) l)) := by
  refine Eq.trans ?_ (packed m c 0 (qrow t r) (pr t 0) l)
  blk_simp [iblk]
  exact congrArg (V m c main_v8) (by blk_ext [idx t, qrow, pr])

theorem blk1 (t : Fin cfg0.N) (r : Fin 2048) (l : Fin 128) : iblk m c 1 t (ix2 r l) = (m ((c : Thread nD τ).loc main_arg1) : S2048x512.Idx → EReal) (ix2 r (pairLane (pr t 0) l)) := by
  refine Eq.trans ?_ (packed m c 1 r (pr t 0) l)
  blk_simp [iblk]
  exact congrArg (V m c main_v8) (by blk_ext [idx t, qrow, pr])

theorem blk2 (t : Fin cfg0.N) (r : Fin 2048) (l : Fin 128) : iblk m c 2 t (ix2 r l) = (m ((c : Thread nD τ).loc main_arg2) : S2048x512.Idx → EReal) (ix2 r (pairLane (pr t 0) l)) := by
  refine Eq.trans ?_ (packed m c 2 r (pr t 0) l)
  blk_simp [iblk]
  exact congrArg (V m c main_v8) (by blk_ext [idx t, qrow, pr])

theorem blk3 (t : Fin cfg0.N) (r : Fin 512) (l : Fin 128) : iblk m c 3 t (ix2 r l) = (m ((c : Thread nD τ).loc main_arg0) : S2048x512.Idx → EReal) (ix2 (qrow t r) (pairLane (pr t 1) l)) := by
  refine Eq.trans ?_ (packed m c 0 (qrow t r) (pr t 1) l)
  blk_simp [iblk]
  exact congrArg (V m c main_v8) (by blk_ext [idx t, qrow, pr])

theorem blk4 (t : Fin cfg0.N) (r : Fin 2048) (l : Fin 128) : iblk m c 4 t (ix2 r l) = (m ((c : Thread nD τ).loc main_arg1) : S2048x512.Idx → EReal) (ix2 r (pairLane (pr t 1) l)) := by
  refine Eq.trans ?_ (packed m c 1 r (pr t 1) l)
  blk_simp [iblk]
  exact congrArg (V m c main_v8) (by blk_ext [idx t, qrow, pr])

theorem blk5 (t : Fin cfg0.N) (r : Fin 2048) (l : Fin 128) : iblk m c 5 t (ix2 r l) = (m ((c : Thread nD τ).loc main_arg2) : S2048x512.Idx → EReal) (ix2 r (pairLane (pr t 1) l)) := by
  refine Eq.trans ?_ (packed m c 2 r (pr t 1) l)
  blk_simp [iblk]
  exact congrArg (V m c main_v8) (by blk_ext [idx t, qrow, pr])

end Cert.Kernel13Ideal.Fox
-- ==== Proof.FoxOps.lean ====
/- The attention's operands: a head's rows of queries and keys as the kernel lays them out in 128 lanes, with the log gates in
   lanes that the head leaves free, so that a plain product of two rows is the logit with its decay. -/
module

public import proofs.«01_k».proof.Proof.FoxBlocks

@[expose] public section

noncomputable section

namespace Cert.Kernel13Ideal.Fox

open Cert.Kernel13Ideal Cert.Kernel13Ideal.Gen Idealize.ShloMosaic Idealize.ShloMosaic.TcCoe Idealize.SL.Sem Cert.Reals

theorem lit_neg_one : Ideal.ofBits .f32 0xBF800000#32 = ((-1 : ℝ) : EReal) := by
  simp [Ideal.ofBits, Ideal.ieee]
  rw [← EReal.coe_mul]
  norm_num

theorem lit_8th : Ideal.ofBits .f32 0x3E000000#32 = ((1 / 8 : ℝ) : EReal) := by
  simp [Ideal.ofBits, Ideal.ieee]
  rw [← EReal.coe_mul]
  norm_num

theorem pick {α : Type} (p : Prop) [Decidable p] (x y : α) : Scalar.select (if p then 1#1 else 0#1) x y = if p then x else y := by
  split <;> rfl

theorem lane_eq (l : Fin 128) (n : ℕ) : IntOp.cmpi CmpIPredicate.eq (BitVec.ofNat 32 l.val) (BitVec.ofNat 32 n)
    = if l.val = n % 4294967296 then 1#1 else 0#1 := by
  have e : (BitVec.ofNat 32 l.val = BitVec.ofNat 32 n) ↔ l.val = n % 4294967296 := by
    rw [← BitVec.toNat_inj, BitVec.toNat_ofNat, BitVec.toNat_ofNat]; have := l.isLt; omega
  show BitVec.ofBool (BitVec.ofNat 32 l.val == BitVec.ofNat 32 n) = _
  by_cases h : l.val = n % 4294967296
  · rw [if_pos h, beq_iff_eq.mpr (e.mpr h)]; rfl
  · rw [if_neg h, beq_eq_false_iff_ne.mpr (fun q => h (e.mp q))]; rfl
theorem lane_0_64 : ∀ l : Fin 128, IntOp.andi (IntOp.cmpi CmpIPredicate.sge (BitVec.ofNat 32 l.val) 0#32) (IntOp.cmpi CmpIPredicate.slt (BitVec.ofNat 32 l.val) 64#32)
    = if 0 ≤ l.val ∧ l.val < 64 then 1#1 else 0#1 := by decide +kernel
theorem lane_64_128 : ∀ l : Fin 128, IntOp.andi (IntOp.cmpi CmpIPredicate.sge (BitVec.ofNat 32 l.val) 64#32) (IntOp.cmpi CmpIPredicate.slt (BitVec.ofNat 32 l.val) 128#32)
    = if 64 ≤ l.val ∧ l.val < 128 then 1#1 else 0#1 := by decide +kernel
theorem lane_64_67 : ∀ l : Fin 128, IntOp.andi (IntOp.cmpi CmpIPredicate.sge (BitVec.ofNat 32 l.val) 64#32) (IntOp.cmpi CmpIPredicate.slt (BitVec.ofNat 32 l.val) 67#32)
    = if 64 ≤ l.val ∧ l.val < 67 then 1#1 else 0#1 := by decide +kernel
theorem lane_0_3 : ∀ l : Fin 128, IntOp.andi (IntOp.cmpi CmpIPredicate.sge (BitVec.ofNat 32 l.val) 0#32) (IntOp.cmpi CmpIPredicate.slt (BitVec.ofNat 32 l.val) 3#32)
    = if 0 ≤ l.val ∧ l.val < 3 then 1#1 else 0#1 := by decide +kernel
theorem lane_67_70 : ∀ l : Fin 128, IntOp.andi (IntOp.cmpi CmpIPredicate.sge (BitVec.ofNat 32 l.val) 67#32) (IntOp.cmpi CmpIPredicate.slt (BitVec.ofNat 32 l.val) 70#32)
    = if 67 ≤ l.val ∧ l.val < 70 then 1#1 else 0#1 := by decide +kernel
theorem lane_3_6 : ∀ l : Fin 128, IntOp.andi (IntOp.cmpi CmpIPredicate.sge (BitVec.ofNat 32 l.val) 3#32) (IntOp.cmpi CmpIPredicate.slt (BitVec.ofNat 32 l.val) 6#32)
    = if 3 ≤ l.val ∧ l.val < 6 then 1#1 else 0#1 := by decide +kernel
theorem head_0 : ∀ (g : Fin 2) (l : Fin 128), IntOp.cmpi CmpIPredicate.eq (BitVec.ofNat 32 l.val)
      (Scalar.addi (Scalar.muli (2#32) (Scalar.addi (Scalar.muli (2#32) (BitVec.ofNat 32 g.val)) 0#32)) 0#32)
    = if l.val = 4 * g.val then 1#1 else 0#1 := by decide +kernel
theorem head_1 : ∀ (g : Fin 2) (l : Fin 128), IntOp.cmpi CmpIPredicate.eq (BitVec.ofNat 32 l.val)
      (Scalar.addi (Scalar.muli (2#32) (Scalar.addi (Scalar.muli (2#32) (BitVec.ofNat 32 g.val)) 0#32)) 1#32)
    = if l.val = 4 * g.val + 1 then 1#1 else 0#1 := by decide +kernel
theorem head_2 : ∀ (g : Fin 2) (l : Fin 128), IntOp.cmpi CmpIPredicate.eq (BitVec.ofNat 32 l.val)
      (Scalar.addi (Scalar.muli (2#32) (Scalar.addi (Scalar.muli (2#32) (BitVec.ofNat 32 g.val)) 1#32)) 0#32)
    = if l.val = 4 * g.val + 2 then 1#1 else 0#1 := by decide +kernel
theorem head_3 : ∀ (g : Fin 2) (l : Fin 128), IntOp.cmpi CmpIPredicate.eq (BitVec.ofNat 32 l.val)
      (Scalar.addi (Scalar.muli (2#32) (Scalar.addi (Scalar.muli (2#32) (BitVec.ofNat 32 g.val)) 1#32)) 1#32)
    = if l.val = 4 * g.val + 3 then 1#1 else 0#1 := by decide +kernel

/-- A row of keys: the head's 64 lanes, three ones for the query's log gate, and the negated log gate. -/
def keyRow (b a : ℕ) (k : Fin 128 → ℝ) (h : ℝ) (l : Fin 128) : ℝ :=
  if b ≤ l.val ∧ l.val < b + 64 then k l else if a ≤ l.val ∧ l.val < a + 3 then 1 else if l.val = a + 3 then -h else 0

/-- A row of queries: the head's 64 lanes scaled, the log gate, and three ones for the key's. -/
def queryRow (b a : ℕ) (q : Fin 128 → ℝ) (g : ℝ) (l : Fin 128) : ℝ :=
  if b ≤ l.val ∧ l.val < b + 64 then q l * (1 / 8) else if a + 3 ≤ l.val ∧ l.val < a + 6 then 1 else if l.val = a then g else 0

theorem sum_lane (x : Fin 128 → EReal) (n : ℕ) (hn : n < 128) : (∑ l : Fin 128, if l.val = n then x l else 0) = x ⟨n, hn⟩ := by
  rw [Finset.sum_eq_single ⟨n, hn⟩ (fun l _ h => if_neg fun e => h (Fin.ext e)) (fun h => absurd (Finset.mem_univ _) h), if_pos rfl]

theorem kgate_0 (g : Fin 2) (x : Vec Ideal S2048x128 .f32) (r : Fin 2048) : k0_pay4 (BitVec.ofNat 32 g.val) x (ix2 r 0) = x (ix2 r ⟨4 * g.val, by omega⟩) := by
  pointwise [k0_pay4, k0_pay2, head_0, pick]
  exact sum_lane (fun l => x (ix2 r l)) _ _

theorem kgate_1 (g : Fin 2) (x : Vec Ideal S2048x128 .f32) (r : Fin 2048) : k0_pay12 (k0_pay2 x) (Scalar.addi (Scalar.muli (2#32) (Scalar.addi (Scalar.muli (2#32) (BitVec.ofNat 32 g.val)) 0#32)) 1#32) (iota Kind.tc S2048x128 32 [1] iota_S2048x128_d1_w32) (ix2 r 0) = x (ix2 r ⟨4 * g.val + 1, by omega⟩) := by
  pointwise [k0_pay12, k0_pay2, head_1, pick]
  exact sum_lane (fun l => x (ix2 r l)) _ _

theorem kgate_2 (g : Fin 2) (x : Vec Ideal S2048x128 .f32) (r : Fin 2048) : k0_pay23 (k0_pay2 x) (iota Kind.tc S2048x128 32 [1] iota_S2048x128_d1_w32) (k0_pay22 (BitVec.ofNat 32 g.val)) (ix2 r 0) = x (ix2 r ⟨4 * g.val + 2, by omega⟩) := by
  pointwise [k0_pay23, k0_pay22, k0_pay2, head_2, pick]
  exact sum_lane (fun l => x (ix2 r l)) _ _

theorem kgate_3 (g : Fin 2) (x : Vec Ideal S2048x128 .f32) (r : Fin 2048) : k0_pay31 (BitVec.ofNat 32 g.val) (k0_pay2 x) (ix2 r 0) = x (ix2 r ⟨4 * g.val + 3, by omega⟩) := by
  pointwise [k0_pay31, k0_pay2, head_3, pick]
  exact sum_lane (fun l => x (ix2 r l)) _ _

theorem key_0 (g : Fin 2) (x y : Vec Ideal S2048x128 .f32) (r : Fin 2048) (G : ℝ) (K : Fin 128 → ℝ)
    (hG : x (ix2 r ⟨4 * g.val, by omega⟩) = (G : EReal)) (hK : ∀ l, y (ix2 r l) = (K l : EReal)) (l : Fin 128) :
    k0_pay11 (iota Kind.tc S1x128 32 [1] iota_S1x128_d1_w32) (k0_pay5 (BitVec.ofNat 32 g.val) x) (k0_pay7 (BitVec.ofNat 32 g.val) x) (k0_pay8 (BitVec.ofNat 32 g.val) x) (k0_pay9 y) k0_pay10 (ix3 0 r l)
      = ((keyRow 0 64 K G l : ℝ) : EReal) := by
  pointwise [k0_pay11, k0_pay5, k0_pay6, k0_pay7, k0_pay8, k0_pay9, k0_pay10, k0_pay3, kgate_0, hG, hK, lane_eq, lane_0_64, lane_64_128, lane_64_67, lane_0_3, lane_67_70, lane_3_6, pick, lit_1, lit_neg_one, lit_8th]
  try rw [kgate_0 g x r, hG]
  simp only [← EReal.coe_mul, ← EReal.coe_sub, sub_self, mul_zero, EReal.coe_zero]
  unfold keyRow
  have hl := l.isLt
  split_ifs <;> first | (exfalso; omega) | simp

theorem key_1 (g : Fin 2) (x y : Vec Ideal S2048x128 .f32) (r : Fin 2048) (G : ℝ) (K : Fin 128 → ℝ)
    (hG : x (ix2 r ⟨4 * g.val + 1, by omega⟩) = (G : EReal)) (hK : ∀ l, y (ix2 r l) = (K l : EReal)) (l : Fin 128) :
    k0_pay19 (iota Kind.tc S1x128 32 [1] iota_S1x128_d1_w32) (k0_pay15 (k0_pay2 x) (Scalar.addi (Scalar.muli (2#32) (Scalar.addi (Scalar.muli (2#32) (BitVec.ofNat 32 g.val)) 0#32)) 1#32) (iota Kind.tc S2048x128 32 [1] iota_S2048x128_d1_w32)) (k0_pay16 (k0_pay2 x) (Scalar.addi (Scalar.muli (2#32) (Scalar.addi (Scalar.muli (2#32) (BitVec.ofNat 32 g.val)) 0#32)) 1#32) (iota Kind.tc S2048x128 32 [1] iota_S2048x128_d1_w32)) (k0_pay17 (k0_pay2 x) (k0_pay3 y) (Scalar.addi (Scalar.muli (2#32) (Scalar.addi (Scalar.muli (2#32) (BitVec.ofNat 32 g.val)) 0#32)) 1#32) (iota Kind.tc S2048x128 32 [1] iota_S2048x128_d1_w32)) k0_pay18 (ix3 0 r l)
      = ((keyRow 64 0 K G l : ℝ) : EReal) := by
  pointwise [k0_pay19, k0_pay13, k0_pay14, k0_pay15, k0_pay16, k0_pay17, k0_pay18, k0_pay3, kgate_1, hG, hK, lane_eq, lane_0_64, lane_64_128, lane_64_67, lane_0_3, lane_67_70, lane_3_6, pick, lit_1, lit_neg_one, lit_8th]
  try rw [kgate_1 g x r, hG]
  simp only [← EReal.coe_mul, ← EReal.coe_sub, sub_self, mul_zero, EReal.coe_zero]
  unfold keyRow
  have hl := l.isLt
  split_ifs <;> first | (exfalso; omega) | simp

theorem key_2 (g : Fin 2) (x y : Vec Ideal S2048x128 .f32) (r : Fin 2048) (G : ℝ) (K : Fin 128 → ℝ)
    (hG : x (ix2 r ⟨4 * g.val + 2, by omega⟩) = (G : EReal)) (hK : ∀ l, y (ix2 r l) = (K l : EReal)) (l : Fin 128) :
    k0_pay30 (iota Kind.tc S1x128 32 [1] iota_S1x128_d1_w32) (k0_pay26 (k0_pay2 x) (iota Kind.tc S2048x128 32 [1] iota_S2048x128_d1_w32) (k0_pay22 (BitVec.ofNat 32 g.val))) (k0_pay27 (k0_pay2 x) (iota Kind.tc S2048x128 32 [1] iota_S2048x128_d1_w32) (k0_pay22 (BitVec.ofNat 32 g.val))) (k0_pay28 (k0_pay2 x) (k0_pay21 y) (iota Kind.tc S2048x128 32 [1] iota_S2048x128_d1_w32) (k0_pay22 (BitVec.ofNat 32 g.val))) k0_pay29 (ix3 0 r l)
      = ((keyRow 0 64 K G l : ℝ) : EReal) := by
  pointwise [k0_pay24, k0_pay25, k0_pay26, k0_pay27, k0_pay28, k0_pay29, k0_pay30, k0_pay21, kgate_2, hG, hK, lane_eq, lane_0_64, lane_64_128, lane_64_67, lane_0_3, lane_67_70, lane_3_6, pick, lit_1, lit_neg_one, lit_8th]
  try rw [kgate_2 g x r, hG]
  simp only [← EReal.coe_mul, ← EReal.coe_sub, sub_self, mul_zero, EReal.coe_zero]
  unfold keyRow
  have hl := l.isLt
  split_ifs <;> first | (exfalso; omega) | simp

theorem key_3 (g : Fin 2) (x y : Vec Ideal S2048x128 .f32) (r : Fin 2048) (G : ℝ) (K : Fin 128 → ℝ)
    (hG : x (ix2 r ⟨4 * g.val + 3, by omega⟩) = (G : EReal)) (hK : ∀ l, y (ix2 r l) = (K l : EReal)) (l : Fin 128) :
    k0_pay87 (k0_pay36 (k0_pay21 y) (iota Kind.tc S1x128 32 [1] iota_S1x128_d1_w32) (k0_pay32 (BitVec.ofNat 32 g.val) (k0_pay2 x)) (k0_pay34 (BitVec.ofNat 32 g.val) (k0_pay2 x)) (iota Kind.tc S1x128 32 [1] iota_S1x128_d1_w32)) (k0_pay37 (iota Kind.tc S1x128 32 [1] iota_S1x128_d1_w32)) (k0_pay38 (k0_pay35 (BitVec.ofNat 32 g.val) (k0_pay2 x))) (ix3 0 r l)
      = ((keyRow 64 0 K G l : ℝ) : EReal) := by
  pointwise [k0_pay32, k0_pay33, k0_pay34, k0_pay35, k0_pay36, k0_pay37, k0_pay38, k0_pay87, k0_pay21, kgate_3, hG, hK, lane_eq, lane_0_64, lane_64_128, lane_64_67, lane_0_3, lane_67_70, lane_3_6, pick, lit_1, lit_neg_one, lit_8th]
  try rw [kgate_3 g x r, hG]
  simp only [← EReal.coe_mul, ← EReal.coe_sub, sub_self, mul_zero, EReal.coe_zero]
  unfold keyRow
  have hl := l.isLt
  split_ifs <;> first | (exfalso; omega) | simp

theorem qgate_0 (i : grid0.Coords) (g : Fin 2) (hg : (i 0).val = g.val) (x : Vec Ideal S512x128 .f32) (r : Fin 512) :
    k0_pay93 i x (ix2 r 0) = x (ix2 r ⟨4 * g.val, by omega⟩) := by
  pointwise [k0_pay93, k0_pay91, hg, head_0, pick]
  exact sum_lane (fun l => x (ix2 r l)) _ _

theorem qgate_1 (i : grid0.Coords) (g : Fin 2) (hg : (i 0).val = g.val) (x : Vec Ideal S512x128 .f32) (r : Fin 512) :
    k0_pay101 (BitVec.ofNat 32 (i 0).val) (k0_pay91 x) (ix2 r 0) = x (ix2 r ⟨4 * g.val + 1, by omega⟩) := by
  pointwise [k0_pay101, k0_pay91, hg, head_1, pick]
  exact sum_lane (fun l => x (ix2 r l)) _ _

theorem qgate_2 (i : grid0.Coords) (g : Fin 2) (hg : (i 0).val = g.val) (x : Vec Ideal S512x128 .f32) (r : Fin 512) :
    k0_pay108 (BitVec.ofNat 32 (i 0).val) (k0_pay91 x) (ix2 r 0) = x (ix2 r ⟨4 * g.val + 2, by omega⟩) := by
  pointwise [k0_pay108, k0_pay91, hg, head_2, pick]
  exact sum_lane (fun l => x (ix2 r l)) _ _

theorem qgate_3 (i : grid0.Coords) (g : Fin 2) (hg : (i 0).val = g.val) (x : Vec Ideal S512x128 .f32) (r : Fin 512) :
    k0_pay118 (k0_pay117 (BitVec.ofNat 32 (i 0).val) (k0_pay91 x)) (ix2 r 0) = x (ix2 r ⟨4 * g.val + 3, by omega⟩) := by
  pointwise [k0_pay117, k0_pay118, k0_pay91, hg, head_3, pick]
  exact sum_lane (fun l => x (ix2 r l)) _ _

theorem query_0 (i : grid0.Coords) (g : Fin 2) (hg : (i 0).val = g.val) (x y : Vec Ideal S512x128 .f32) (r : Fin 512) (G : ℝ) (K : Fin 128 → ℝ)
    (hG : x (ix2 r ⟨4 * g.val, by omega⟩) = (G : EReal)) (hK : ∀ l, y (ix2 r l) = (K l : EReal)) (l : Fin 128) :
    k0_pay100 (iota Kind.tc S1x128 32 [1] iota_S1x128_d1_w32) (k0_pay98 (k0_pay97 i x)) (k0_pay99 (k0_pay92 y) (iota Kind.tc S1x128 32 [1] iota_S1x128_d1_w32) (k0_pay94 i x) (k0_pay96 i x)) 66#32 (ix2 r l)
      = ((queryRow 0 64 K G l : ℝ) : EReal) := by
  pointwise [k0_pay92, k0_pay94, k0_pay95, k0_pay96, k0_pay97, k0_pay98, k0_pay99, k0_pay100, qgate_0 i g hg, hG, hK, lane_eq, lane_0_64, lane_64_128, lane_64_67, lane_0_3, lane_67_70, lane_3_6, pick, lit_1, lit_neg_one, lit_8th]
  simp only [← EReal.coe_mul, ← EReal.coe_sub, sub_self, mul_zero, EReal.coe_zero]
  unfold queryRow
  have hl := l.isLt
  split_ifs <;> first | (exfalso; omega) | simp

theorem query_1 (i : grid0.Coords) (g : Fin 2) (hg : (i 0).val = g.val) (x y : Vec Ideal S512x128 .f32) (r : Fin 512) (G : ℝ) (K : Fin 128 → ℝ)
    (hG : x (ix2 r ⟨4 * g.val + 1, by omega⟩) = (G : EReal)) (hK : ∀ l, y (ix2 r l) = (K l : EReal)) (l : Fin 128) :
    k0_pay107 (iota Kind.tc S1x128 32 [1] iota_S1x128_d1_w32) (k0_pay102 (BitVec.ofNat 32 (i 0).val) (k0_pay91 x)) (k0_pay104 (BitVec.ofNat 32 (i 0).val) (k0_pay91 x)) (k0_pay105 (BitVec.ofNat 32 (i 0).val) (k0_pay91 x)) (k0_pay106 y) (ix2 r l)
      = ((queryRow 64 0 K G l : ℝ) : EReal) := by
  pointwise [k0_pay102, k0_pay103, k0_pay104, k0_pay105, k0_pay106, k0_pay107, qgate_1 i g hg, hG, hK, lane_eq, lane_0_64, lane_64_128, lane_64_67, lane_0_3, lane_67_70, lane_3_6, pick, lit_1, lit_neg_one, lit_8th]
  simp only [← EReal.coe_mul, ← EReal.coe_sub, sub_self, mul_zero, EReal.coe_zero]
  unfold queryRow
  have hl := l.isLt
  split_ifs <;> first | (exfalso; omega) | simp

theorem query_2 (i : grid0.Coords) (g : Fin 2) (hg : (i 0).val = g.val) (x y : Vec Ideal S512x128 .f32) (r : Fin 512) (G : ℝ) (K : Fin 128 → ℝ)
    (hG : x (ix2 r ⟨4 * g.val + 2, by omega⟩) = (G : EReal)) (hK : ∀ l, y (ix2 r l) = (K l : EReal)) (l : Fin 128) :
    k0_pay115 (iota Kind.tc S1x128 32 [1] iota_S1x128_d1_w32) (k0_pay109 (BitVec.ofNat 32 (i 0).val) (k0_pay91 x)) (k0_pay111 (BitVec.ofNat 32 (i 0).val) (k0_pay91 x)) (k0_pay112 (BitVec.ofNat 32 (i 0).val) (k0_pay91 x)) (k0_pay113 y) k0_pay114 (ix2 r l)
      = ((queryRow 0 64 K G l : ℝ) : EReal) := by
  pointwise [k0_pay109, k0_pay110, k0_pay111, k0_pay112, k0_pay113, k0_pay114, k0_pay115, qgate_2 i g hg, hG, hK, lane_eq, lane_0_64, lane_64_128, lane_64_67, lane_0_3, lane_67_70, lane_3_6, pick, lit_1, lit_neg_one, lit_8th]
  simp only [← EReal.coe_mul, ← EReal.coe_sub, sub_self, mul_zero, EReal.coe_zero]
  unfold queryRow
  have hl := l.isLt
  split_ifs <;> first | (exfalso; omega) | simp

theorem query_3 (i : grid0.Coords) (g : Fin 2) (hg : (i 0).val = g.val) (x y : Vec Ideal S512x128 .f32) (r : Fin 512) (G : ℝ) (K : Fin 128 → ℝ)
    (hG : x (ix2 r ⟨4 * g.val + 3, by omega⟩) = (G : EReal)) (hK : ∀ l, y (ix2 r l) = (K l : EReal)) (l : Fin 128) :
    k0_pay126 (iota Kind.tc S1x128 32 [1] iota_S1x128_d1_w32) (k0_pay122 (k0_pay117 (BitVec.ofNat 32 (i 0).val) (k0_pay91 x))) (k0_pay123 (k0_pay116 y) (k0_pay117 (BitVec.ofNat 32 (i 0).val) (k0_pay91 x))) k0_pay124 (k0_pay125 (k0_pay117 (BitVec.ofNat 32 (i 0).val) (k0_pay91 x))) (ix2 r l)
      = ((queryRow 64 0 K G l : ℝ) : EReal) := by
  pointwise [k0_pay126, k0_pay122, k0_pay123, k0_pay116, k0_pay119, k0_pay120, k0_pay121, k0_pay124, k0_pay125, qgate_3 i g hg, hG, hK, lane_eq, lane_0_64, lane_64_128, lane_64_67, lane_0_3, lane_67_70, lane_3_6, pick, lit_1, lit_neg_one, lit_8th]
  simp only [← EReal.coe_mul, ← EReal.coe_sub, sub_self, mul_zero, EReal.coe_zero]
  unfold queryRow
  have hl := l.isLt
  split_ifs <;> first | (exfalso; omega) | simp

theorem sum_lane_real (n : ℕ) (hn : n < 128) (x : ℝ) : (∑ l : Fin 128, if l.val = n then x else 0) = x := by
  rw [Finset.sum_eq_single ⟨n, hn⟩ (fun l _ h => if_neg fun e => h (Fin.ext e)) (fun h => absurd (Finset.mem_univ _) h), if_pos rfl]

theorem sum_half (b : ℕ) (hb : b = 0 ∨ b = 64) (f : Fin 128 → ℝ) :
    (∑ l : Fin 128, if b ≤ l.val ∧ l.val < b + 64 then f l else 0) = ∑ d : Fin 64, f ⟨b + d.val, by omega⟩ := by
  rw [Fin.sum_univ_add (a := 64) (b := 64)]
  rcases hb with rfl | rfl
  · rw [Finset.sum_eq_zero (s := Finset.univ) (f := fun i : Fin 64 => if 0 ≤ (Fin.natAdd 64 i).val ∧ (Fin.natAdd 64 i).val < 0 + 64 then f (Fin.natAdd 64 i) else 0)
      (fun i _ => if_neg (by simp)), add_zero]
    refine Finset.sum_congr rfl fun i _ => (if_pos (by simp)).trans (congrArg f (Fin.ext (by simp)))
  · rw [Finset.sum_eq_zero (s := Finset.univ) (f := fun i : Fin 64 => if 64 ≤ (Fin.castAdd 64 i).val ∧ (Fin.castAdd 64 i).val < 64 + 64 then f (Fin.castAdd 64 i) else 0)
      (fun i _ => if_neg (by simp)), zero_add]
    refine Finset.sum_congr rfl fun i _ => (if_pos ⟨by simp, by have := i.isLt; rw [Fin.val_natAdd]; omega⟩).trans (congrArg f (Fin.ext (by simp [Nat.add_comm])))

/-- The product of a row of queries with a row of keys is the scaled product of the head's lanes, plus one log gate, less the other. -/
theorem row_dot (b a : ℕ) (hb : (b = 0 ∧ a = 64) ∨ (b = 64 ∧ a = 0)) (q k : Fin 128 → ℝ) (g h : ℝ) :
    ∑ l, queryRow b a q g l * keyRow b a k h l = (∑ d : Fin 64, q ⟨b + d.val, by omega⟩ * k ⟨b + d.val, by omega⟩) * (1 / 8) + g - h := by
  have e : ∀ l : Fin 128, queryRow b a q g l * keyRow b a k h l
      = (if b ≤ l.val ∧ l.val < b + 64 then q l * k l * (1 / 8) else 0) + (if l.val = a then g else 0) + (if l.val = a + 3 then -h else 0) := by
    intro l
    have hl := l.isLt
    unfold queryRow keyRow
    rcases hb with ⟨rfl, rfl⟩ | ⟨rfl, rfl⟩ <;> split_ifs <;> first | (exfalso; omega) | ring
  rw [Finset.sum_congr rfl fun l _ => e l, Finset.sum_add_distrib, Finset.sum_add_distrib, sum_half b (by omega) fun l => q l * k l * (1 / 8),
    sum_lane_real a (by omega) g, sum_lane_real (a + 3) (by omega) (-h), ← Finset.sum_mul, sub_eq_add_neg]

end Cert.Kernel13Ideal.Fox
-- ==== Proof.FoxStep.lean ====
/- One block of keys of the attention: the running maximum, the sum of the weights and the weighted sum of a row, from what was
   kept of the blocks before. -/
module

public import proofs.«01_k».proof.Proof.FoxOps
public import proofs.«01_k».proof.Proof.FoxMath

@[expose] public section

noncomputable section

namespace Cert.Kernel13Ideal.Fox

open Cert.Kernel13Ideal Cert.Kernel13Ideal.Gen Idealize.ShloMosaic Idealize.ShloMosaic.TcCoe Idealize.SL.Sem Cert.Reals Cert.FoxMath

/-- The running maximum after a block with scores `s`. -/
def newTop (m : FVec Ideal S512x1 .f32) (s : FVec Ideal S512x512 .f32) : FVec Ideal S512x1 .f32 :=
  maximumf m (shapeCast S512x1 (multiReduction .maximumf [1] S512 s 0xFF800000#32 reduces_S512x512_S512 (.inl rfl) rfl) shapeCasts_S512_S512x1)

/-- The block's weights against the maximum `m`. -/
def wts (s : FVec Ideal S512x512 .f32) (m : FVec Ideal S512x1 .f32) : FVec Ideal S512x512 .f32 :=
  exp (subf s (broadcastTo S512x512 m broadcasts_S512x1_S512x512))

/-- What the earlier blocks are scaled by. -/
def fade (m m' : FVec Ideal S512x1 .f32) : FVec Ideal S512x1 .f32 := exp (subf m m')

/-- The sum of the weights, with the block's. -/
def newSum (l α : FVec Ideal S512x1 .f32) (p : FVec Ideal S512x512 .f32) : FVec Ideal S512x1 .f32 :=
  addf (mulf α l) (shapeCast S512x1 (multiReduction .add [1] S512 p 0#32 reduces_S512x512_S512 (.inl rfl) rfl) shapeCasts_S512_S512x1)

/-- The weighted sum of the values, with the block's. -/
def newAcc (a : FVec Ideal S512x128 .f32) (α : FVec Ideal S512x1 .f32) (b : FVec Ideal S512x128 .f32) : FVec Ideal S512x128 .f32 :=
  k0_pay130 a α b

theorem lit_ninf : Ideal.ofBits .f32 0xFF800000#32 = ⊥ := by
  simp [Ideal.ofBits, Ideal.ieee]

theorem newTop_apply (m : FVec Ideal S512x1 .f32) (s : FVec Ideal S512x512 .f32) (r : Fin 512) (f : Fin 512 → EReal) (hs : ∀ j, s (ix2 r j) = f j) :
    newTop m s (ix2 r 0) = max (m (ix2 r 0)) (Finset.univ.fold max ⊥ f) := by
  have e := Ideal.multiReduction_maximumf_single s 0xFF800000#32 reduces_S512x512_S512 (.inl rfl) rfl (ix1 r)
  have c : shapeCast S512x1 (multiReduction (F := Ideal) .maximumf [1] S512 s 0xFF800000#32 reduces_S512x512_S512 (.inl rfl) rfl) shapeCasts_S512_S512x1 (ix2 r 0)
      = multiReduction (F := Ideal) .maximumf [1] S512 s 0xFF800000#32 reduces_S512x512_S512 (.inl rfl) rfl (ix1 r) := by
    refine shapeCast_apply _ _ _ _ ?_
    simp [Shape.rowMajor_val_one, Shape.rowMajor_val_two, ix1, ix2]
  refine congrArg (max (m (ix2 r 0))) (c.trans (e.trans ?_))
  rw [show (FloatOps.ofBits (F := Ideal) .f32 0xFF800000#32 : EReal) = ⊥ from lit_ninf]
  refine Finset.fold_congr fun j _ => ?_
  exact (congrArg s (funext fun a => Fin.ext (by fin_cases a <;> rfl))).trans (hs j)

theorem wts_apply (m : FVec Ideal S512x1 .f32) (s : FVec Ideal S512x512 .f32) (r j : Fin 512) : wts s m (ix2 r j) = Ideal.exp (s (ix2 r j) - m (ix2 r 0)) := by
  pointwise [wts]

theorem newSum_apply (l α : FVec Ideal S512x1 .f32) (p : FVec Ideal S512x512 .f32) (r : Fin 512) :
    newSum l α p (ix2 r 0) = α (ix2 r 0) * l (ix2 r 0) + ∑ j, p (ix2 r j) := by
  pointwise [newSum]

theorem prod_apply (p : FVec Ideal S512x512 .f32) (b : Vec Ideal S1x512x128 .bf16) (r : Fin 512) (l : Fin 128) :
    k0_pay59 p b (ix2 r l) = ∑ j : Fin 512, p (ix2 r j) * b (ix3 0 j l) := by
  pointwise [k0_pay59]

theorem newAcc_apply (a : FVec Ideal S512x128 .f32) (α : FVec Ideal S512x1 .f32) (b : FVec Ideal S512x128 .f32) (r : Fin 512) (l : Fin 128) :
    newAcc a α b (ix2 r l) = α (ix2 r 0) * a (ix2 r l) + b (ix2 r l) := by
  pointwise [newAcc, k0_pay130]

/-- A row's scores against a block of keys. -/
theorem scores_apply (q : FVec Ideal S512x128 .bf16) (kb : Vec Ideal S1x512x128 .bf16) (r j : Fin 512) (Q K : Fin 128 → ℝ)
    (hQ : ∀ l, q (ix2 r l) = (Q l : EReal)) (hK : ∀ l, kb (ix3 0 j l) = (K l : EReal)) :
    k0_pay39 q kb (ix2 r j) = ((∑ l, Q l * K l : ℝ) : EReal) := by
  have e : k0_pay39 q kb (ix2 r j) = ∑ l : Fin 128, q (ix2 r l) * kb (ix3 0 j l) := by
    pointwise [k0_pay39]
  rw [e, ← coe_sum]
  exact Finset.sum_congr rfl fun l _ => by rw [hQ, hK, EReal.coe_mul]

theorem cmp_le (a b : Nat) (ha : a < 2048) (hb : b < 2048) : IntOp.cmpi .sle (BitVec.ofNat 32 a) (BitVec.ofNat 32 b) = if a ≤ b then 1#1 else 0#1 := by
  have h : (BitVec.ofNat 32 a).sle (BitVec.ofNat 32 b) = decide (a ≤ b) := by
    rw [BitVec.sle_eq_decide, BitVec.toInt_ofNat', BitVec.toInt_ofNat']
    refine decide_eq_decide.mpr ?_
    rw [Int.bmod_eq_of_le (by omega) (by omega), Int.bmod_eq_of_le (by omega) (by omega)]
    omega
  show BitVec.ofBool ((BitVec.ofNat 32 a).sle (BitVec.ofNat 32 b)) = _
  rw [h]
  by_cases hab : a ≤ b <;> simp [hab]

/-- The mask of the block on the diagonal. -/
theorem masked_apply (s : FVec Ideal S512x512 .f32) (r j : Fin 512) (x : ℝ) (hs : s (ix2 r j) = (x : EReal)) :
    k0_pay140 s (ix2 r j) = score (j.val ≤ r.val) x := by
  have e : k0_pay140 s (ix2 r j) = Scalar.select (IntOp.cmpi .sle (BitVec.ofNat 32 j.val) (BitVec.ofNat 32 r.val)) (s (ix2 r j)) (Ideal.ofBits .f32 0xFF800000#32) := by
    pointwise [k0_pay140]
  rw [e, cmp_le _ _ (by omega) (by omega), pick, hs, lit_ninf]
  rfl

/-- One block of keys more, of a row `r` and a lane `ln` of the values. -/
theorem step (s : FVec Ideal S512x512 .f32) (m l : FVec Ideal S512x1 .f32) (a : FVec Ideal S512x128 .f32) (vb : Vec Ideal S1x512x128 .bf16)
    (r : Fin 512) (ln : Fin 128) (keep : Fin 512 → Prop) [∀ j, Decidable (keep j)] (x : Fin 512 → ℝ) (v : Fin 512 → EReal) (Z : ℝ) (N : EReal)
    (hs : ∀ j, s (ix2 r j) = score (keep j) (x j)) (hv : ∀ j, vb (ix3 0 j ln) = v j)
    (h : Kept (m (ix2 r 0)) (l (ix2 r 0)) (a (ix2 r ln)) Z N) (j0 : Fin 512) (hj : keep j0) :
    (∃ M : ℝ, newTop m s (ix2 r 0) = M)
      ∧ Kept (newTop m s (ix2 r 0)) (newSum l (fade m (newTop m s)) (wts s (newTop m s)) (ix2 r 0))
        (newAcc a (fade m (newTop m s)) (k0_pay59 (wts s (newTop m s)) vb) (ix2 r ln))
        (Z + ∑ j, wt (keep j) (x j)) (N + ∑ j, (wt (keep j) (x j) : EReal) * v j) := by
  have t := kept_step _ _ _ Z N keep x v h j0 hj (newTop m s (ix2 r 0)) (newTop_apply m s r _ hs)
  have e1 : newSum l (fade m (newTop m s)) (wts s (newTop m s)) (ix2 r 0)
      = Ideal.exp (m (ix2 r 0) - newTop m s (ix2 r 0)) * l (ix2 r 0) + ∑ j, Ideal.exp (score (keep j) (x j) - newTop m s (ix2 r 0)) := by
    rw [newSum_apply]
    exact congrArg₂ (· + ·) rfl (Finset.sum_congr rfl fun j _ => by rw [wts_apply, hs])
  have e2 : newAcc a (fade m (newTop m s)) (k0_pay59 (wts s (newTop m s)) vb) (ix2 r ln)
      = Ideal.exp (m (ix2 r 0) - newTop m s (ix2 r 0)) * a (ix2 r ln) + ∑ j, Ideal.exp (score (keep j) (x j) - newTop m s (ix2 r 0)) * v j := by
    rw [newAcc_apply, prod_apply]
    exact congrArg₂ (· + ·) rfl (Finset.sum_congr rfl fun j _ => by rw [wts_apply, hs, hv])
  rw [e1, e2]
  exact t

/-- What is kept of one head: its running maximum, its sum and its weighted sum. -/
abbrev Head := FVec Ideal S512x1 .f32 × FVec Ideal S512x1 .f32 × FVec Ideal S512x128 .f32

/-- A head after one block more. -/
def Head.next (s : FVec Ideal S512x512 .f32) (vb : Vec Ideal S1x512x128 .bf16) (t : Head) : Head :=
  (newTop t.1 s, newSum t.2.1 (fade t.1 (newTop t.1 s)) (wts s (newTop t.1 s)),
    newAcc t.2.2 (fade t.1 (newTop t.1 s)) (k0_pay59 (wts s (newTop t.1 s)) vb))

/-- A head's row `r` and lane `ln` keep the sums `Z` and `N`. -/
def Head.keeps (t : Head) (r : Fin 512) (ln : Fin 128) (Z : ℝ) (N : EReal) : Prop := Kept (t.1 (ix2 r 0)) (t.2.1 (ix2 r 0)) (t.2.2 (ix2 r ln)) Z N

theorem keeps_init (r : Fin 512) (ln : Fin 128) : Head.keeps (k0_pay127, k0_pay128, k0_pay129) r ln 0 0 := by
  refine .inl ⟨?_, ?_, ?_, rfl, rfl⟩
  · exact Eq.trans (by pointwise [k0_pay127]) lit_ninf
  · pointwise [k0_pay128]
  · pointwise [k0_pay129]

section
variable (q : FVec Ideal S512x128 .bf16) (kb vb : ℕ → Vec Ideal S1x512x128 .bf16) (R : ℕ → Head) (n : ℕ)
  (r : Fin 512) (ln : Fin 128) (Q : Fin 128 → ℝ) (K : ℕ → Fin 128 → ℝ) (V : ℕ → Fin 128 → EReal)

/-- The loop over the blocks before the diagonal. -/
theorem keeps_loop (h0 : R 0 = (k0_pay127, k0_pay128, k0_pay129)) (hR : ∀ k < n, R (k + 1) = (R k).next (k0_pay39 q (kb k)) (vb k))
    (hQ : ∀ l, q (ix2 r l) = (Q l : EReal)) (hK : ∀ k < n, ∀ (j : Fin 512) l, kb k (ix3 0 j l) = (K (512 * k + j.val) l : EReal))
    (hV : ∀ k < n, ∀ (j : Fin 512), vb k (ix3 0 j ln) = V (512 * k + j.val) ln) :
    (R n).keeps r ln (∑ k ∈ Finset.range (512 * n), Real.exp (∑ l, Q l * K k l)) (∑ k ∈ Finset.range (512 * n), (Real.exp (∑ l, Q l * K k l) : EReal) * V k ln) := by
  induction n with
  | zero => rw [h0, mul_zero, Finset.sum_range_zero, Finset.sum_range_zero]; exact keeps_init r ln
  | succ n ih =>
    have t := (step (k0_pay39 q (kb n)) (R n).1 (R n).2.1 (R n).2.2 (vb n) r ln (fun _ => True) (fun j => ∑ l, Q l * K (512 * n + j.val) l)
      (fun j => V (512 * n + j.val) ln) _ _ (fun j => (scores_apply q (kb n) r j Q _ hQ fun l => hK n (by omega) j l).trans (if_pos trivial).symm)
      (fun j => hV n (by omega) j) (ih (fun k hk => hR k (by omega)) (fun k hk => hK k (by omega)) fun k hk => hV k (by omega)) 0 trivial).2
    rw [hR n (by omega), ← sum_block 512 n, ← sum_block 512 n]
    exact t

/-- A row's kept keys: the blocks before the diagonal, and the block on it up to the query. -/
theorem row_split {α : Type*} [AddCommMonoid α] (n : ℕ) (r : Fin 512) (b : Fin 4) (hn : n = b.val) (g : ℕ → α) :
    ∑ j : Fin 2048, (if j.val ≤ 512 * b.val + r.val then g j.val else 0)
      = ∑ k ∈ Finset.range (512 * n), g k + ∑ j : Fin 512, (if j.val ≤ r.val then g (512 * n + j.val) else 0) := by
  have hr := r.isLt
  have hb := b.isLt
  rw [← sum_past (n := 512 * (n + 1)) (N := 2048) (q := 512 * b.val + r.val) (by omega) (by omega) (fun k => if k ≤ 512 * b.val + r.val then g k else 0)
    fun k hk => if_neg (by omega), ← sum_block 512 n]
  refine congrArg₂ (· + ·) (Finset.sum_congr rfl fun k hk => if_pos ?_) (Finset.sum_congr rfl fun j _ => ?_)
  · have := Finset.mem_range.mp hk; omega
  · exact if_congr (by omega) rfl rfl

/-- With the block on the diagonal: the whole row. -/
theorem keeps_row (b : Fin 4) (hn : n = b.val) (h0 : R 0 = (k0_pay127, k0_pay128, k0_pay129)) (hR : ∀ k < n, R (k + 1) = (R k).next (k0_pay39 q (kb k)) (vb k))
    (hQ : ∀ l, q (ix2 r l) = (Q l : EReal)) (hK : ∀ k < n + 1, ∀ (j : Fin 512) l, kb k (ix3 0 j l) = (K (512 * k + j.val) l : EReal))
    (hV : ∀ k < n + 1, ∀ (j : Fin 512), vb k (ix3 0 j ln) = V (512 * k + j.val) ln) :
    (∃ M : ℝ, ((R n).next (k0_pay140 (k0_pay39 q (kb n))) (vb n)).1 (ix2 r 0) = M)
      ∧ ((R n).next (k0_pay140 (k0_pay39 q (kb n))) (vb n)).keeps r ln
        (∑ j : Fin 2048, wt (j.val ≤ 512 * b.val + r.val) (∑ l, Q l * K j.val l))
        (∑ j : Fin 2048, (wt (j.val ≤ 512 * b.val + r.val) (∑ l, Q l * K j.val l) : EReal) * V j.val ln) := by
  have t := step (k0_pay140 (k0_pay39 q (kb n))) (R n).1 (R n).2.1 (R n).2.2 (vb n) r ln (fun j => j.val ≤ r.val) (fun j => ∑ l, Q l * K (512 * n + j.val) l)
      (fun j => V (512 * n + j.val) ln) _ _ (fun j => masked_apply _ r j _ (scores_apply q (kb n) r j Q _ hQ fun l => hK n (by omega) j l))
      (fun j => hV n (by omega) j) (keeps_loop q kb vb R n r ln Q K V h0 hR hQ (fun k hk => hK k (by omega)) fun k hk => hV k (by omega)) r le_rfl
  refine ⟨t.1, ?_⟩
  have e1 := row_split n r b hn fun k => Real.exp (∑ l, Q l * K k l)
  have e2 := row_split n r b hn fun k => (Real.exp (∑ l, Q l * K k l) : EReal) * V k ln
  simp only [wt_mul]
  rw [e2]
  unfold wt
  rw [e1]
  have t2 := t.2
  simp only [wt_mul] at t2
  unfold wt at t2
  exact t2

end

end Cert.Kernel13Ideal.Fox
-- ==== Proof.FoxLoop.lean ====
/- The attention's loop over the blocks of keys before the diagonal: what one trip does to each head. -/
module

public import proofs.«01_k».proof.Proof.FoxStep
public import proofs.«01_k».proof.Proof.Gen.Kernel13Ideal.Loops

@[expose] public section

noncomputable section

namespace Cert.Kernel13Ideal.Fox

open Cert.Kernel13Ideal Cert.Kernel13Ideal.Gen Idealize.ShloMosaic Idealize.ShloMosaic.TcCoe Idealize.SL.Sem Cert.Reals Cert.FoxMath

/-- What the loop carries: four heads. -/
abbrev Heads := FVec Ideal S512x1 .f32 × FVec Ideal S512x1 .f32 × FVec Ideal S512x128 .f32 × FVec Ideal S512x1 .f32 × FVec Ideal S512x1 .f32 × FVec Ideal S512x128 .f32 × FVec Ideal S512x1 .f32 × FVec Ideal S512x1 .f32 × FVec Ideal S512x128 .f32 × FVec Ideal S512x1 .f32 × FVec Ideal S512x1 .f32 × FVec Ideal S512x128 .f32

def Heads.h0 (t : Heads) : Head := (t.1, t.2.1, t.2.2.1)
def Heads.h1 (t : Heads) : Head := (t.2.2.2.1, t.2.2.2.2.1, t.2.2.2.2.2.1)
def Heads.h2 (t : Heads) : Head := (t.2.2.2.2.2.2.1, t.2.2.2.2.2.2.2.1, t.2.2.2.2.2.2.2.2.1)
def Heads.h3 (t : Heads) : Head := (t.2.2.2.2.2.2.2.2.2.1, t.2.2.2.2.2.2.2.2.2.2.1, t.2.2.2.2.2.2.2.2.2.2.2)

/-- The rows of a head's keys that a trip loads. -/
def keysAt (a : Memref sig .tc .vmem S4x2048x128 .bf16) (X : BufTy.Contents (Elt Ideal) a.view.ty) (off : Fin 3 → ℕ)
    (inb : ∀ x, off x + S1x512x128.size x ≤ S4x2048x128.size x) : Vec Ideal S1x512x128 .bf16 :=
  fun y => View.readAt (Elt Ideal) a.view (Rect.unit (s := S4x2048x128) off ![1, 512, 128] inb).toLoadRect X y

/-- The rows of a pair's values that a trip loads. -/
def valsAt (a : Memref sig .tc .vmem S2x2048x128 .bf16) (X : BufTy.Contents (Elt Ideal) a.view.ty) (off : Fin 3 → ℕ)
    (inb : ∀ x, off x + S1x512x128.size x ≤ S2x2048x128.size x) : Vec Ideal S1x512x128 .bf16 :=
  fun y => View.readAt (Elt Ideal) a.view (Rect.unit (s := S2x2048x128) off ![1, 512, 128] inb).toLoadRect X y

/-- Block `k` of a head's keys. -/
def keyBlock (Y : Vec Ideal S4x2048x128 .bf16) (h : Fin 4) (k : ℕ) : Vec Ideal S1x512x128 .bf16 :=
  fun y => Y (ix3 h ⟨(512 * k + (y 1).val) % 2048, Nat.mod_lt _ (by decide)⟩ (y 2))

/-- Block `k` of a pair's values. -/
def valBlock (Y : Vec Ideal S2x2048x128 .bf16) (e : Fin 2) (k : ℕ) : Vec Ideal S1x512x128 .bf16 :=
  fun y => Y (ix3 e ⟨(512 * k + (y 1).val) % 2048, Nat.mod_lt _ (by decide)⟩ (y 2))

theorem keyBlock_apply (Y : Vec Ideal S4x2048x128 .bf16) (h : Fin 4) (k : ℕ) (j : Fin 512) (l : Fin 128) (hk : 512 * k + j.val < 2048) :
    keyBlock Y h k (ix3 0 j l) = Y (ix3 h ⟨512 * k + j.val, hk⟩ l) :=
  congrArg (fun n => Y (ix3 h n l)) (Fin.ext (Nat.mod_eq_of_lt hk))

theorem valBlock_apply (Y : Vec Ideal S2x2048x128 .bf16) (e : Fin 2) (k : ℕ) (j : Fin 512) (l : Fin 128) (hk : 512 * k + j.val < 2048) :
    valBlock Y e k (ix3 0 j l) = Y (ix3 e ⟨512 * k + j.val, hk⟩ l) :=
  congrArg (fun n => Y (ix3 e n l)) (Fin.ext (Nat.mod_eq_of_lt hk))

theorem keysAt_eq (a : Memref sig .tc .vmem S4x2048x128 .bf16) (X : BufTy.Contents (Elt Ideal) a.view.ty) (h : Fin 4) (k : ℕ) (hk : k < 4) {off : Fin 3 → ℕ}
    (e : off = ![h.val, 512 * k, 0]) (inb : ∀ x, off x + S1x512x128.size x ≤ S4x2048x128.size x) :
    keysAt a X off inb = keyBlock (a.view.read (Elt Ideal) X) h k := by
  subst e
  funext y
  have h0 : (y 0).val < 1 := (y 0).isLt
  have h1 : (y 1).val < 512 := (y 1).isLt
  refine congrArg (a.view.read (Elt Ideal) X) (funext fun x => Fin.ext ?_)
  rw [LoadRect.idx_apply]
  fin_cases x
  · show h.val + 1 * (y 0).val = h.val; omega
  · show 512 * k + 1 * (y 1).val = (512 * k + (y 1).val) % 2048; omega
  · show 0 + 1 * (y 2).val = (y 2).val; omega

theorem valsAt_eq (a : Memref sig .tc .vmem S2x2048x128 .bf16) (X : BufTy.Contents (Elt Ideal) a.view.ty) (h : Fin 2) (k : ℕ) (hk : k < 4) {off : Fin 3 → ℕ}
    (e : off = ![h.val, 512 * k, 0]) (inb : ∀ x, off x + S1x512x128.size x ≤ S2x2048x128.size x) :
    valsAt a X off inb = valBlock (a.view.read (Elt Ideal) X) h k := by
  subst e
  funext y
  have h0 : (y 0).val < 1 := (y 0).isLt
  have h1 : (y 1).val < 512 := (y 1).isLt
  refine congrArg (a.view.read (Elt Ideal) X) (funext fun x => Fin.ext ?_)
  rw [LoadRect.idx_apply]
  fin_cases x
  · show h.val + 1 * (y 0).val = h.val; omega
  · show 512 * k + 1 * (y 1).val = (512 * k + (y 1).val) % 2048; omega
  · show 0 + 1 * (y 2).val = (y 2).val; omega

theorem trips_eq : ∀ i : grid0.Coords, (k0_t1_loop i).trips = (i 1).val := by decide +kernel

theorem off_lt {i : grid0.Coords} (k : Fin (k0_t1_loop i).trips) : k.val < 4 := by
  have hi : (i 1).val < 4 := (i 1).isLt
  exact lt_trans (lt_of_lt_of_eq k.isLt (trips_eq i)) hi

section
variable (c : Dev nD) (𝒱 : Variants) (bd : Option 𝒱.V) (i : grid0.Coords) (arg2 : Memref sig .tc .vmem S512x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S512x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x128 .f32) (harg9 : arg9.IsWhole) (arg10 : Memref sig .tc .vmem S512x256 .bf16) (harg10 : arg10.IsWhole) (arg11 : Memref sig .tc .vmem S512x256 .f32) (harg11 : arg11.IsWhole) (arg12 : Memref sig .tc .vmem S2x512x2 .f32) (harg12 : arg12.IsWhole) (arg13 : Memref sig .tc .vmem S4x2048x128 .bf16) (harg13 : arg13.IsWhole) (arg14 : Memref sig .tc .vmem S2x2048x128 .bf16) (harg14 : arg14.IsWhole) (arg1 : BitVec 32) (v97 : FVec Ideal S512x128 .bf16) (v175 : FVec Ideal S512x128 .bf16) (v253 : FVec Ideal S512x128 .bf16) (v267 : IVec S1x128 32) (v275 : FVec Ideal S512x1 .f32) (v308 : FVec Ideal S512x128 .f32) (v310 : IVec S1x128 1) (v312 : FVec Ideal S512x1 .f32) (X_arg13 : BufTy.Contents (Elt Ideal) arg13.view.ty) (X_arg14 : BufTy.Contents (Elt Ideal) arg14.view.ty)  (k : Fin (k0_t1_loop i).trips) (acc : Heads)

set_option maxRecDepth 8000 in
/-- One trip. -/
theorem trip_eq : (tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v97 v175 v253 v267 v275 v308 v310 v312 X_arg13 X_arg14 k acc : Heads) =
    (let R := keysAt arg13 X_arg13
     let V := valsAt arg14 X_arg14
     let a := Head.next (k0_pay39 v97 (R (k0_off2 i k) (k0_off2_inb i k))) (V (k0_off6 i k) (k0_off6_inb i k)) acc.h0
     let b := Head.next (k0_pay39 v175 (R (k0_off3 i k) (k0_off3_inb i k))) (V (k0_off6 i k) (k0_off6_inb i k)) acc.h1
     let c := Head.next (k0_pay39 v253 (R (k0_off4 i k) (k0_off4_inb i k))) (V (k0_off7 i k) (k0_off7_inb i k)) acc.h2
     let d := Head.next (k0_pay39 (k0_pay126 v267 v275 v308 v310 v312) (R (k0_off5 i k) (k0_off5_inb i k))) (V (k0_off7 i k) (k0_off7_inb i k)) acc.h3
     (a.1, a.2.1, a.2.2, b.1, b.2.1, b.2.2, c.1, c.2.1, c.2.2, d.1, d.2.1, d.2.2)) := by
  unfold tripR_k0_t1 trip_k0_t1
  dsimp only
  delta trip_k0_t1.sl.r trip_k0_t1.sl.r_1 trip_k0_t1.sl.r_2 trip_k0_t1.sl.r_3 trip_k0_t1.sl.r_4 trip_k0_t1.sl.r_5 trip_k0_t1.sl.r_6 trip_k0_t1.sl.r_7 trip_k0_t1.sl.r_8 trip_k0_t1.sl.r_9 trip_k0_t1.sl.r_10 trip_k0_t1.sl.r_11 trip_k0_t1.sl.r_12 trip_k0_t1.sl.r_13 trip_k0_t1.sl.r_14 trip_k0_t1.sl.r_15 trip_k0_t1.sl.r_16 trip_k0_t1.sl.r_17 trip_k0_t1.sl.r_18 trip_k0_t1.sl.r_19
  rfl

theorem trip_0 : Heads.h0 (tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v97 v175 v253 v267 v275 v308 v310 v312 X_arg13 X_arg14 k acc)
    = acc.h0.next (k0_pay39 v97 (keyBlock (arg13.view.read (Elt Ideal) X_arg13) 0 k.val)) (valBlock (arg14.view.read (Elt Ideal) X_arg14) 0 k.val) := by
  rw [trip_eq, ← keysAt_eq arg13 X_arg13 0 _ (off_lt k) (k0_off2_eq i k) (k0_off2_inb i k), ← valsAt_eq arg14 X_arg14 0 _ (off_lt k) (k0_off6_eq i k) (k0_off6_inb i k)]
  rfl

theorem trip_1 : Heads.h1 (tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v97 v175 v253 v267 v275 v308 v310 v312 X_arg13 X_arg14 k acc)
    = acc.h1.next (k0_pay39 v175 (keyBlock (arg13.view.read (Elt Ideal) X_arg13) 1 k.val)) (valBlock (arg14.view.read (Elt Ideal) X_arg14) 0 k.val) := by
  rw [trip_eq, ← keysAt_eq arg13 X_arg13 1 _ (off_lt k) (k0_off3_eq i k) (k0_off3_inb i k), ← valsAt_eq arg14 X_arg14 0 _ (off_lt k) (k0_off6_eq i k) (k0_off6_inb i k)]
  rfl

theorem trip_2 : Heads.h2 (tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v97 v175 v253 v267 v275 v308 v310 v312 X_arg13 X_arg14 k acc)
    = acc.h2.next (k0_pay39 v253 (keyBlock (arg13.view.read (Elt Ideal) X_arg13) 2 k.val)) (valBlock (arg14.view.read (Elt Ideal) X_arg14) 1 k.val) := by
  rw [trip_eq, ← keysAt_eq arg13 X_arg13 2 _ (off_lt k) (k0_off4_eq i k) (k0_off4_inb i k), ← valsAt_eq arg14 X_arg14 1 _ (off_lt k) (k0_off7_eq i k) (k0_off7_inb i k)]
  rfl

theorem trip_3 : Heads.h3 (tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v97 v175 v253 v267 v275 v308 v310 v312 X_arg13 X_arg14 k acc)
    = acc.h3.next (k0_pay39 (k0_pay126 v267 v275 v308 v310 v312) (keyBlock (arg13.view.read (Elt Ideal) X_arg13) 3 k.val)) (valBlock (arg14.view.read (Elt Ideal) X_arg14) 1 k.val) := by
  rw [trip_eq, ← keysAt_eq arg13 X_arg13 3 _ (off_lt k) (k0_off5_eq i k) (k0_off5_inb i k), ← valsAt_eq arg14 X_arg14 1 _ (off_lt k) (k0_off7_eq i k) (k0_off7_inb i k)]
  rfl

/-- A head's row after the loop and the block on the diagonal, for a head whose trips are known. -/
theorem row (proj : Heads → Head) (q : FVec Ideal S512x128 .bf16) (h : Fin 4) (e : Fin 2)
    (hp0 : proj (k0_pay127, k0_pay128, k0_pay129, k0_pay127, k0_pay128, k0_pay129, k0_pay127, k0_pay128, k0_pay129, k0_pay127, k0_pay128, k0_pay129) = (k0_pay127, k0_pay128, k0_pay129))
    (hp : ∀ k acc, proj (tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v97 v175 v253 v267 v275 v308 v310 v312 X_arg13 X_arg14 k acc)
      = (proj acc).next (k0_pay39 q (keyBlock (arg13.view.read (Elt Ideal) X_arg13) h k.val)) (valBlock (arg14.view.read (Elt Ideal) X_arg14) e k.val))
    (r : Fin 512) (ln : Fin 128) (Q : Fin 128 → ℝ) (K : ℕ → Fin 128 → ℝ) (V : ℕ → Fin 128 → EReal) (hQ : ∀ l, q (ix2 r l) = (Q l : EReal))
    (hK : ∀ (j : Fin 2048) l, arg13.view.read (Elt Ideal) X_arg13 (ix3 h j l) = (K j.val l : EReal))
    (hV : ∀ (j : Fin 2048), arg14.view.read (Elt Ideal) X_arg14 (ix3 e j ln) = V j.val ln) (t : Head)
    (ht : t = (proj (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v97 v175 v253 v267 v275 v308 v310 v312 X_arg13 X_arg14 (k0_pay127, k0_pay128, k0_pay129, k0_pay127, k0_pay128, k0_pay129, k0_pay127, k0_pay128, k0_pay129, k0_pay127, k0_pay128, k0_pay129) (k0_t1_loop i).trips)).next
      (k0_pay140 (k0_pay39 q (keyBlock (arg13.view.read (Elt Ideal) X_arg13) h (i 1).val))) (valBlock (arg14.view.read (Elt Ideal) X_arg14) e (i 1).val)) :
    (∃ M : ℝ, t.1 (ix2 r 0) = M)
      ∧ t.keeps r ln (∑ j : Fin 2048, wt (j.val ≤ 512 * (i 1).val + r.val) (∑ l, Q l * K j.val l))
        (∑ j : Fin 2048, (wt (j.val ≤ 512 * (i 1).val + r.val) (∑ l, Q l * K j.val l) : EReal) * V j.val ln) := by
  have hi : (i 1).val < 4 := (i 1).isLt
  rw [ht, trips_eq i]
  refine keeps_row q (keyBlock (arg13.view.read (Elt Ideal) X_arg13) h) (valBlock (arg14.view.read (Elt Ideal) X_arg14) e)
    (fun n => proj (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v97 v175 v253 v267 v275 v308 v310 v312 X_arg13 X_arg14 (k0_pay127, k0_pay128, k0_pay129, k0_pay127, k0_pay128, k0_pay129, k0_pay127, k0_pay128, k0_pay129, k0_pay127, k0_pay128, k0_pay129) n))
    (i 1).val r ln Q K V ⟨(i 1).val, hi⟩ rfl hp0 (fun k hk => ?_) hQ (fun k hk j l => ?_) fun k hk j => ?_
  · have hk' : k < (k0_t1_loop i).trips := by rw [trips_eq i]; exact hk
    exact (congrArg proj (st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v97 v175 v253 v267 v275 v308 v310 v312 X_arg13 X_arg14 _ ⟨k, hk'⟩)).trans (hp ⟨k, hk'⟩ _)
  · exact (keyBlock_apply _ h k j l (by omega)).trans (hK _ l)
  · exact (valBlock_apply _ e k j ln (by omega)).trans (hV _)

end

end Cert.Kernel13Ideal.Fox
-- ==== Proof.FoxOut.lean ====
/- What a point of the attention writes, in terms of its four heads after the last block of keys. -/
module

public import proofs.«01_k».proof.Proof.FoxLoop
public import proofs.«01_k».proof.Proof.Gen.Kernel13Ideal.Frame
public import Idealize.ShloMosaic.Lib.Pipeline.ReadBack

@[expose] public section

noncomputable section

namespace Cert.Kernel13Ideal.Fox

open Cert.Kernel13Ideal Cert.Kernel13Ideal.Gen Idealize.ShloMosaic Idealize.ShloMosaic.TcCoe Idealize.SL.Sem Cert.Reals Cert.FoxMath

/-- A pair's output. -/
def oOf (t u : Head) : FVec Ideal S512x128 .f32 := k0_pay173 k0_pay89 t.2.1 u.2.1 t.2.2 u.2.2

/-- A pair's output after its norm. -/
def mixOf (t u : Head) (w : Vec Ideal S1x128 .f32) : FVec Ideal S512x128 .bf16 :=
  k0_pay176 k0_pay89 k0_pay90 (oOf t u) (k0_pay174 k0_pay89 t.2.1 u.2.1 t.2.2 u.2.2) (k0_pay175 k0_pay89 t.2.1 u.2.1 t.2.2 u.2.2)
    (Scalar.ofBits .f32 0x358637BD#32) w

/-- A pair's row log-sums. -/
def lseOf (t u : Head) : FVec Ideal S1x512x2 .f32 := k0_pay1 k0_pay177 (k0_pay178 t.1 t.2.1) (k0_pay179 u.1 u.2.1)

/-- The first pair's mix is spelled differently from the second's. -/
theorem mix_low (v8 v14 : IVec S1x128 1) (a b : FVec Ideal S512x128 .f32) (c d e f : FVec Ideal S512x1 .f32) (g h : FVec Ideal S512x128 .f32) (w : Vec Ideal S1x128 .f32) :
    k0_pay171 (k0_pay166 v8 a b c d e f g h) (k0_pay168 v8 v14 a b c d e f g h) (k0_pay169 v8) (k0_pay170 v8 a b c d e f g h) w
      = k0_pay176 v8 v14 (k0_pay173 v8 e f (addf (mulf (broadcastTo S512x128 c broadcasts_S512x1_S512x128) a) g) (addf (mulf (broadcastTo S512x128 d broadcasts_S512x1_S512x128) b) h))
        (k0_pay174 v8 e f (addf (mulf (broadcastTo S512x128 c broadcasts_S512x1_S512x128) a) g) (addf (mulf (broadcastTo S512x128 d broadcasts_S512x1_S512x128) b) h))
        (k0_pay175 v8 e f (addf (mulf (broadcastTo S512x128 c broadcasts_S512x1_S512x128) a) g) (addf (mulf (broadcastTo S512x128 d broadcasts_S512x1_S512x128) b) h))
        (Scalar.ofBits .f32 0x358637BD#32) w := rfl

variable (m : (ℓ : Loc nD τ sig) → Buf (Elt Ideal) ℓ) (c : Dev nD) (t : Fin cfg0.N)

/-- The rows of log gates of the point's queries. -/
def gateRows : Vec Ideal S512x128 .f32 := View.ld (iblk m c 6 t) (Rect.unit (s := S2048x128) (k0_off1 (grid0.coords t)) ![512, 128] (k0_off1_inb (grid0.coords t)))

def q0 : FVec Ideal S512x128 .bf16 := k0_pay100 (iota Kind.tc S1x128 32 [1] iota_S1x128_d1_w32) (k0_pay98 (k0_pay97 (grid0.coords t) (gateRows m c t)))
  (k0_pay99 (k0_pay92 (iblk m c 0 t)) (iota Kind.tc S1x128 32 [1] iota_S1x128_d1_w32) (k0_pay94 (grid0.coords t) (gateRows m c t)) (k0_pay96 (grid0.coords t) (gateRows m c t))) 66#32
def q1 : FVec Ideal S512x128 .bf16 := k0_pay107 (iota Kind.tc S1x128 32 [1] iota_S1x128_d1_w32) (k0_pay102 (BitVec.ofNat 32 ((grid0.coords t) 0).val) (k0_pay91 (gateRows m c t))) (k0_pay104 (BitVec.ofNat 32 ((grid0.coords t) 0).val) (k0_pay91 (gateRows m c t))) (k0_pay105 (BitVec.ofNat 32 ((grid0.coords t) 0).val) (k0_pay91 (gateRows m c t))) (k0_pay106 (iblk m c 0 t))
def q2 : FVec Ideal S512x128 .bf16 := k0_pay115 (iota Kind.tc S1x128 32 [1] iota_S1x128_d1_w32) (k0_pay109 (BitVec.ofNat 32 ((grid0.coords t) 0).val) (k0_pay91 (gateRows m c t))) (k0_pay111 (BitVec.ofNat 32 ((grid0.coords t) 0).val) (k0_pay91 (gateRows m c t))) (k0_pay112 (BitVec.ofNat 32 ((grid0.coords t) 0).val) (k0_pay91 (gateRows m c t))) (k0_pay113 (iblk m c 3 t)) k0_pay114
def q3 : FVec Ideal S512x128 .bf16 := k0_pay126 (iota Kind.tc S1x128 32 [1] iota_S1x128_d1_w32) (k0_pay122 (k0_pay117 (BitVec.ofNat 32 ((grid0.coords t) 0).val) (k0_pay91 (gateRows m c t)))) (k0_pay123 (k0_pay116 (iblk m c 3 t)) (k0_pay117 (BitVec.ofNat 32 ((grid0.coords t) 0).val) (k0_pay91 (gateRows m c t))))
  k0_pay124 (k0_pay125 (k0_pay117 (BitVec.ofNat 32 ((grid0.coords t) 0).val) (k0_pay91 (gateRows m c t))))

section
variable (X : BufTy.Contents (Elt Ideal) (scM0_0.view.ty)) (Y : BufTy.Contents (Elt Ideal) (scM0_1.view.ty))

/-- The four heads after the loop. -/
def looped : Heads := st_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _)
  (BitVec.ofNat 32 ((grid0.coords t) 1).val) (q0 m c t) (q1 m c t) (q2 m c t) (iota Kind.tc S1x128 32 [1] iota_S1x128_d1_w32) (k0_pay122 (k0_pay117 (BitVec.ofNat 32 ((grid0.coords t) 0).val) (k0_pay91 (gateRows m c t))))
  (k0_pay123 (k0_pay116 (iblk m c 3 t)) (k0_pay117 (BitVec.ofNat 32 ((grid0.coords t) 0).val) (k0_pay91 (gateRows m c t)))) k0_pay124 (k0_pay125 (k0_pay117 (BitVec.ofNat 32 ((grid0.coords t) 0).val) (k0_pay91 (gateRows m c t)))) X Y
  (k0_pay127, k0_pay128, k0_pay129, k0_pay127, k0_pay128, k0_pay129, k0_pay127, k0_pay128, k0_pay129, k0_pay127, k0_pay128, k0_pay129) (k0_t1_loop (grid0.coords t)).trips

/-- The four heads after the block on the diagonal. -/
def H0 : Head := (looped m c t X Y).h0.next (k0_pay140 (k0_pay39 (q0 m c t) (keysAt scM0_0 X (k0_off14 (grid0.coords t)) (k0_off14_inb (grid0.coords t))))) (valsAt scM0_1 Y (k0_off18 (grid0.coords t)) (k0_off18_inb (grid0.coords t)))
def H1 : Head := (looped m c t X Y).h1.next (k0_pay140 (k0_pay39 (q1 m c t) (keysAt scM0_0 X (k0_off15 (grid0.coords t)) (k0_off15_inb (grid0.coords t))))) (valsAt scM0_1 Y (k0_off18 (grid0.coords t)) (k0_off18_inb (grid0.coords t)))
def H2 : Head := (looped m c t X Y).h2.next (k0_pay140 (k0_pay39 (q2 m c t) (keysAt scM0_0 X (k0_off16 (grid0.coords t)) (k0_off16_inb (grid0.coords t))))) (valsAt scM0_1 Y (k0_off19 (grid0.coords t)) (k0_off19_inb (grid0.coords t)))
def H3 : Head := (looped m c t X Y).h3.next (k0_pay140 (k0_pay39 (q3 m c t) (keysAt scM0_0 X (k0_off17 (grid0.coords t)) (k0_off17_inb (grid0.coords t))))) (valsAt scM0_1 Y (k0_off19 (grid0.coords t)) (k0_off19_inb (grid0.coords t)))
end

theorem trips2_eq : ∀ i : grid0.Coords, (k0_t2_loop i).trips = 0 := by decide +kernel

/-- The keys and the values a group's first point leaves. -/
def key0 : FVec Ideal S1x2048x128 .bf16 := k0_pay11 (iota Kind.tc S1x128 32 [1] iota_S1x128_d1_w32) (k0_pay5 (BitVec.ofNat 32 ((grid0.coords t) 0).val) (iblk m c 6 t)) (k0_pay7 (BitVec.ofNat 32 ((grid0.coords t) 0).val) (iblk m c 6 t)) (k0_pay8 (BitVec.ofNat 32 ((grid0.coords t) 0).val) (iblk m c 6 t)) (k0_pay9 (iblk m c 1 t)) k0_pay10
def key1 : FVec Ideal S1x2048x128 .bf16 := k0_pay19 (iota Kind.tc S1x128 32 [1] iota_S1x128_d1_w32) (k0_pay15 (k0_pay2 (iblk m c 6 t)) (Scalar.addi (Scalar.muli (2#32) (Scalar.addi (Scalar.muli (2#32) (BitVec.ofNat 32 ((grid0.coords t) 0).val)) 0#32)) 1#32) (iota Kind.tc S2048x128 32 [1] iota_S2048x128_d1_w32)) (k0_pay16 (k0_pay2 (iblk m c 6 t)) (Scalar.addi (Scalar.muli (2#32) (Scalar.addi (Scalar.muli (2#32) (BitVec.ofNat 32 ((grid0.coords t) 0).val)) 0#32)) 1#32) (iota Kind.tc S2048x128 32 [1] iota_S2048x128_d1_w32)) (k0_pay17 (k0_pay2 (iblk m c 6 t)) (k0_pay3 (iblk m c 1 t)) (Scalar.addi (Scalar.muli (2#32) (Scalar.addi (Scalar.muli (2#32) (BitVec.ofNat 32 ((grid0.coords t) 0).val)) 0#32)) 1#32) (iota Kind.tc S2048x128 32 [1] iota_S2048x128_d1_w32)) k0_pay18
def key2 : FVec Ideal S1x2048x128 .bf16 := k0_pay30 (iota Kind.tc S1x128 32 [1] iota_S1x128_d1_w32) (k0_pay26 (k0_pay2 (iblk m c 6 t)) (iota Kind.tc S2048x128 32 [1] iota_S2048x128_d1_w32) (k0_pay22 (BitVec.ofNat 32 ((grid0.coords t) 0).val))) (k0_pay27 (k0_pay2 (iblk m c 6 t)) (iota Kind.tc S2048x128 32 [1] iota_S2048x128_d1_w32) (k0_pay22 (BitVec.ofNat 32 ((grid0.coords t) 0).val))) (k0_pay28 (k0_pay2 (iblk m c 6 t)) (k0_pay21 (iblk m c 4 t)) (iota Kind.tc S2048x128 32 [1] iota_S2048x128_d1_w32) (k0_pay22 (BitVec.ofNat 32 ((grid0.coords t) 0).val))) k0_pay29
def key3 : FVec Ideal S1x2048x128 .bf16 := k0_pay87 (k0_pay36 (k0_pay21 (iblk m c 4 t)) (iota Kind.tc S1x128 32 [1] iota_S1x128_d1_w32) (k0_pay32 (BitVec.ofNat 32 ((grid0.coords t) 0).val) (k0_pay2 (iblk m c 6 t))) (k0_pay34 (BitVec.ofNat 32 ((grid0.coords t) 0).val) (k0_pay2 (iblk m c 6 t))) (iota Kind.tc S1x128 32 [1] iota_S1x128_d1_w32)) (k0_pay37 (iota Kind.tc S1x128 32 [1] iota_S1x128_d1_w32)) (k0_pay38 (k0_pay35 (BitVec.ofNat 32 ((grid0.coords t) 0).val) (k0_pay2 (iblk m c 6 t))))
def val0 : FVec Ideal S1x2048x128 .bf16 := k0_pay20 (iblk m c 2 t)
def val1 : FVec Ideal S1x2048x128 .bf16 := k0_pay88 (iblk m c 5 t)

/-- The scratch of keys and the scratch of values after a group's first point. -/
def keysA : BufTy.Contents (Elt Ideal) scM0_0.view.ty := scM0_0.view.writes (Elt Ideal) scM0_0.view.junk
  [⟨Rect.unit ![3, 0, 0] ![1, 2048, 128] inb_S4x2048x128_S1x2048x128_3_0_0, key3 m c t⟩, ⟨Rect.unit ![2, 0, 0] ![1, 2048, 128] inb_S4x2048x128_S1x2048x128_2_0_0, key2 m c t⟩,
    ⟨Rect.unit ![1, 0, 0] ![1, 2048, 128] inb_S4x2048x128_S1x2048x128_1_0_0, key1 m c t⟩, ⟨Rect.unit ![0, 0, 0] ![1, 2048, 128] inb_S4x2048x128_S1x2048x128_0_0_0, key0 m c t⟩]
def valsA : BufTy.Contents (Elt Ideal) scM0_1.view.ty := scM0_1.view.writes (Elt Ideal) scM0_1.view.junk
  [⟨Rect.unit ![1, 0, 0] ![1, 2048, 128] inb_S2x2048x128_S1x2048x128_1_0_0, val1 m c t⟩, ⟨Rect.unit ![0, 0, 0] ![1, 2048, 128] inb_S2x2048x128_S1x2048x128_0_0_0, val0 m c t⟩]

end Cert.Kernel13Ideal.Fox
-- ==== Proof.FoxScr.lean ====
/- The scratch of keys and values from point to point. -/
module

public import proofs.«01_k».proof.Proof.FoxOut

@[expose] public section

noncomputable section

namespace Cert.Kernel13Ideal.Fox

open Cert.Kernel13Ideal Cert.Kernel13Ideal.Gen Idealize.ShloMosaic Idealize.ShloMosaic.TcCoe Idealize.SL.Sem Cert.Reals Cert.FoxMath

variable (m : (ℓ : Loc nD τ sig) → Buf (Elt Ideal) ℓ) (c : Dev nD) (t : Fin cfg0.N)

theorem scrKeysA (h : t.val % 4 = 0) : (outsAt0 m c t.val t.isLt).2.2.2.1 = View.canon
    [⟨Rect.unit ![3, 0, 0] ![1, 2048, 128] inb_S4x2048x128_S1x2048x128_3_0_0, key3 m c t⟩, ⟨Rect.unit ![2, 0, 0] ![1, 2048, 128] inb_S4x2048x128_S1x2048x128_2_0_0, key2 m c t⟩,
      ⟨Rect.unit ![1, 0, 0] ![1, 2048, 128] inb_S4x2048x128_S1x2048x128_1_0_0, key1 m c t⟩, ⟨Rect.unit ![0, 0, 0] ![1, 2048, 128] inb_S4x2048x128_S1x2048x128_0_0_0, key0 m c t⟩] := by
  rw [outsAt0_A m c t h]
  dsimp only
  frame_out
  rfl

theorem scrValsA (h : t.val % 4 = 0) : (outsAt0 m c t.val t.isLt).2.2.2.2 = View.canon
    [⟨Rect.unit ![1, 0, 0] ![1, 2048, 128] inb_S2x2048x128_S1x2048x128_1_0_0, val1 m c t⟩, ⟨Rect.unit ![0, 0, 0] ![1, 2048, 128] inb_S2x2048x128_S1x2048x128_0_0_0, val0 m c t⟩] := by
  rw [outsAt0_A m c t h]
  dsimp only
  frame_out
  rfl

theorem readKeysA (h : t.val % 4 = 0) : scM0_0.view.read (Elt Ideal) (keysA m c t) = (outsAt0 m c t.val t.isLt).2.2.2.1 :=
  (View.read_writes_junk_eq_canon _ _).trans (scrKeysA m c t h).symm

theorem readValsA (h : t.val % 4 = 0) : scM0_1.view.read (Elt Ideal) (valsA m c t) = (outsAt0 m c t.val t.isLt).2.2.2.2 :=
  (View.read_writes_junk_eq_canon _ _).trans (scrValsA m c t h).symm

theorem scrKeysB (h : ¬ t.val % 4 = 0) : (outsAt0 m c t.val t.isLt).2.2.2.1 = (outsAt0 m c (t.val - 1) (lt_of_le_of_lt (Nat.sub_le _ _) t.isLt)).2.2.2.1 := by
  rw [outsAt0_B m c t h]
  rfl

theorem scrValsB (h : ¬ t.val % 4 = 0) : (outsAt0 m c t.val t.isLt).2.2.2.2 = (outsAt0 m c (t.val - 1) (lt_of_le_of_lt (Nat.sub_le _ _) t.isLt)).2.2.2.2 := by
  rw [outsAt0_B m c t h]
  rfl

end Cert.Kernel13Ideal.Fox
-- ==== Proof.FoxKeep.lean ====
/- The rows of keys and values that the scratch keeps for a group of four heads. -/
module

public import proofs.«01_k».proof.Proof.FoxScr

@[expose] public section

noncomputable section

namespace Cert.Kernel13Ideal.Fox

open Cert.Kernel13Ideal Cert.Kernel13Ideal.Gen Idealize.ShloMosaic Idealize.ShloMosaic.TcCoe Idealize.SL.Sem Cert.Reals Cert.FoxMath

variable (m : (ℓ : Loc nD τ sig) → Buf (Elt Ideal) ℓ) (c : Dev nD) (q k : S2048x512.Idx → ℝ) (v : S2048x512.Idx → EReal) (cum : S2048x8.Idx → ℝ)

/-- A head of the point's group among the eight, its pair, and where its lanes and its gates stand in a row. -/
def hd (t : Fin cfg0.N) (h : Fin 4) : Fin 8 := ⟨4 * grp t + h.val, by have := grp_lt t; omega⟩
def half (h : Fin 4) : Fin 2 := ⟨h.val / 2, by omega⟩
def base (h : Fin 4) : ℕ := 64 * (h.val % 2)
def away (h : Fin 4) : ℕ := 64 - base h

/-- The row of keys of key `j`, and its row of values. -/
def keysOf (t : Fin cfg0.N) (h : Fin 4) (j : Fin 2048) (l : Fin 128) : ℝ :=
  keyRow (base h) (away h) (fun l => k (ix2 j (pairLane (pr t (half h)) l))) (cum (ix2 j (hd t h))) l
def valsOf (t : Fin cfg0.N) (e : Fin 2) (j : Fin 2048) (l : Fin 128) : EReal := v (ix2 j (pairLane (pr t e) l))

def gr (t : Fin cfg0.N) : Fin 2 := ⟨grp t, grp_lt t⟩

section
variable (t : Fin cfg0.N) (hk : m ((c : Thread nD τ).loc main_arg1) = fun i => (k i : EReal)) (hv : m ((c : Thread nD τ).loc main_arg2) = v)
  (hg : m ((c : Thread nD τ).loc main_arg3) = fun i => (cum i : EReal))

include hg in
theorem gate_apply (h : Fin 4) (j : Fin 2048) (n : ℕ) (hn : n < 128) (e : n = 4 * (gr t).val + h.val) : iblk m c 6 t (ix2 j ⟨n, hn⟩) = (cum (ix2 j (hd t h)) : EReal) := by
  subst e
  refine (blkG m c t j (hd t h)).trans ?_
  rw [hg]

include hk in
theorem key1_apply (j : Fin 2048) (l : Fin 128) : iblk m c 1 t (ix2 j l) = (k (ix2 j (pairLane (pr t 0) l)) : EReal) := by
  rw [blk1, hk]

include hk in
theorem key4_apply (j : Fin 2048) (l : Fin 128) : iblk m c 4 t (ix2 j l) = (k (ix2 j (pairLane (pr t 1) l)) : EReal) := by
  rw [blk4, hk]

include hk hg in
theorem key0_eq (j : Fin 2048) (l : Fin 128) : key0 m c t (ix3 0 j l) = (keysOf k cum t 0 j l : EReal) := by
  unfold key0
  rw [(idx t).2.2.2.2.2.2.2.2.2.2.2.1]
  exact key_0 (gr t) _ _ j _ _ (gate_apply m c cum t hg 0 j _ _ rfl) (key1_apply m c k t hk j) l

include hk hg in
theorem key1_eq (j : Fin 2048) (l : Fin 128) : key1 m c t (ix3 0 j l) = (keysOf k cum t 1 j l : EReal) := by
  unfold key1
  rw [(idx t).2.2.2.2.2.2.2.2.2.2.2.1]
  exact key_1 (gr t) _ _ j _ _ (gate_apply m c cum t hg 1 j _ _ rfl) (key1_apply m c k t hk j) l

include hk hg in
theorem key2_eq (j : Fin 2048) (l : Fin 128) : key2 m c t (ix3 0 j l) = (keysOf k cum t 2 j l : EReal) := by
  unfold key2
  rw [(idx t).2.2.2.2.2.2.2.2.2.2.2.1]
  exact key_2 (gr t) _ _ j _ _ (gate_apply m c cum t hg 2 j _ _ rfl) (key4_apply m c k t hk j) l

include hk hg in
theorem key3_eq (j : Fin 2048) (l : Fin 128) : key3 m c t (ix3 0 j l) = (keysOf k cum t 3 j l : EReal) := by
  unfold key3
  rw [(idx t).2.2.2.2.2.2.2.2.2.2.2.1]
  exact key_3 (gr t) _ _ j _ _ (gate_apply m c cum t hg 3 j _ _ rfl) (key4_apply m c k t hk j) l

include hv in
theorem val0_eq (j : Fin 2048) (l : Fin 128) : val0 m c t (ix3 0 j l) = valsOf v t 0 j l := by
  unfold val0
  pointwise [k0_pay20]
  rw [blk2, hv]
  rfl

include hv in
theorem val1_eq (j : Fin 2048) (l : Fin 128) : val1 m c t (ix3 0 j l) = valsOf v t 1 j l := by
  unfold val1
  pointwise [k0_pay88]
  rw [blk5, hv]
  rfl

/-- A position of a piece, from its row and lane. -/
theorem at_row (x : S1x2048x128.Idx) (j : Fin 2048) (l : Fin 128) (h1 : (x 1).val = j.val) (h2 : (x 2).val = l.val) : x = ix3 0 j l := by
  have h0 : (x 0).val < 1 := (x 0).isLt
  blk_ext []

include hk hg in
theorem keys_first (h : t.val % 4 = 0) (i : Fin 4) (j : Fin 2048) (l : Fin 128) : (outsAt0 m c t.val t.isLt).2.2.2.1 (ix3 i j l) = (keysOf k cum t i j l : EReal) := by
  rw [scrKeysA m c t h]
  have hi := i.isLt
  canon_tiles x hx
  · obtain rfl : i = 3 := Fin.ext (by have e : i.val = 3 + (x 0).val := hx0; show i.val = 3; omega)
    obtain rfl := at_row x j l hx1.symm hx2.symm
    exact key3_eq m c k cum t hk hg j l
  · obtain rfl : i = 2 := Fin.ext (by have e : i.val = 2 + (x 0).val := hx0; show i.val = 2; omega)
    obtain rfl := at_row x j l hx1.symm hx2.symm
    exact key2_eq m c k cum t hk hg j l
  · obtain rfl : i = 1 := Fin.ext (by have e : i.val = 1 + (x 0).val := hx0; show i.val = 1; omega)
    obtain rfl := at_row x j l hx1.symm hx2.symm
    exact key1_eq m c k cum t hk hg j l
  · obtain rfl : i = 0 := Fin.ext (by have e : i.val = (x 0).val := hx0; show i.val = 0; omega)
    obtain rfl := at_row x j l hx1.symm hx2.symm
    exact key0_eq m c k cum t hk hg j l

include hv in
theorem vals_first (h : t.val % 4 = 0) (i : Fin 2) (j : Fin 2048) (l : Fin 128) : (outsAt0 m c t.val t.isLt).2.2.2.2 (ix3 i j l) = valsOf v t i j l := by
  rw [scrValsA m c t h]
  have hi := i.isLt
  canon_tiles x hx
  · obtain rfl : i = 1 := Fin.ext (by have e : i.val = 1 + (x 0).val := hx0; show i.val = 1; omega)
    obtain rfl := at_row x j l hx1.symm hx2.symm
    exact val1_eq m c v t hv j l
  · obtain rfl : i = 0 := Fin.ext (by have e : i.val = (x 0).val := hx0; show i.val = 0; omega)
    obtain rfl := at_row x j l hx1.symm hx2.symm
    exact val0_eq m c v t hv j l

end

/-- The points of a group share its rows. -/
theorem keysOf_grp (t u : Fin cfg0.N) (h : grp t = grp u) (i : Fin 4) (j : Fin 2048) (l : Fin 128) : keysOf k cum t i j l = keysOf k cum u i j l := by
  unfold keysOf pr hd
  simp only [h]

theorem valsOf_grp (t u : Fin cfg0.N) (h : grp t = grp u) (i : Fin 2) (j : Fin 2048) (l : Fin 128) : valsOf v t i j l = valsOf v u i j l := by
  unfold valsOf pr
  simp only [h]

section
variable (hk : m ((c : Thread nD τ).loc main_arg1) = fun i => (k i : EReal)) (hv : m ((c : Thread nD τ).loc main_arg2) = v)
  (hg : m ((c : Thread nD τ).loc main_arg3) = fun i => (cum i : EReal))

include hk hg in
/-- At every point the scratch holds its group's rows of keys. -/
theorem keys_all (i : Fin 4) (j : Fin 2048) (l : Fin 128) : ∀ (n : ℕ) (hn : n < cfg0.N), (outsAt0 m c n hn).2.2.2.1 (ix3 i j l) = (keysOf k cum ⟨n, hn⟩ i j l : EReal)
  | 0, hn => keys_first m c k cum ⟨0, hn⟩ hk hg rfl i j l
  | n + 1, hn => by
      by_cases h : (n + 1) % 4 = 0
      · exact keys_first m c k cum ⟨n + 1, hn⟩ hk hg h i j l
      · refine (congrFun (scrKeysB m c ⟨n + 1, hn⟩ h) _).trans ((keys_all i j l n (Nat.lt_of_succ_lt hn)).trans ?_)
        exact congrArg _ (keysOf_grp k cum _ _ (by show n / 4 = (n + 1) / 4; omega) i j l)

include hv in
/-- At every point the scratch holds its group's rows of values. -/
theorem vals_all (i : Fin 2) (j : Fin 2048) (l : Fin 128) : ∀ (n : ℕ) (hn : n < cfg0.N), (outsAt0 m c n hn).2.2.2.2 (ix3 i j l) = valsOf v ⟨n, hn⟩ i j l
  | 0, hn => vals_first m c v ⟨0, hn⟩ hv rfl i j l
  | n + 1, hn => by
      by_cases h : (n + 1) % 4 = 0
      · exact vals_first m c v ⟨n + 1, hn⟩ hv h i j l
      · refine (congrFun (scrValsB m c ⟨n + 1, hn⟩ h) _).trans ((vals_all i j l n (Nat.lt_of_succ_lt hn)).trans ?_)
        exact valsOf_grp v _ _ (by show n / 4 = (n + 1) / 4; omega) i j l

end

end Cert.Kernel13Ideal.Fox
-- ==== Proof.FoxHead.lean ====
/- A head's row at a point of the grid: its kept sums are the reference's sums over the keys up to the query. -/
module

public import proofs.«01_k».proof.Proof.FoxKeep
public import proofs.«01_k».proof.Proof.FoxRef

@[expose] public section

noncomputable section

namespace Cert.Kernel13Ideal.Fox

open Cert.Kernel13Ideal Cert.Kernel13Ideal.Gen Idealize.ShloMosaic Idealize.ShloMosaic.TcCoe Idealize.SL.Sem Cert.Reals Cert.FoxMath

variable (m : (ℓ : Loc nD τ sig) → Buf (Elt Ideal) ℓ) (c : Dev nD) (q k : S2048x512.Idx → ℝ) (v : S2048x512.Idx → EReal) (cum : S2048x8.Idx → ℝ) (t : Fin cfg0.N)

/-- The row of queries of the point's row `r`. -/
def queryOf (h : Fin 4) (r : Fin 512) (l : Fin 128) : ℝ :=
  queryRow (base h) (away h) (fun l => q (ix2 (qrow t r) (pairLane (pr t (half h)) l))) (cum (ix2 (qrow t r) (hd t h))) l

/-- A lane of a head in its pair. -/
def headLane (h : Fin 4) (d : Fin 64) : Fin 128 := ⟨base h + d.val, by have := h.isLt; unfold base; omega⟩

theorem pairLane_headLane (h : Fin 4) (d : Fin 64) : pairLane (pr t (half h)) (headLane h d) = Cert.Reference13Ideal.Fox.lane (hd t h) d := by
  refine Fin.ext ?_
  show (2 * grp t + h.val / 2) * 128 + (64 * (h.val % 2) + d.val) = (4 * grp t + h.val) * 64 + d.val
  omega

theorem row_logit (h : Fin 4) (r : Fin 512) (j : Fin 2048) :
    ∑ l, queryOf q cum t h r l * keysOf k cum t h j l = Cert.Reference13Ideal.Fox.logit q k cum (hd t h) (qrow t r) j := by
  unfold queryOf keysOf
  rw [row_dot (base h) (away h) (by fin_cases h <;> simp [base, away])]
  unfold Cert.Reference13Ideal.Fox.logit
  refine congrArg (fun s : ℝ => s * (1 / 8) + cum (ix2 (qrow t r) (hd t h)) - cum (ix2 j (hd t h))) (Finset.sum_congr rfl fun d _ => ?_)
  rw [← pairLane_headLane t h d]
  rfl

theorem wt_congr {P Q : Prop} [Decidable P] [Decidable Q] (h : P ↔ Q) (x : ℝ) : wt P x = wt Q x := by
  unfold wt; simp only [h]

theorem row_weight (h : Fin 4) (r : Fin 512) (j : Fin 2048) :
    wt (j.val ≤ 512 * (grid0.coords t 1).val + r.val) (∑ l, queryOf q cum t h r l * keysOf k cum t h ⟨j.val % 2048, Nat.mod_lt _ (by decide)⟩ l)
      = Cert.Reference13Ideal.Fox.w q k cum (hd t h) (qrow t r) j := by
  have ej : (⟨j.val % 2048, Nat.mod_lt _ (by decide)⟩ : Fin 2048) = j := Fin.ext (Nat.mod_eq_of_lt j.isLt)
  rw [ej, row_logit q k cum t h r j]
  exact wt_congr (by rw [(idx t).2.2.2.2.2.2.2.2.2.2.2.2]; exact Iff.rfl) _

/-- A read of the rows of one block. -/
theorem ld_rows (X : Vec Ideal S2048x128 .f32) (b : ℕ) {off : Fin 2 → ℕ} (e : off = ![512 * b, 0]) (inb : ∀ a, off a + ![512, 128] a ≤ S2048x128.size a)
    (r : Fin 512) (l : Fin 128) (hb : 512 * b + r.val < 2048) : View.ld X (Rect.unit (s := S2048x128) off ![512, 128] inb) (ix2 r l) = X (ix2 ⟨512 * b + r.val, hb⟩ l) := by
  subst e
  refine congrArg X (funext fun a => Fin.ext ?_)
  fin_cases a
  · show 512 * b + 1 * r.val = 512 * b + r.val; omega
  · show 0 + 1 * l.val = l.val; omega

section
variable (hq : m ((c : Thread nD τ).loc main_arg0) = fun i => (q i : EReal)) (hg : m ((c : Thread nD τ).loc main_arg3) = fun i => (cum i : EReal))

include hg in
theorem gateRows_apply (h : Fin 4) (r : Fin 512) (n : ℕ) (hn : n < 128) (e : n = 4 * (gr t).val + h.val) : gateRows m c t (ix2 r ⟨n, hn⟩) = (cum (ix2 (qrow t r) (hd t h)) : EReal) := by
  refine Eq.trans ?_ (gate_apply m c cum t hg h (qrow t r) n hn e)
  exact ld_rows (iblk m c 6 t) (blk t) (by rw [k0_off1_eq, (idx t).2.2.2.2.2.2.2.2.2.2.2.2]) _ r ⟨n, hn⟩ _

include hq in
theorem q0_apply (r : Fin 512) (l : Fin 128) : iblk m c 0 t (ix2 r l) = (q (ix2 (qrow t r) (pairLane (pr t 0) l)) : EReal) := by
  rw [blk0, hq]

include hq in
theorem q3_apply (r : Fin 512) (l : Fin 128) : iblk m c 3 t (ix2 r l) = (q (ix2 (qrow t r) (pairLane (pr t 1) l)) : EReal) := by
  rw [blk3, hq]

include hq hg in
theorem q0_eq (r : Fin 512) (l : Fin 128) : q0 m c t (ix2 r l) = (queryOf q cum t 0 r l : EReal) :=
  query_0 (grid0.coords t) (gr t) (idx t).2.2.2.2.2.2.2.2.2.2.2.1 _ _ r _ _ (gateRows_apply m c cum t hg 0 r _ _ rfl) (q0_apply m c q t hq r) l

include hq hg in
theorem q1_eq (r : Fin 512) (l : Fin 128) : q1 m c t (ix2 r l) = (queryOf q cum t 1 r l : EReal) :=
  query_1 (grid0.coords t) (gr t) (idx t).2.2.2.2.2.2.2.2.2.2.2.1 _ _ r _ _ (gateRows_apply m c cum t hg 1 r _ _ rfl) (q0_apply m c q t hq r) l

include hq hg in
theorem q2_eq (r : Fin 512) (l : Fin 128) : q2 m c t (ix2 r l) = (queryOf q cum t 2 r l : EReal) :=
  query_2 (grid0.coords t) (gr t) (idx t).2.2.2.2.2.2.2.2.2.2.2.1 _ _ r _ _ (gateRows_apply m c cum t hg 2 r _ _ rfl) (q3_apply m c q t hq r) l

include hq hg in
theorem q3_eq (r : Fin 512) (l : Fin 128) : q3 m c t (ix2 r l) = (queryOf q cum t 3 r l : EReal) :=
  query_3 (grid0.coords t) (gr t) (idx t).2.2.2.2.2.2.2.2.2.2.2.1 _ _ r _ _ (gateRows_apply m c cum t hg 3 r _ _ rfl) (q3_apply m c q t hq r) l

end

/-- What a head keeps at a row: a real top, and the reference's sums. -/
def Head.good (T : Head) (h : Fin 4) (r : Fin 512) : Prop :=
  (∃ M : ℝ, T.1 (ix2 r 0) = M) ∧ ∀ d, T.keeps r (headLane h d) (Cert.Reference13Ideal.Fox.Z q k cum (hd t h) (qrow t r)) (Cert.Reference13Ideal.Fox.N q k v cum (hd t h) (qrow t r) d)

theorem good_of (T : Head) (h : Fin 4) (r : Fin 512)
    (H : ∀ d : Fin 64, (∃ M : ℝ, T.1 (ix2 r 0) = M)
      ∧ T.keeps r (headLane h d)
        (∑ j : Fin 2048, wt (j.val ≤ 512 * (grid0.coords t 1).val + r.val) (∑ l, queryOf q cum t h r l * keysOf k cum t h ⟨j.val % 2048, Nat.mod_lt _ (by decide)⟩ l))
        (∑ j : Fin 2048, (wt (j.val ≤ 512 * (grid0.coords t 1).val + r.val) (∑ l, queryOf q cum t h r l * keysOf k cum t h ⟨j.val % 2048, Nat.mod_lt _ (by decide)⟩ l) : EReal)
          * valsOf v t (half h) ⟨j.val % 2048, Nat.mod_lt _ (by decide)⟩ (headLane h d))) :
    T.good q k v cum t h r := by
  refine ⟨(H 0).1, fun d => ?_⟩
  have e : (∑ j : Fin 2048, wt (j.val ≤ 512 * (grid0.coords t 1).val + r.val) (∑ l, queryOf q cum t h r l * keysOf k cum t h ⟨j.val % 2048, Nat.mod_lt _ (by decide)⟩ l))
      = Cert.Reference13Ideal.Fox.Z q k cum (hd t h) (qrow t r) := Finset.sum_congr rfl fun j _ => row_weight q k cum t h r j
  have e' : (∑ j : Fin 2048, (wt (j.val ≤ 512 * (grid0.coords t 1).val + r.val) (∑ l, queryOf q cum t h r l * keysOf k cum t h ⟨j.val % 2048, Nat.mod_lt _ (by decide)⟩ l) : EReal)
        * valsOf v t (half h) ⟨j.val % 2048, Nat.mod_lt _ (by decide)⟩ (headLane h d))
      = Cert.Reference13Ideal.Fox.N q k v cum (hd t h) (qrow t r) d := Finset.sum_congr rfl fun j _ => by
    rw [row_weight q k cum t h r j]
    have ej : (⟨j.val % 2048, Nat.mod_lt _ (by decide)⟩ : Fin 2048) = j := Fin.ext (Nat.mod_eq_of_lt j.isLt)
    rw [ej]
    unfold valsOf
    rw [pairLane_headLane t h d]
  have := (H d).2
  rwa [e, e'] at this

section
variable (hq : m ((c : Thread nD τ).loc main_arg0) = fun i => (q i : EReal)) (hk : m ((c : Thread nD τ).loc main_arg1) = fun i => (k i : EReal))
  (hv : m ((c : Thread nD τ).loc main_arg2) = v) (hg : m ((c : Thread nD τ).loc main_arg3) = fun i => (cum i : EReal))
  (X : BufTy.Contents (Elt Ideal) (scM0_0.view.ty)) (Y : BufTy.Contents (Elt Ideal) (scM0_1.view.ty))
  (hX : scM0_0.view.read (Elt Ideal) X = (outsAt0 m c t.val t.isLt).2.2.2.1) (hY : scM0_1.view.read (Elt Ideal) Y = (outsAt0 m c t.val t.isLt).2.2.2.2)

include hk hg hX in
theorem keys_read (i : Fin 4) (j : Fin 2048) (l : Fin 128) :
    scM0_0.view.read (Elt Ideal) X (ix3 i j l) = (keysOf k cum t i ⟨j.val % 2048, Nat.mod_lt _ (by decide)⟩ l : EReal) := by
  have ej : (⟨j.val % 2048, Nat.mod_lt _ (by decide)⟩ : Fin 2048) = j := Fin.ext (Nat.mod_eq_of_lt j.isLt)
  rw [hX, ej]
  exact keys_all m c k cum hk hg i j l t.val t.isLt

include hv hY in
theorem vals_read (i : Fin 2) (j : Fin 2048) (l : Fin 128) :
    scM0_1.view.read (Elt Ideal) Y (ix3 i j l) = valsOf v t i ⟨j.val % 2048, Nat.mod_lt _ (by decide)⟩ l := by
  have ej : (⟨j.val % 2048, Nat.mod_lt _ (by decide)⟩ : Fin 2048) = j := Fin.ext (Nat.mod_eq_of_lt j.isLt)
  rw [hY, ej]
  exact vals_all m c v hv i j l t.val t.isLt

/-- One trip of the loop over the blocks of keys before the diagonal. -/
def tripAt (n : Fin (k0_t1_loop (grid0.coords t)).trips) (acc : Heads) : Heads := tripR_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (BitVec.ofNat 32 ((grid0.coords t) 1).val) (q0 m c t) (q1 m c t) (q2 m c t) (iota Kind.tc S1x128 32 [1] iota_S1x128_d1_w32) (k0_pay122 (k0_pay117 (BitVec.ofNat 32 ((grid0.coords t) 0).val) (k0_pay91 (gateRows m c t)))) (k0_pay123 (k0_pay116 (iblk m c 3 t)) (k0_pay117 (BitVec.ofNat 32 ((grid0.coords t) 0).val) (k0_pay91 (gateRows m c t)))) k0_pay124 (k0_pay125 (k0_pay117 (BitVec.ofNat 32 ((grid0.coords t) 0).val) (k0_pay91 (gateRows m c t)))) X Y n acc

include hk hv hg hX hY in
/-- A head's row, for a head whose query and whose trips are known. -/
theorem good_head (proj : Heads → Head) (qh : FVec Ideal S512x128 .bf16) (h : Fin 4) (r : Fin 512)
    (hp0 : proj (k0_pay127, k0_pay128, k0_pay129, k0_pay127, k0_pay128, k0_pay129, k0_pay127, k0_pay128, k0_pay129, k0_pay127, k0_pay128, k0_pay129) = (k0_pay127, k0_pay128, k0_pay129))
    (hp : ∀ n acc, proj (tripAt m c t X Y n acc)
      = (proj acc).next (k0_pay39 qh (keyBlock (scM0_0.view.read (Elt Ideal) X) h n.val)) (valBlock (scM0_1.view.read (Elt Ideal) Y) (half h) n.val))
    (hQ : ∀ l, qh (ix2 r l) = (queryOf q cum t h r l : EReal)) (T : Head)
    (hT : T = (proj (looped m c t X Y)).next (k0_pay140 (k0_pay39 qh (keyBlock (scM0_0.view.read (Elt Ideal) X) h (grid0.coords t 1).val))) (valBlock (scM0_1.view.read (Elt Ideal) Y) (half h) (grid0.coords t 1).val)) :
    T.good q k v cum t h r :=
  good_of q k v cum t _ h r fun d =>
    row c Variants.none none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (BitVec.ofNat 32 ((grid0.coords t) 1).val) (q0 m c t) (q1 m c t) (q2 m c t) (iota Kind.tc S1x128 32 [1] iota_S1x128_d1_w32) (k0_pay122 (k0_pay117 (BitVec.ofNat 32 ((grid0.coords t) 0).val) (k0_pay91 (gateRows m c t)))) (k0_pay123 (k0_pay116 (iblk m c 3 t)) (k0_pay117 (BitVec.ofNat 32 ((grid0.coords t) 0).val) (k0_pay91 (gateRows m c t)))) k0_pay124 (k0_pay125 (k0_pay117 (BitVec.ofNat 32 ((grid0.coords t) 0).val) (k0_pay91 (gateRows m c t)))) X Y proj qh h (half h) hp0 hp r (headLane h d)
      (queryOf q cum t h r) (fun n => keysOf k cum t h ⟨n % 2048, Nat.mod_lt _ (by decide)⟩) (fun n => valsOf v t (half h) ⟨n % 2048, Nat.mod_lt _ (by decide)⟩) hQ
      (keys_read m c k cum t hk hg X hX h) (fun j => vals_read m c v t hv Y hY (half h) j _) T hT

include hq hk hv hg hX hY in
theorem good_0 (r : Fin 512) : (H0 m c t X Y).good q k v cum t 0 r := by
  refine good_head m c q k v cum t hk hv hg X Y hX hY Heads.h0 (q0 m c t) 0 r rfl (fun n acc => trip_0 ..) (q0_eq m c q cum t hq hg r) _ ?_
  unfold H0
  rw [keysAt_eq scM0_0 X 0 _ (grid0.coords t 1).isLt (k0_off14_eq (grid0.coords t)), valsAt_eq scM0_1 Y 0 _ (grid0.coords t 1).isLt (k0_off18_eq (grid0.coords t))]
  rfl

include hq hk hv hg hX hY in
theorem good_1 (r : Fin 512) : (H1 m c t X Y).good q k v cum t 1 r := by
  refine good_head m c q k v cum t hk hv hg X Y hX hY Heads.h1 (q1 m c t) 1 r rfl (fun n acc => trip_1 ..) (q1_eq m c q cum t hq hg r) _ ?_
  unfold H1
  rw [keysAt_eq scM0_0 X 1 _ (grid0.coords t 1).isLt (k0_off15_eq (grid0.coords t)), valsAt_eq scM0_1 Y 0 _ (grid0.coords t 1).isLt (k0_off18_eq (grid0.coords t))]
  rfl

include hq hk hv hg hX hY in
theorem good_2 (r : Fin 512) : (H2 m c t X Y).good q k v cum t 2 r := by
  refine good_head m c q k v cum t hk hv hg X Y hX hY Heads.h2 (q2 m c t) 2 r rfl (fun n acc => trip_2 ..) (q2_eq m c q cum t hq hg r) _ ?_
  unfold H2
  rw [keysAt_eq scM0_0 X 2 _ (grid0.coords t 1).isLt (k0_off16_eq (grid0.coords t)), valsAt_eq scM0_1 Y 1 _ (grid0.coords t 1).isLt (k0_off19_eq (grid0.coords t))]
  rfl

include hq hk hv hg hX hY in
theorem good_3 (r : Fin 512) : (H3 m c t X Y).good q k v cum t 3 r := by
  refine good_head m c q k v cum t hk hv hg X Y hX hY Heads.h3 (q3 m c t) 3 r rfl (fun n acc => trip_3 ..) (q3_eq m c q cum t hq hg r) _ ?_
  unfold H3
  rw [keysAt_eq scM0_0 X 3 _ (grid0.coords t 1).isLt (k0_off17_eq (grid0.coords t)), valsAt_eq scM0_1 Y 1 _ (grid0.coords t 1).isLt (k0_off19_eq (grid0.coords t))]
  rfl

end

end Cert.Kernel13Ideal.Fox
-- ==== Proof.FoxPair.lean ====
/- A pair of heads at a row: the output, the output after the norm, and the log sums, lane by lane. -/
module

public import proofs.«01_k».proof.Proof.FoxHead

@[expose] public section

noncomputable section

namespace Cert.Kernel13Ideal.Fox

open Cert.Kernel13Ideal Cert.Kernel13Ideal.Gen Idealize.ShloMosaic Idealize.ShloMosaic.TcCoe Idealize.SL.Sem Cert.Reals Cert.FoxMath

theorem mask_lo (l : Fin 128) : k0_pay89 (ix2 0 l) = if l.val < 64 then 1#1 else 0#1 := by
  revert l; decide +kernel

theorem mask_hi (l : Fin 128) : k0_pay90 (ix2 0 l) = if 64 ≤ l.val then 1#1 else 0#1 := by
  revert l; decide +kernel

theorem mask_first (r : Fin 512) (e : Fin 2) : k0_pay177 (ix2 r e) = if e.val = 0 then 1#1 else 0#1 := by
  fin_cases e <;> pointwise [k0_pay177]
  rfl

variable (T U : Head) (r : Fin 512)

theorem oOf_apply (l : Fin 128) : oOf T U (ix2 r l)
    = Scalar.select (if l.val < 64 then 1#1 else 0#1) (Ideal.div (T.2.2 (ix2 r l)) (T.2.1 (ix2 r 0))) (Ideal.div (U.2.2 (ix2 r l)) (U.2.1 (ix2 r 0))) := by
  pointwise [oOf, k0_pay173, mask_lo]

theorem lseOf_apply (e : Fin 2) : lseOf T U (ix3 0 r e)
    = Scalar.select (if e.val = 0 then 1#1 else 0#1) (T.1 (ix2 r 0) + Ideal.log (T.2.1 (ix2 r 0))) (U.1 (ix2 r 0) + Ideal.log (U.2.1 (ix2 r 0))) := by
  pointwise [lseOf, k0_pay1, k0_pay178, k0_pay179, mask_first]

/-- The reciprocal root mean square of the lane's head. -/
def rh (f : Fin 128 → EReal) (l : Fin 128) : EReal := if l.val < 64 then rrOf fun d => f ⟨d.val, by omega⟩ else rrOf fun d => f ⟨64 + d.val, by omega⟩

theorem select_if {p : Prop} [Decidable p] (a b : EReal) : Scalar.select (if p then 1#1 else 0#1) a b = if p then a else b := by
  split <;> rfl

variable (x : Fin 128 → EReal) (hx : ∀ l, oOf T U (ix2 r l) = x l)

theorem pay176_apply (o s : FVec Ideal S512x128 .f32) (p : FVec Ideal S512x1 .f32) (w : Vec Ideal S1x128 .f32) (ho : ∀ l, o (ix2 r l) = x l)
    (hs : ∀ l, s (ix2 r l) = x l * x l) (hp : p (ix2 r 0) = (∑ d : Fin 64, x ⟨d.val, by omega⟩ * x ⟨d.val, by omega⟩) * ((1 / 64 : ℝ) : EReal)) (l : Fin 128) :
    k0_pay176 (F := Ideal) k0_pay89 k0_pay90 o s p (Scalar.ofBits .f32 0x358637BD#32) w (ix2 r l) = x l * rh x l * w (ix2 0 l) := by
  pointwise [k0_pay176, mask_lo, mask_hi, ho, hs, hp, lit_64th, lit_eps, Finset.sum_const_zero, add_zero, zero_add]
  rw [select_if]
  rfl

include hx in
theorem mixOf_apply (w : Vec Ideal S1x128 .f32) (l : Fin 128) : mixOf T U w (ix2 r l) = x l * rh x l * w (ix2 0 l) := by
  have hs : ∀ l, k0_pay174 (F := Ideal) k0_pay89 T.2.1 U.2.1 T.2.2 U.2.2 (ix2 r l) = x l * x l := fun l => by
    rw [← hx l]; rfl
  unfold mixOf
  refine pay176_apply r x _ _ _ w hx hs ?_ l
  pointwise [k0_pay175, hs, mask_lo, lit_64th, Finset.sum_const_zero, add_zero, zero_add]

/-! ## From what the heads keep -/

variable (q k : S2048x512.Idx → ℝ) (v : S2048x512.Idx → EReal) (cum : S2048x8.Idx → ℝ) (t : Fin cfg0.N)

theorem keeps_div {T : Head} {h : Fin 4} {r : Fin 512} (H : T.good q k v cum t h r) (d : Fin 64) :
    Ideal.div (T.2.2 (ix2 r (headLane h d))) (T.2.1 (ix2 r 0)) = Cert.Reference13Ideal.Fox.out q k v cum (hd t h) (qrow t r) d := by
  have hZ := Cert.Reference13Ideal.Fox.Z_pos q k cum (hd t h) (qrow t r)
  rcases H.2 d with ⟨-, -, -, h0, -⟩ | ⟨M, -, hl, ha⟩
  · exact absurd h0 hZ.ne'
  · rw [hl, ha, kept_div hZ _]; rfl

theorem keeps_log {T : Head} {h : Fin 4} {r : Fin 512} (H : T.good q k v cum t h r) :
    T.1 (ix2 r 0) + Ideal.log (T.2.1 (ix2 r 0)) = (Real.log (Cert.Reference13Ideal.Fox.Z q k cum (hd t h) (qrow t r)) : EReal) := by
  have hZ := Cert.Reference13Ideal.Fox.Z_pos q k cum (hd t h) (qrow t r)
  rcases H.2 0 with ⟨-, -, -, h0, -⟩ | ⟨M, hm, hl, -⟩
  · exact absurd h0 hZ.ne'
  · rw [hm, hl, kept_log hZ]

/-- A row of a pair of heads. -/
def pairRow (h h' : Fin 4) (r : Fin 512) (l : Fin 128) : EReal :=
  if l.val < 64 then Cert.Reference13Ideal.Fox.out q k v cum (hd t h) (qrow t r) ⟨l.val % 64, Nat.mod_lt _ (by decide)⟩
  else Cert.Reference13Ideal.Fox.out q k v cum (hd t h') (qrow t r) ⟨l.val % 64, Nat.mod_lt _ (by decide)⟩

theorem pairRow_low (h h' : Fin 4) (r : Fin 512) (d : Fin 64) (hd' : d.val < 128) : pairRow q k v cum t h h' r ⟨d.val, hd'⟩ = Cert.Reference13Ideal.Fox.out q k v cum (hd t h) (qrow t r) d := by
  unfold pairRow
  rw [if_pos d.isLt]
  exact congrArg _ (Fin.ext (Nat.mod_eq_of_lt d.isLt))

theorem pairRow_high (h h' : Fin 4) (r : Fin 512) (d : Fin 64) (hd' : 64 + d.val < 128) : pairRow q k v cum t h h' r ⟨64 + d.val, hd'⟩ = Cert.Reference13Ideal.Fox.out q k v cum (hd t h') (qrow t r) d := by
  unfold pairRow
  rw [if_neg (by show ¬ 64 + d.val < 64; omega)]
  exact congrArg _ (Fin.ext (by show (64 + d.val) % 64 = d.val; omega))

section
variable {T U : Head} {h h' : Fin 4} {r : Fin 512} (b : base h = 0) (b' : base h' = 64) (hT : T.good q k v cum t h r) (hU : U.good q k v cum t h' r)

include b b' hT hU in
theorem oOf_row (l : Fin 128) : oOf T U (ix2 r l) = pairRow q k v cum t h h' r l := by
  rw [oOf_apply]
  unfold pairRow
  by_cases hl : l.val < 64
  · rw [if_pos hl, if_pos hl]
    refine Eq.trans ?_ (keeps_div q k v cum t hT ⟨l.val % 64, Nat.mod_lt _ (by decide)⟩)
    rw [show headLane h ⟨l.val % 64, Nat.mod_lt _ (by decide)⟩ = l from Fin.ext (by show base h + l.val % 64 = l.val; omega)]
    rfl
  · rw [if_neg hl, if_neg hl]
    refine Eq.trans ?_ (keeps_div q k v cum t hU ⟨l.val % 64, Nat.mod_lt _ (by decide)⟩)
    rw [show headLane h' ⟨l.val % 64, Nat.mod_lt _ (by decide)⟩ = l from Fin.ext (by have := l.isLt; show base h' + l.val % 64 = l.val; omega)]
    rfl

include b b' hT hU in
theorem mixOf_row (w : Vec Ideal S1x128 .f32) (l : Fin 128) : mixOf T U w (ix2 r l)
    = pairRow q k v cum t h h' r l * (if l.val < 64 then rrOf (Cert.Reference13Ideal.Fox.out q k v cum (hd t h) (qrow t r))
        else rrOf (Cert.Reference13Ideal.Fox.out q k v cum (hd t h') (qrow t r))) * w (ix2 0 l) := by
  rw [mixOf_apply T U r _ (oOf_row q k v cum t b b' hT hU) w l]
  unfold rh
  simp only [pairRow_low, pairRow_high]

include hT hU in
theorem lseOf_row (e : Fin 2) : lseOf T U (ix3 0 r e)
    = ((if e.val = 0 then Real.log (Cert.Reference13Ideal.Fox.Z q k cum (hd t h) (qrow t r)) else Real.log (Cert.Reference13Ideal.Fox.Z q k cum (hd t h') (qrow t r)) : ℝ) : EReal) := by
  rw [lseOf_apply, keeps_log q k v cum t hT, keeps_log q k v cum t hU, select_ite]

end

end Cert.Kernel13Ideal.Fox
-- ==== Proof.FoxOutA.lean ====
/- What a first point of a group writes. -/
module

public import proofs.«01_k».proof.Proof.FoxOut

@[expose] public section

noncomputable section

namespace Cert.Kernel13Ideal.Fox

open Cert.Kernel13Ideal Cert.Kernel13Ideal.Gen Idealize.ShloMosaic Idealize.ShloMosaic.TcCoe Idealize.SL.Sem Cert.Reals Cert.FoxMath

variable (m : (ℓ : Loc nD τ sig) → Buf (Elt Ideal) ℓ) (c : Dev nD) (t : Fin cfg0.N)

set_option maxHeartbeats 4000000 in
theorem outA (h : t.val % 4 = 0) (X Y) (hX : keysA m c t = X) (hY : valsA m c t = Y) : (outsAt0 m c t.val t.isLt).2.1 = View.canon [⟨Rect.unit ![0, 128] ![512, 128] inb_S512x256_S512x128_0_128, oOf (H2 m c t X Y) (H3 m c t X Y)⟩, ⟨Rect.unit ![0, 0] ![512, 128] inb_S512x256_S512x128_0_0, oOf (H0 m c t X Y) (H1 m c t X Y)⟩] := by
  rw [outsAt0_A m c t h]
  dsimp only
  have e := trips2_eq (grid0.coords t)
  dsimp only [k0_t2_loop, Scf.Loop.trips] at e
  frame_out
  rw [e]
  generalize hK : (View.canon _ : S4x2048x128.Idx → Elt Ideal .bf16) = Kd
  generalize hV : (View.canon _ : S2x2048x128.Idx → Elt Ideal .bf16) = Vd
  generalize hX' : (View.whole cc0_scratch0).writes (Elt Ideal) (View.whole cc0_scratch0).junk _ = X'
  generalize hY' : (View.whole cc0_scratch1).writes (Elt Ideal) (View.whole cc0_scratch1).junk _ = Y'
  obtain rfl : Kd = (View.whole cc0_scratch0).read (Elt Ideal) X' := by rw [← hK, ← hX']; exact (View.read_writes_junk_eq_canon _ _).symm
  obtain rfl : Vd = (View.whole cc0_scratch1).read (Elt Ideal) Y' := by rw [← hV, ← hY']; exact (View.read_writes_junk_eq_canon _ _).symm
  obtain rfl : X' = X := hX'.symm.trans hX
  obtain rfl : Y' = Y := hY'.symm.trans hY
  clear hX hY hX' hY' hK hV
  rfl

set_option maxHeartbeats 4000000 in
theorem lseA (h : t.val % 4 = 0) (X Y) (hX : keysA m c t = X) (hY : valsA m c t = Y) : (outsAt0 m c t.val t.isLt).2.2.1 = View.canon [⟨Rect.unit ![1, 0, 0] ![1, 512, 2] inb_S2x512x2_S1x512x2_1_0_0, lseOf (H2 m c t X Y) (H3 m c t X Y)⟩, ⟨Rect.unit ![0, 0, 0] ![1, 512, 2] inb_S2x512x2_S1x512x2_0_0_0, lseOf (H0 m c t X Y) (H1 m c t X Y)⟩] := by
  rw [outsAt0_A m c t h]
  dsimp only
  have e := trips2_eq (grid0.coords t)
  dsimp only [k0_t2_loop, Scf.Loop.trips] at e
  frame_out
  rw [e]
  generalize hK : (View.canon _ : S4x2048x128.Idx → Elt Ideal .bf16) = Kd
  generalize hV : (View.canon _ : S2x2048x128.Idx → Elt Ideal .bf16) = Vd
  generalize hX' : (View.whole cc0_scratch0).writes (Elt Ideal) (View.whole cc0_scratch0).junk _ = X'
  generalize hY' : (View.whole cc0_scratch1).writes (Elt Ideal) (View.whole cc0_scratch1).junk _ = Y'
  obtain rfl : Kd = (View.whole cc0_scratch0).read (Elt Ideal) X' := by rw [← hK, ← hX']; exact (View.read_writes_junk_eq_canon _ _).symm
  obtain rfl : Vd = (View.whole cc0_scratch1).read (Elt Ideal) Y' := by rw [← hV, ← hY']; exact (View.read_writes_junk_eq_canon _ _).symm
  obtain rfl : X' = X := hX'.symm.trans hX
  obtain rfl : Y' = Y := hY'.symm.trans hY
  clear hX hY hX' hY' hK hV
  rfl

end Cert.Kernel13Ideal.Fox
-- ==== Proof.FoxMixA.lean ====
/- What a first point of a group writes of the mix. -/
module

public import proofs.«01_k».proof.Proof.FoxOut

@[expose] public section

noncomputable section

namespace Cert.Kernel13Ideal.Fox

open Cert.Kernel13Ideal Cert.Kernel13Ideal.Gen Idealize.ShloMosaic Idealize.ShloMosaic.TcCoe Idealize.SL.Sem Cert.Reals Cert.FoxMath

variable (m : (ℓ : Loc nD τ sig) → Buf (Elt Ideal) ℓ) (c : Dev nD) (t : Fin cfg0.N)

set_option maxHeartbeats 4000000 in
theorem mixA (h : t.val % 4 = 0) (X Y) (hX : keysA m c t = X) (hY : valsA m c t = Y) : (outsAt0 m c t.val t.isLt).1 = View.canon [⟨Rect.unit ![0, 128] ![512, 128] inb_S512x256_S512x128_0_128, mixOf (H2 m c t X Y) (H3 m c t X Y) (iblk m c 7 t)⟩, ⟨Rect.unit ![0, 0] ![512, 128] inb_S512x256_S512x128_0_0, mixOf (H0 m c t X Y) (H1 m c t X Y) (iblk m c 7 t)⟩] := by
  rw [outsAt0_A m c t h]
  dsimp only
  have e := trips2_eq (grid0.coords t)
  dsimp only [k0_t2_loop, Scf.Loop.trips] at e
  frame_out
  rw [e]
  generalize hK : (View.canon _ : S4x2048x128.Idx → Elt Ideal .bf16) = Kd
  generalize hV : (View.canon _ : S2x2048x128.Idx → Elt Ideal .bf16) = Vd
  generalize hX' : (View.whole cc0_scratch0).writes (Elt Ideal) (View.whole cc0_scratch0).junk _ = X'
  generalize hY' : (View.whole cc0_scratch1).writes (Elt Ideal) (View.whole cc0_scratch1).junk _ = Y'
  obtain rfl : Kd = (View.whole cc0_scratch0).read (Elt Ideal) X' := by rw [← hK, ← hX']; exact (View.read_writes_junk_eq_canon _ _).symm
  obtain rfl : Vd = (View.whole cc0_scratch1).read (Elt Ideal) Y' := by rw [← hV, ← hY']; exact (View.read_writes_junk_eq_canon _ _).symm
  obtain rfl : X' = X := hX'.symm.trans hX
  obtain rfl : Y' = Y := hY'.symm.trans hY
  clear hX hY hX' hY' hK hV
  rw [mix_low]
  rfl

end Cert.Kernel13Ideal.Fox
-- ==== Proof.FoxOutB.lean ====
/- What a later point of a group writes. -/
module

public import proofs.«01_k».proof.Proof.FoxOut

@[expose] public section

noncomputable section

namespace Cert.Kernel13Ideal.Fox

open Cert.Kernel13Ideal Cert.Kernel13Ideal.Gen Idealize.ShloMosaic Idealize.ShloMosaic.TcCoe Idealize.SL.Sem Cert.Reals Cert.FoxMath

variable (m : (ℓ : Loc nD τ sig) → Buf (Elt Ideal) ℓ) (c : Dev nD) (t : Fin cfg0.N)

theorem outB (h : ¬ t.val % 4 = 0) (X Y) (hX : X = (Memref.isWhole_whole cc0_scratch0).unread (outsAt0 m c (t.val - 1) (lt_of_le_of_lt (Nat.sub_le _ _) t.isLt)).2.2.2.1)
    (hY : Y = (Memref.isWhole_whole cc0_scratch1).unread (outsAt0 m c (t.val - 1) (lt_of_le_of_lt (Nat.sub_le _ _) t.isLt)).2.2.2.2) :
    (outsAt0 m c t.val t.isLt).2.1 = View.canon [⟨Rect.unit ![0, 128] ![512, 128] inb_S512x256_S512x128_0_128, oOf (H2 m c t X Y) (H3 m c t X Y)⟩, ⟨Rect.unit ![0, 0] ![512, 128] inb_S512x256_S512x128_0_0, oOf (H0 m c t X Y) (H1 m c t X Y)⟩] := by
  subst hX hY
  rw [outsAt0_B m c t h]
  dsimp only
  have e := trips2_eq (grid0.coords t)
  dsimp only [k0_t2_loop, Scf.Loop.trips] at e
  frame_out
  rw [e]
  rfl

theorem lseB (h : ¬ t.val % 4 = 0) (X Y) (hX : X = (Memref.isWhole_whole cc0_scratch0).unread (outsAt0 m c (t.val - 1) (lt_of_le_of_lt (Nat.sub_le _ _) t.isLt)).2.2.2.1)
    (hY : Y = (Memref.isWhole_whole cc0_scratch1).unread (outsAt0 m c (t.val - 1) (lt_of_le_of_lt (Nat.sub_le _ _) t.isLt)).2.2.2.2) :
    (outsAt0 m c t.val t.isLt).2.2.1 = View.canon [⟨Rect.unit ![1, 0, 0] ![1, 512, 2] inb_S2x512x2_S1x512x2_1_0_0, lseOf (H2 m c t X Y) (H3 m c t X Y)⟩, ⟨Rect.unit ![0, 0, 0] ![1, 512, 2] inb_S2x512x2_S1x512x2_0_0_0, lseOf (H0 m c t X Y) (H1 m c t X Y)⟩] := by
  subst hX hY
  rw [outsAt0_B m c t h]
  dsimp only
  have e := trips2_eq (grid0.coords t)
  dsimp only [k0_t2_loop, Scf.Loop.trips] at e
  frame_out
  rw [e]
  rfl

end Cert.Kernel13Ideal.Fox
-- ==== Proof.FoxMixB.lean ====
/- What a later point of a group writes of the mix. -/
module

public import proofs.«01_k».proof.Proof.FoxOut

@[expose] public section

noncomputable section

namespace Cert.Kernel13Ideal.Fox

open Cert.Kernel13Ideal Cert.Kernel13Ideal.Gen Idealize.ShloMosaic Idealize.ShloMosaic.TcCoe Idealize.SL.Sem Cert.Reals Cert.FoxMath

variable (m : (ℓ : Loc nD τ sig) → Buf (Elt Ideal) ℓ) (c : Dev nD) (t : Fin cfg0.N)

set_option maxHeartbeats 4000000 in
theorem mixB (h : ¬ t.val % 4 = 0) (X Y) (hX : X = (Memref.isWhole_whole cc0_scratch0).unread (outsAt0 m c (t.val - 1) (lt_of_le_of_lt (Nat.sub_le _ _) t.isLt)).2.2.2.1)
    (hY : Y = (Memref.isWhole_whole cc0_scratch1).unread (outsAt0 m c (t.val - 1) (lt_of_le_of_lt (Nat.sub_le _ _) t.isLt)).2.2.2.2) :
    (outsAt0 m c t.val t.isLt).1 = View.canon [⟨Rect.unit ![0, 128] ![512, 128] inb_S512x256_S512x128_0_128, mixOf (H2 m c t X Y) (H3 m c t X Y) (iblk m c 7 t)⟩, ⟨Rect.unit ![0, 0] ![512, 128] inb_S512x256_S512x128_0_0, mixOf (H0 m c t X Y) (H1 m c t X Y) (iblk m c 7 t)⟩] := by
  subst hX hY
  rw [outsAt0_B m c t h]
  dsimp only
  have e := trips2_eq (grid0.coords t)
  dsimp only [k0_t2_loop, Scf.Loop.trips] at e
  frame_out
  rw [e]
  rw [mix_low]
  rfl

end Cert.Kernel13Ideal.Fox
-- ==== Proof.FoxPoint.lean ====
/- What a point of the grid writes, entry by entry. -/
module

public import proofs.«01_k».proof.Proof.FoxPair
public import proofs.«01_k».proof.Proof.FoxOutA
public import proofs.«01_k».proof.Proof.FoxMixA
public import proofs.«01_k».proof.Proof.FoxOutB
public import proofs.«01_k».proof.Proof.FoxMixB

@[expose] public section

noncomputable section

namespace Cert.Kernel13Ideal.Fox

open Cert.Kernel13Ideal Cert.Kernel13Ideal.Gen Idealize.ShloMosaic Idealize.ShloMosaic.TcCoe Idealize.SL.Sem Cert.Reals Cert.FoxMath

variable (m : (ℓ : Loc nD τ sig) → Buf (Elt Ideal) ℓ) (c : Dev nD) (q k : S2048x512.Idx → ℝ) (v : S2048x512.Idx → EReal) (cum : S2048x8.Idx → ℝ) (t : Fin cfg0.N)

/-- The three blocks a point writes, with scratch contents that read as what the point leaves there. -/
theorem point : ∃ (X : BufTy.Contents (Elt Ideal) (scM0_0.view.ty)) (Y : BufTy.Contents (Elt Ideal) (scM0_1.view.ty)),
    scM0_0.view.read (Elt Ideal) X = (outsAt0 m c t.val t.isLt).2.2.2.1 ∧ scM0_1.view.read (Elt Ideal) Y = (outsAt0 m c t.val t.isLt).2.2.2.2
    ∧ (outsAt0 m c t.val t.isLt).1 = View.canon [⟨Rect.unit ![0, 128] ![512, 128] inb_S512x256_S512x128_0_128, mixOf (H2 m c t X Y) (H3 m c t X Y) (iblk m c 7 t)⟩, ⟨Rect.unit ![0, 0] ![512, 128] inb_S512x256_S512x128_0_0, mixOf (H0 m c t X Y) (H1 m c t X Y) (iblk m c 7 t)⟩]
    ∧ (outsAt0 m c t.val t.isLt).2.1 = View.canon [⟨Rect.unit ![0, 128] ![512, 128] inb_S512x256_S512x128_0_128, oOf (H2 m c t X Y) (H3 m c t X Y)⟩, ⟨Rect.unit ![0, 0] ![512, 128] inb_S512x256_S512x128_0_0, oOf (H0 m c t X Y) (H1 m c t X Y)⟩]
    ∧ (outsAt0 m c t.val t.isLt).2.2.1 = View.canon [⟨Rect.unit ![1, 0, 0] ![1, 512, 2] inb_S2x512x2_S1x512x2_1_0_0, lseOf (H2 m c t X Y) (H3 m c t X Y)⟩, ⟨Rect.unit ![0, 0, 0] ![1, 512, 2] inb_S2x512x2_S1x512x2_0_0_0, lseOf (H0 m c t X Y) (H1 m c t X Y)⟩] := by
  by_cases h : t.val % 4 = 0
  · exact ⟨keysA m c t, valsA m c t, readKeysA m c t h, readValsA m c t h, mixA m c t h _ _ rfl rfl, outA m c t h _ _ rfl rfl, lseA m c t h _ _ rfl rfl⟩
  · exact ⟨_, _, (Memref.IsWhole.read_unread _ _).trans (scrKeysB m c t h).symm, (Memref.IsWhole.read_unread _ _).trans (scrValsB m c t h).symm,
      mixB m c t h _ _ rfl rfl, outB m c t h _ _ rfl rfl, lseB m c t h _ _ rfl rfl⟩

/-- Head `n` of the point's four as one of the eight, and the lane in it, of a column of the block. -/
def colHead (n : ℕ) (hn : n < 256) : Fin 8 := ⟨4 * grp t + n / 64, by have := grp_lt t; omega⟩
def colLane (n : ℕ) : Fin 64 := ⟨n % 64, Nat.mod_lt _ (by decide)⟩

theorem pairRow_col (h h' : Fin 4) (e : ℕ) (he : h.val = 2 * e) (he' : h'.val = 2 * e + 1) (r r' : Fin 512) (l : Fin 128) (n : ℕ) (hn : n < 256) (hl : n = 128 * e + l.val) (hr : r'.val = r.val) :
    pairRow q k v cum t h h' r l = Cert.Reference13Ideal.Fox.out q k v cum (colHead t n hn) (qrow t r') (colLane n) := by
  obtain rfl : r' = r := Fin.ext hr
  have hlt := l.isLt
  unfold pairRow
  by_cases h64 : l.val < 64
  · rw [if_pos h64, show hd t h = colHead t n hn from Fin.ext (by show 4 * grp t + h.val = 4 * grp t + n / 64; omega),
      show (⟨l.val % 64, Nat.mod_lt _ (by decide)⟩ : Fin 64) = colLane n from Fin.ext (by show l.val % 64 = n % 64; omega)]
  · rw [if_neg h64, show hd t h' = colHead t n hn from Fin.ext (by show 4 * grp t + h'.val = 4 * grp t + n / 64; omega),
      show (⟨l.val % 64, Nat.mod_lt _ (by decide)⟩ : Fin 64) = colLane n from Fin.ext (by show l.val % 64 = n % 64; omega)]

theorem norm_col (h h' : Fin 4) (e : ℕ) (he : h.val = 2 * e) (he' : h'.val = 2 * e + 1) (r r' : Fin 512) (l : Fin 128) (n : ℕ) (hn : n < 256) (hl : n = 128 * e + l.val) (hr : r'.val = r.val) :
    (if l.val < 64 then rrOf (Cert.Reference13Ideal.Fox.out q k v cum (hd t h) (qrow t r)) else rrOf (Cert.Reference13Ideal.Fox.out q k v cum (hd t h') (qrow t r)))
      = rrOf (Cert.Reference13Ideal.Fox.out q k v cum (colHead t n hn) (qrow t r')) := by
  obtain rfl : r' = r := Fin.ext hr
  have hlt := l.isLt
  by_cases h64 : l.val < 64
  · rw [if_pos h64, show hd t h = colHead t n hn from Fin.ext (by show 4 * grp t + h.val = 4 * grp t + n / 64; omega)]
  · rw [if_neg h64, show hd t h' = colHead t n hn from Fin.ext (by show 4 * grp t + h'.val = 4 * grp t + n / 64; omega)]

section
variable (hq : m ((c : Thread nD τ).loc main_arg0) = fun i => (q i : EReal)) (hk : m ((c : Thread nD τ).loc main_arg1) = fun i => (k i : EReal))
  (hv : m ((c : Thread nD τ).loc main_arg2) = v) (hg : m ((c : Thread nD τ).loc main_arg3) = fun i => (cum i : EReal))

include hq hk hv hg in
theorem point_out (y : S512x256.Idx) (hy : (y 1).val < 256) : (outsAt0 m c t.val t.isLt).2.1 y
    = Cert.Reference13Ideal.Fox.out q k v cum (colHead t (y 1).val hy) (qrow t (y 0)) (colLane (y 1).val) := by
  obtain ⟨X, Y, hX, hY, -, e, -⟩ := point m c t
  rw [e]
  have g0 := good_0 m c q k v cum t hq hk hv hg X Y hX hY
  have g1 := good_1 m c q k v cum t hq hk hv hg X Y hX hY
  have g2 := good_2 m c q k v cum t hq hk hv hg X Y hX hY
  have g3 := good_3 m c q k v cum t hq hk hv hg X Y hX hY
  clear e hX hY
  generalize H0 m c t X Y = T0 at *
  generalize H1 m c t X Y = T1 at *
  generalize H2 m c t X Y = T2 at *
  generalize H3 m c t X Y = T3 at *
  canon_tiles x hx
  · obtain ⟨r, l, rfl⟩ : ∃ r l, x = ix2 r l := ⟨x 0, x 1, by blk_ext []⟩
    exact (oOf_row q k v cum t rfl rfl (g2 r) (g3 r) l).trans (pairRow_col q k v cum t 2 3 1 rfl rfl r (y 0) l _ hy (by simpa using hx1) (by simpa using hx0))
  · obtain ⟨r, l, rfl⟩ : ∃ r l, x = ix2 r l := ⟨x 0, x 1, by blk_ext []⟩
    exact (oOf_row q k v cum t rfl rfl (g0 r) (g1 r) l).trans (pairRow_col q k v cum t 0 1 0 rfl rfl r (y 0) l _ hy (by simpa using hx1) (by simpa using hx0))

include hq hk hv hg in
theorem point_mix (y : S512x256.Idx) (hy : (y 1).val < 256) : (outsAt0 m c t.val t.isLt).1 y
    = Cert.Reference13Ideal.Fox.out q k v cum (colHead t (y 1).val hy) (qrow t (y 0)) (colLane (y 1).val)
        * rrOf (Cert.Reference13Ideal.Fox.out q k v cum (colHead t (y 1).val hy) (qrow t (y 0)))
      * (m ((c : Thread nD τ).loc main_arg4) : S64.Idx → EReal) (ix1 (colLane (y 1).val)) := by
  obtain ⟨X, Y, hX, hY, e, -, -⟩ := point m c t
  rw [e]
  have g0 := good_0 m c q k v cum t hq hk hv hg X Y hX hY
  have g1 := good_1 m c q k v cum t hq hk hv hg X Y hX hY
  have g2 := good_2 m c q k v cum t hq hk hv hg X Y hX hY
  have g3 := good_3 m c q k v cum t hq hk hv hg X Y hX hY
  clear e hX hY
  generalize H0 m c t X Y = T0 at *
  generalize H1 m c t X Y = T1 at *
  generalize H2 m c t X Y = T2 at *
  generalize H3 m c t X Y = T3 at *
  canon_tiles x hx
  · obtain ⟨r, l, rfl⟩ : ∃ r l, x = ix2 r l := ⟨x 0, x 1, by blk_ext []⟩
    have h0 : (y 0).val = r.val := by simpa using hx0
    have h1 : (y 1).val = 128 * 1 + l.val := by simpa using hx1
    refine (mixOf_row q k v cum t rfl rfl (g2 r) (g3 r) (iblk m c 7 t) l).trans ?_
    rw [pairRow_col q k v cum t 2 3 1 rfl rfl r (y 0) l _ hy h1 h0, norm_col q k v cum t 2 3 1 rfl rfl r (y 0) l _ hy h1 h0, blkW,
      show (⟨l.val % 64, Nat.mod_lt _ (by decide)⟩ : Fin 64) = colLane (y 1).val from Fin.ext (by show l.val % 64 = (y 1).val % 64; omega)]
  · obtain ⟨r, l, rfl⟩ : ∃ r l, x = ix2 r l := ⟨x 0, x 1, by blk_ext []⟩
    have h0 : (y 0).val = r.val := by simpa using hx0
    have h1 : (y 1).val = 128 * 0 + l.val := by simpa using hx1
    refine (mixOf_row q k v cum t rfl rfl (g0 r) (g1 r) (iblk m c 7 t) l).trans ?_
    rw [pairRow_col q k v cum t 0 1 0 rfl rfl r (y 0) l _ hy h1 h0, norm_col q k v cum t 0 1 0 rfl rfl r (y 0) l _ hy h1 h0, blkW,
      show (⟨l.val % 64, Nat.mod_lt _ (by decide)⟩ : Fin 64) = colLane (y 1).val from Fin.ext (by show l.val % 64 = (y 1).val % 64; omega)]

theorem log_col (h h' : Fin 4) (e : Fin 2) (p : ℕ) (he : h.val = 2 * p) (he' : h'.val = 2 * p + 1) (r r' : Fin 512) (hr : r'.val = r.val) (n : Fin 8) (hn : n.val = 4 * grp t + 2 * p + e.val) :
    (if e.val = 0 then Real.log (Cert.Reference13Ideal.Fox.Z q k cum (hd t h) (qrow t r)) else Real.log (Cert.Reference13Ideal.Fox.Z q k cum (hd t h') (qrow t r)))
      = Real.log (Cert.Reference13Ideal.Fox.Z q k cum n (qrow t r')) := by
  obtain rfl : r' = r := Fin.ext hr
  have hlt := e.isLt
  by_cases h0 : e.val = 0
  · rw [if_pos h0, show hd t h = n from Fin.ext (by show 4 * grp t + h.val = n.val; omega)]
  · rw [if_neg h0, show hd t h' = n from Fin.ext (by show 4 * grp t + h'.val = n.val; omega)]

include hq hk hv hg in
theorem point_lse (y : S2x512x2.Idx) (n : Fin 8) (hn : n.val = 4 * grp t + 2 * (y 0).val + (y 2).val) : (outsAt0 m c t.val t.isLt).2.2.1 y
    = (Real.log (Cert.Reference13Ideal.Fox.Z q k cum n (qrow t (y 1))) : EReal) := by
  obtain ⟨X, Y, hX, hY, -, -, e⟩ := point m c t
  rw [e]
  have g0 := good_0 m c q k v cum t hq hk hv hg X Y hX hY
  have g1 := good_1 m c q k v cum t hq hk hv hg X Y hX hY
  have g2 := good_2 m c q k v cum t hq hk hv hg X Y hX hY
  have g3 := good_3 m c q k v cum t hq hk hv hg X Y hX hY
  clear e hX hY
  generalize H0 m c t X Y = T0 at *
  generalize H1 m c t X Y = T1 at *
  generalize H2 m c t X Y = T2 at *
  generalize H3 m c t X Y = T3 at *
  canon_tiles x hx
  · obtain ⟨r, l, rfl⟩ : ∃ r l, x = ix3 0 r l := ⟨x 1, x 2, by blk_ext []⟩
    have h0 : (y 0).val = 1 := by simpa using hx0
    have h1 : (y 1).val = r.val := by simpa using hx1
    have h2 : (y 2).val = l.val := by simpa using hx2
    exact (lseOf_row q k v cum t (g2 r) (g3 r) l).trans (congrArg _ (log_col q k cum t 2 3 l 1 rfl rfl r (y 1) h1 n (by omega)))
  · obtain ⟨r, l, rfl⟩ : ∃ r l, x = ix3 0 r l := ⟨x 1, x 2, by blk_ext []⟩
    have h0 : (y 0).val = 0 := by simpa using hx0
    have h1 : (y 1).val = r.val := by simpa using hx1
    have h2 : (y 2).val = l.val := by simpa using hx2
    exact (lseOf_row q k v cum t (g0 r) (g1 r) l).trans (congrArg _ (log_col q k cum t 0 1 l 0 rfl rfl r (y 1) h1 n (by omega)))

end

end Cert.Kernel13Ideal.Fox
-- ==== Proof.FoxRun.lean ====
/- The forward of the attention with forgetting: what the kernel's arrays hold after its run. -/
module

public import proofs.«01_k».proof.Proof.FoxPoint

@[expose] public section

noncomputable section

namespace Cert.Kernel13Ideal.Fox

open Cert.Kernel13Ideal Cert.Kernel13Ideal.Gen Idealize.ShloMosaic Idealize.ShloMosaic.TcCoe Idealize.SL.Sem Cert.Reals

variable (m : (ℓ : Loc nD τ sig) → Buf (Elt Ideal) ℓ)

/-- The run, with each result named and the arguments kept. -/
theorem run_arrays (g : Dev nD → PrngReg) : θ_run defs (onTc (τ := τ) (main (F := Ideal))) ⟨m, fun _ => 0, g⟩ fun r => ∀ c : Dev nD,
    r.2.mem ((c : Thread nD τ).loc main_v12_0) = (dats m 0 c).arrAt 8 cfg0.N
    ∧ r.2.mem ((c : Thread nD τ).loc main_v12_1) = (dats m 0 c).arrAt 9 cfg0.N
    ∧ r.2.mem ((c : Thread nD τ).loc main_v12_2) = (dats m 0 c).arrAt 10 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun r h c => ⟨(h c).1 8, (h c).1 9, (h c).1 10,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩) (run_main m g)

variable (c : Dev nD) (q k : S2048x512.Idx → ℝ) (v : S2048x512.Idx → EReal) (cum : S2048x8.Idx → ℝ)
variable (hq : m ((c : Thread nD τ).loc main_arg0) = fun i => (q i : EReal)) (hk : m ((c : Thread nD τ).loc main_arg1) = fun i => (k i : EReal))
  (hv : m ((c : Thread nD τ).loc main_arg2) = v) (hg : m ((c : Thread nD τ).loc main_arg3) = fun i => (cum i : EReal))

include hq hk hv hg in
theorem final_out : (dats m 0 c).arrAt 9 cfg0.N
    = Cert.Reference13Ideal.Read.val_main_v56 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t _ y' => ?_
  blk_simp
  obtain ⟨r, l, rfl⟩ : ∃ r l, y' = ix2 r l := ⟨y' 0, y' 1, by blk_ext []⟩
  have he : ((View.whole main_v12_1).slice (win0_9.rect t)).emb (ix2 r l) = ix2 (qrow t r) (Cert.Reference13Ideal.Fox.lane (colHead t l.val l.isLt) (colLane l.val)) := by
    blk_ext [idx t, qrow, Cert.Reference13Ideal.Fox.lane, colHead, colLane] <;> omega
  rw [he, hq, hk, hv, hg, Cert.Reference13Ideal.Fox.v56_apply, after0_9]
  exact point_out m c q k v cum t hq hk hv hg (ix2 r l) l.isLt

include hq hk hv hg in
theorem final_lse : (dats m 0 c).arrAt 10 cfg0.N
    = Cert.Reference13Ideal.Read.val_main_v60 (F := Ideal) (m ((c : Thread nD τ).loc main_arg0)) (m ((c : Thread nD τ).loc main_arg1)) (m ((c : Thread nD τ).loc main_arg3)) := by
  refine (dats m 0 c).arrAt_eq_of_covers 10 _ (by decide +kernel) fun t _ y' => ?_
  blk_simp
  obtain ⟨p, r, e, rfl⟩ : ∃ p r e, y' = ix3 p r e := ⟨y' 0, y' 1, y' 2, by blk_ext []⟩
  have he : ((View.whole main_v12_2).slice (win0_10.rect t)).emb (ix3 p r e) = ix3 (pr t p) (qrow t r) e := by
    blk_ext [idx t, qrow, pr] <;> omega
  rw [he, hq, hk, hg, Cert.Reference13Ideal.Fox.v60_apply, after0_10]
  exact point_lse m c q k v cum t hq hk hv hg (ix3 p r e) _ (by show 2 * (2 * grp t + p.val) + e.val = 4 * grp t + 2 * p.val + e.val; omega)

theorem idx_inj8 (t t' : Fin cfg0.N) (h : (cfg0.win 8).index t = (cfg0.win 8).index t') : t = t' := by
  revert t t'
  exact (by decide +kernel : ∀ t t' : Fin grid0.N, win0_8.index t = win0_8.index t' → t = t')

include hq hk hv hg in
theorem final_mix (i : S2048x1024.Idx) (hi : (i 1).val < 512) : (dats m 0 c).arrAt 8 cfg0.N i
    = Cert.Reference13Ideal.Read.val_main_v58 (F := Ideal) (m ((c : Thread nD τ).loc main_arg0)) (m ((c : Thread nD τ).loc main_arg1)) (m ((c : Thread nD τ).loc main_arg2)) (m ((c : Thread nD τ).loc main_arg3))
      (m ((c : Thread nD τ).loc main_arg4)) i := by
  have hi0 : (i 0).val < 2048 := (i 0).isLt
  let t : Fin cfg0.N := ⟨(i 1).val / 256 * 4 + (i 0).val / 512, by show _ < 8; omega⟩
  have hf : (cfg0.win 8).flush t = true := (by decide +kernel : ∀ t : Fin cfg0.N, (cfg0.win 8).flush t = true) t
  have hd := (dats m 0 c).read_blk_arrAt_eq_flushed 8 ((cfg0.win 8).hdisj_of_index_inj fun t t' _ _ h => idx_inj8 t t' h) cfg0.N t t.isLt hf
  let r : Fin 512 := ⟨(i 0).val % 512, Nat.mod_lt _ (by decide)⟩
  let l : Fin 256 := ⟨(i 1).val % 256, Nat.mod_lt _ (by decide)⟩
  have hg4 : grp t = (i 1).val / 256 := by show ((i 1).val / 256 * 4 + (i 0).val / 512) / 4 = _; omega
  have hb4 : blk t = (i 0).val / 512 := by show ((i 1).val / 256 * 4 + (i 0).val / 512) % 4 = _; omega
  have hh := congrFun hd (ix2 r l)
  have he : ((View.whole main_v12_0).slice (win0_8.rect t)).emb (ix2 r l) = i := by
    blk_ext [idx t, r, l] <;> omega
  have hi' : i = ix2 (qrow t r) ⟨(colHead t l.val l.isLt).val * 64 + (colLane l.val).val, by omega⟩ := by
    blk_ext [qrow, colHead, colLane, r, l] <;> omega
  refine Eq.trans (congrArg ((dats m 0 c).arrAt 8 cfg0.N) he.symm) (Eq.trans hh ?_)
  refine Eq.trans (b := (outsAt0 m c t.val t.isLt).1 (ix2 r l)) ?_ ?_
  · exact congrFun (after0_8 m c t) (ix2 r l)
  rw [hi', hq, hk, hv, hg, Cert.Reference13Ideal.Fox.v58_apply]
  exact point_mix m c q k v cum t hq hk hv hg (ix2 r l) l.isLt

end Cert.Kernel13Ideal.Fox
-- ==== Proof.Products.lean ====
/- The plain products of the step, each against the gradient (or the projection) it computes: the blocks of every one tile
   its result, and a grid point's block is the same sum of products, read at the rows and columns the point works on. -/
module

public import Idealize.ShloMosaic.Lib.Pipeline.ValueKit
public import proofs.«01_k».proof.Proof.Gen.Kernel14Ideal.Value
public import proofs.«01_k».proof.Proof.Gen.Reference14Ideal.Read
public import proofs.«01_k».proof.Proof.Gen.Kernel15Ideal.Value
public import proofs.«01_k».proof.Proof.Gen.Reference15Ideal.Read
public import proofs.«01_k».proof.Proof.Gen.Kernel16Ideal.Value
public import proofs.«01_k».proof.Proof.Gen.Reference16Ideal.Read
public import proofs.«01_k».proof.Proof.Gen.Kernel17Ideal.Value
public import proofs.«01_k».proof.Proof.Gen.Reference17Ideal.Read
public import proofs.«01_k».proof.Proof.Gen.Kernel18Ideal.Value
public import proofs.«01_k».proof.Proof.Gen.Reference18Ideal.Read
public import proofs.«01_k».proof.Proof.Gen.Kernel19Ideal.Value
public import proofs.«01_k».proof.Proof.Gen.Reference19Ideal.Read
public import proofs.«01_k».proof.Proof.Gen.Kernel20Ideal.Value
public import proofs.«01_k».proof.Proof.Gen.Reference20Ideal.Read
public import Idealize.ShloMosaic.Lib.Tactic

@[expose] public section

noncomputable section

open Idealize.ShloMosaic Idealize.ShloMosaic.TcCoe Idealize.SL.Sem

/-! The down projection's weight: each point takes 1024 of the 4096 columns of the activations. -/
namespace Cert.Kernel14Ideal.DwDown
open Cert.Kernel14Ideal Cert.Kernel14Ideal.Gen Cert.Reference14Ideal.Read

variable (m : (ℓ : Loc nD τ sig) → Buf (Elt Ideal) ℓ) (c : Dev nD)

theorem idx : ∀ t : Fin cfg0.N, win0_0.index t = ![0, t.val] ∧ win0_1.index t = ![0, 0] ∧ win0_2.index t = ![t.val, 0] :=
  (by decide +kernel : ∀ t : Fin grid0.N, _)

def unit (t : Fin cfg0.N) (r : Fin 1024) : Fin 4096 := ⟨t.val * 1024 + r.val, by have := t.isLt; have : cfg0.N = 4 := N_0; omega⟩

theorem block_sum (a b : FVec Ideal S2048x1024 .bf16) (r l : Fin 1024) :
    k0_pay1 (F := Ideal) a b (ix2 r l) = ∑ s : Fin 2048, a (ix2 s r) * b (ix2 s l) := by
  pointwise [k0_pay1]

theorem grad_sum (act : FVec Ideal S2048x4096 .f32) (dy : FVec Ideal S2048x1024 .f32) (r : Fin 4096) (l : Fin 1024) :
    val_main_v4 (F := Ideal) act dy (ix2 r l) = ∑ s : Fin 2048, dy (ix2 s l) * act (ix2 s r) := by
  pointwise [val_main_v4, val_main_v3, val_main_v2]

theorem act_block (t : Fin cfg0.N) (s : Fin 2048) (r : Fin 1024) : iblk m c 0 t (ix2 s r) = m ((c : Thread nD τ).loc main_arg0) (ix2 s (unit t r)) := by
  blk_simp [iblk]
  entry_read
  pointwise
  exact congrArg (m ((c : Thread nD τ).loc main_arg0)) (by blk_ext [idx t, unit])

theorem dy_block (t : Fin cfg0.N) (s : Fin 2048) (l : Fin 1024) : iblk m c 1 t (ix2 s l) = m ((c : Thread nD τ).loc main_arg1) (ix2 s l) := by
  blk_simp [iblk]
  entry_read
  pointwise
  exact congrArg (m ((c : Thread nD τ).loc main_arg1)) (by blk_ext [idx t])

theorem final : (dats m 0 c).arrAt 2 (cfgs 0).N = val_main_v4 (F := Ideal) (m ((c : Thread nD τ).loc main_arg0)) (m ((c : Thread nD τ).loc main_arg1)) := by
  refine (dats m 0 c).arrAt_eq_of_covers 2 _ (by decide +kernel) fun t _ y => ?_
  blk_simp
  obtain ⟨r, l, rfl⟩ : ∃ r l, y = ix2 r l := ⟨y 0, y 1, by blk_ext []⟩
  have hy : (win0_2.blk t).view.emb (ix2 r l) = ix2 (unit t r) l := by blk_ext [idx t, unit]
  rw [hy, after0_2]
  refine Eq.trans (b := k0_pay1 (F := Ideal) (iblk m c 0 t) (iblk m c 1 t) (ix2 r l)) (by frame_out) ?_
  refine (block_sum _ _ r l).trans (Eq.trans ?_ (grad_sum _ _ (unit t r) l).symm)
  exact Finset.sum_congr rfl fun s _ => (congrArg₂ (fun a b : EReal => a * b) (act_block m c t s r) (dy_block m c t s l)).trans (mul_comm _ _)

end Cert.Kernel14Ideal.DwDown

/-! The gradient of the mixed rows: 512 rows at a time, the whole weight at every point. -/
namespace Cert.Kernel17Ideal.DMix
open Cert.Kernel17Ideal Cert.Kernel17Ideal.Gen Cert.Reference17Ideal.Read

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

def token (t : Fin cfg0.N) (r : Fin 512) : Fin 2048 := ⟨t.val * 512 + r.val, by have := t.isLt; have : cfg0.N = 4 := N_0; omega⟩

theorem block_sum (d : FVec Ideal S512x1024 .bf16) (w : FVec Ideal S1024x1024 .bf16) (r : Fin 512) (l : Fin 1024) :
    k0_pay1 (F := Ideal) d w (ix2 r l) = ∑ k : Fin 1024, d (ix2 r k) * w (ix2 l k) := by
  pointwise [k0_pay1]

theorem grad_sum (d : FVec Ideal S2048x1024 .f32) (w : FVec Ideal S1024x1024 .f32) (r : Fin 2048) (l : Fin 1024) :
    val_main_v2 (F := Ideal) d w (ix2 r l) = ∑ k : Fin 1024, d (ix2 r k) * w (ix2 l k) := by
  pointwise [val_main_v2]

theorem d_block (t : Fin cfg0.N) (r : Fin 512) (k : Fin 1024) : iblk m c 0 t (ix2 r k) = m ((c : Thread nD τ).loc main_arg0) (ix2 (token t r) k) := by
  blk_simp [iblk]
  entry_read
  pointwise
  exact congrArg (m ((c : Thread nD τ).loc main_arg0)) (by blk_ext [idx t, token])

theorem w_block (t : Fin cfg0.N) (l k : Fin 1024) : iblk m c 1 t (ix2 l k) = m ((c : Thread nD τ).loc main_arg1) (ix2 l k) := by
  blk_simp [iblk]
  entry_read
  pointwise
  exact congrArg (m ((c : Thread nD τ).loc main_arg1)) (by blk_ext [idx t])

theorem final : (dats m 0 c).arrAt 2 (cfgs 0).N = val_main_v2 (F := Ideal) (m ((c : Thread nD τ).loc main_arg0)) (m ((c : Thread nD τ).loc main_arg1)) := by
  refine (dats m 0 c).arrAt_eq_of_covers 2 _ (by decide +kernel) fun t _ y => ?_
  blk_simp
  obtain ⟨r, l, rfl⟩ : ∃ r l, y = ix2 r l := ⟨y 0, y 1, by blk_ext []⟩
  have hy : (win0_2.blk t).view.emb (ix2 r l) = ix2 (token t r) l := by blk_ext [idx t, token]
  rw [hy, after0_2]
  refine Eq.trans (b := k0_pay1 (F := Ideal) (iblk m c 0 t) (iblk m c 1 t) (ix2 r l)) (by frame_out) ?_
  simp only [block_sum, grad_sum, d_block m c t, w_block m c t]

end Cert.Kernel17Ideal.DMix

/-! The projections: all the rows, 768 of the 3840 rows of the weights at a time. -/
namespace Cert.Kernel18Ideal.Project
open Cert.Kernel18Ideal Cert.Kernel18Ideal.Gen Cert.Reference18Ideal.Read

variable (m : (ℓ : Loc nD τ sig) → Buf (Elt Ideal) ℓ) (c : Dev nD)

theorem idx : ∀ t : Fin cfg0.N, win0_0.index t = ![0, 0] ∧ win0_1.index t = ![t.val, 0] ∧ win0_2.index t = ![0, t.val] :=
  (by decide +kernel : ∀ t : Fin grid0.N, _)

def feature (t : Fin cfg0.N) (l : Fin 768) : Fin 3840 := ⟨t.val * 768 + l.val, by have := t.isLt; have : cfg0.N = 5 := N_0; omega⟩

theorem block_sum (h : FVec Ideal S2048x1024 .bf16) (w : FVec Ideal S768x1024 .bf16) (r : Fin 2048) (l : Fin 768) :
    k0_pay1 (F := Ideal) h w (ix2 r l) = ∑ k : Fin 1024, h (ix2 r k) * w (ix2 l k) := by
  pointwise [k0_pay1]

theorem proj_sum (h : FVec Ideal S2048x1024 .f32) (w : FVec Ideal S3840x1024 .f32) (r : Fin 2048) (l : Fin 3840) :
    val_main_v1 (F := Ideal) h w (ix2 r l) = ∑ k : Fin 1024, h (ix2 r k) * w (ix2 l k) := by
  pointwise [val_main_v1, val_main_v0]

theorem h_block (t : Fin cfg0.N) (r : Fin 2048) (k : Fin 1024) : iblk m c 0 t (ix2 r k) = m ((c : Thread nD τ).loc main_arg0) (ix2 r k) := by
  blk_simp [iblk]
  entry_read
  pointwise
  exact congrArg (m ((c : Thread nD τ).loc main_arg0)) (by blk_ext [idx t])

theorem w_block (t : Fin cfg0.N) (l : Fin 768) (k : Fin 1024) : iblk m c 1 t (ix2 l k) = m ((c : Thread nD τ).loc main_arg1) (ix2 (feature t l) k) := by
  blk_simp [iblk]
  entry_read
  pointwise
  exact congrArg (m ((c : Thread nD τ).loc main_arg1)) (by blk_ext [idx t, feature])

theorem final : (dats m 0 c).arrAt 2 (cfgs 0).N = val_main_v1 (F := Ideal) (m ((c : Thread nD τ).loc main_arg0)) (m ((c : Thread nD τ).loc main_arg1)) := by
  refine (dats m 0 c).arrAt_eq_of_covers 2 _ (by decide +kernel) fun t _ y => ?_
  blk_simp
  obtain ⟨r, l, rfl⟩ : ∃ r l, y = ix2 r l := ⟨y 0, y 1, by blk_ext []⟩
  have hy : (win0_2.blk t).view.emb (ix2 r l) = ix2 r (feature t l) := by blk_ext [idx t, feature]
  rw [hy, after0_2]
  refine Eq.trans (b := k0_pay1 (F := Ideal) (iblk m c 0 t) (iblk m c 1 t) (ix2 r l)) (by frame_out) ?_
  simp only [block_sum, proj_sum, h_block m c t, w_block m c t]

end Cert.Kernel18Ideal.Project

/-! The up projection's weight: 1024 of the 4096 columns at a time, each block of columns a matrix of its own in the result. -/
namespace Cert.Kernel15Ideal.DwUp
open Cert.Kernel15Ideal Cert.Kernel15Ideal.Gen Cert.Reference15Ideal.Read

variable (m : (ℓ : Loc nD τ sig) → Buf (Elt Ideal) ℓ) (c : Dev nD)

theorem idx : ∀ t : Fin cfg0.N, win0_0.index t = ![0, 0] ∧ win0_1.index t = ![0, t.val] ∧ win0_2.index t = ![t.val, 0, 0] :=
  (by decide +kernel : ∀ t : Fin grid0.N, _)

def quarter (t : Fin cfg0.N) : Fin 4 := ⟨t.val, by have := t.isLt; have : cfg0.N = 4 := N_0; omega⟩

def unit (q : Fin 4) (l : Fin 1024) : Fin 4096 := ⟨q.val * 1024 + l.val, by omega⟩

theorem block_sum (h d : FVec Ideal S2048x1024 .bf16) (r l : Fin 1024) :
    k0_pay1 (F := Ideal) h d (ix3 0 r l) = ∑ s : Fin 2048, h (ix2 s r) * d (ix2 s l) := by
  pointwise [k0_pay1]

theorem grad_sum (h : FVec Ideal S2048x1024 .f32) (d : FVec Ideal S2048x4096 .f32) (q : Fin 4) (r l : Fin 1024) :
    val_main_v6 (F := Ideal) h d (ix3 q r l) = ∑ s : Fin 2048, d (ix2 s (unit q l)) * h (ix2 s r) := by
  pointwise [val_main_v6, val_main_v5, val_main_v4, val_main_v3, val_main_v2, unit]

theorem h_block (t : Fin cfg0.N) (s : Fin 2048) (r : Fin 1024) : iblk m c 0 t (ix2 s r) = m ((c : Thread nD τ).loc main_arg0) (ix2 s r) := by
  blk_simp [iblk]
  entry_read
  pointwise
  exact congrArg (m ((c : Thread nD τ).loc main_arg0)) (by blk_ext [idx t])

theorem d_block (t : Fin cfg0.N) (s : Fin 2048) (l : Fin 1024) :
    iblk m c 1 t (ix2 s l) = m ((c : Thread nD τ).loc main_arg1) (ix2 s (unit (quarter t) l)) := by
  blk_simp [iblk]
  entry_read
  pointwise
  exact congrArg (m ((c : Thread nD τ).loc main_arg1)) (by blk_ext [idx t, unit, quarter])

theorem final : (dats m 0 c).arrAt 2 (cfgs 0).N = val_main_v6 (F := Ideal) (m ((c : Thread nD τ).loc main_arg0)) (m ((c : Thread nD τ).loc main_arg1)) := by
  refine (dats m 0 c).arrAt_eq_of_covers 2 _ (by decide +kernel) fun t _ y => ?_
  blk_simp
  obtain ⟨r, l, rfl⟩ : ∃ r l, y = ix3 0 r l := ⟨y 1, y 2, by blk_ext []⟩
  have hy : (win0_2.blk t).view.emb (ix3 0 r l) = ix3 (quarter t) r l := by blk_ext [idx t, quarter]
  rw [hy, after0_2]
  refine Eq.trans (b := k0_pay1 (F := Ideal) (iblk m c 0 t) (iblk m c 1 t) (ix3 0 r l)) (by frame_out) ?_
  refine (block_sum _ _ r l).trans (Eq.trans ?_ (grad_sum _ _ (quarter t) r l).symm)
  exact Finset.sum_congr rfl fun s _ => (congrArg₂ (fun a b : EReal => a * b) (h_block m c t s r) (d_block m c t s l)).trans (mul_comm _ _)

end Cert.Kernel15Ideal.DwUp

/-! The output projection's weight: 256 of its 1024 rows at a time. -/
namespace Cert.Kernel16Ideal.DwOut
open Cert.Kernel16Ideal Cert.Kernel16Ideal.Gen Cert.Reference16Ideal.Read

variable (m : (ℓ : Loc nD τ sig) → Buf (Elt Ideal) ℓ) (c : Dev nD)

theorem idx : ∀ t : Fin cfg0.N, win0_0.index t = ![0, t.val] ∧ win0_1.index t = ![0, 0] ∧ win0_2.index t = ![t.val, 0] :=
  (by decide +kernel : ∀ t : Fin grid0.N, _)

def chan (t : Fin cfg0.N) (r : Fin 256) : Fin 1024 := ⟨t.val * 256 + r.val, by have := t.isLt; have : cfg0.N = 4 := N_0; omega⟩

theorem block_sum (x : FVec Ideal S2048x256 .bf16) (d : FVec Ideal S2048x1024 .bf16) (r : Fin 256) (l : Fin 1024) :
    k0_pay1 (F := Ideal) x d (ix2 r l) = ∑ s : Fin 2048, x (ix2 s r) * d (ix2 s l) := by
  pointwise [k0_pay1]

theorem grad_sum (x d : FVec Ideal S2048x1024 .f32) (r l : Fin 1024) :
    val_main_v4 (F := Ideal) x d (ix2 r l) = ∑ s : Fin 2048, d (ix2 s l) * x (ix2 s r) := by
  pointwise [val_main_v4, val_main_v3, val_main_v2]

theorem mix_block (t : Fin cfg0.N) (s : Fin 2048) (r : Fin 256) : iblk m c 0 t (ix2 s r) = m ((c : Thread nD τ).loc main_arg0) (ix2 s (chan t r)) := by
  blk_simp [iblk]
  entry_read
  pointwise
  exact congrArg (m ((c : Thread nD τ).loc main_arg0)) (by blk_ext [idx t, chan])

theorem d_block (t : Fin cfg0.N) (s : Fin 2048) (l : Fin 1024) : iblk m c 1 t (ix2 s l) = m ((c : Thread nD τ).loc main_arg1) (ix2 s l) := by
  blk_simp [iblk]
  entry_read
  pointwise
  exact congrArg (m ((c : Thread nD τ).loc main_arg1)) (by blk_ext [idx t])

theorem final : (dats m 0 c).arrAt 2 (cfgs 0).N = val_main_v4 (F := Ideal) (m ((c : Thread nD τ).loc main_arg0)) (m ((c : Thread nD τ).loc main_arg1)) := by
  refine (dats m 0 c).arrAt_eq_of_covers 2 _ (by decide +kernel) fun t _ y => ?_
  blk_simp
  obtain ⟨r, l, rfl⟩ : ∃ r l, y = ix2 r l := ⟨y 0, y 1, by blk_ext []⟩
  have hy : (win0_2.blk t).view.emb (ix2 r l) = ix2 (chan t r) l := by blk_ext [idx t, chan]
  rw [hy, after0_2]
  refine Eq.trans (b := k0_pay1 (F := Ideal) (iblk m c 0 t) (iblk m c 1 t) (ix2 r l)) (by frame_out) ?_
  refine (block_sum _ _ r l).trans (Eq.trans ?_ (grad_sum _ _ (chan t r) l).symm)
  exact Finset.sum_congr rfl fun s _ => (congrArg₂ (fun a b : EReal => a * b) (mix_block m c t s r) (d_block m c t s l)).trans (mul_comm _ _)

end Cert.Kernel16Ideal.DwOut

/-! The projections' weight: 1280 of its 3840 rows at a time. -/
namespace Cert.Kernel19Ideal.DwIn
open Cert.Kernel19Ideal Cert.Kernel19Ideal.Gen Cert.Reference19Ideal.Read

variable (m : (ℓ : Loc nD τ sig) → Buf (Elt Ideal) ℓ) (c : Dev nD)

theorem idx : ∀ t : Fin cfg0.N, win0_0.index t = ![0, t.val] ∧ win0_1.index t = ![0, 0] ∧ win0_2.index t = ![t.val, 0] :=
  (by decide +kernel : ∀ t : Fin grid0.N, _)

def feature (t : Fin cfg0.N) (r : Fin 1280) : Fin 3840 := ⟨t.val * 1280 + r.val, by have := t.isLt; have : cfg0.N = 3 := N_0; omega⟩

theorem block_sum (d : FVec Ideal S2048x1280 .bf16) (h : FVec Ideal S2048x1024 .bf16) (r : Fin 1280) (l : Fin 1024) :
    k0_pay1 (F := Ideal) d h (ix2 r l) = ∑ s : Fin 2048, d (ix2 s r) * h (ix2 s l) := by
  pointwise [k0_pay1]

theorem grad_sum (d : FVec Ideal S2048x3840 .f32) (h : FVec Ideal S2048x1024 .f32) (r : Fin 3840) (l : Fin 1024) :
    val_main_v6 (F := Ideal) d h (ix2 r l) = ∑ s : Fin 2048, d (ix2 s r) * h (ix2 s l) := by
  pointwise [val_main_v6, val_main_v5, val_main_v4, val_main_v3]

theorem d_block (t : Fin cfg0.N) (s : Fin 2048) (r : Fin 1280) : iblk m c 0 t (ix2 s r) = m ((c : Thread nD τ).loc main_arg0) (ix2 s (feature t r)) := by
  blk_simp [iblk]
  entry_read
  pointwise
  exact congrArg (m ((c : Thread nD τ).loc main_arg0)) (by blk_ext [idx t, feature])

theorem h_block (t : Fin cfg0.N) (s : Fin 2048) (l : Fin 1024) : iblk m c 1 t (ix2 s l) = m ((c : Thread nD τ).loc main_arg1) (ix2 s l) := by
  blk_simp [iblk]
  entry_read
  pointwise
  exact congrArg (m ((c : Thread nD τ).loc main_arg1)) (by blk_ext [idx t])

theorem final : (dats m 0 c).arrAt 2 (cfgs 0).N = val_main_v6 (F := Ideal) (m ((c : Thread nD τ).loc main_arg0)) (m ((c : Thread nD τ).loc main_arg1)) := by
  refine (dats m 0 c).arrAt_eq_of_covers 2 _ (by decide +kernel) fun t _ y => ?_
  blk_simp
  obtain ⟨r, l, rfl⟩ : ∃ r l, y = ix2 r l := ⟨y 0, y 1, by blk_ext []⟩
  have hy : (win0_2.blk t).view.emb (ix2 r l) = ix2 (feature t r) l := by blk_ext [idx t, feature]
  rw [hy, after0_2]
  refine Eq.trans (b := k0_pay1 (F := Ideal) (iblk m c 0 t) (iblk m c 1 t) (ix2 r l)) (by frame_out) ?_
  refine (block_sum _ _ r l).trans (Eq.trans ?_ (grad_sum _ _ (feature t r) l).symm)
  exact Finset.sum_congr rfl fun s _ => congrArg₂ (fun a b : EReal => a * b) (d_block m c t s r) (h_block m c t s l)

end Cert.Kernel19Ideal.DwIn

/-! The gradient of the normed rows: tiles of 1024 rows and 512 columns. -/
namespace Cert.Kernel20Ideal.DhProj
open Cert.Kernel20Ideal Cert.Kernel20Ideal.Gen Cert.Reference20Ideal.Read

variable (m : (ℓ : Loc nD τ sig) → Buf (Elt Ideal) ℓ) (c : Dev nD)

theorem idx : ∀ t : Fin cfg0.N, win0_0.index t = ![t.val / 2, 0] ∧ win0_1.index t = ![0, t.val % 2] ∧ win0_2.index t = ![t.val / 2, t.val % 2] :=
  (by decide +kernel : ∀ t : Fin grid0.N, _)

def token (t : Fin cfg0.N) (r : Fin 1024) : Fin 2048 := ⟨t.val / 2 * 1024 + r.val, by have := t.isLt; have : cfg0.N = 4 := N_0; omega⟩

def chan (t : Fin cfg0.N) (l : Fin 512) : Fin 1024 := ⟨t.val % 2 * 512 + l.val, by omega⟩

theorem block_sum (d : FVec Ideal S1024x3840 .bf16) (w : FVec Ideal S3840x512 .bf16) (r : Fin 1024) (l : Fin 512) :
    k0_pay1 (F := Ideal) d w (ix2 r l) = ∑ k : Fin 3840, d (ix2 r k) * w (ix2 k l) := by
  pointwise [k0_pay1]

theorem grad_sum (d : FVec Ideal S2048x3840 .f32) (w : FVec Ideal S3840x1024 .f32) (r : Fin 2048) (l : Fin 1024) :
    val_main_v3 (F := Ideal) d w (ix2 r l) = ∑ k : Fin 3840, d (ix2 r k) * w (ix2 k l) := by
  pointwise [val_main_v3, val_main_v1]

theorem d_block (t : Fin cfg0.N) (r : Fin 1024) (k : Fin 3840) : iblk m c 0 t (ix2 r k) = m ((c : Thread nD τ).loc main_arg0) (ix2 (token t r) k) := by
  blk_simp [iblk]
  entry_read
  pointwise
  exact congrArg (m ((c : Thread nD τ).loc main_arg0)) (by blk_ext [idx t, token])

theorem w_block (t : Fin cfg0.N) (k : Fin 3840) (l : Fin 512) : iblk m c 1 t (ix2 k l) = m ((c : Thread nD τ).loc main_arg1) (ix2 k (chan t l)) := by
  blk_simp [iblk]
  entry_read
  pointwise
  exact congrArg (m ((c : Thread nD τ).loc main_arg1)) (by blk_ext [idx t, chan])

theorem final : (dats m 0 c).arrAt 2 (cfgs 0).N = val_main_v3 (F := Ideal) (m ((c : Thread nD τ).loc main_arg0)) (m ((c : Thread nD τ).loc main_arg1)) := by
  refine (dats m 0 c).arrAt_eq_of_covers 2 _ (by decide +kernel) fun t _ y => ?_
  blk_simp
  obtain ⟨r, l, rfl⟩ : ∃ r l, y = ix2 r l := ⟨y 0, y 1, by blk_ext []⟩
  have hy : (win0_2.blk t).view.emb (ix2 r l) = ix2 (token t r) (chan t l) := by blk_ext [idx t, token, chan]
  rw [hy, after0_2]
  refine Eq.trans (b := k0_pay1 (F := Ideal) (iblk m c 0 t) (iblk m c 1 t) (ix2 r l)) (by frame_out) ?_
  simp only [block_sum, grad_sum, d_block m c t, w_block m c t]

end Cert.Kernel20Ideal.DhProj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_finite
public import proofs.«01_k».proof.Proof.PreNorm
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite_fox_norm
public import proofs.«01_k».proof.Proof.FoxNorm
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite_gates
public import proofs.«01_k».proof.Proof.GatesRun
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite_gdn_pre
public import proofs.«01_k».proof.Proof.GdnPre
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite_mid
public import proofs.«01_k».proof.Proof.MidBwd
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Relu2
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Pre_finite_loss
public import proofs.«01_k».proof.Proof.LossHead
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.OutFwd
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.UpFwd
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.PreFwd
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.GatesFwd
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.GdnFwd
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.On_written
public import proofs.«01_k».proof.Proof.FoxRef
public import proofs.«01_k».proof.Proof.Gen.Reference13Ideal
public import proofs.«01_k».proof.Proof.Gen.Reference13Ideal.Run
public import proofs.«01_k».proof.Proof.Gen.Reference13Ideal.Read
public import proofs.«01_k».proof.Proof.Gen.Pre_finite_fox
public import proofs.«01_k».proof.Proof.FoxRun
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Products
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import Idealize.ShloMosaic.Adequacy
public import Idealize.ShloMosaic.Lib.Claim
public import Idealize.ShloMosaic.Init

@[expose] public section

noncomputable section

namespace Cert.Proof

open Idealize.ShloMosaic Idealize.SL.Sem Cert.Reals

theorem frame_ref : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem algebraic : Cert.algebraic_KernelIdeal_ReferenceIdeal_pre_finite := by
  intro m g m' g' hpre hagree
  refine ⟨_, _, Cert.KernelIdeal.Value.run_blocks m g,
    (θ_run Cert.ReferenceIdeal.defs _ _).mono (fun r h c => ?_) (Cert.ReferenceIdeal.Value.run (F := Ideal) m' g')⟩
  obtain ⟨h0, h1, h2⟩ := hpre c
  obtain ⟨dh, h0⟩ := reals_of_finite _ _ (fun i => ofBits_inf) h0
  obtain ⟨x, h1⟩ := reals_of_finite _ _ (fun i => ofBits_inf) h1
  obtain ⟨w, h2⟩ := reals_of_finite _ _ (fun i => ofBits_inf) h2
  obtain ⟨e0, e1, e2, e3⟩ := hagree c
  refine ⟨(h c).1.trans ?_, (h c).2.1.trans ?_, (h c).2.2⟩
  · refine (Cert.ReferenceIdeal.Read.val_main_v36_eq _ _ _ _).trans ?_
    rw [e0, e1, e2, e3]
    exact (Cert.KernelIdeal.PreNorm.final_dx m c dh x w h0 h1 h2).symm
  · refine (Cert.ReferenceIdeal.Read.val_main_v37_eq _ _).trans ?_
    rw [e0, e1]
    exact (Cert.KernelIdeal.PreNorm.final_dw m c dh x w h0 h1 h2).symm

theorem frame_ref2 : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)

set_option maxHeartbeats 2000000 in
theorem algebraic2 : Cert.algebraic_Kernel2Ideal_Reference2Ideal_pre_finite_fox_norm := by
  intro m g m' g' hpre hagree
  refine ⟨_, _, _, Cert.Kernel2Ideal.Value.run_blocks m g,
    (θ_run Cert.Reference2Ideal.defs _ _).mono (fun r h c => ?_) (Cert.Reference2Ideal.Value.run (F := Ideal) m' g')⟩
  obtain ⟨h0, h1, h2⟩ := hpre c
  obtain ⟨o, h0⟩ := reals_of_finite _ _ (fun i => ofBits_inf) h0
  obtain ⟨d, h1⟩ := reals_of_finite _ _ (fun i => ofBits_inf) h1
  obtain ⟨w, h2⟩ := reals_of_finite _ _ (fun i => ofBits_inf) h2
  obtain ⟨e0, e1, e2⟩ := hagree c
  refine ⟨(h c).1.trans ?_, (h c).2.1.trans ?_, (h c).2.2.1.trans ?_, (h c).2.2.2⟩
  · refine (Cert.Reference2Ideal.Read.val_main_v44_eq _ _).trans ?_
    rw [e0, e1, e2]
    exact (Cert.Kernel2Ideal.FoxNorm.final_do m c o d w h0 h1 h2).symm
  · refine (Cert.Reference2Ideal.Read.val_main_v46_eq _ _).trans ?_
    rw [e0, e1, e2]
    exact (Cert.Kernel2Ideal.FoxNorm.final_delta m c o d w h0 h1 h2).symm
  · refine (Cert.Reference2Ideal.Read.val_main_v48_eq (m' (c.tc.loc Cert.Reference2Ideal.main_arg0)) (m' (c.tc.loc Cert.Reference2Ideal.main_arg1))).trans ?_
    rw [e0, e1]
    exact (Cert.Kernel2Ideal.FoxNorm.final_dw m c o d h0 h1).symm

theorem frame_ref3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

set_option maxHeartbeats 2000000 in
theorem algebraic3 : Cert.algebraic_Kernel3Ideal_Reference3Ideal_pre_finite_gates := by
  intro m g m' g' hpre hagree
  refine ⟨_, _, Cert.Kernel3Ideal.Value.run_blocks m g,
    (θ_run Cert.Reference3Ideal.defs _ _).mono (fun r h c => ?_) (Cert.Reference3Ideal.Value.run (F := Ideal) m' g')⟩
  obtain ⟨h0, h1, h2, h3, h4, h5, h6, h7, h8⟩ := hpre c
  obtain ⟨ff, h0⟩ := reals_of_finite _ _ (fun i => ofBits_inf) h0
  obtain ⟨gb, h1⟩ := reals_of_finite _ _ (fun i => ofBits_inf) h1
  obtain ⟨ga, h2⟩ := reals_of_finite _ _ (fun i => ofBits_inf) h2
  obtain ⟨fb, h3⟩ := reals_of_finite _ _ (fun i => ofBits_inf) h3
  obtain ⟨al, h4⟩ := reals_of_finite _ _ (fun i => ofBits_inf) h4
  obtain ⟨dt, h5⟩ := reals_of_finite _ _ (fun i => ofBits_inf) h5
  obtain ⟨dc, h6⟩ := reals_of_finite _ _ (fun i => ofBits_inf) h6
  obtain ⟨db, h7⟩ := reals_of_finite _ _ (fun i => ofBits_inf) h7
  obtain ⟨dg, h8⟩ := reals_of_finite _ _ (fun i => ofBits_inf) h8
  obtain ⟨e0, e1, e2, e3, e4, e5, e6, e7, e8, e9⟩ := hagree c
  refine ⟨(h c).1.trans ?_, (h c).2.1.trans ?_, (h c).2.2⟩
  · refine (Cert.Reference3Ideal.Read.val_main_v52_eq m' c).trans ?_
    rw [e0, e1, e2, e3, e4, e5, e6, e7, e8, e9]
    exact (Cert.Kernel3Ideal.Gates.final_dx m c ff gb ga fb al dt dc db dg h0 h1 h2 h3 h4 h5 h6 h7 h8).symm
  · refine (Cert.Reference3Ideal.Read.val_main_v53_eq m' c).trans ?_
    rw [e0, e2, e3, e4, e5, e6, e8]
    exact (Cert.Kernel3Ideal.Gates.final_red m c ff gb ga fb al dt dc db dg h0 h1 h2 h3 h4 h5 h6 h7 h8).symm

theorem frame_ref4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

set_option maxHeartbeats 2000000 in
theorem algebraic4 : Cert.algebraic_Kernel4Ideal_Reference4Ideal_pre_finite_gdn_pre := by
  intro m g m' g' hpre hagree
  refine ⟨_, _, Cert.Kernel4Ideal.Value.run_blocks m g,
    (θ_run Cert.Reference4Ideal.defs _ _).mono (fun r h c => ?_) (Cert.Reference4Ideal.Value.run (F := Ideal) m' g')⟩
  obtain ⟨h0, h1, h2⟩ := hpre c
  obtain ⟨x, h0⟩ := reals_of_finite _ _ (fun i => ofBits_inf) h0
  obtain ⟨w, h1⟩ := reals_of_finite _ _ (fun i => ofBits_inf) h1
  obtain ⟨d, h2⟩ := reals_of_finite _ _ (fun i => ofBits_inf) h2
  obtain ⟨e0, e1, e2, e3⟩ := hagree c
  refine ⟨(h c).1.trans ?_, (h c).2.1.trans ?_, (h c).2.2⟩
  · refine (Cert.Reference4Ideal.Read.val_main_v157_eq _).trans (Eq.trans (b := Cert.Reference4Ideal.Read.val_main_v157 (F := Ideal) (m' (c.tc.loc Cert.Reference4Ideal.main_arg0)) (m' (c.tc.loc Cert.Reference4Ideal.main_arg1)) (m' (c.tc.loc Cert.Reference4Ideal.main_arg2)) (m' (c.tc.loc Cert.Reference4Ideal.main_arg3))) rfl ?_)
    rw [e0, e1, e2, e3]
    exact (Cert.Kernel4Ideal.GdnPre.final_dx m c x w d h0 h1 h2).symm
  · refine (Cert.Reference4Ideal.Read.val_main_v149_eq _).trans (Eq.trans (b := Cert.Reference4Ideal.Read.val_main_v149 (F := Ideal) (m' (c.tc.loc Cert.Reference4Ideal.main_arg0)) (m' (c.tc.loc Cert.Reference4Ideal.main_arg1)) (m' (c.tc.loc Cert.Reference4Ideal.main_arg2))) rfl ?_)
    rw [e0, e1, e2]
    exact (Cert.Kernel4Ideal.GdnPre.final_dw m c x w d h0 h1 h2).symm

theorem frame_ref5 : Cert.quiescent_Reference5Ideal := fun m ρ _ =>
  (θ_run Cert.Reference5Ideal.defs _ _).mono (fun r h => ⟨fun c => (h c).2.2.2.2, sem_eq_zero_of_no_sems (by decide) r.2⟩)
    (Cert.Reference5Ideal.Value.run (F := Ideal) m ρ)

set_option maxHeartbeats 2000000 in
theorem algebraic5 : Cert.algebraic_Kernel5Ideal_Reference5Ideal_pre_finite_mid := by
  intro m g m' g' hpre hagree
  refine ⟨_, _, _, _, Cert.Kernel5Ideal.Value.run_blocks m g,
    (θ_run Cert.Reference5Ideal.defs _ _).mono (fun r h c => ?_) (Cert.Reference5Ideal.Value.run (F := Ideal) m' g')⟩
  obtain ⟨h0, h1, h2, h3, h4, h5, h6⟩ := hpre c
  obtain ⟨x, h0⟩ := reals_of_finite _ _ (fun i => ofBits_inf) h0
  obtain ⟨y, h1⟩ := reals_of_finite _ _ (fun i => ofBits_inf) h1
  obtain ⟨w, h2⟩ := reals_of_finite _ _ (fun i => ofBits_inf) h2
  obtain ⟨v, h3⟩ := reals_of_finite _ _ (fun i => ofBits_inf) h3
  obtain ⟨b, h4⟩ := reals_of_finite _ _ (fun i => ofBits_inf) h4
  obtain ⟨d, h5⟩ := reals_of_finite _ _ (fun i => ofBits_inf) h5
  obtain ⟨a, h6⟩ := reals_of_finite _ _ (fun i => ofBits_inf) h6
  obtain ⟨e0, e1, e2, e3, e4, e5, e6⟩ := hagree c
  refine ⟨(h c).1.trans ?_, (h c).2.1.trans ?_, (h c).2.2.1.trans ?_, (h c).2.2.2.1.trans ?_, (h c).2.2.2.2⟩
  · refine (Cert.Reference5Ideal.Read.val_main_v57_eq _ _).trans ?_
    rw [e0, e1, e2, e3, e4, e5, e6]
    exact (Cert.Kernel5Ideal.MidBwd.final_dx m c x y d w v b a h0 h1 h2 h3 h4 h5 h6).symm
  · refine (Cert.Reference5Ideal.Read.val_main_v79_eq _ _).trans ?_
    rw [e0, e1, e2, e3, e4, e5, e6]
    exact (Cert.Kernel5Ideal.MidBwd.final_dmixed m c x y d w v b a h0 h1 h2 h3 h4 h5 h6).symm
  · refine (Cert.Reference5Ideal.Read.val_main_v80_eq (m' (c.tc.loc Cert.Reference5Ideal.main_arg0)) (m' (c.tc.loc Cert.Reference5Ideal.main_arg1)) (m' (c.tc.loc Cert.Reference5Ideal.main_arg2)) (m' (c.tc.loc Cert.Reference5Ideal.main_arg4)) (m' (c.tc.loc Cert.Reference5Ideal.main_arg6))).trans ?_
    rw [e0, e1, e2, e4, e6]
    exact (Cert.Kernel5Ideal.MidBwd.final_dv m c x y d w v b a h0 h1 h2 h3 h4 h5 h6).symm
  · refine (Cert.Reference5Ideal.Read.val_main_v81_eq _ _).trans ?_
    rw [e0, e1, e2, e3, e4, e5, e6]
    exact (Cert.Kernel5Ideal.MidBwd.final_dw m c x y d w v b a h0 h1 h2 h3 h4 h5 h6).symm

theorem frame_ref6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic6 : Cert.algebraic_Kernel6Ideal_Reference6Ideal := by
  intro m g m' g' hpre hagree
  refine ⟨_, Cert.Kernel6Ideal.Value.run_blocks m g,
    (θ_run Cert.Reference6Ideal.defs _ _).mono (fun r h c => ?_) (Cert.Reference6Ideal.Value.run (F := Ideal) m' g')⟩
  obtain ⟨e0, e1, e2⟩ := hagree c
  refine ⟨(h c).1.trans ?_, (h c).2⟩
  refine (Cert.Reference6Ideal.Read.val_main_v14_eq _ _ _).trans ?_
  rw [e0, e1, e2]
  exact (Cert.Kernel6Ideal.Relu2.final_dup m c).symm

theorem frame_ref7 : Cert.quiescent_Reference7Ideal := fun m ρ _ =>
  (θ_run Cert.Reference7Ideal.defs _ _).mono (fun r h => ⟨fun c => (h c).2.2.2.2, sem_eq_zero_of_no_sems (by decide) r.2⟩)
    (Cert.Reference7Ideal.Value.run (F := Ideal) m ρ)

set_option maxHeartbeats 2000000 in
theorem algebraic7 : Cert.algebraic_Kernel7Ideal_Reference7Ideal_pre_finite_loss := by
  intro m g m' g' hpre hagree
  refine ⟨_, _, _, _, Cert.Kernel7Ideal.Value.run_blocks m g,
    (θ_run Cert.Reference7Ideal.defs _ _).mono (fun r h c => ?_) (Cert.Reference7Ideal.Value.run (F := Ideal) m' g')⟩
  obtain ⟨h0, h1, h2, h3, h4⟩ := hpre c
  obtain ⟨a, h0⟩ := reals_of_finite _ _ (fun i => ofBits_inf) h0
  obtain ⟨b, h1⟩ := reals_of_finite _ _ (fun i => ofBits_inf) h1
  obtain ⟨w, h2⟩ := reals_of_finite _ _ (fun i => ofBits_inf) h2
  obtain ⟨x, h3⟩ := reals_of_finite _ _ (fun i => ofBits_inf) h3
  obtain ⟨u, h4⟩ := reals_of_finite _ _ (fun i => ofBits_inf) h4
  obtain ⟨e0, e1, e2, e3, e4⟩ := hagree c
  refine ⟨(h c).1.trans ?_, (h c).2.1.trans ?_, (h c).2.2.1.trans ?_, (h c).2.2.2.1.trans ?_, (h c).2.2.2.2⟩
  · refine (Cert.Reference7Ideal.Read.val_main_v32_eq _ _ _ _ _).trans ?_
    rw [e0, e1, e2, e3, e4]
    exact (Cert.Kernel7Ideal.LossHead.final_dx m c a b w x u h0 h1 h2 h3 h4).symm
  · refine (Cert.Reference7Ideal.Read.val_main_v54_eq _ _).trans ?_
    rw [e0, e1, e2, e3, e4]
    exact (Cert.Kernel7Ideal.LossHead.final_dy m c a b w x u h0 h1 h2 h3 h4).symm
  · refine (Cert.Reference7Ideal.Read.val_main_v55_eq _ _ _ _ _).trans ?_
    rw [e0, e1, e2, e3, e4]
    exact (Cert.Kernel7Ideal.LossHead.final_dw m c a b w x u h0 h1 h2 h3 h4).symm
  · refine (Cert.Reference7Ideal.Read.val_main_v56_eq _ _ _ _ _).trans ?_
    rw [e0, e1, e2, e3, e4]
    exact (Cert.Kernel7Ideal.LossHead.final_loss m c a b w x u h0 h1 h2 h3 h4).symm

theorem frame_ref8 : Cert.quiescent_Reference8Ideal := fun m ρ _ =>
  (θ_run Cert.Reference8Ideal.defs _ _).mono (fun r h => ⟨fun c => (h c).2.2.2, sem_eq_zero_of_no_sems (by decide) r.2⟩)
    (Cert.Reference8Ideal.Value.run (F := Ideal) m ρ)

set_option maxHeartbeats 2000000 in
theorem algebraic8 : Cert.algebraic_Kernel8Ideal_Reference8Ideal := by
  intro m g m' g' hpre hagree
  refine ⟨_, _, _, Cert.Kernel8Ideal.Value.run_blocks m g,
    (θ_run Cert.Reference8Ideal.defs _ _).mono (fun r h c => ?_) (Cert.Reference8Ideal.Value.run (F := Ideal) m' g')⟩
  obtain ⟨e0, e1, e2, e3, e4⟩ := hagree c
  refine ⟨(h c).1.trans ?_, (h c).2.1.trans ?_, (h c).2.2.1.trans ?_, (h c).2.2.2⟩
  · refine (Cert.Reference8Ideal.Read.val_main_v0_eq _ _).trans ?_
    rw [e0, e1]
    exact (Cert.Kernel8Ideal.OutFwd.final_mixed m c).symm
  · refine (Cert.Reference8Ideal.Read.val_main_v14_eq _ _ _ _).trans ?_
    rw [e0, e1, e2, e3]
    exact (Cert.Kernel8Ideal.OutFwd.final_x1 m c).symm
  · refine (Cert.Reference8Ideal.Read.val_main_v28_eq _ _ _ _ _).trans ?_
    rw [e0, e1, e2, e3, e4]
    exact (Cert.Kernel8Ideal.OutFwd.final_h2 m c).symm

theorem frame_ref9 : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

set_option maxHeartbeats 2000000 in
theorem algebraic9 : Cert.algebraic_Kernel9Ideal_Reference9Ideal := by
  intro m g m' g' hpre hagree
  refine ⟨_, _, Cert.Kernel9Ideal.Value.run_blocks m g,
    (θ_run Cert.Reference9Ideal.defs _ _).mono (fun r h c => ?_) (Cert.Reference9Ideal.Value.run (F := Ideal) m' g')⟩
  obtain ⟨e0, e1⟩ := hagree c
  refine ⟨(h c).1.trans ?_, (h c).2.1.trans ?_, (h c).2.2⟩
  · refine (Cert.Reference9Ideal.Read.val_main_v2_eq _ _).trans ?_
    rw [e0, e1]
    exact (Cert.Kernel9Ideal.UpFwd.final_relu m c).symm
  · refine (Cert.Reference9Ideal.Read.val_main_v4_eq _ _).trans ?_
    rw [e0, e1]
    exact (Cert.Kernel9Ideal.UpFwd.final_act m c).symm

theorem frame_ref10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

set_option maxHeartbeats 2000000 in
theorem algebraic10 : Cert.algebraic_Kernel10Ideal_Reference10Ideal := by
  intro m g m' g' hpre hagree
  refine ⟨_, Cert.Kernel10Ideal.Value.run_blocks m g,
    (θ_run Cert.Reference10Ideal.defs _ _).mono (fun r h c => ?_) (Cert.Reference10Ideal.Value.run (F := Ideal) m' g')⟩
  obtain ⟨e0, e1⟩ := hagree c
  refine ⟨(h c).1.trans ?_, (h c).2⟩
  refine (Cert.Reference10Ideal.Read.val_main_v13_eq _ _).trans ?_
  rw [e0, e1]
  exact (Cert.Kernel10Ideal.PreFwd.final_h m c).symm

theorem frame_ref11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

set_option maxHeartbeats 2000000 in
theorem algebraic11 : Cert.algebraic_Kernel11Ideal_Reference11Ideal := by
  intro m g m' g' hpre hagree
  refine ⟨_, Cert.Kernel11Ideal.Value.run_blocks m g,
    (θ_run Cert.Reference11Ideal.defs _ _).mono (fun r h c => ?_) (Cert.Reference11Ideal.Value.run (F := Ideal) m' g')⟩
  obtain ⟨e0, e1, e2, e3, e4, e5⟩ := hagree c
  refine ⟨(h c).1.trans ?_, (h c).2⟩
  refine (Cert.Reference11Ideal.Read.val_main_v21_eq _ _ _ _ _ _).trans ?_
  rw [e0, e1, e2, e3, e4, e5]
  exact (Cert.Kernel11Ideal.GatesFwd.final_y m c).symm

theorem frame_ref12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

set_option maxHeartbeats 2000000 in
theorem algebraic12 : Cert.algebraic_Kernel12Ideal_Reference12Ideal := by
  intro m g m' g' hpre hagree
  refine ⟨_, Cert.Kernel12Ideal.Value.run_blocks m g,
    (θ_run Cert.Reference12Ideal.defs _ _).mono (fun r h c => ?_) (Cert.Reference12Ideal.Value.run (F := Ideal) m' g')⟩
  obtain ⟨e0, e1⟩ := hagree c
  refine ⟨(h c).1.trans ?_, (h c).2⟩
  refine (Cert.Reference12Ideal.Read.val_main_v69_eq _).trans (Eq.trans (b := Cert.Reference12Ideal.Read.val_main_v69 (F := Ideal) (m' (c.tc.loc Cert.Reference12Ideal.main_arg0)) (m' (c.tc.loc Cert.Reference12Ideal.main_arg1))) rfl ?_)
  rw [e0, e1]
  exact (Cert.Kernel12Ideal.GdnFwd.final_y m c).symm

theorem frame_ref13 : Cert.quiescent_Reference13Ideal := fun m ρ _ =>
  (θ_run Cert.Reference13Ideal.defs _ _).mono (fun r h => ⟨fun c => (h c).2.2.2, sem_eq_zero_of_no_sems (by decide) r.2⟩)
    (Cert.Reference13Ideal.Value.run (F := Ideal) m ρ)

/-- The columns the call writes of its first result. -/
theorem written_lt [Cert.On_written.Facts] (q k v : FVec Ideal ⟨2, ![2048, 512]⟩ .f32) (cum : FVec Ideal ⟨2, ![2048, 8]⟩ .f32) (w : FVec Ideal ⟨1, ![64]⟩ .f32) (i : (⟨2, ![2048, 1024]⟩ : Shape).Idx)
    (h : (Cert.On_written.fn (F := Ideal) q k v cum w).1 i = 1#1) : (i 1).val < 512 := by
  have hi : (i 1).val < 1024 := (i 1).isLt
  have h' : BitVec.ofBool ((BitVec.ofNat 32 (i 1).val).slt 512#32) = 1#1 := h
  have e : (BitVec.ofNat 32 (i 1).val).slt 512#32 = decide ((i 1).val < 512) := by
    rw [BitVec.slt_eq_decide, BitVec.toInt_ofNat']
    refine decide_eq_decide.mpr ?_
    rw [Int.bmod_eq_of_le (by omega) (by omega)]
    show _ < (512 : ℤ) ↔ _
    omega
  rw [e] at h'
  by_contra hn
  rw [decide_eq_false hn] at h'
  exact absurd h' (by decide)

set_option maxHeartbeats 2000000 in
theorem algebraic13 : Cert.algebraic_Kernel13Ideal_Reference13Ideal_on_written_pre_finite_fox := by
  intro m g m' g' hpre hagree
  refine ⟨_, _, _, (θ_run Cert.Kernel13Ideal.defs _ _).mono (fun r h c => ⟨fun i _ => congrFun (h c).1 i, fun i _ => congrFun (h c).2.1 i, fun i _ => congrFun (h c).2.2.1 i, (h c).2.2.2⟩) (Cert.Kernel13Ideal.Fox.run_arrays m g),
    (θ_run Cert.Reference13Ideal.defs _ _).mono (fun r h c => ?_) (Cert.Reference13Ideal.Value.run (F := Ideal) m' g')⟩
  obtain ⟨h0, h1, h3⟩ := hpre c
  obtain ⟨q, h0⟩ := reals_of_finite _ _ (fun i => ofBits_inf) h0
  obtain ⟨k, h1⟩ := reals_of_finite _ _ (fun i => ofBits_inf) h1
  obtain ⟨cum, h3⟩ := reals_of_finite _ _ (fun i => ofBits_inf) h3
  obtain ⟨e0, e1, e2, e3, e4⟩ := hagree c
  refine ⟨fun i hw => (congrFun (h c).1 i).trans ?_, fun i _ => (congrFun (h c).2.1 i).trans ?_, fun i _ => (congrFun (h c).2.2.1 i).trans ?_, (h c).2.2.2⟩
  · refine (congrFun (Cert.Reference13Ideal.Read.val_main_v58_eq m' c) i).trans ?_
    rw [e0, e1, e2, e3, e4]
    exact (Cert.Kernel13Ideal.Fox.final_mix m c q k _ cum h0 h1 rfl h3 i (written_lt _ _ _ _ _ i hw)).symm
  · refine (congrFun (Cert.Reference13Ideal.Read.val_main_v56_eq m' c) i).trans ?_
    rw [e0, e1, e2, e3]
    exact (congrFun (Cert.Kernel13Ideal.Fox.final_out m c q k _ cum h0 h1 rfl h3) i).symm
  · refine (congrFun (Cert.Reference13Ideal.Read.val_main_v60_eq m' c) i).trans ?_
    rw [e0, e1, e3]
    exact (congrFun (Cert.Kernel13Ideal.Fox.final_lse m c q k _ cum h0 h1 rfl h3) i).symm

theorem frame_ref14 : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

theorem algebraic14 : Cert.algebraic_Kernel14Ideal_Reference14Ideal := by
  intro m g m' g' hpre hagree
  refine ⟨_, Cert.Kernel14Ideal.Value.run_blocks m g, (θ_run Cert.Reference14Ideal.defs _ _).mono (fun r h c => ⟨(h c).1.trans ?_, (h c).2⟩) (Cert.Reference14Ideal.Value.run (F := Ideal) m' g')⟩
  rw [Cert.Reference14Ideal.Read.val_main_v4_eq, (hagree c).1, (hagree c).2]
  exact (Cert.Kernel14Ideal.DwDown.final m c).symm

theorem frame_ref15 : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

theorem algebraic15 : Cert.algebraic_Kernel15Ideal_Reference15Ideal := by
  intro m g m' g' hpre hagree
  refine ⟨_, Cert.Kernel15Ideal.Value.run_blocks m g, (θ_run Cert.Reference15Ideal.defs _ _).mono (fun r h c => ⟨(h c).1.trans ?_, (h c).2⟩) (Cert.Reference15Ideal.Value.run (F := Ideal) m' g')⟩
  rw [Cert.Reference15Ideal.Read.val_main_v6_eq, (hagree c).1, (hagree c).2]
  exact (Cert.Kernel15Ideal.DwUp.final m c).symm

theorem frame_ref16 : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

theorem algebraic16 : Cert.algebraic_Kernel16Ideal_Reference16Ideal := by
  intro m g m' g' hpre hagree
  refine ⟨_, Cert.Kernel16Ideal.Value.run_blocks m g, (θ_run Cert.Reference16Ideal.defs _ _).mono (fun r h c => ⟨(h c).1.trans ?_, (h c).2⟩) (Cert.Reference16Ideal.Value.run (F := Ideal) m' g')⟩
  rw [Cert.Reference16Ideal.Read.val_main_v4_eq, (hagree c).1, (hagree c).2]
  exact (Cert.Kernel16Ideal.DwOut.final m c).symm

theorem frame_ref17 : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

theorem algebraic17 : Cert.algebraic_Kernel17Ideal_Reference17Ideal := by
  intro m g m' g' hpre hagree
  refine ⟨_, Cert.Kernel17Ideal.Value.run_blocks m g, (θ_run Cert.Reference17Ideal.defs _ _).mono (fun r h c => ⟨(h c).1.trans ?_, (h c).2⟩) (Cert.Reference17Ideal.Value.run (F := Ideal) m' g')⟩
  rw [Cert.Reference17Ideal.Read.val_main_v2_eq, (hagree c).1, (hagree c).2]
  exact (Cert.Kernel17Ideal.DMix.final m c).symm

theorem frame_ref18 : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

theorem algebraic18 : Cert.algebraic_Kernel18Ideal_Reference18Ideal := by
  intro m g m' g' hpre hagree
  refine ⟨_, Cert.Kernel18Ideal.Value.run_blocks m g, (θ_run Cert.Reference18Ideal.defs _ _).mono (fun r h c => ⟨(h c).1.trans ?_, (h c).2⟩) (Cert.Reference18Ideal.Value.run (F := Ideal) m' g')⟩
  rw [Cert.Reference18Ideal.Read.val_main_v1_eq, (hagree c).1, (hagree c).2]
  exact (Cert.Kernel18Ideal.Project.final m c).symm

theorem frame_ref19 : Cert.quiescent_Reference19Ideal := fun m ρ _ =>
  (θ_run Cert.Reference19Ideal.defs _ _).mono (fun r h => ⟨fun c => (h c).2, sem_eq_zero_of_no_sems (by decide) r.2⟩)
    (Cert.Reference19Ideal.Value.run (F := Ideal) m ρ)

theorem algebraic19 : Cert.algebraic_Kernel19Ideal_Reference19Ideal := by
  intro m g m' g' hpre hagree
  refine ⟨_, Cert.Kernel19Ideal.Value.run_blocks m g, (θ_run Cert.Reference19Ideal.defs _ _).mono (fun r h c => ⟨(h c).1.trans ?_, (h c).2⟩) (Cert.Reference19Ideal.Value.run (F := Ideal) m' g')⟩
  rw [Cert.Reference19Ideal.Read.val_main_v6_eq, (hagree c).1, (hagree c).2]
  exact (Cert.Kernel19Ideal.DwIn.final m c).symm

theorem frame_ref20 : Cert.quiescent_Reference20Ideal := fun m ρ _ =>
  (θ_run Cert.Reference20Ideal.defs _ _).mono (fun r h => ⟨fun c => (h c).2, sem_eq_zero_of_no_sems (by decide) r.2⟩)
    (Cert.Reference20Ideal.Value.run (F := Ideal) m ρ)

theorem algebraic20 : Cert.algebraic_Kernel20Ideal_Reference20Ideal := by
  intro m g m' g' hpre hagree
  refine ⟨_, Cert.Kernel20Ideal.Value.run_blocks m g, (θ_run Cert.Reference20Ideal.defs _ _).mono (fun r h c => ⟨(h c).1.trans ?_, (h c).2⟩) (Cert.Reference20Ideal.Value.run (F := Ideal) m' g')⟩
  rw [Cert.Reference20Ideal.Read.val_main_v3_eq, (hagree c).1, (hagree c).2]
  exact (Cert.Kernel20Ideal.DhProj.final m c).symm

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Pre_finite.Gen.facts, Cert.Pre_finite_fox_norm.Gen.facts, Cert.Pre_finite_gates.Gen.facts, Cert.Pre_finite_gdn_pre.Gen.facts, Cert.Pre_finite_mid.Gen.facts, Cert.Pre_finite_loss.Gen.facts, Cert.Pre_finite_fox.Gen.facts, Cert.On_written.Gen.facts,
  fun m ρ _ => Cert.Kernel.Gen.frame m ρ, fun m ρ _ => Cert.KernelIdeal.Gen.frame m ρ, fun m ρ _ => Cert.KernelIdeal.Gen.frame m ρ,
  frame_ref, fun m ρ _ => frame_ref m ρ trivial,
  fun m ρ _ => Cert.Kernel2.Gen.frame m ρ, fun m ρ _ => Cert.Kernel2Ideal.Gen.frame m ρ, fun m ρ _ => Cert.Kernel2Ideal.Gen.frame m ρ,
  frame_ref2, fun m ρ _ => frame_ref2 m ρ trivial,
  fun m ρ _ => Cert.Kernel3.Gen.frame m ρ, fun m ρ _ => Cert.Kernel3Ideal.Gen.frame m ρ, fun m ρ _ => Cert.Kernel3Ideal.Gen.frame m ρ,
  frame_ref3, fun m ρ _ => frame_ref3 m ρ trivial,
  fun m ρ _ => Cert.Kernel4.Gen.frame m ρ, fun m ρ _ => Cert.Kernel4Ideal.Gen.frame m ρ, fun m ρ _ => Cert.Kernel4Ideal.Gen.frame m ρ,
  frame_ref4, fun m ρ _ => frame_ref4 m ρ trivial,
  fun m ρ _ => Cert.Kernel5.Gen.frame m ρ, fun m ρ _ => Cert.Kernel5Ideal.Gen.frame m ρ, fun m ρ _ => Cert.Kernel5Ideal.Gen.frame m ρ,
  frame_ref5, fun m ρ _ => frame_ref5 m ρ trivial,
  fun m ρ _ => Cert.Kernel6.Gen.frame m ρ, fun m ρ _ => Cert.Kernel6Ideal.Gen.frame m ρ,
  frame_ref6,
  fun m ρ _ => Cert.Kernel7.Gen.frame m ρ, fun m ρ _ => Cert.Kernel7Ideal.Gen.frame m ρ, fun m ρ _ => Cert.Kernel7Ideal.Gen.frame m ρ,
  frame_ref7, fun m ρ _ => frame_ref7 m ρ trivial,
  fun m ρ _ => Cert.Kernel8.Gen.frame m ρ, fun m ρ _ => Cert.Kernel8Ideal.Gen.frame m ρ,
  frame_ref8,
  fun m ρ _ => Cert.Kernel9.Gen.frame m ρ, fun m ρ _ => Cert.Kernel9Ideal.Gen.frame m ρ,
  frame_ref9,
  fun m ρ _ => Cert.Kernel10.Gen.frame m ρ, fun m ρ _ => Cert.Kernel10Ideal.Gen.frame m ρ,
  frame_ref10,
  fun m ρ _ => Cert.Kernel11.Gen.frame m ρ, fun m ρ _ => Cert.Kernel11Ideal.Gen.frame m ρ,
  frame_ref11,
  fun m ρ _ => Cert.Kernel12.Gen.frame m ρ, fun m ρ _ => Cert.Kernel12Ideal.Gen.frame m ρ,
  frame_ref12,
  fun m ρ _ => Cert.Kernel13.Gen.frame m ρ, fun m ρ _ => Cert.Kernel13Ideal.Gen.frame m ρ, fun m ρ _ => Cert.Kernel13Ideal.Gen.frame m ρ,
  frame_ref13, fun m ρ _ => frame_ref13 m ρ trivial,
  fun m ρ _ => Cert.Kernel14.Gen.frame m ρ, fun m ρ _ => Cert.Kernel14Ideal.Gen.frame m ρ,
  frame_ref14,
  fun m ρ _ => Cert.Kernel15.Gen.frame m ρ, fun m ρ _ => Cert.Kernel15Ideal.Gen.frame m ρ,
  frame_ref15,
  fun m ρ _ => Cert.Kernel16.Gen.frame m ρ, fun m ρ _ => Cert.Kernel16Ideal.Gen.frame m ρ,
  frame_ref16,
  fun m ρ _ => Cert.Kernel17.Gen.frame m ρ, fun m ρ _ => Cert.Kernel17Ideal.Gen.frame m ρ,
  frame_ref17,
  fun m ρ _ => Cert.Kernel18.Gen.frame m ρ, fun m ρ _ => Cert.Kernel18Ideal.Gen.frame m ρ,
  frame_ref18,
  fun m ρ _ => Cert.Kernel19.Gen.frame m ρ, fun m ρ _ => Cert.Kernel19Ideal.Gen.frame m ρ,
  frame_ref19,
  fun m ρ _ => Cert.Kernel20.Gen.frame m ρ, fun m ρ _ => Cert.Kernel20Ideal.Gen.frame m ρ,
  frame_ref20,
  trivial, algebraic, trivial, algebraic2, trivial, algebraic3, trivial, algebraic4, trivial, algebraic5, trivial, algebraic6, trivial, algebraic7, trivial, algebraic8, trivial, algebraic9, trivial, algebraic10, trivial, algebraic11, trivial, algebraic12, trivial, algebraic13, trivial, algebraic14, trivial, algebraic15, trivial, algebraic16, trivial, algebraic17, trivial, algebraic18, trivial, algebraic19, trivial, algebraic20⟩

end Cert.Proof

end
